-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![8192, 256]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S8192x256 : Shape := ⟨2, ![8192, 256]⟩
abbrev S2 : Shape := ⟨1, ![2]⟩
abbrev S16 : Shape := ⟨1, ![16]⟩
abbrev S14 : Shape := ⟨1, ![14]⟩
abbrev S_ : Shape := ⟨0, ![]⟩
abbrev S1 : Shape := ⟨1, ![1]⟩
abbrev S128x256 : Shape := ⟨2, ![128, 256]⟩

abbrev nBuf : Space → Nat
  | .hbm => 2
  | .vmem => 2
  | .smem => 0
  | _ => 0

abbrev bufTy : (tb : Table) → Fin (tcTables nBuf tb) → BufTy
  | .hbm, ⟨0, _⟩ => ⟨S256x256, .bf16⟩
  | .hbm, ⟨1, _⟩ => ⟨S8192x256, .bf16⟩
  | .local _ .vmem, ⟨0, _⟩ => ⟨S256x256, .bf16⟩
  | .local _ .vmem, ⟨1, _⟩ => ⟨S8192x256, .bf16⟩
  | _, _ => ⟨S256x256, .bf16⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 126 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | _ => false

abbrev sig : RefSig :=
  (ofTc nBuf bufTy 1 126 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_218 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_57 : BitVec 32 := 1#32
  let v112 : BitVec 32 := Scalar.xori v2 c1_i32_57
  let c1_i32_217 : BitVec 32 := 1#32
  let v291 : BitVec 32 := Scalar.muli v112 c1_i32_217
  let v292 : BitVec 32 := Scalar.addi c0_i32_218 v291
  v292.toNat
def k0_dev2 (d0 : Dev nD) : Nat :=
  let c0_i32_221 : BitVec 32 := 0#32
  let c8_i32_206 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v80 : BitVec 32 := Scalar.muli c4_i32 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v81 : BitVec 32 := Scalar.addi v80 v46
  let c15_i32_55 : BitVec 32 := 15#32
  let v110 : BitVec 1 := Scalar.cmpi .eq v81 c15_i32_55
  let c6_i32_56 : BitVec 32 := 6#32
  let c14_i32_53 : BitVec 32 := 14#32
  let v108 : BitVec 1 := Scalar.cmpi .eq v81 c14_i32_53
  let c7_i32_54 : BitVec 32 := 7#32
  let c13_i32_51 : BitVec 32 := 13#32
  let v106 : BitVec 1 := Scalar.cmpi .eq v81 c13_i32_51
  let c12_i32_52 : BitVec 32 := 12#32
  let c12_i32 : BitVec 32 := 12#32
  let v104 : BitVec 1 := Scalar.cmpi .eq v81 c12_i32
  let c13_i32 : BitVec 32 := 13#32
  let c11_i32_49 : BitVec 32 := 11#32
  let v102 : BitVec 1 := Scalar.cmpi .eq v81 c11_i32_49
  let c5_i32_50 : BitVec 32 := 5#32
  let c10_i32_47 : BitVec 32 := 10#32
  let v100 : BitVec 1 := Scalar.cmpi .eq v81 c10_i32_47
  let c8_i32_48 : BitVec 32 := 8#32
  let c9_i32_46 : BitVec 32 := 9#32
  let v98 : BitVec 1 := Scalar.cmpi .eq v81 c9_i32_46
  let c11_i32 : BitVec 32 := 11#32
  let c8_i32_45 : BitVec 32 := 8#32
  let v96 : BitVec 1 := Scalar.cmpi .eq v81 c8_i32_45
  let c14_i32 : BitVec 32 := 14#32
  let c7_i32 : BitVec 32 := 7#32
  let v94 : BitVec 1 := Scalar.cmpi .eq v81 c7_i32
  let c4_i32_44 : BitVec 32 := 4#32
  let c6_i32 : BitVec 32 := 6#32
  let v92 : BitVec 1 := Scalar.cmpi .eq v81 c6_i32
  let c9_i32 : BitVec 32 := 9#32
  let c5_i32 : BitVec 32 := 5#32
  let v90 : BitVec 1 := Scalar.cmpi .eq v81 c5_i32
  let c10_i32 : BitVec 32 := 10#32
  let c4_i32_43 : BitVec 32 := 4#32
  let v88 : BitVec 1 := Scalar.cmpi .eq v81 c4_i32_43
  let c15_i32 : BitVec 32 := 15#32
  let c3_i32 : BitVec 32 := 3#32
  let v86 : BitVec 1 := Scalar.cmpi .eq v81 c3_i32
  let c3_i32_42 : BitVec 32 := 3#32
  let c2_i32_40 : BitVec 32 := 2#32
  let v84 : BitVec 1 := Scalar.cmpi .eq v81 c2_i32_40
  let c2_i32_41 : BitVec 32 := 2#32
  let c1_i32_37 : BitVec 32 := 1#32
  let v82 : BitVec 1 := Scalar.cmpi .eq v81 c1_i32_37
  let c1_i32_38 : BitVec 32 := 1#32
  let c0_i32_39 : BitVec 32 := 0#32
  let v83 : BitVec 32 := Scalar.select v82 c1_i32_38 c0_i32_39
  let v85 : BitVec 32 := Scalar.select v84 c2_i32_41 v83
  let v87 : BitVec 32 := Scalar.select v86 c3_i32_42 v85
  let v89 : BitVec 32 := Scalar.select v88 c15_i32 v87
  let v91 : BitVec 32 := Scalar.select v90 c10_i32 v89
  let v93 : BitVec 32 := Scalar.select v92 c9_i32 v91
  let v95 : BitVec 32 := Scalar.select v94 c4_i32_44 v93
  let v97 : BitVec 32 := Scalar.select v96 c14_i32 v95
  let v99 : BitVec 32 := Scalar.select v98 c11_i32 v97
  let v101 : BitVec 32 := Scalar.select v100 c8_i32_48 v99
  let v103 : BitVec 32 := Scalar.select v102 c5_i32_50 v101
  let v105 : BitVec 32 := Scalar.select v104 c13_i32 v103
  let v107 : BitVec 32 := Scalar.select v106 c12_i32_52 v105
  let v109 : BitVec 32 := Scalar.select v108 c7_i32_54 v107
  let v111 : BitVec 32 := Scalar.select v110 c6_i32_56 v109
  let c16_i32_136 : BitVec 32 := 16#32
  let v201 : BitVec 32 := Scalar.addi v111 c16_i32_136
  let c1_i32_137 : BitVec 32 := 1#32
  let v202 : BitVec 32 := Scalar.subi v201 c1_i32_137
  let c16_i32_138 : BitVec 32 := 16#32
  let c0_i32_139 : BitVec 32 := 0#32
  let v203 : BitVec 1 := Scalar.cmpi .eq c16_i32_138 c0_i32_139
  let c1_i32_140 : BitVec 32 := 1#32
  let v204 : BitVec 32 := Scalar.select v203 c1_i32_140 c16_i32_138
  let v205 : BitVec 32 := Scalar.remsi v202 v204
  let c0_i32_142 : BitVec 32 := 0#32
  let v207 : BitVec 1 := Scalar.cmpi .slt v205 c0_i32_142
  let c0_i32_143 : BitVec 32 := 0#32
  let v208 : BitVec 1 := Scalar.cmpi .slt v204 c0_i32_143
  let v209 : BitVec 1 := Scalar.xori v207 v208
  let c0_i32_141 : BitVec 32 := 0#32
  let v206 : BitVec 1 := Scalar.cmpi .ne v205 c0_i32_141
  let v210 : BitVec 1 := Scalar.andi v209 v206
  let v211 : BitVec 32 := Scalar.addi v205 v204
  let v212 : BitVec 32 := Scalar.select v210 v211 v205
  let c15_i32_204 : BitVec 32 := 15#32
  let v271 : BitVec 1 := Scalar.cmpi .eq v212 c15_i32_204
  let c1_i32_205 : BitVec 32 := 1#32
  let c14_i32_202 : BitVec 32 := 14#32
  let v269 : BitVec 1 := Scalar.cmpi .eq v212 c14_i32_202
  let c2_i32_203 : BitVec 32 := 2#32
  let c13_i32_200 : BitVec 32 := 13#32
  let v267 : BitVec 1 := Scalar.cmpi .eq v212 c13_i32_200
  let c3_i32_201 : BitVec 32 := 3#32
  let c12_i32_198 : BitVec 32 := 12#32
  let v265 : BitVec 1 := Scalar.cmpi .eq v212 c12_i32_198
  let c3_i32_199 : BitVec 32 := 3#32
  let c11_i32_196 : BitVec 32 := 11#32
  let v263 : BitVec 1 := Scalar.cmpi .eq v212 c11_i32_196
  let c2_i32_197 : BitVec 32 := 2#32
  let c10_i32_194 : BitVec 32 := 10#32
  let v261 : BitVec 1 := Scalar.cmpi .eq v212 c10_i32_194
  let c1_i32_195 : BitVec 32 := 1#32
  let c9_i32_192 : BitVec 32 := 9#32
  let v259 : BitVec 1 := Scalar.cmpi .eq v212 c9_i32_192
  let c1_i32_193 : BitVec 32 := 1#32
  let c8_i32_190 : BitVec 32 := 8#32
  let v257 : BitVec 1 := Scalar.cmpi .eq v212 c8_i32_190
  let c2_i32_191 : BitVec 32 := 2#32
  let c7_i32_188 : BitVec 32 := 7#32
  let v255 : BitVec 1 := Scalar.cmpi .eq v212 c7_i32_188
  let c3_i32_189 : BitVec 32 := 3#32
  let c6_i32_186 : BitVec 32 := 6#32
  let v253 : BitVec 1 := Scalar.cmpi .eq v212 c6_i32_186
  let c3_i32_187 : BitVec 32 := 3#32
  let c5_i32_184 : BitVec 32 := 5#32
  let v251 : BitVec 1 := Scalar.cmpi .eq v212 c5_i32_184
  let c2_i32_185 : BitVec 32 := 2#32
  let c4_i32_182 : BitVec 32 := 4#32
  let v249 : BitVec 1 := Scalar.cmpi .eq v212 c4_i32_182
  let c1_i32_183 : BitVec 32 := 1#32
  let c3_i32_180 : BitVec 32 := 3#32
  let v247 : BitVec 1 := Scalar.cmpi .eq v212 c3_i32_180
  let c0_i32_181 : BitVec 32 := 0#32
  let c2_i32_178 : BitVec 32 := 2#32
  let v245 : BitVec 1 := Scalar.cmpi .eq v212 c2_i32_178
  let c0_i32_179 : BitVec 32 := 0#32
  let c1_i32_175 : BitVec 32 := 1#32
  let v243 : BitVec 1 := Scalar.cmpi .eq v212 c1_i32_175
  let c0_i32_176 : BitVec 32 := 0#32
  let c0_i32_177 : BitVec 32 := 0#32
  let v244 : BitVec 32 := Scalar.select v243 c0_i32_176 c0_i32_177
  let v246 : BitVec 32 := Scalar.select v245 c0_i32_179 v244
  let v248 : BitVec 32 := Scalar.select v247 c0_i32_181 v246
  let v250 : BitVec 32 := Scalar.select v249 c1_i32_183 v248
  let v252 : BitVec 32 := Scalar.select v251 c2_i32_185 v250
  let v254 : BitVec 32 := Scalar.select v253 c3_i32_187 v252
  let v256 : BitVec 32 := Scalar.select v255 c3_i32_189 v254
  let v258 : BitVec 32 := Scalar.select v257 c2_i32_191 v256
  let v260 : BitVec 32 := Scalar.select v259 c1_i32_193 v258
  let v262 : BitVec 32 := Scalar.select v261 c1_i32_195 v260
  let v264 : BitVec 32 := Scalar.select v263 c2_i32_197 v262
  let v266 : BitVec 32 := Scalar.select v265 c3_i32_199 v264
  let v268 : BitVec 32 := Scalar.select v267 c3_i32_201 v266
  let v270 : BitVec 32 := Scalar.select v269 c2_i32_203 v268
  let v272 : BitVec 32 := Scalar.select v271 c1_i32_205 v270
  let v273 : BitVec 32 := Scalar.muli c8_i32_206 v272
  let c2_i32_207 : BitVec 32 := 2#32
  let c15_i32_173 : BitVec 32 := 15#32
  let v241 : BitVec 1 := Scalar.cmpi .eq v212 c15_i32_173
  let c0_i32_174 : BitVec 32 := 0#32
  let c14_i32_171 : BitVec 32 := 14#32
  let v239 : BitVec 1 := Scalar.cmpi .eq v212 c14_i32_171
  let c0_i32_172 : BitVec 32 := 0#32
  let c13_i32_169 : BitVec 32 := 13#32
  let v237 : BitVec 1 := Scalar.cmpi .eq v212 c13_i32_169
  let c0_i32_170 : BitVec 32 := 0#32
  let c12_i32_167 : BitVec 32 := 12#32
  let v235 : BitVec 1 := Scalar.cmpi .eq v212 c12_i32_167
  let c1_i32_168 : BitVec 32 := 1#32
  let c11_i32_165 : BitVec 32 := 11#32
  let v233 : BitVec 1 := Scalar.cmpi .eq v212 c11_i32_165
  let c1_i32_166 : BitVec 32 := 1#32
  let c10_i32_163 : BitVec 32 := 10#32
  let v231 : BitVec 1 := Scalar.cmpi .eq v212 c10_i32_163
  let c1_i32_164 : BitVec 32 := 1#32
  let c9_i32_161 : BitVec 32 := 9#32
  let v229 : BitVec 1 := Scalar.cmpi .eq v212 c9_i32_161
  let c2_i32_162 : BitVec 32 := 2#32
  let c8_i32_159 : BitVec 32 := 8#32
  let v227 : BitVec 1 := Scalar.cmpi .eq v212 c8_i32_159
  let c2_i32_160 : BitVec 32 := 2#32
  let c7_i32_157 : BitVec 32 := 7#32
  let v225 : BitVec 1 := Scalar.cmpi .eq v212 c7_i32_157
  let c2_i32_158 : BitVec 32 := 2#32
  let c6_i32_155 : BitVec 32 := 6#32
  let v223 : BitVec 1 := Scalar.cmpi .eq v212 c6_i32_155
  let c3_i32_156 : BitVec 32 := 3#32
  let c5_i32_153 : BitVec 32 := 5#32
  let v221 : BitVec 1 := Scalar.cmpi .eq v212 c5_i32_153
  let c3_i32_154 : BitVec 32 := 3#32
  let c4_i32_151 : BitVec 32 := 4#32
  let v219 : BitVec 1 := Scalar.cmpi .eq v212 c4_i32_151
  let c3_i32_152 : BitVec 32 := 3#32
  let c3_i32_149 : BitVec 32 := 3#32
  let v217 : BitVec 1 := Scalar.cmpi .eq v212 c3_i32_149
  let c3_i32_150 : BitVec 32 := 3#32
  let c2_i32_147 : BitVec 32 := 2#32
  let v215 : BitVec 1 := Scalar.cmpi .eq v212 c2_i32_147
  let c2_i32_148 : BitVec 32 := 2#32
  let c1_i32_144 : BitVec 32 := 1#32
  let v213 : BitVec 1 := Scalar.cmpi .eq v212 c1_i32_144
  let c1_i32_145 : BitVec 32 := 1#32
  let c0_i32_146 : BitVec 32 := 0#32
  let v214 : BitVec 32 := Scalar.select v213 c1_i32_145 c0_i32_146
  let v216 : BitVec 32 := Scalar.select v215 c2_i32_148 v214
  let v218 : BitVec 32 := Scalar.select v217 c3_i32_150 v216
  let v220 : BitVec 32 := Scalar.select v219 c3_i32_152 v218
  let v222 : BitVec 32 := Scalar.select v221 c3_i32_154 v220
  let v224 : BitVec 32 := Scalar.select v223 c3_i32_156 v222
  let v226 : BitVec 32 := Scalar.select v225 c2_i32_158 v224
  let v228 : BitVec 32 := Scalar.select v227 c2_i32_160 v226
  let v230 : BitVec 32 := Scalar.select v229 c2_i32_162 v228
  let v232 : BitVec 32 := Scalar.select v231 c1_i32_164 v230
  let v234 : BitVec 32 := Scalar.select v233 c1_i32_166 v232
  let v236 : BitVec 32 := Scalar.select v235 c1_i32_168 v234
  let v238 : BitVec 32 := Scalar.select v237 c0_i32_170 v236
  let v240 : BitVec 32 := Scalar.select v239 c0_i32_172 v238
  let v242 : BitVec 32 := Scalar.select v241 c0_i32_174 v240
  let v274 : BitVec 32 := Scalar.muli c2_i32_207 v242
  let v275 : BitVec 32 := Scalar.addi v273 v274
  let c2_i32_208 : BitVec 32 := 2#32
  let c0_i32_209 : BitVec 32 := 0#32
  let v276 : BitVec 1 := Scalar.cmpi .eq c2_i32_208 c0_i32_209
  let c1_i32_210 : BitVec 32 := 1#32
  let v277 : BitVec 32 := Scalar.select v276 c1_i32_210 c2_i32_208
  let v278 : BitVec 32 := Scalar.remsi v242 v277
  let c0_i32_212 : BitVec 32 := 0#32
  let v280 : BitVec 1 := Scalar.cmpi .slt v278 c0_i32_212
  let c0_i32_213 : BitVec 32 := 0#32
  let v281 : BitVec 1 := Scalar.cmpi .slt v277 c0_i32_213
  let v282 : BitVec 1 := Scalar.xori v280 v281
  let c0_i32_211 : BitVec 32 := 0#32
  let v279 : BitVec 1 := Scalar.cmpi .ne v278 c0_i32_211
  let v283 : BitVec 1 := Scalar.andi v282 v279
  let v284 : BitVec 32 := Scalar.addi v278 v277
  let v285 : BitVec 32 := Scalar.select v283 v284 v278
  let c0_i32_214 : BitVec 32 := 0#32
  let v286 : BitVec 1 := Scalar.cmpi .eq v285 c0_i32_214
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_215 : BitVec 32 := 1#32
  let v287 : BitVec 32 := Scalar.subi c1_i32_215 v79
  let v288 : BitVec 32 := Scalar.select v286 v79 v287
  let v289 : BitVec 32 := Scalar.addi v275 v288
  let c1_i32_220 : BitVec 32 := 1#32
  let v293 : BitVec 32 := Scalar.muli v289 c1_i32_220
  let v294 : BitVec 32 := Scalar.addi c0_i32_221 v293
  v294.toNat
def k0_dev3 (d0 : Dev nD) : Nat :=
  let c0_i32_224 : BitVec 32 := 0#32
  let c8_i32_126 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v80 : BitVec 32 := Scalar.muli c4_i32 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v81 : BitVec 32 := Scalar.addi v80 v46
  let c15_i32_55 : BitVec 32 := 15#32
  let v110 : BitVec 1 := Scalar.cmpi .eq v81 c15_i32_55
  let c6_i32_56 : BitVec 32 := 6#32
  let c14_i32_53 : BitVec 32 := 14#32
  let v108 : BitVec 1 := Scalar.cmpi .eq v81 c14_i32_53
  let c7_i32_54 : BitVec 32 := 7#32
  let c13_i32_51 : BitVec 32 := 13#32
  let v106 : BitVec 1 := Scalar.cmpi .eq v81 c13_i32_51
  let c12_i32_52 : BitVec 32 := 12#32
  let c12_i32 : BitVec 32 := 12#32
  let v104 : BitVec 1 := Scalar.cmpi .eq v81 c12_i32
  let c13_i32 : BitVec 32 := 13#32
  let c11_i32_49 : BitVec 32 := 11#32
  let v102 : BitVec 1 := Scalar.cmpi .eq v81 c11_i32_49
  let c5_i32_50 : BitVec 32 := 5#32
  let c10_i32_47 : BitVec 32 := 10#32
  let v100 : BitVec 1 := Scalar.cmpi .eq v81 c10_i32_47
  let c8_i32_48 : BitVec 32 := 8#32
  let c9_i32_46 : BitVec 32 := 9#32
  let v98 : BitVec 1 := Scalar.cmpi .eq v81 c9_i32_46
  let c11_i32 : BitVec 32 := 11#32
  let c8_i32_45 : BitVec 32 := 8#32
  let v96 : BitVec 1 := Scalar.cmpi .eq v81 c8_i32_45
  let c14_i32 : BitVec 32 := 14#32
  let c7_i32 : BitVec 32 := 7#32
  let v94 : BitVec 1 := Scalar.cmpi .eq v81 c7_i32
  let c4_i32_44 : BitVec 32 := 4#32
  let c6_i32 : BitVec 32 := 6#32
  let v92 : BitVec 1 := Scalar.cmpi .eq v81 c6_i32
  let c9_i32 : BitVec 32 := 9#32
  let c5_i32 : BitVec 32 := 5#32
  let v90 : BitVec 1 := Scalar.cmpi .eq v81 c5_i32
  let c10_i32 : BitVec 32 := 10#32
  let c4_i32_43 : BitVec 32 := 4#32
  let v88 : BitVec 1 := Scalar.cmpi .eq v81 c4_i32_43
  let c15_i32 : BitVec 32 := 15#32
  let c3_i32 : BitVec 32 := 3#32
  let v86 : BitVec 1 := Scalar.cmpi .eq v81 c3_i32
  let c3_i32_42 : BitVec 32 := 3#32
  let c2_i32_40 : BitVec 32 := 2#32
  let v84 : BitVec 1 := Scalar.cmpi .eq v81 c2_i32_40
  let c2_i32_41 : BitVec 32 := 2#32
  let c1_i32_37 : BitVec 32 := 1#32
  let v82 : BitVec 1 := Scalar.cmpi .eq v81 c1_i32_37
  let c1_i32_38 : BitVec 32 := 1#32
  let c0_i32_39 : BitVec 32 := 0#32
  let v83 : BitVec 32 := Scalar.select v82 c1_i32_38 c0_i32_39
  let v85 : BitVec 32 := Scalar.select v84 c2_i32_41 v83
  let v87 : BitVec 32 := Scalar.select v86 c3_i32_42 v85
  let v89 : BitVec 32 := Scalar.select v88 c15_i32 v87
  let v91 : BitVec 32 := Scalar.select v90 c10_i32 v89
  let v93 : BitVec 32 := Scalar.select v92 c9_i32 v91
  let v95 : BitVec 32 := Scalar.select v94 c4_i32_44 v93
  let v97 : BitVec 32 := Scalar.select v96 c14_i32 v95
  let v99 : BitVec 32 := Scalar.select v98 c11_i32 v97
  let v101 : BitVec 32 := Scalar.select v100 c8_i32_48 v99
  let v103 : BitVec 32 := Scalar.select v102 c5_i32_50 v101
  let v105 : BitVec 32 := Scalar.select v104 c13_i32 v103
  let v107 : BitVec 32 := Scalar.select v106 c12_i32_52 v105
  let v109 : BitVec 32 := Scalar.select v108 c7_i32_54 v107
  let v111 : BitVec 32 := Scalar.select v110 c6_i32_56 v109
  let c1_i32_58 : BitVec 32 := 1#32
  let v113 : BitVec 32 := Scalar.addi v111 c1_i32_58
  let c16_i32 : BitVec 32 := 16#32
  let c0_i32_59 : BitVec 32 := 0#32
  let v114 : BitVec 1 := Scalar.cmpi .eq c16_i32 c0_i32_59
  let c1_i32_60 : BitVec 32 := 1#32
  let v115 : BitVec 32 := Scalar.select v114 c1_i32_60 c16_i32
  let v116 : BitVec 32 := Scalar.remsi v113 v115
  let c0_i32_62 : BitVec 32 := 0#32
  let v118 : BitVec 1 := Scalar.cmpi .slt v116 c0_i32_62
  let c0_i32_63 : BitVec 32 := 0#32
  let v119 : BitVec 1 := Scalar.cmpi .slt v115 c0_i32_63
  let v120 : BitVec 1 := Scalar.xori v118 v119
  let c0_i32_61 : BitVec 32 := 0#32
  let v117 : BitVec 1 := Scalar.cmpi .ne v116 c0_i32_61
  let v121 : BitVec 1 := Scalar.andi v120 v117
  let v122 : BitVec 32 := Scalar.addi v116 v115
  let v123 : BitVec 32 := Scalar.select v121 v122 v116
  let c15_i32_124 : BitVec 32 := 15#32
  let v182 : BitVec 1 := Scalar.cmpi .eq v123 c15_i32_124
  let c1_i32_125 : BitVec 32 := 1#32
  let c14_i32_122 : BitVec 32 := 14#32
  let v180 : BitVec 1 := Scalar.cmpi .eq v123 c14_i32_122
  let c2_i32_123 : BitVec 32 := 2#32
  let c13_i32_120 : BitVec 32 := 13#32
  let v178 : BitVec 1 := Scalar.cmpi .eq v123 c13_i32_120
  let c3_i32_121 : BitVec 32 := 3#32
  let c12_i32_118 : BitVec 32 := 12#32
  let v176 : BitVec 1 := Scalar.cmpi .eq v123 c12_i32_118
  let c3_i32_119 : BitVec 32 := 3#32
  let c11_i32_116 : BitVec 32 := 11#32
  let v174 : BitVec 1 := Scalar.cmpi .eq v123 c11_i32_116
  let c2_i32_117 : BitVec 32 := 2#32
  let c10_i32_114 : BitVec 32 := 10#32
  let v172 : BitVec 1 := Scalar.cmpi .eq v123 c10_i32_114
  let c1_i32_115 : BitVec 32 := 1#32
  let c9_i32_112 : BitVec 32 := 9#32
  let v170 : BitVec 1 := Scalar.cmpi .eq v123 c9_i32_112
  let c1_i32_113 : BitVec 32 := 1#32
  let c8_i32_110 : BitVec 32 := 8#32
  let v168 : BitVec 1 := Scalar.cmpi .eq v123 c8_i32_110
  let c2_i32_111 : BitVec 32 := 2#32
  let c7_i32_108 : BitVec 32 := 7#32
  let v166 : BitVec 1 := Scalar.cmpi .eq v123 c7_i32_108
  let c3_i32_109 : BitVec 32 := 3#32
  let c6_i32_106 : BitVec 32 := 6#32
  let v164 : BitVec 1 := Scalar.cmpi .eq v123 c6_i32_106
  let c3_i32_107 : BitVec 32 := 3#32
  let c5_i32_104 : BitVec 32 := 5#32
  let v162 : BitVec 1 := Scalar.cmpi .eq v123 c5_i32_104
  let c2_i32_105 : BitVec 32 := 2#32
  let c4_i32_102 : BitVec 32 := 4#32
  let v160 : BitVec 1 := Scalar.cmpi .eq v123 c4_i32_102
  let c1_i32_103 : BitVec 32 := 1#32
  let c3_i32_100 : BitVec 32 := 3#32
  let v158 : BitVec 1 := Scalar.cmpi .eq v123 c3_i32_100
  let c0_i32_101 : BitVec 32 := 0#32
  let c2_i32_98 : BitVec 32 := 2#32
  let v156 : BitVec 1 := Scalar.cmpi .eq v123 c2_i32_98
  let c0_i32_99 : BitVec 32 := 0#32
  let c1_i32_95 : BitVec 32 := 1#32
  let v154 : BitVec 1 := Scalar.cmpi .eq v123 c1_i32_95
  let c0_i32_96 : BitVec 32 := 0#32
  let c0_i32_97 : BitVec 32 := 0#32
  let v155 : BitVec 32 := Scalar.select v154 c0_i32_96 c0_i32_97
  let v157 : BitVec 32 := Scalar.select v156 c0_i32_99 v155
  let v159 : BitVec 32 := Scalar.select v158 c0_i32_101 v157
  let v161 : BitVec 32 := Scalar.select v160 c1_i32_103 v159
  let v163 : BitVec 32 := Scalar.select v162 c2_i32_105 v161
  let v165 : BitVec 32 := Scalar.select v164 c3_i32_107 v163
  let v167 : BitVec 32 := Scalar.select v166 c3_i32_109 v165
  let v169 : BitVec 32 := Scalar.select v168 c2_i32_111 v167
  let v171 : BitVec 32 := Scalar.select v170 c1_i32_113 v169
  let v173 : BitVec 32 := Scalar.select v172 c1_i32_115 v171
  let v175 : BitVec 32 := Scalar.select v174 c2_i32_117 v173
  let v177 : BitVec 32 := Scalar.select v176 c3_i32_119 v175
  let v179 : BitVec 32 := Scalar.select v178 c3_i32_121 v177
  let v181 : BitVec 32 := Scalar.select v180 c2_i32_123 v179
  let v183 : BitVec 32 := Scalar.select v182 c1_i32_125 v181
  let v184 : BitVec 32 := Scalar.muli c8_i32_126 v183
  let c2_i32_127 : BitVec 32 := 2#32
  let c15_i32_93 : BitVec 32 := 15#32
  let v152 : BitVec 1 := Scalar.cmpi .eq v123 c15_i32_93
  let c0_i32_94 : BitVec 32 := 0#32
  let c14_i32_91 : BitVec 32 := 14#32
  let v150 : BitVec 1 := Scalar.cmpi .eq v123 c14_i32_91
  let c0_i32_92 : BitVec 32 := 0#32
  let c13_i32_89 : BitVec 32 := 13#32
  let v148 : BitVec 1 := Scalar.cmpi .eq v123 c13_i32_89
  let c0_i32_90 : BitVec 32 := 0#32
  let c12_i32_87 : BitVec 32 := 12#32
  let v146 : BitVec 1 := Scalar.cmpi .eq v123 c12_i32_87
  let c1_i32_88 : BitVec 32 := 1#32
  let c11_i32_85 : BitVec 32 := 11#32
  let v144 : BitVec 1 := Scalar.cmpi .eq v123 c11_i32_85
  let c1_i32_86 : BitVec 32 := 1#32
  let c10_i32_83 : BitVec 32 := 10#32
  let v142 : BitVec 1 := Scalar.cmpi .eq v123 c10_i32_83
  let c1_i32_84 : BitVec 32 := 1#32
  let c9_i32_81 : BitVec 32 := 9#32
  let v140 : BitVec 1 := Scalar.cmpi .eq v123 c9_i32_81
  let c2_i32_82 : BitVec 32 := 2#32
  let c8_i32_79 : BitVec 32 := 8#32
  let v138 : BitVec 1 := Scalar.cmpi .eq v123 c8_i32_79
  let c2_i32_80 : BitVec 32 := 2#32
  let c7_i32_77 : BitVec 32 := 7#32
  let v136 : BitVec 1 := Scalar.cmpi .eq v123 c7_i32_77
  let c2_i32_78 : BitVec 32 := 2#32
  let c6_i32_75 : BitVec 32 := 6#32
  let v134 : BitVec 1 := Scalar.cmpi .eq v123 c6_i32_75
  let c3_i32_76 : BitVec 32 := 3#32
  let c5_i32_73 : BitVec 32 := 5#32
  let v132 : BitVec 1 := Scalar.cmpi .eq v123 c5_i32_73
  let c3_i32_74 : BitVec 32 := 3#32
  let c4_i32_71 : BitVec 32 := 4#32
  let v130 : BitVec 1 := Scalar.cmpi .eq v123 c4_i32_71
  let c3_i32_72 : BitVec 32 := 3#32
  let c3_i32_69 : BitVec 32 := 3#32
  let v128 : BitVec 1 := Scalar.cmpi .eq v123 c3_i32_69
  let c3_i32_70 : BitVec 32 := 3#32
  let c2_i32_67 : BitVec 32 := 2#32
  let v126 : BitVec 1 := Scalar.cmpi .eq v123 c2_i32_67
  let c2_i32_68 : BitVec 32 := 2#32
  let c1_i32_64 : BitVec 32 := 1#32
  let v124 : BitVec 1 := Scalar.cmpi .eq v123 c1_i32_64
  let c1_i32_65 : BitVec 32 := 1#32
  let c0_i32_66 : BitVec 32 := 0#32
  let v125 : BitVec 32 := Scalar.select v124 c1_i32_65 c0_i32_66
  let v127 : BitVec 32 := Scalar.select v126 c2_i32_68 v125
  let v129 : BitVec 32 := Scalar.select v128 c3_i32_70 v127
  let v131 : BitVec 32 := Scalar.select v130 c3_i32_72 v129
  let v133 : BitVec 32 := Scalar.select v132 c3_i32_74 v131
  let v135 : BitVec 32 := Scalar.select v134 c3_i32_76 v133
  let v137 : BitVec 32 := Scalar.select v136 c2_i32_78 v135
  let v139 : BitVec 32 := Scalar.select v138 c2_i32_80 v137
  let v141 : BitVec 32 := Scalar.select v140 c2_i32_82 v139
  let v143 : BitVec 32 := Scalar.select v142 c1_i32_84 v141
  let v145 : BitVec 32 := Scalar.select v144 c1_i32_86 v143
  let v147 : BitVec 32 := Scalar.select v146 c1_i32_88 v145
  let v149 : BitVec 32 := Scalar.select v148 c0_i32_90 v147
  let v151 : BitVec 32 := Scalar.select v150 c0_i32_92 v149
  let v153 : BitVec 32 := Scalar.select v152 c0_i32_94 v151
  let v185 : BitVec 32 := Scalar.muli c2_i32_127 v153
  let v186 : BitVec 32 := Scalar.addi v184 v185
  let c2_i32_128 : BitVec 32 := 2#32
  let c0_i32_129 : BitVec 32 := 0#32
  let v187 : BitVec 1 := Scalar.cmpi .eq c2_i32_128 c0_i32_129
  let c1_i32_130 : BitVec 32 := 1#32
  let v188 : BitVec 32 := Scalar.select v187 c1_i32_130 c2_i32_128
  let v189 : BitVec 32 := Scalar.remsi v153 v188
  let c0_i32_132 : BitVec 32 := 0#32
  let v191 : BitVec 1 := Scalar.cmpi .slt v189 c0_i32_132
  let c0_i32_133 : BitVec 32 := 0#32
  let v192 : BitVec 1 := Scalar.cmpi .slt v188 c0_i32_133
  let v193 : BitVec 1 := Scalar.xori v191 v192
  let c0_i32_131 : BitVec 32 := 0#32
  let v190 : BitVec 1 := Scalar.cmpi .ne v189 c0_i32_131
  let v194 : BitVec 1 := Scalar.andi v193 v190
  let v195 : BitVec 32 := Scalar.addi v189 v188
  let v196 : BitVec 32 := Scalar.select v194 v195 v189
  let c0_i32_134 : BitVec 32 := 0#32
  let v197 : BitVec 1 := Scalar.cmpi .eq v196 c0_i32_134
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_135 : BitVec 32 := 1#32
  let v198 : BitVec 32 := Scalar.subi c1_i32_135 v79
  let v199 : BitVec 32 := Scalar.select v197 v79 v198
  let v200 : BitVec 32 := Scalar.addi v186 v199
  let c1_i32_223 : BitVec 32 := 1#32
  let v295 : BitVec 32 := Scalar.muli v200 c1_i32_223
  let v296 : BitVec 32 := Scalar.addi c0_i32_224 v295
  v296.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32 : BitVec 32 := 256#32
  let v299 : BitVec 32 := Scalar.muli v2 c256_i32
  let v300 : Index := Scalar.indexCast v299
  let c0_227 : Index := 0#32
  ![v300.toNat, 0]
def k0_off2 (d0 : Dev nD) (c0_i32_1323 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_1322 : BitVec 32 := 256#32
  let v1480 : BitVec 32 := Scalar.muli v2 c256_i32_1322
  let v1481 : BitVec 32 := Scalar.addi v1480 c0_i32_1323
  let c0_i32_1328 : BitVec 32 := 0#32
  ![v1481.toNat, 0]
def k0_dev4 (d0 : Dev nD) : Nat :=
  let c0_i32_1327 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_57 : BitVec 32 := 1#32
  let v112 : BitVec 32 := Scalar.xori v2 c1_i32_57
  let c1_i32_1326 : BitVec 32 := 1#32
  let v1482 : BitVec 32 := Scalar.muli v112 c1_i32_1326
  let v1483 : BitVec 32 := Scalar.addi c0_i32_1327 v1482
  v1483.toNat
def k0_dev5 (d0 : Dev nD) : Nat :=
  let c0_i32_1334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_57 : BitVec 32 := 1#32
  let v112 : BitVec 32 := Scalar.xori v2 c1_i32_57
  let c1_i32_1333 : BitVec 32 := 1#32
  let v1492 : BitVec 32 := Scalar.muli v112 c1_i32_1333
  let v1493 : BitVec 32 := Scalar.addi c0_i32_1334 v1492
  v1493.toNat
def k0_cond1 (d0 : Dev nD) : BitVec 1 :=
  let c2_i32_1337 : BitVec 32 := 2#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v80 : BitVec 32 := Scalar.muli c4_i32 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v81 : BitVec 32 := Scalar.addi v80 v46
  let v1500 : BitVec 32 := Scalar.muli c2_i32_1337 v81
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let v1501 : BitVec 32 := Scalar.addi v1500 v79
  let v1502 : BitVec 1 := Scalar.cmpi .ne v1501 v2
  let v1503 : BitVec 32 := Scalar.extui v1502
  let c0_i32_1340 : BitVec 32 := 0#32
  let v1504 : BitVec 1 := Scalar.cmpi .ne v1503 c0_i32_1340
  v1504

def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_1322 : BitVec 32 := 256#32
  let v1480 : BitVec 32 := Scalar.muli v2 c256_i32_1322
  let c0_i32_1323 : BitVec 32 := 0#32
  let v1481 : BitVec 32 := Scalar.addi v1480 c0_i32_1323
  let c0_i32_2661 : BitVec 32 := 0#32
  ![v1481.toNat, 0]
def k0_off4 (d0 : Dev nD) (c0_i32_1342 : BitVec 32) : Fin 2 → Nat :=
  let c2_i32_1337 : BitVec 32 := 2#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v80 : BitVec 32 := Scalar.muli c4_i32 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v81 : BitVec 32 := Scalar.addi v80 v46
  let v1500 : BitVec 32 := Scalar.muli c2_i32_1337 v81
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let v1501 : BitVec 32 := Scalar.addi v1500 v79
  let c256_i32_1341 : BitVec 32 := 256#32
  let v1505 : BitVec 32 := Scalar.muli v1501 c256_i32_1341
  let v1506 : BitVec 32 := Scalar.addi v1505 c0_i32_1342
  let c0_i32_1347 : BitVec 32 := 0#32
  ![v1506.toNat, 0]
def k0_dev6 (d0 : Dev nD) : Nat :=
  let c0_i32_1346 : BitVec 32 := 0#32
  let c8_i32_126 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v80 : BitVec 32 := Scalar.muli c4_i32 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v81 : BitVec 32 := Scalar.addi v80 v46
  let c15_i32_55 : BitVec 32 := 15#32
  let v110 : BitVec 1 := Scalar.cmpi .eq v81 c15_i32_55
  let c6_i32_56 : BitVec 32 := 6#32
  let c14_i32_53 : BitVec 32 := 14#32
  let v108 : BitVec 1 := Scalar.cmpi .eq v81 c14_i32_53
  let c7_i32_54 : BitVec 32 := 7#32
  let c13_i32_51 : BitVec 32 := 13#32
  let v106 : BitVec 1 := Scalar.cmpi .eq v81 c13_i32_51
  let c12_i32_52 : BitVec 32 := 12#32
  let c12_i32 : BitVec 32 := 12#32
  let v104 : BitVec 1 := Scalar.cmpi .eq v81 c12_i32
  let c13_i32 : BitVec 32 := 13#32
  let c11_i32_49 : BitVec 32 := 11#32
  let v102 : BitVec 1 := Scalar.cmpi .eq v81 c11_i32_49
  let c5_i32_50 : BitVec 32 := 5#32
  let c10_i32_47 : BitVec 32 := 10#32
  let v100 : BitVec 1 := Scalar.cmpi .eq v81 c10_i32_47
  let c8_i32_48 : BitVec 32 := 8#32
  let c9_i32_46 : BitVec 32 := 9#32
  let v98 : BitVec 1 := Scalar.cmpi .eq v81 c9_i32_46
  let c11_i32 : BitVec 32 := 11#32
  let c8_i32_45 : BitVec 32 := 8#32
  let v96 : BitVec 1 := Scalar.cmpi .eq v81 c8_i32_45
  let c14_i32 : BitVec 32 := 14#32
  let c7_i32 : BitVec 32 := 7#32
  let v94 : BitVec 1 := Scalar.cmpi .eq v81 c7_i32
  let c4_i32_44 : BitVec 32 := 4#32
  let c6_i32 : BitVec 32 := 6#32
  let v92 : BitVec 1 := Scalar.cmpi .eq v81 c6_i32
  let c9_i32 : BitVec 32 := 9#32
  let c5_i32 : BitVec 32 := 5#32
  let v90 : BitVec 1 := Scalar.cmpi .eq v81 c5_i32
  let c10_i32 : BitVec 32 := 10#32
  let c4_i32_43 : BitVec 32 := 4#32
  let v88 : BitVec 1 := Scalar.cmpi .eq v81 c4_i32_43
  let c15_i32 : BitVec 32 := 15#32
  let c3_i32 : BitVec 32 := 3#32
  let v86 : BitVec 1 := Scalar.cmpi .eq v81 c3_i32
  let c3_i32_42 : BitVec 32 := 3#32
  let c2_i32_40 : BitVec 32 := 2#32
  let v84 : BitVec 1 := Scalar.cmpi .eq v81 c2_i32_40
  let c2_i32_41 : BitVec 32 := 2#32
  let c1_i32_37 : BitVec 32 := 1#32
  let v82 : BitVec 1 := Scalar.cmpi .eq v81 c1_i32_37
  let c1_i32_38 : BitVec 32 := 1#32
  let c0_i32_39 : BitVec 32 := 0#32
  let v83 : BitVec 32 := Scalar.select v82 c1_i32_38 c0_i32_39
  let v85 : BitVec 32 := Scalar.select v84 c2_i32_41 v83
  let v87 : BitVec 32 := Scalar.select v86 c3_i32_42 v85
  let v89 : BitVec 32 := Scalar.select v88 c15_i32 v87
  let v91 : BitVec 32 := Scalar.select v90 c10_i32 v89
  let v93 : BitVec 32 := Scalar.select v92 c9_i32 v91
  let v95 : BitVec 32 := Scalar.select v94 c4_i32_44 v93
  let v97 : BitVec 32 := Scalar.select v96 c14_i32 v95
  let v99 : BitVec 32 := Scalar.select v98 c11_i32 v97
  let v101 : BitVec 32 := Scalar.select v100 c8_i32_48 v99
  let v103 : BitVec 32 := Scalar.select v102 c5_i32_50 v101
  let v105 : BitVec 32 := Scalar.select v104 c13_i32 v103
  let v107 : BitVec 32 := Scalar.select v106 c12_i32_52 v105
  let v109 : BitVec 32 := Scalar.select v108 c7_i32_54 v107
  let v111 : BitVec 32 := Scalar.select v110 c6_i32_56 v109
  let c1_i32_58 : BitVec 32 := 1#32
  let v113 : BitVec 32 := Scalar.addi v111 c1_i32_58
  let c16_i32 : BitVec 32 := 16#32
  let c0_i32_59 : BitVec 32 := 0#32
  let v114 : BitVec 1 := Scalar.cmpi .eq c16_i32 c0_i32_59
  let c1_i32_60 : BitVec 32 := 1#32
  let v115 : BitVec 32 := Scalar.select v114 c1_i32_60 c16_i32
  let v116 : BitVec 32 := Scalar.remsi v113 v115
  let c0_i32_62 : BitVec 32 := 0#32
  let v118 : BitVec 1 := Scalar.cmpi .slt v116 c0_i32_62
  let c0_i32_63 : BitVec 32 := 0#32
  let v119 : BitVec 1 := Scalar.cmpi .slt v115 c0_i32_63
  let v120 : BitVec 1 := Scalar.xori v118 v119
  let c0_i32_61 : BitVec 32 := 0#32
  let v117 : BitVec 1 := Scalar.cmpi .ne v116 c0_i32_61
  let v121 : BitVec 1 := Scalar.andi v120 v117
  let v122 : BitVec 32 := Scalar.addi v116 v115
  let v123 : BitVec 32 := Scalar.select v121 v122 v116
  let c15_i32_124 : BitVec 32 := 15#32
  let v182 : BitVec 1 := Scalar.cmpi .eq v123 c15_i32_124
  let c1_i32_125 : BitVec 32 := 1#32
  let c14_i32_122 : BitVec 32 := 14#32
  let v180 : BitVec 1 := Scalar.cmpi .eq v123 c14_i32_122
  let c2_i32_123 : BitVec 32 := 2#32
  let c13_i32_120 : BitVec 32 := 13#32
  let v178 : BitVec 1 := Scalar.cmpi .eq v123 c13_i32_120
  let c3_i32_121 : BitVec 32 := 3#32
  let c12_i32_118 : BitVec 32 := 12#32
  let v176 : BitVec 1 := Scalar.cmpi .eq v123 c12_i32_118
  let c3_i32_119 : BitVec 32 := 3#32
  let c11_i32_116 : BitVec 32 := 11#32
  let v174 : BitVec 1 := Scalar.cmpi .eq v123 c11_i32_116
  let c2_i32_117 : BitVec 32 := 2#32
  let c10_i32_114 : BitVec 32 := 10#32
  let v172 : BitVec 1 := Scalar.cmpi .eq v123 c10_i32_114
  let c1_i32_115 : BitVec 32 := 1#32
  let c9_i32_112 : BitVec 32 := 9#32
  let v170 : BitVec 1 := Scalar.cmpi .eq v123 c9_i32_112
  let c1_i32_113 : BitVec 32 := 1#32
  let c8_i32_110 : BitVec 32 := 8#32
  let v168 : BitVec 1 := Scalar.cmpi .eq v123 c8_i32_110
  let c2_i32_111 : BitVec 32 := 2#32
  let c7_i32_108 : BitVec 32 := 7#32
  let v166 : BitVec 1 := Scalar.cmpi .eq v123 c7_i32_108
  let c3_i32_109 : BitVec 32 := 3#32
  let c6_i32_106 : BitVec 32 := 6#32
  let v164 : BitVec 1 := Scalar.cmpi .eq v123 c6_i32_106
  let c3_i32_107 : BitVec 32 := 3#32
  let c5_i32_104 : BitVec 32 := 5#32
  let v162 : BitVec 1 := Scalar.cmpi .eq v123 c5_i32_104
  let c2_i32_105 : BitVec 32 := 2#32
  let c4_i32_102 : BitVec 32 := 4#32
  let v160 : BitVec 1 := Scalar.cmpi .eq v123 c4_i32_102
  let c1_i32_103 : BitVec 32 := 1#32
  let c3_i32_100 : BitVec 32 := 3#32
  let v158 : BitVec 1 := Scalar.cmpi .eq v123 c3_i32_100
  let c0_i32_101 : BitVec 32 := 0#32
  let c2_i32_98 : BitVec 32 := 2#32
  let v156 : BitVec 1 := Scalar.cmpi .eq v123 c2_i32_98
  let c0_i32_99 : BitVec 32 := 0#32
  let c1_i32_95 : BitVec 32 := 1#32
  let v154 : BitVec 1 := Scalar.cmpi .eq v123 c1_i32_95
  let c0_i32_96 : BitVec 32 := 0#32
  let c0_i32_97 : BitVec 32 := 0#32
  let v155 : BitVec 32 := Scalar.select v154 c0_i32_96 c0_i32_97
  let v157 : BitVec 32 := Scalar.select v156 c0_i32_99 v155
  let v159 : BitVec 32 := Scalar.select v158 c0_i32_101 v157
  let v161 : BitVec 32 := Scalar.select v160 c1_i32_103 v159
  let v163 : BitVec 32 := Scalar.select v162 c2_i32_105 v161
  let v165 : BitVec 32 := Scalar.select v164 c3_i32_107 v163
  let v167 : BitVec 32 := Scalar.select v166 c3_i32_109 v165
  let v169 : BitVec 32 := Scalar.select v168 c2_i32_111 v167
  let v171 : BitVec 32 := Scalar.select v170 c1_i32_113 v169
  let v173 : BitVec 32 := Scalar.select v172 c1_i32_115 v171
  let v175 : BitVec 32 := Scalar.select v174 c2_i32_117 v173
  let v177 : BitVec 32 := Scalar.select v176 c3_i32_119 v175
  let v179 : BitVec 32 := Scalar.select v178 c3_i32_121 v177
  let v181 : BitVec 32 := Scalar.select v180 c2_i32_123 v179
  let v183 : BitVec 32 := Scalar.select v182 c1_i32_125 v181
  let v184 : BitVec 32 := Scalar.muli c8_i32_126 v183
  let c2_i32_127 : BitVec 32 := 2#32
  let c15_i32_93 : BitVec 32 := 15#32
  let v152 : BitVec 1 := Scalar.cmpi .eq v123 c15_i32_93
  let c0_i32_94 : BitVec 32 := 0#32
  let c14_i32_91 : BitVec 32 := 14#32
  let v150 : BitVec 1 := Scalar.cmpi .eq v123 c14_i32_91
  let c0_i32_92 : BitVec 32 := 0#32
  let c13_i32_89 : BitVec 32 := 13#32
  let v148 : BitVec 1 := Scalar.cmpi .eq v123 c13_i32_89
  let c0_i32_90 : BitVec 32 := 0#32
  let c12_i32_87 : BitVec 32 := 12#32
  let v146 : BitVec 1 := Scalar.cmpi .eq v123 c12_i32_87
  let c1_i32_88 : BitVec 32 := 1#32
  let c11_i32_85 : BitVec 32 := 11#32
  let v144 : BitVec 1 := Scalar.cmpi .eq v123 c11_i32_85
  let c1_i32_86 : BitVec 32 := 1#32
  let c10_i32_83 : BitVec 32 := 10#32
  let v142 : BitVec 1 := Scalar.cmpi .eq v123 c10_i32_83
  let c1_i32_84 : BitVec 32 := 1#32
  let c9_i32_81 : BitVec 32 := 9#32
  let v140 : BitVec 1 := Scalar.cmpi .eq v123 c9_i32_81
  let c2_i32_82 : BitVec 32 := 2#32
  let c8_i32_79 : BitVec 32 := 8#32
  let v138 : BitVec 1 := Scalar.cmpi .eq v123 c8_i32_79
  let c2_i32_80 : BitVec 32 := 2#32
  let c7_i32_77 : BitVec 32 := 7#32
  let v136 : BitVec 1 := Scalar.cmpi .eq v123 c7_i32_77
  let c2_i32_78 : BitVec 32 := 2#32
  let c6_i32_75 : BitVec 32 := 6#32
  let v134 : BitVec 1 := Scalar.cmpi .eq v123 c6_i32_75
  let c3_i32_76 : BitVec 32 := 3#32
  let c5_i32_73 : BitVec 32 := 5#32
  let v132 : BitVec 1 := Scalar.cmpi .eq v123 c5_i32_73
  let c3_i32_74 : BitVec 32 := 3#32
  let c4_i32_71 : BitVec 32 := 4#32
  let v130 : BitVec 1 := Scalar.cmpi .eq v123 c4_i32_71
  let c3_i32_72 : BitVec 32 := 3#32
  let c3_i32_69 : BitVec 32 := 3#32
  let v128 : BitVec 1 := Scalar.cmpi .eq v123 c3_i32_69
  let c3_i32_70 : BitVec 32 := 3#32
  let c2_i32_67 : BitVec 32 := 2#32
  let v126 : BitVec 1 := Scalar.cmpi .eq v123 c2_i32_67
  let c2_i32_68 : BitVec 32 := 2#32
  let c1_i32_64 : BitVec 32 := 1#32
  let v124 : BitVec 1 := Scalar.cmpi .eq v123 c1_i32_64
  let c1_i32_65 : BitVec 32 := 1#32
  let c0_i32_66 : BitVec 32 := 0#32
  let v125 : BitVec 32 := Scalar.select v124 c1_i32_65 c0_i32_66
  let v127 : BitVec 32 := Scalar.select v126 c2_i32_68 v125
  let v129 : BitVec 32 := Scalar.select v128 c3_i32_70 v127
  let v131 : BitVec 32 := Scalar.select v130 c3_i32_72 v129
  let v133 : BitVec 32 := Scalar.select v132 c3_i32_74 v131
  let v135 : BitVec 32 := Scalar.select v134 c3_i32_76 v133
  let v137 : BitVec 32 := Scalar.select v136 c2_i32_78 v135
  let v139 : BitVec 32 := Scalar.select v138 c2_i32_80 v137
  let v141 : BitVec 32 := Scalar.select v140 c2_i32_82 v139
  let v143 : BitVec 32 := Scalar.select v142 c1_i32_84 v141
  let v145 : BitVec 32 := Scalar.select v144 c1_i32_86 v143
  let v147 : BitVec 32 := Scalar.select v146 c1_i32_88 v145
  let v149 : BitVec 32 := Scalar.select v148 c0_i32_90 v147
  let v151 : BitVec 32 := Scalar.select v150 c0_i32_92 v149
  let v153 : BitVec 32 := Scalar.select v152 c0_i32_94 v151
  let v185 : BitVec 32 := Scalar.muli c2_i32_127 v153
  let v186 : BitVec 32 := Scalar.addi v184 v185
  let c2_i32_128 : BitVec 32 := 2#32
  let c0_i32_129 : BitVec 32 := 0#32
  let v187 : BitVec 1 := Scalar.cmpi .eq c2_i32_128 c0_i32_129
  let c1_i32_130 : BitVec 32 := 1#32
  let v188 : BitVec 32 := Scalar.select v187 c1_i32_130 c2_i32_128
  let v189 : BitVec 32 := Scalar.remsi v153 v188
  let c0_i32_132 : BitVec 32 := 0#32
  let v191 : BitVec 1 := Scalar.cmpi .slt v189 c0_i32_132
  let c0_i32_133 : BitVec 32 := 0#32
  let v192 : BitVec 1 := Scalar.cmpi .slt v188 c0_i32_133
  let v193 : BitVec 1 := Scalar.xori v191 v192
  let c0_i32_131 : BitVec 32 := 0#32
  let v190 : BitVec 1 := Scalar.cmpi .ne v189 c0_i32_131
  let v194 : BitVec 1 := Scalar.andi v193 v190
  let v195 : BitVec 32 := Scalar.addi v189 v188
  let v196 : BitVec 32 := Scalar.select v194 v195 v189
  let c0_i32_134 : BitVec 32 := 0#32
  let v197 : BitVec 1 := Scalar.cmpi .eq v196 c0_i32_134
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_135 : BitVec 32 := 1#32
  let v198 : BitVec 32 := Scalar.subi c1_i32_135 v79
  let v199 : BitVec 32 := Scalar.select v197 v79 v198
  let v200 : BitVec 32 := Scalar.addi v186 v199
  let c1_i32_1345 : BitVec 32 := 1#32
  let v1507 : BitVec 32 := Scalar.muli v200 c1_i32_1345
  let v1508 : BitVec 32 := Scalar.addi c0_i32_1346 v1507
  v1508.toNat
def k0_dev7 (d0 : Dev nD) : Nat :=
  let c0_i32_1354 : BitVec 32 := 0#32
  let c8_i32_206 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v80 : BitVec 32 := Scalar.muli c4_i32 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v81 : BitVec 32 := Scalar.addi v80 v46
  let c15_i32_55 : BitVec 32 := 15#32
  let v110 : BitVec 1 := Scalar.cmpi .eq v81 c15_i32_55
  let c6_i32_56 : BitVec 32 := 6#32
  let c14_i32_53 : BitVec 32 := 14#32
  let v108 : BitVec 1 := Scalar.cmpi .eq v81 c14_i32_53
  let c7_i32_54 : BitVec 32 := 7#32
  let c13_i32_51 : BitVec 32 := 13#32
  let v106 : BitVec 1 := Scalar.cmpi .eq v81 c13_i32_51
  let c12_i32_52 : BitVec 32 := 12#32
  let c12_i32 : BitVec 32 := 12#32
  let v104 : BitVec 1 := Scalar.cmpi .eq v81 c12_i32
  let c13_i32 : BitVec 32 := 13#32
  let c11_i32_49 : BitVec 32 := 11#32
  let v102 : BitVec 1 := Scalar.cmpi .eq v81 c11_i32_49
  let c5_i32_50 : BitVec 32 := 5#32
  let c10_i32_47 : BitVec 32 := 10#32
  let v100 : BitVec 1 := Scalar.cmpi .eq v81 c10_i32_47
  let c8_i32_48 : BitVec 32 := 8#32
  let c9_i32_46 : BitVec 32 := 9#32
  let v98 : BitVec 1 := Scalar.cmpi .eq v81 c9_i32_46
  let c11_i32 : BitVec 32 := 11#32
  let c8_i32_45 : BitVec 32 := 8#32
  let v96 : BitVec 1 := Scalar.cmpi .eq v81 c8_i32_45
  let c14_i32 : BitVec 32 := 14#32
  let c7_i32 : BitVec 32 := 7#32
  let v94 : BitVec 1 := Scalar.cmpi .eq v81 c7_i32
  let c4_i32_44 : BitVec 32 := 4#32
  let c6_i32 : BitVec 32 := 6#32
  let v92 : BitVec 1 := Scalar.cmpi .eq v81 c6_i32
  let c9_i32 : BitVec 32 := 9#32
  let c5_i32 : BitVec 32 := 5#32
  let v90 : BitVec 1 := Scalar.cmpi .eq v81 c5_i32
  let c10_i32 : BitVec 32 := 10#32
  let c4_i32_43 : BitVec 32 := 4#32
  let v88 : BitVec 1 := Scalar.cmpi .eq v81 c4_i32_43
  let c15_i32 : BitVec 32 := 15#32
  let c3_i32 : BitVec 32 := 3#32
  let v86 : BitVec 1 := Scalar.cmpi .eq v81 c3_i32
  let c3_i32_42 : BitVec 32 := 3#32
  let c2_i32_40 : BitVec 32 := 2#32
  let v84 : BitVec 1 := Scalar.cmpi .eq v81 c2_i32_40
  let c2_i32_41 : BitVec 32 := 2#32
  let c1_i32_37 : BitVec 32 := 1#32
  let v82 : BitVec 1 := Scalar.cmpi .eq v81 c1_i32_37
  let c1_i32_38 : BitVec 32 := 1#32
  let c0_i32_39 : BitVec 32 := 0#32
  let v83 : BitVec 32 := Scalar.select v82 c1_i32_38 c0_i32_39
  let v85 : BitVec 32 := Scalar.select v84 c2_i32_41 v83
  let v87 : BitVec 32 := Scalar.select v86 c3_i32_42 v85
  let v89 : BitVec 32 := Scalar.select v88 c15_i32 v87
  let v91 : BitVec 32 := Scalar.select v90 c10_i32 v89
  let v93 : BitVec 32 := Scalar.select v92 c9_i32 v91
  let v95 : BitVec 32 := Scalar.select v94 c4_i32_44 v93
  let v97 : BitVec 32 := Scalar.select v96 c14_i32 v95
  let v99 : BitVec 32 := Scalar.select v98 c11_i32 v97
  let v101 : BitVec 32 := Scalar.select v100 c8_i32_48 v99
  let v103 : BitVec 32 := Scalar.select v102 c5_i32_50 v101
  let v105 : BitVec 32 := Scalar.select v104 c13_i32 v103
  let v107 : BitVec 32 := Scalar.select v106 c12_i32_52 v105
  let v109 : BitVec 32 := Scalar.select v108 c7_i32_54 v107
  let v111 : BitVec 32 := Scalar.select v110 c6_i32_56 v109
  let c16_i32_136 : BitVec 32 := 16#32
  let v201 : BitVec 32 := Scalar.addi v111 c16_i32_136
  let c1_i32_137 : BitVec 32 := 1#32
  let v202 : BitVec 32 := Scalar.subi v201 c1_i32_137
  let c16_i32_138 : BitVec 32 := 16#32
  let c0_i32_139 : BitVec 32 := 0#32
  let v203 : BitVec 1 := Scalar.cmpi .eq c16_i32_138 c0_i32_139
  let c1_i32_140 : BitVec 32 := 1#32
  let v204 : BitVec 32 := Scalar.select v203 c1_i32_140 c16_i32_138
  let v205 : BitVec 32 := Scalar.remsi v202 v204
  let c0_i32_142 : BitVec 32 := 0#32
  let v207 : BitVec 1 := Scalar.cmpi .slt v205 c0_i32_142
  let c0_i32_143 : BitVec 32 := 0#32
  let v208 : BitVec 1 := Scalar.cmpi .slt v204 c0_i32_143
  let v209 : BitVec 1 := Scalar.xori v207 v208
  let c0_i32_141 : BitVec 32 := 0#32
  let v206 : BitVec 1 := Scalar.cmpi .ne v205 c0_i32_141
  let v210 : BitVec 1 := Scalar.andi v209 v206
  let v211 : BitVec 32 := Scalar.addi v205 v204
  let v212 : BitVec 32 := Scalar.select v210 v211 v205
  let c15_i32_204 : BitVec 32 := 15#32
  let v271 : BitVec 1 := Scalar.cmpi .eq v212 c15_i32_204
  let c1_i32_205 : BitVec 32 := 1#32
  let c14_i32_202 : BitVec 32 := 14#32
  let v269 : BitVec 1 := Scalar.cmpi .eq v212 c14_i32_202
  let c2_i32_203 : BitVec 32 := 2#32
  let c13_i32_200 : BitVec 32 := 13#32
  let v267 : BitVec 1 := Scalar.cmpi .eq v212 c13_i32_200
  let c3_i32_201 : BitVec 32 := 3#32
  let c12_i32_198 : BitVec 32 := 12#32
  let v265 : BitVec 1 := Scalar.cmpi .eq v212 c12_i32_198
  let c3_i32_199 : BitVec 32 := 3#32
  let c11_i32_196 : BitVec 32 := 11#32
  let v263 : BitVec 1 := Scalar.cmpi .eq v212 c11_i32_196
  let c2_i32_197 : BitVec 32 := 2#32
  let c10_i32_194 : BitVec 32 := 10#32
  let v261 : BitVec 1 := Scalar.cmpi .eq v212 c10_i32_194
  let c1_i32_195 : BitVec 32 := 1#32
  let c9_i32_192 : BitVec 32 := 9#32
  let v259 : BitVec 1 := Scalar.cmpi .eq v212 c9_i32_192
  let c1_i32_193 : BitVec 32 := 1#32
  let c8_i32_190 : BitVec 32 := 8#32
  let v257 : BitVec 1 := Scalar.cmpi .eq v212 c8_i32_190
  let c2_i32_191 : BitVec 32 := 2#32
  let c7_i32_188 : BitVec 32 := 7#32
  let v255 : BitVec 1 := Scalar.cmpi .eq v212 c7_i32_188
  let c3_i32_189 : BitVec 32 := 3#32
  let c6_i32_186 : BitVec 32 := 6#32
  let v253 : BitVec 1 := Scalar.cmpi .eq v212 c6_i32_186
  let c3_i32_187 : BitVec 32 := 3#32
  let c5_i32_184 : BitVec 32 := 5#32
  let v251 : BitVec 1 := Scalar.cmpi .eq v212 c5_i32_184
  let c2_i32_185 : BitVec 32 := 2#32
  let c4_i32_182 : BitVec 32 := 4#32
  let v249 : BitVec 1 := Scalar.cmpi .eq v212 c4_i32_182
  let c1_i32_183 : BitVec 32 := 1#32
  let c3_i32_180 : BitVec 32 := 3#32
  let v247 : BitVec 1 := Scalar.cmpi .eq v212 c3_i32_180
  let c0_i32_181 : BitVec 32 := 0#32
  let c2_i32_178 : BitVec 32 := 2#32
  let v245 : BitVec 1 := Scalar.cmpi .eq v212 c2_i32_178
  let c0_i32_179 : BitVec 32 := 0#32
  let c1_i32_175 : BitVec 32 := 1#32
  let v243 : BitVec 1 := Scalar.cmpi .eq v212 c1_i32_175
  let c0_i32_176 : BitVec 32 := 0#32
  let c0_i32_177 : BitVec 32 := 0#32
  let v244 : BitVec 32 := Scalar.select v243 c0_i32_176 c0_i32_177
  let v246 : BitVec 32 := Scalar.select v245 c0_i32_179 v244
  let v248 : BitVec 32 := Scalar.select v247 c0_i32_181 v246
  let v250 : BitVec 32 := Scalar.select v249 c1_i32_183 v248
  let v252 : BitVec 32 := Scalar.select v251 c2_i32_185 v250
  let v254 : BitVec 32 := Scalar.select v253 c3_i32_187 v252
  let v256 : BitVec 32 := Scalar.select v255 c3_i32_189 v254
  let v258 : BitVec 32 := Scalar.select v257 c2_i32_191 v256
  let v260 : BitVec 32 := Scalar.select v259 c1_i32_193 v258
  let v262 : BitVec 32 := Scalar.select v261 c1_i32_195 v260
  let v264 : BitVec 32 := Scalar.select v263 c2_i32_197 v262
  let v266 : BitVec 32 := Scalar.select v265 c3_i32_199 v264
  let v268 : BitVec 32 := Scalar.select v267 c3_i32_201 v266
  let v270 : BitVec 32 := Scalar.select v269 c2_i32_203 v268
  let v272 : BitVec 32 := Scalar.select v271 c1_i32_205 v270
  let v273 : BitVec 32 := Scalar.muli c8_i32_206 v272
  let c2_i32_207 : BitVec 32 := 2#32
  let c15_i32_173 : BitVec 32 := 15#32
  let v241 : BitVec 1 := Scalar.cmpi .eq v212 c15_i32_173
  let c0_i32_174 : BitVec 32 := 0#32
  let c14_i32_171 : BitVec 32 := 14#32
  let v239 : BitVec 1 := Scalar.cmpi .eq v212 c14_i32_171
  let c0_i32_172 : BitVec 32 := 0#32
  let c13_i32_169 : BitVec 32 := 13#32
  let v237 : BitVec 1 := Scalar.cmpi .eq v212 c13_i32_169
  let c0_i32_170 : BitVec 32 := 0#32
  let c12_i32_167 : BitVec 32 := 12#32
  let v235 : BitVec 1 := Scalar.cmpi .eq v212 c12_i32_167
  let c1_i32_168 : BitVec 32 := 1#32
  let c11_i32_165 : BitVec 32 := 11#32
  let v233 : BitVec 1 := Scalar.cmpi .eq v212 c11_i32_165
  let c1_i32_166 : BitVec 32 := 1#32
  let c10_i32_163 : BitVec 32 := 10#32
  let v231 : BitVec 1 := Scalar.cmpi .eq v212 c10_i32_163
  let c1_i32_164 : BitVec 32 := 1#32
  let c9_i32_161 : BitVec 32 := 9#32
  let v229 : BitVec 1 := Scalar.cmpi .eq v212 c9_i32_161
  let c2_i32_162 : BitVec 32 := 2#32
  let c8_i32_159 : BitVec 32 := 8#32
  let v227 : BitVec 1 := Scalar.cmpi .eq v212 c8_i32_159
  let c2_i32_160 : BitVec 32 := 2#32
  let c7_i32_157 : BitVec 32 := 7#32
  let v225 : BitVec 1 := Scalar.cmpi .eq v212 c7_i32_157
  let c2_i32_158 : BitVec 32 := 2#32
  let c6_i32_155 : BitVec 32 := 6#32
  let v223 : BitVec 1 := Scalar.cmpi .eq v212 c6_i32_155
  let c3_i32_156 : BitVec 32 := 3#32
  let c5_i32_153 : BitVec 32 := 5#32
  let v221 : BitVec 1 := Scalar.cmpi .eq v212 c5_i32_153
  let c3_i32_154 : BitVec 32 := 3#32
  let c4_i32_151 : BitVec 32 := 4#32
  let v219 : BitVec 1 := Scalar.cmpi .eq v212 c4_i32_151
  let c3_i32_152 : BitVec 32 := 3#32
  let c3_i32_149 : BitVec 32 := 3#32
  let v217 : BitVec 1 := Scalar.cmpi .eq v212 c3_i32_149
  let c3_i32_150 : BitVec 32 := 3#32
  let c2_i32_147 : BitVec 32 := 2#32
  let v215 : BitVec 1 := Scalar.cmpi .eq v212 c2_i32_147
  let c2_i32_148 : BitVec 32 := 2#32
  let c1_i32_144 : BitVec 32 := 1#32
  let v213 : BitVec 1 := Scalar.cmpi .eq v212 c1_i32_144
  let c1_i32_145 : BitVec 32 := 1#32
  let c0_i32_146 : BitVec 32 := 0#32
  let v214 : BitVec 32 := Scalar.select v213 c1_i32_145 c0_i32_146
  let v216 : BitVec 32 := Scalar.select v215 c2_i32_148 v214
  let v218 : BitVec 32 := Scalar.select v217 c3_i32_150 v216
  let v220 : BitVec 32 := Scalar.select v219 c3_i32_152 v218
  let v222 : BitVec 32 := Scalar.select v221 c3_i32_154 v220
  let v224 : BitVec 32 := Scalar.select v223 c3_i32_156 v222
  let v226 : BitVec 32 := Scalar.select v225 c2_i32_158 v224
  let v228 : BitVec 32 := Scalar.select v227 c2_i32_160 v226
  let v230 : BitVec 32 := Scalar.select v229 c2_i32_162 v228
  let v232 : BitVec 32 := Scalar.select v231 c1_i32_164 v230
  let v234 : BitVec 32 := Scalar.select v233 c1_i32_166 v232
  let v236 : BitVec 32 := Scalar.select v235 c1_i32_168 v234
  let v238 : BitVec 32 := Scalar.select v237 c0_i32_170 v236
  let v240 : BitVec 32 := Scalar.select v239 c0_i32_172 v238
  let v242 : BitVec 32 := Scalar.select v241 c0_i32_174 v240
  let v274 : BitVec 32 := Scalar.muli c2_i32_207 v242
  let v275 : BitVec 32 := Scalar.addi v273 v274
  let c2_i32_208 : BitVec 32 := 2#32
  let c0_i32_209 : BitVec 32 := 0#32
  let v276 : BitVec 1 := Scalar.cmpi .eq c2_i32_208 c0_i32_209
  let c1_i32_210 : BitVec 32 := 1#32
  let v277 : BitVec 32 := Scalar.select v276 c1_i32_210 c2_i32_208
  let v278 : BitVec 32 := Scalar.remsi v242 v277
  let c0_i32_212 : BitVec 32 := 0#32
  let v280 : BitVec 1 := Scalar.cmpi .slt v278 c0_i32_212
  let c0_i32_213 : BitVec 32 := 0#32
  let v281 : BitVec 1 := Scalar.cmpi .slt v277 c0_i32_213
  let v282 : BitVec 1 := Scalar.xori v280 v281
  let c0_i32_211 : BitVec 32 := 0#32
  let v279 : BitVec 1 := Scalar.cmpi .ne v278 c0_i32_211
  let v283 : BitVec 1 := Scalar.andi v282 v279
  let v284 : BitVec 32 := Scalar.addi v278 v277
  let v285 : BitVec 32 := Scalar.select v283 v284 v278
  let c0_i32_214 : BitVec 32 := 0#32
  let v286 : BitVec 1 := Scalar.cmpi .eq v285 c0_i32_214
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_215 : BitVec 32 := 1#32
  let v287 : BitVec 32 := Scalar.subi c1_i32_215 v79
  let v288 : BitVec 32 := Scalar.select v286 v79 v287
  let v289 : BitVec 32 := Scalar.addi v275 v288
  let c1_i32_1353 : BitVec 32 := 1#32
  let v1517 : BitVec 32 := Scalar.muli v289 c1_i32_1353
  let v1518 : BitVec 32 := Scalar.addi c0_i32_1354 v1517
  v1518.toNat
def k0_cond2 (d0 : Dev nD) : BitVec 1 :=
  let c2_i32_1337 : BitVec 32 := 2#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v80 : BitVec 32 := Scalar.muli c4_i32 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v81 : BitVec 32 := Scalar.addi v80 v46
  let v1500 : BitVec 32 := Scalar.muli c2_i32_1337 v81
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let v1501 : BitVec 32 := Scalar.addi v1500 v79
  let v1525 : BitVec 1 := Scalar.cmpi .ne v1501 v2
  let v1526 : BitVec 32 := Scalar.extui v1525
  let c0_i32_1359 : BitVec 32 := 0#32
  let v1527 : BitVec 1 := Scalar.cmpi .ne v1526 c0_i32_1359
  v1527

def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_1330 : BitVec 32 := 256#32
  let v1490 : BitVec 32 := Scalar.muli v2 c256_i32_1330
  let c128_i32 : BitVec 32 := 128#32
  let v1491 : BitVec 32 := Scalar.addi v1490 c128_i32
  let c0_i32_2661 : BitVec 32 := 0#32
  ![v1491.toNat, 0]
def k0_dev8 (d0 : Dev nD) : Nat :=
  let c0_i32_1365 : BitVec 32 := 0#32
  let c8_i32_126 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v80 : BitVec 32 := Scalar.muli c4_i32 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v81 : BitVec 32 := Scalar.addi v80 v46
  let c15_i32_55 : BitVec 32 := 15#32
  let v110 : BitVec 1 := Scalar.cmpi .eq v81 c15_i32_55
  let c6_i32_56 : BitVec 32 := 6#32
  let c14_i32_53 : BitVec 32 := 14#32
  let v108 : BitVec 1 := Scalar.cmpi .eq v81 c14_i32_53
  let c7_i32_54 : BitVec 32 := 7#32
  let c13_i32_51 : BitVec 32 := 13#32
  let v106 : BitVec 1 := Scalar.cmpi .eq v81 c13_i32_51
  let c12_i32_52 : BitVec 32 := 12#32
  let c12_i32 : BitVec 32 := 12#32
  let v104 : BitVec 1 := Scalar.cmpi .eq v81 c12_i32
  let c13_i32 : BitVec 32 := 13#32
  let c11_i32_49 : BitVec 32 := 11#32
  let v102 : BitVec 1 := Scalar.cmpi .eq v81 c11_i32_49
  let c5_i32_50 : BitVec 32 := 5#32
  let c10_i32_47 : BitVec 32 := 10#32
  let v100 : BitVec 1 := Scalar.cmpi .eq v81 c10_i32_47
  let c8_i32_48 : BitVec 32 := 8#32
  let c9_i32_46 : BitVec 32 := 9#32
  let v98 : BitVec 1 := Scalar.cmpi .eq v81 c9_i32_46
  let c11_i32 : BitVec 32 := 11#32
  let c8_i32_45 : BitVec 32 := 8#32
  let v96 : BitVec 1 := Scalar.cmpi .eq v81 c8_i32_45
  let c14_i32 : BitVec 32 := 14#32
  let c7_i32 : BitVec 32 := 7#32
  let v94 : BitVec 1 := Scalar.cmpi .eq v81 c7_i32
  let c4_i32_44 : BitVec 32 := 4#32
  let c6_i32 : BitVec 32 := 6#32
  let v92 : BitVec 1 := Scalar.cmpi .eq v81 c6_i32
  let c9_i32 : BitVec 32 := 9#32
  let c5_i32 : BitVec 32 := 5#32
  let v90 : BitVec 1 := Scalar.cmpi .eq v81 c5_i32
  let c10_i32 : BitVec 32 := 10#32
  let c4_i32_43 : BitVec 32 := 4#32
  let v88 : BitVec 1 := Scalar.cmpi .eq v81 c4_i32_43
  let c15_i32 : BitVec 32 := 15#32
  let c3_i32 : BitVec 32 := 3#32
  let v86 : BitVec 1 := Scalar.cmpi .eq v81 c3_i32
  let c3_i32_42 : BitVec 32 := 3#32
  let c2_i32_40 : BitVec 32 := 2#32
  let v84 : BitVec 1 := Scalar.cmpi .eq v81 c2_i32_40
  let c2_i32_41 : BitVec 32 := 2#32
  let c1_i32_37 : BitVec 32 := 1#32
  let v82 : BitVec 1 := Scalar.cmpi .eq v81 c1_i32_37
  let c1_i32_38 : BitVec 32 := 1#32
  let c0_i32_39 : BitVec 32 := 0#32
  let v83 : BitVec 32 := Scalar.select v82 c1_i32_38 c0_i32_39
  let v85 : BitVec 32 := Scalar.select v84 c2_i32_41 v83
  let v87 : BitVec 32 := Scalar.select v86 c3_i32_42 v85
  let v89 : BitVec 32 := Scalar.select v88 c15_i32 v87
  let v91 : BitVec 32 := Scalar.select v90 c10_i32 v89
  let v93 : BitVec 32 := Scalar.select v92 c9_i32 v91
  let v95 : BitVec 32 := Scalar.select v94 c4_i32_44 v93
  let v97 : BitVec 32 := Scalar.select v96 c14_i32 v95
  let v99 : BitVec 32 := Scalar.select v98 c11_i32 v97
  let v101 : BitVec 32 := Scalar.select v100 c8_i32_48 v99
  let v103 : BitVec 32 := Scalar.select v102 c5_i32_50 v101
  let v105 : BitVec 32 := Scalar.select v104 c13_i32 v103
  let v107 : BitVec 32 := Scalar.select v106 c12_i32_52 v105
  let v109 : BitVec 32 := Scalar.select v108 c7_i32_54 v107
  let v111 : BitVec 32 := Scalar.select v110 c6_i32_56 v109
  let c1_i32_58 : BitVec 32 := 1#32
  let v113 : BitVec 32 := Scalar.addi v111 c1_i32_58
  let c16_i32 : BitVec 32 := 16#32
  let c0_i32_59 : BitVec 32 := 0#32
  let v114 : BitVec 1 := Scalar.cmpi .eq c16_i32 c0_i32_59
  let c1_i32_60 : BitVec 32 := 1#32
  let v115 : BitVec 32 := Scalar.select v114 c1_i32_60 c16_i32
  let v116 : BitVec 32 := Scalar.remsi v113 v115
  let c0_i32_62 : BitVec 32 := 0#32
  let v118 : BitVec 1 := Scalar.cmpi .slt v116 c0_i32_62
  let c0_i32_63 : BitVec 32 := 0#32
  let v119 : BitVec 1 := Scalar.cmpi .slt v115 c0_i32_63
  let v120 : BitVec 1 := Scalar.xori v118 v119
  let c0_i32_61 : BitVec 32 := 0#32
  let v117 : BitVec 1 := Scalar.cmpi .ne v116 c0_i32_61
  let v121 : BitVec 1 := Scalar.andi v120 v117
  let v122 : BitVec 32 := Scalar.addi v116 v115
  let v123 : BitVec 32 := Scalar.select v121 v122 v116
  let c15_i32_124 : BitVec 32 := 15#32
  let v182 : BitVec 1 := Scalar.cmpi .eq v123 c15_i32_124
  let c1_i32_125 : BitVec 32 := 1#32
  let c14_i32_122 : BitVec 32 := 14#32
  let v180 : BitVec 1 := Scalar.cmpi .eq v123 c14_i32_122
  let c2_i32_123 : BitVec 32 := 2#32
  let c13_i32_120 : BitVec 32 := 13#32
  let v178 : BitVec 1 := Scalar.cmpi .eq v123 c13_i32_120
  let c3_i32_121 : BitVec 32 := 3#32
  let c12_i32_118 : BitVec 32 := 12#32
  let v176 : BitVec 1 := Scalar.cmpi .eq v123 c12_i32_118
  let c3_i32_119 : BitVec 32 := 3#32
  let c11_i32_116 : BitVec 32 := 11#32
  let v174 : BitVec 1 := Scalar.cmpi .eq v123 c11_i32_116
  let c2_i32_117 : BitVec 32 := 2#32
  let c10_i32_114 : BitVec 32 := 10#32
  let v172 : BitVec 1 := Scalar.cmpi .eq v123 c10_i32_114
  let c1_i32_115 : BitVec 32 := 1#32
  let c9_i32_112 : BitVec 32 := 9#32
  let v170 : BitVec 1 := Scalar.cmpi .eq v123 c9_i32_112
  let c1_i32_113 : BitVec 32 := 1#32
  let c8_i32_110 : BitVec 32 := 8#32
  let v168 : BitVec 1 := Scalar.cmpi .eq v123 c8_i32_110
  let c2_i32_111 : BitVec 32 := 2#32
  let c7_i32_108 : BitVec 32 := 7#32
  let v166 : BitVec 1 := Scalar.cmpi .eq v123 c7_i32_108
  let c3_i32_109 : BitVec 32 := 3#32
  let c6_i32_106 : BitVec 32 := 6#32
  let v164 : BitVec 1 := Scalar.cmpi .eq v123 c6_i32_106
  let c3_i32_107 : BitVec 32 := 3#32
  let c5_i32_104 : BitVec 32 := 5#32
  let v162 : BitVec 1 := Scalar.cmpi .eq v123 c5_i32_104
  let c2_i32_105 : BitVec 32 := 2#32
  let c4_i32_102 : BitVec 32 := 4#32
  let v160 : BitVec 1 := Scalar.cmpi .eq v123 c4_i32_102
  let c1_i32_103 : BitVec 32 := 1#32
  let c3_i32_100 : BitVec 32 := 3#32
  let v158 : BitVec 1 := Scalar.cmpi .eq v123 c3_i32_100
  let c0_i32_101 : BitVec 32 := 0#32
  let c2_i32_98 : BitVec 32 := 2#32
  let v156 : BitVec 1 := Scalar.cmpi .eq v123 c2_i32_98
  let c0_i32_99 : BitVec 32 := 0#32
  let c1_i32_95 : BitVec 32 := 1#32
  let v154 : BitVec 1 := Scalar.cmpi .eq v123 c1_i32_95
  let c0_i32_96 : BitVec 32 := 0#32
  let c0_i32_97 : BitVec 32 := 0#32
  let v155 : BitVec 32 := Scalar.select v154 c0_i32_96 c0_i32_97
  let v157 : BitVec 32 := Scalar.select v156 c0_i32_99 v155
  let v159 : BitVec 32 := Scalar.select v158 c0_i32_101 v157
  let v161 : BitVec 32 := Scalar.select v160 c1_i32_103 v159
  let v163 : BitVec 32 := Scalar.select v162 c2_i32_105 v161
  let v165 : BitVec 32 := Scalar.select v164 c3_i32_107 v163
  let v167 : BitVec 32 := Scalar.select v166 c3_i32_109 v165
  let v169 : BitVec 32 := Scalar.select v168 c2_i32_111 v167
  let v171 : BitVec 32 := Scalar.select v170 c1_i32_113 v169
  let v173 : BitVec 32 := Scalar.select v172 c1_i32_115 v171
  let v175 : BitVec 32 := Scalar.select v174 c2_i32_117 v173
  let v177 : BitVec 32 := Scalar.select v176 c3_i32_119 v175
  let v179 : BitVec 32 := Scalar.select v178 c3_i32_121 v177
  let v181 : BitVec 32 := Scalar.select v180 c2_i32_123 v179
  let v183 : BitVec 32 := Scalar.select v182 c1_i32_125 v181
  let v184 : BitVec 32 := Scalar.muli c8_i32_126 v183
  let c2_i32_127 : BitVec 32 := 2#32
  let c15_i32_93 : BitVec 32 := 15#32
  let v152 : BitVec 1 := Scalar.cmpi .eq v123 c15_i32_93
  let c0_i32_94 : BitVec 32 := 0#32
  let c14_i32_91 : BitVec 32 := 14#32
  let v150 : BitVec 1 := Scalar.cmpi .eq v123 c14_i32_91
  let c0_i32_92 : BitVec 32 := 0#32
  let c13_i32_89 : BitVec 32 := 13#32
  let v148 : BitVec 1 := Scalar.cmpi .eq v123 c13_i32_89
  let c0_i32_90 : BitVec 32 := 0#32
  let c12_i32_87 : BitVec 32 := 12#32
  let v146 : BitVec 1 := Scalar.cmpi .eq v123 c12_i32_87
  let c1_i32_88 : BitVec 32 := 1#32
  let c11_i32_85 : BitVec 32 := 11#32
  let v144 : BitVec 1 := Scalar.cmpi .eq v123 c11_i32_85
  let c1_i32_86 : BitVec 32 := 1#32
  let c10_i32_83 : BitVec 32 := 10#32
  let v142 : BitVec 1 := Scalar.cmpi .eq v123 c10_i32_83
  let c1_i32_84 : BitVec 32 := 1#32
  let c9_i32_81 : BitVec 32 := 9#32
  let v140 : BitVec 1 := Scalar.cmpi .eq v123 c9_i32_81
  let c2_i32_82 : BitVec 32 := 2#32
  let c8_i32_79 : BitVec 32 := 8#32
  let v138 : BitVec 1 := Scalar.cmpi .eq v123 c8_i32_79
  let c2_i32_80 : BitVec 32 := 2#32
  let c7_i32_77 : BitVec 32 := 7#32
  let v136 : BitVec 1 := Scalar.cmpi .eq v123 c7_i32_77
  let c2_i32_78 : BitVec 32 := 2#32
  let c6_i32_75 : BitVec 32 := 6#32
  let v134 : BitVec 1 := Scalar.cmpi .eq v123 c6_i32_75
  let c3_i32_76 : BitVec 32 := 3#32
  let c5_i32_73 : BitVec 32 := 5#32
  let v132 : BitVec 1 := Scalar.cmpi .eq v123 c5_i32_73
  let c3_i32_74 : BitVec 32 := 3#32
  let c4_i32_71 : BitVec 32 := 4#32
  let v130 : BitVec 1 := Scalar.cmpi .eq v123 c4_i32_71
  let c3_i32_72 : BitVec 32 := 3#32
  let c3_i32_69 : BitVec 32 := 3#32
  let v128 : BitVec 1 := Scalar.cmpi .eq v123 c3_i32_69
  let c3_i32_70 : BitVec 32 := 3#32
  let c2_i32_67 : BitVec 32 := 2#32
  let v126 : BitVec 1 := Scalar.cmpi .eq v123 c2_i32_67
  let c2_i32_68 : BitVec 32 := 2#32
  let c1_i32_64 : BitVec 32 := 1#32
  let v124 : BitVec 1 := Scalar.cmpi .eq v123 c1_i32_64
  let c1_i32_65 : BitVec 32 := 1#32
  let c0_i32_66 : BitVec 32 := 0#32
  let v125 : BitVec 32 := Scalar.select v124 c1_i32_65 c0_i32_66
  let v127 : BitVec 32 := Scalar.select v126 c2_i32_68 v125
  let v129 : BitVec 32 := Scalar.select v128 c3_i32_70 v127
  let v131 : BitVec 32 := Scalar.select v130 c3_i32_72 v129
  let v133 : BitVec 32 := Scalar.select v132 c3_i32_74 v131
  let v135 : BitVec 32 := Scalar.select v134 c3_i32_76 v133
  let v137 : BitVec 32 := Scalar.select v136 c2_i32_78 v135
  let v139 : BitVec 32 := Scalar.select v138 c2_i32_80 v137
  let v141 : BitVec 32 := Scalar.select v140 c2_i32_82 v139
  let v143 : BitVec 32 := Scalar.select v142 c1_i32_84 v141
  let v145 : BitVec 32 := Scalar.select v144 c1_i32_86 v143
  let v147 : BitVec 32 := Scalar.select v146 c1_i32_88 v145
  let v149 : BitVec 32 := Scalar.select v148 c0_i32_90 v147
  let v151 : BitVec 32 := Scalar.select v150 c0_i32_92 v149
  let v153 : BitVec 32 := Scalar.select v152 c0_i32_94 v151
  let v185 : BitVec 32 := Scalar.muli c2_i32_127 v153
  let v186 : BitVec 32 := Scalar.addi v184 v185
  let c2_i32_128 : BitVec 32 := 2#32
  let c0_i32_129 : BitVec 32 := 0#32
  let v187 : BitVec 1 := Scalar.cmpi .eq c2_i32_128 c0_i32_129
  let c1_i32_130 : BitVec 32 := 1#32
  let v188 : BitVec 32 := Scalar.select v187 c1_i32_130 c2_i32_128
  let v189 : BitVec 32 := Scalar.remsi v153 v188
  let c0_i32_132 : BitVec 32 := 0#32
  let v191 : BitVec 1 := Scalar.cmpi .slt v189 c0_i32_132
  let c0_i32_133 : BitVec 32 := 0#32
  let v192 : BitVec 1 := Scalar.cmpi .slt v188 c0_i32_133
  let v193 : BitVec 1 := Scalar.xori v191 v192
  let c0_i32_131 : BitVec 32 := 0#32
  let v190 : BitVec 1 := Scalar.cmpi .ne v189 c0_i32_131
  let v194 : BitVec 1 := Scalar.andi v193 v190
  let v195 : BitVec 32 := Scalar.addi v189 v188
  let v196 : BitVec 32 := Scalar.select v194 v195 v189
  let c0_i32_134 : BitVec 32 := 0#32
  let v197 : BitVec 1 := Scalar.cmpi .eq v196 c0_i32_134
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_135 : BitVec 32 := 1#32
  let v198 : BitVec 32 := Scalar.subi c1_i32_135 v79
  let v199 : BitVec 32 := Scalar.select v197 v79 v198
  let v200 : BitVec 32 := Scalar.addi v186 v199
  let c1_i32_1364 : BitVec 32 := 1#32
  let v1530 : BitVec 32 := Scalar.muli v200 c1_i32_1364
  let v1531 : BitVec 32 := Scalar.addi c0_i32_1365 v1530
  v1531.toNat
def k0_dev9 (d0 : Dev nD) : Nat :=
  let c0_i32_1373 : BitVec 32 := 0#32
  let c8_i32_206 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v80 : BitVec 32 := Scalar.muli c4_i32 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v81 : BitVec 32 := Scalar.addi v80 v46
  let c15_i32_55 : BitVec 32 := 15#32
  let v110 : BitVec 1 := Scalar.cmpi .eq v81 c15_i32_55
  let c6_i32_56 : BitVec 32 := 6#32
  let c14_i32_53 : BitVec 32 := 14#32
  let v108 : BitVec 1 := Scalar.cmpi .eq v81 c14_i32_53
  let c7_i32_54 : BitVec 32 := 7#32
  let c13_i32_51 : BitVec 32 := 13#32
  let v106 : BitVec 1 := Scalar.cmpi .eq v81 c13_i32_51
  let c12_i32_52 : BitVec 32 := 12#32
  let c12_i32 : BitVec 32 := 12#32
  let v104 : BitVec 1 := Scalar.cmpi .eq v81 c12_i32
  let c13_i32 : BitVec 32 := 13#32
  let c11_i32_49 : BitVec 32 := 11#32
  let v102 : BitVec 1 := Scalar.cmpi .eq v81 c11_i32_49
  let c5_i32_50 : BitVec 32 := 5#32
  let c10_i32_47 : BitVec 32 := 10#32
  let v100 : BitVec 1 := Scalar.cmpi .eq v81 c10_i32_47
  let c8_i32_48 : BitVec 32 := 8#32
  let c9_i32_46 : BitVec 32 := 9#32
  let v98 : BitVec 1 := Scalar.cmpi .eq v81 c9_i32_46
  let c11_i32 : BitVec 32 := 11#32
  let c8_i32_45 : BitVec 32 := 8#32
  let v96 : BitVec 1 := Scalar.cmpi .eq v81 c8_i32_45
  let c14_i32 : BitVec 32 := 14#32
  let c7_i32 : BitVec 32 := 7#32
  let v94 : BitVec 1 := Scalar.cmpi .eq v81 c7_i32
  let c4_i32_44 : BitVec 32 := 4#32
  let c6_i32 : BitVec 32 := 6#32
  let v92 : BitVec 1 := Scalar.cmpi .eq v81 c6_i32
  let c9_i32 : BitVec 32 := 9#32
  let c5_i32 : BitVec 32 := 5#32
  let v90 : BitVec 1 := Scalar.cmpi .eq v81 c5_i32
  let c10_i32 : BitVec 32 := 10#32
  let c4_i32_43 : BitVec 32 := 4#32
  let v88 : BitVec 1 := Scalar.cmpi .eq v81 c4_i32_43
  let c15_i32 : BitVec 32 := 15#32
  let c3_i32 : BitVec 32 := 3#32
  let v86 : BitVec 1 := Scalar.cmpi .eq v81 c3_i32
  let c3_i32_42 : BitVec 32 := 3#32
  let c2_i32_40 : BitVec 32 := 2#32
  let v84 : BitVec 1 := Scalar.cmpi .eq v81 c2_i32_40
  let c2_i32_41 : BitVec 32 := 2#32
  let c1_i32_37 : BitVec 32 := 1#32
  let v82 : BitVec 1 := Scalar.cmpi .eq v81 c1_i32_37
  let c1_i32_38 : BitVec 32 := 1#32
  let c0_i32_39 : BitVec 32 := 0#32
  let v83 : BitVec 32 := Scalar.select v82 c1_i32_38 c0_i32_39
  let v85 : BitVec 32 := Scalar.select v84 c2_i32_41 v83
  let v87 : BitVec 32 := Scalar.select v86 c3_i32_42 v85
  let v89 : BitVec 32 := Scalar.select v88 c15_i32 v87
  let v91 : BitVec 32 := Scalar.select v90 c10_i32 v89
  let v93 : BitVec 32 := Scalar.select v92 c9_i32 v91
  let v95 : BitVec 32 := Scalar.select v94 c4_i32_44 v93
  let v97 : BitVec 32 := Scalar.select v96 c14_i32 v95
  let v99 : BitVec 32 := Scalar.select v98 c11_i32 v97
  let v101 : BitVec 32 := Scalar.select v100 c8_i32_48 v99
  let v103 : BitVec 32 := Scalar.select v102 c5_i32_50 v101
  let v105 : BitVec 32 := Scalar.select v104 c13_i32 v103
  let v107 : BitVec 32 := Scalar.select v106 c12_i32_52 v105
  let v109 : BitVec 32 := Scalar.select v108 c7_i32_54 v107
  let v111 : BitVec 32 := Scalar.select v110 c6_i32_56 v109
  let c16_i32_136 : BitVec 32 := 16#32
  let v201 : BitVec 32 := Scalar.addi v111 c16_i32_136
  let c1_i32_137 : BitVec 32 := 1#32
  let v202 : BitVec 32 := Scalar.subi v201 c1_i32_137
  let c16_i32_138 : BitVec 32 := 16#32
  let c0_i32_139 : BitVec 32 := 0#32
  let v203 : BitVec 1 := Scalar.cmpi .eq c16_i32_138 c0_i32_139
  let c1_i32_140 : BitVec 32 := 1#32
  let v204 : BitVec 32 := Scalar.select v203 c1_i32_140 c16_i32_138
  let v205 : BitVec 32 := Scalar.remsi v202 v204
  let c0_i32_142 : BitVec 32 := 0#32
  let v207 : BitVec 1 := Scalar.cmpi .slt v205 c0_i32_142
  let c0_i32_143 : BitVec 32 := 0#32
  let v208 : BitVec 1 := Scalar.cmpi .slt v204 c0_i32_143
  let v209 : BitVec 1 := Scalar.xori v207 v208
  let c0_i32_141 : BitVec 32 := 0#32
  let v206 : BitVec 1 := Scalar.cmpi .ne v205 c0_i32_141
  let v210 : BitVec 1 := Scalar.andi v209 v206
  let v211 : BitVec 32 := Scalar.addi v205 v204
  let v212 : BitVec 32 := Scalar.select v210 v211 v205
  let c15_i32_204 : BitVec 32 := 15#32
  let v271 : BitVec 1 := Scalar.cmpi .eq v212 c15_i32_204
  let c1_i32_205 : BitVec 32 := 1#32
  let c14_i32_202 : BitVec 32 := 14#32
  let v269 : BitVec 1 := Scalar.cmpi .eq v212 c14_i32_202
  let c2_i32_203 : BitVec 32 := 2#32
  let c13_i32_200 : BitVec 32 := 13#32
  let v267 : BitVec 1 := Scalar.cmpi .eq v212 c13_i32_200
  let c3_i32_201 : BitVec 32 := 3#32
  let c12_i32_198 : BitVec 32 := 12#32
  let v265 : BitVec 1 := Scalar.cmpi .eq v212 c12_i32_198
  let c3_i32_199 : BitVec 32 := 3#32
  let c11_i32_196 : BitVec 32 := 11#32
  let v263 : BitVec 1 := Scalar.cmpi .eq v212 c11_i32_196
  let c2_i32_197 : BitVec 32 := 2#32
  let c10_i32_194 : BitVec 32 := 10#32
  let v261 : BitVec 1 := Scalar.cmpi .eq v212 c10_i32_194
  let c1_i32_195 : BitVec 32 := 1#32
  let c9_i32_192 : BitVec 32 := 9#32
  let v259 : BitVec 1 := Scalar.cmpi .eq v212 c9_i32_192
  let c1_i32_193 : BitVec 32 := 1#32
  let c8_i32_190 : BitVec 32 := 8#32
  let v257 : BitVec 1 := Scalar.cmpi .eq v212 c8_i32_190
  let c2_i32_191 : BitVec 32 := 2#32
  let c7_i32_188 : BitVec 32 := 7#32
  let v255 : BitVec 1 := Scalar.cmpi .eq v212 c7_i32_188
  let c3_i32_189 : BitVec 32 := 3#32
  let c6_i32_186 : BitVec 32 := 6#32
  let v253 : BitVec 1 := Scalar.cmpi .eq v212 c6_i32_186
  let c3_i32_187 : BitVec 32 := 3#32
  let c5_i32_184 : BitVec 32 := 5#32
  let v251 : BitVec 1 := Scalar.cmpi .eq v212 c5_i32_184
  let c2_i32_185 : BitVec 32 := 2#32
  let c4_i32_182 : BitVec 32 := 4#32
  let v249 : BitVec 1 := Scalar.cmpi .eq v212 c4_i32_182
  let c1_i32_183 : BitVec 32 := 1#32
  let c3_i32_180 : BitVec 32 := 3#32
  let v247 : BitVec 1 := Scalar.cmpi .eq v212 c3_i32_180
  let c0_i32_181 : BitVec 32 := 0#32
  let c2_i32_178 : BitVec 32 := 2#32
  let v245 : BitVec 1 := Scalar.cmpi .eq v212 c2_i32_178
  let c0_i32_179 : BitVec 32 := 0#32
  let c1_i32_175 : BitVec 32 := 1#32
  let v243 : BitVec 1 := Scalar.cmpi .eq v212 c1_i32_175
  let c0_i32_176 : BitVec 32 := 0#32
  let c0_i32_177 : BitVec 32 := 0#32
  let v244 : BitVec 32 := Scalar.select v243 c0_i32_176 c0_i32_177
  let v246 : BitVec 32 := Scalar.select v245 c0_i32_179 v244
  let v248 : BitVec 32 := Scalar.select v247 c0_i32_181 v246
  let v250 : BitVec 32 := Scalar.select v249 c1_i32_183 v248
  let v252 : BitVec 32 := Scalar.select v251 c2_i32_185 v250
  let v254 : BitVec 32 := Scalar.select v253 c3_i32_187 v252
  let v256 : BitVec 32 := Scalar.select v255 c3_i32_189 v254
  let v258 : BitVec 32 := Scalar.select v257 c2_i32_191 v256
  let v260 : BitVec 32 := Scalar.select v259 c1_i32_193 v258
  let v262 : BitVec 32 := Scalar.select v261 c1_i32_195 v260
  let v264 : BitVec 32 := Scalar.select v263 c2_i32_197 v262
  let v266 : BitVec 32 := Scalar.select v265 c3_i32_199 v264
  let v268 : BitVec 32 := Scalar.select v267 c3_i32_201 v266
  let v270 : BitVec 32 := Scalar.select v269 c2_i32_203 v268
  let v272 : BitVec 32 := Scalar.select v271 c1_i32_205 v270
  let v273 : BitVec 32 := Scalar.muli c8_i32_206 v272
  let c2_i32_207 : BitVec 32 := 2#32
  let c15_i32_173 : BitVec 32 := 15#32
  let v241 : BitVec 1 := Scalar.cmpi .eq v212 c15_i32_173
  let c0_i32_174 : BitVec 32 := 0#32
  let c14_i32_171 : BitVec 32 := 14#32
  let v239 : BitVec 1 := Scalar.cmpi .eq v212 c14_i32_171
  let c0_i32_172 : BitVec 32 := 0#32
  let c13_i32_169 : BitVec 32 := 13#32
  let v237 : BitVec 1 := Scalar.cmpi .eq v212 c13_i32_169
  let c0_i32_170 : BitVec 32 := 0#32
  let c12_i32_167 : BitVec 32 := 12#32
  let v235 : BitVec 1 := Scalar.cmpi .eq v212 c12_i32_167
  let c1_i32_168 : BitVec 32 := 1#32
  let c11_i32_165 : BitVec 32 := 11#32
  let v233 : BitVec 1 := Scalar.cmpi .eq v212 c11_i32_165
  let c1_i32_166 : BitVec 32 := 1#32
  let c10_i32_163 : BitVec 32 := 10#32
  let v231 : BitVec 1 := Scalar.cmpi .eq v212 c10_i32_163
  let c1_i32_164 : BitVec 32 := 1#32
  let c9_i32_161 : BitVec 32 := 9#32
  let v229 : BitVec 1 := Scalar.cmpi .eq v212 c9_i32_161
  let c2_i32_162 : BitVec 32 := 2#32
  let c8_i32_159 : BitVec 32 := 8#32
  let v227 : BitVec 1 := Scalar.cmpi .eq v212 c8_i32_159
  let c2_i32_160 : BitVec 32 := 2#32
  let c7_i32_157 : BitVec 32 := 7#32
  let v225 : BitVec 1 := Scalar.cmpi .eq v212 c7_i32_157
  let c2_i32_158 : BitVec 32 := 2#32
  let c6_i32_155 : BitVec 32 := 6#32
  let v223 : BitVec 1 := Scalar.cmpi .eq v212 c6_i32_155
  let c3_i32_156 : BitVec 32 := 3#32
  let c5_i32_153 : BitVec 32 := 5#32
  let v221 : BitVec 1 := Scalar.cmpi .eq v212 c5_i32_153
  let c3_i32_154 : BitVec 32 := 3#32
  let c4_i32_151 : BitVec 32 := 4#32
  let v219 : BitVec 1 := Scalar.cmpi .eq v212 c4_i32_151
  let c3_i32_152 : BitVec 32 := 3#32
  let c3_i32_149 : BitVec 32 := 3#32
  let v217 : BitVec 1 := Scalar.cmpi .eq v212 c3_i32_149
  let c3_i32_150 : BitVec 32 := 3#32
  let c2_i32_147 : BitVec 32 := 2#32
  let v215 : BitVec 1 := Scalar.cmpi .eq v212 c2_i32_147
  let c2_i32_148 : BitVec 32 := 2#32
  let c1_i32_144 : BitVec 32 := 1#32
  let v213 : BitVec 1 := Scalar.cmpi .eq v212 c1_i32_144
  let c1_i32_145 : BitVec 32 := 1#32
  let c0_i32_146 : BitVec 32 := 0#32
  let v214 : BitVec 32 := Scalar.select v213 c1_i32_145 c0_i32_146
  let v216 : BitVec 32 := Scalar.select v215 c2_i32_148 v214
  let v218 : BitVec 32 := Scalar.select v217 c3_i32_150 v216
  let v220 : BitVec 32 := Scalar.select v219 c3_i32_152 v218
  let v222 : BitVec 32 := Scalar.select v221 c3_i32_154 v220
  let v224 : BitVec 32 := Scalar.select v223 c3_i32_156 v222
  let v226 : BitVec 32 := Scalar.select v225 c2_i32_158 v224
  let v228 : BitVec 32 := Scalar.select v227 c2_i32_160 v226
  let v230 : BitVec 32 := Scalar.select v229 c2_i32_162 v228
  let v232 : BitVec 32 := Scalar.select v231 c1_i32_164 v230
  let v234 : BitVec 32 := Scalar.select v233 c1_i32_166 v232
  let v236 : BitVec 32 := Scalar.select v235 c1_i32_168 v234
  let v238 : BitVec 32 := Scalar.select v237 c0_i32_170 v236
  let v240 : BitVec 32 := Scalar.select v239 c0_i32_172 v238
  let v242 : BitVec 32 := Scalar.select v241 c0_i32_174 v240
  let v274 : BitVec 32 := Scalar.muli c2_i32_207 v242
  let v275 : BitVec 32 := Scalar.addi v273 v274
  let c2_i32_208 : BitVec 32 := 2#32
  let c0_i32_209 : BitVec 32 := 0#32
  let v276 : BitVec 1 := Scalar.cmpi .eq c2_i32_208 c0_i32_209
  let c1_i32_210 : BitVec 32 := 1#32
  let v277 : BitVec 32 := Scalar.select v276 c1_i32_210 c2_i32_208
  let v278 : BitVec 32 := Scalar.remsi v242 v277
  let c0_i32_212 : BitVec 32 := 0#32
  let v280 : BitVec 1 := Scalar.cmpi .slt v278 c0_i32_212
  let c0_i32_213 : BitVec 32 := 0#32
  let v281 : BitVec 1 := Scalar.cmpi .slt v277 c0_i32_213
  let v282 : BitVec 1 := Scalar.xori v280 v281
  let c0_i32_211 : BitVec 32 := 0#32
  let v279 : BitVec 1 := Scalar.cmpi .ne v278 c0_i32_211
  let v283 : BitVec 1 := Scalar.andi v282 v279
  let v284 : BitVec 32 := Scalar.addi v278 v277
  let v285 : BitVec 32 := Scalar.select v283 v284 v278
  let c0_i32_214 : BitVec 32 := 0#32
  let v286 : BitVec 1 := Scalar.cmpi .eq v285 c0_i32_214
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_215 : BitVec 32 := 1#32
  let v287 : BitVec 32 := Scalar.subi c1_i32_215 v79
  let v288 : BitVec 32 := Scalar.select v286 v79 v287
  let v289 : BitVec 32 := Scalar.addi v275 v288
  let c1_i32_1372 : BitVec 32 := 1#32
  let v1540 : BitVec 32 := Scalar.muli v289 c1_i32_1372
  let v1541 : BitVec 32 := Scalar.addi c0_i32_1373 v1540
  v1541.toNat
def k0_off6 (d0 : Dev nD) (c0_i32_731 : BitVec 32) (c0_i32_1378 : BitVec 32) : Fin 2 → Nat :=
  let c2_i32_1376 : BitVec 32 := 2#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v80 : BitVec 32 := Scalar.muli c4_i32 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v81 : BitVec 32 := Scalar.addi v80 v46
  let c15_i32_55 : BitVec 32 := 15#32
  let v110 : BitVec 1 := Scalar.cmpi .eq v81 c15_i32_55
  let c6_i32_56 : BitVec 32 := 6#32
  let c14_i32_53 : BitVec 32 := 14#32
  let v108 : BitVec 1 := Scalar.cmpi .eq v81 c14_i32_53
  let c7_i32_54 : BitVec 32 := 7#32
  let c13_i32_51 : BitVec 32 := 13#32
  let v106 : BitVec 1 := Scalar.cmpi .eq v81 c13_i32_51
  let c12_i32_52 : BitVec 32 := 12#32
  let c12_i32 : BitVec 32 := 12#32
  let v104 : BitVec 1 := Scalar.cmpi .eq v81 c12_i32
  let c13_i32 : BitVec 32 := 13#32
  let c11_i32_49 : BitVec 32 := 11#32
  let v102 : BitVec 1 := Scalar.cmpi .eq v81 c11_i32_49
  let c5_i32_50 : BitVec 32 := 5#32
  let c10_i32_47 : BitVec 32 := 10#32
  let v100 : BitVec 1 := Scalar.cmpi .eq v81 c10_i32_47
  let c8_i32_48 : BitVec 32 := 8#32
  let c9_i32_46 : BitVec 32 := 9#32
  let v98 : BitVec 1 := Scalar.cmpi .eq v81 c9_i32_46
  let c11_i32 : BitVec 32 := 11#32
  let c8_i32_45 : BitVec 32 := 8#32
  let v96 : BitVec 1 := Scalar.cmpi .eq v81 c8_i32_45
  let c14_i32 : BitVec 32 := 14#32
  let c7_i32 : BitVec 32 := 7#32
  let v94 : BitVec 1 := Scalar.cmpi .eq v81 c7_i32
  let c4_i32_44 : BitVec 32 := 4#32
  let c6_i32 : BitVec 32 := 6#32
  let v92 : BitVec 1 := Scalar.cmpi .eq v81 c6_i32
  let c9_i32 : BitVec 32 := 9#32
  let c5_i32 : BitVec 32 := 5#32
  let v90 : BitVec 1 := Scalar.cmpi .eq v81 c5_i32
  let c10_i32 : BitVec 32 := 10#32
  let c4_i32_43 : BitVec 32 := 4#32
  let v88 : BitVec 1 := Scalar.cmpi .eq v81 c4_i32_43
  let c15_i32 : BitVec 32 := 15#32
  let c3_i32 : BitVec 32 := 3#32
  let v86 : BitVec 1 := Scalar.cmpi .eq v81 c3_i32
  let c3_i32_42 : BitVec 32 := 3#32
  let c2_i32_40 : BitVec 32 := 2#32
  let v84 : BitVec 1 := Scalar.cmpi .eq v81 c2_i32_40
  let c2_i32_41 : BitVec 32 := 2#32
  let c1_i32_37 : BitVec 32 := 1#32
  let v82 : BitVec 1 := Scalar.cmpi .eq v81 c1_i32_37
  let c1_i32_38 : BitVec 32 := 1#32
  let c0_i32_39 : BitVec 32 := 0#32
  let v83 : BitVec 32 := Scalar.select v82 c1_i32_38 c0_i32_39
  let v85 : BitVec 32 := Scalar.select v84 c2_i32_41 v83
  let v87 : BitVec 32 := Scalar.select v86 c3_i32_42 v85
  let v89 : BitVec 32 := Scalar.select v88 c15_i32 v87
  let v91 : BitVec 32 := Scalar.select v90 c10_i32 v89
  let v93 : BitVec 32 := Scalar.select v92 c9_i32 v91
  let v95 : BitVec 32 := Scalar.select v94 c4_i32_44 v93
  let v97 : BitVec 32 := Scalar.select v96 c14_i32 v95
  let v99 : BitVec 32 := Scalar.select v98 c11_i32 v97
  let v101 : BitVec 32 := Scalar.select v100 c8_i32_48 v99
  let v103 : BitVec 32 := Scalar.select v102 c5_i32_50 v101
  let v105 : BitVec 32 := Scalar.select v104 c13_i32 v103
  let v107 : BitVec 32 := Scalar.select v106 c12_i32_52 v105
  let v109 : BitVec 32 := Scalar.select v108 c7_i32_54 v107
  let v111 : BitVec 32 := Scalar.select v110 c6_i32_56 v109
  let c16_i32_729 : BitVec 32 := 16#32
  let v842 : BitVec 32 := Scalar.addi v111 c16_i32_729
  let c1_i32_730 : BitVec 32 := 1#32
  let v843 : BitVec 32 := Scalar.subi v842 c1_i32_730
  let v844 : BitVec 32 := Scalar.subi v843 c0_i32_731
  let c16_i32_732 : BitVec 32 := 16#32
  let c0_i32_733 : BitVec 32 := 0#32
  let v845 : BitVec 1 := Scalar.cmpi .eq c16_i32_732 c0_i32_733
  let c1_i32_734 : BitVec 32 := 1#32
  let v846 : BitVec 32 := Scalar.select v845 c1_i32_734 c16_i32_732
  let v847 : BitVec 32 := Scalar.remsi v844 v846
  let c0_i32_736 : BitVec 32 := 0#32
  let v849 : BitVec 1 := Scalar.cmpi .slt v847 c0_i32_736
  let c0_i32_737 : BitVec 32 := 0#32
  let v850 : BitVec 1 := Scalar.cmpi .slt v846 c0_i32_737
  let v851 : BitVec 1 := Scalar.xori v849 v850
  let c0_i32_735 : BitVec 32 := 0#32
  let v848 : BitVec 1 := Scalar.cmpi .ne v847 c0_i32_735
  let v852 : BitVec 1 := Scalar.andi v851 v848
  let v853 : BitVec 32 := Scalar.addi v847 v846
  let v854 : BitVec 32 := Scalar.select v852 v853 v847
  let c15_i32_767 : BitVec 32 := 15#32
  let v883 : BitVec 1 := Scalar.cmpi .eq v854 c15_i32_767
  let c4_i32_768 : BitVec 32 := 4#32
  let c14_i32_765 : BitVec 32 := 14#32
  let v881 : BitVec 1 := Scalar.cmpi .eq v854 c14_i32_765
  let c8_i32_766 : BitVec 32 := 8#32
  let c13_i32_763 : BitVec 32 := 13#32
  let v879 : BitVec 1 := Scalar.cmpi .eq v854 c13_i32_763
  let c12_i32_764 : BitVec 32 := 12#32
  let c12_i32_761 : BitVec 32 := 12#32
  let v877 : BitVec 1 := Scalar.cmpi .eq v854 c12_i32_761
  let c13_i32_762 : BitVec 32 := 13#32
  let c11_i32_759 : BitVec 32 := 11#32
  let v875 : BitVec 1 := Scalar.cmpi .eq v854 c11_i32_759
  let c9_i32_760 : BitVec 32 := 9#32
  let c10_i32_757 : BitVec 32 := 10#32
  let v873 : BitVec 1 := Scalar.cmpi .eq v854 c10_i32_757
  let c5_i32_758 : BitVec 32 := 5#32
  let c9_i32_755 : BitVec 32 := 9#32
  let v871 : BitVec 1 := Scalar.cmpi .eq v854 c9_i32_755
  let c6_i32_756 : BitVec 32 := 6#32
  let c8_i32_753 : BitVec 32 := 8#32
  let v869 : BitVec 1 := Scalar.cmpi .eq v854 c8_i32_753
  let c10_i32_754 : BitVec 32 := 10#32
  let c7_i32_751 : BitVec 32 := 7#32
  let v867 : BitVec 1 := Scalar.cmpi .eq v854 c7_i32_751
  let c14_i32_752 : BitVec 32 := 14#32
  let c6_i32_749 : BitVec 32 := 6#32
  let v865 : BitVec 1 := Scalar.cmpi .eq v854 c6_i32_749
  let c15_i32_750 : BitVec 32 := 15#32
  let c5_i32_747 : BitVec 32 := 5#32
  let v863 : BitVec 1 := Scalar.cmpi .eq v854 c5_i32_747
  let c11_i32_748 : BitVec 32 := 11#32
  let c4_i32_745 : BitVec 32 := 4#32
  let v861 : BitVec 1 := Scalar.cmpi .eq v854 c4_i32_745
  let c7_i32_746 : BitVec 32 := 7#32
  let c3_i32_743 : BitVec 32 := 3#32
  let v859 : BitVec 1 := Scalar.cmpi .eq v854 c3_i32_743
  let c3_i32_744 : BitVec 32 := 3#32
  let c2_i32_741 : BitVec 32 := 2#32
  let v857 : BitVec 1 := Scalar.cmpi .eq v854 c2_i32_741
  let c2_i32_742 : BitVec 32 := 2#32
  let c1_i32_738 : BitVec 32 := 1#32
  let v855 : BitVec 1 := Scalar.cmpi .eq v854 c1_i32_738
  let c1_i32_739 : BitVec 32 := 1#32
  let c0_i32_740 : BitVec 32 := 0#32
  let v856 : BitVec 32 := Scalar.select v855 c1_i32_739 c0_i32_740
  let v858 : BitVec 32 := Scalar.select v857 c2_i32_742 v856
  let v860 : BitVec 32 := Scalar.select v859 c3_i32_744 v858
  let v862 : BitVec 32 := Scalar.select v861 c7_i32_746 v860
  let v864 : BitVec 32 := Scalar.select v863 c11_i32_748 v862
  let v866 : BitVec 32 := Scalar.select v865 c15_i32_750 v864
  let v868 : BitVec 32 := Scalar.select v867 c14_i32_752 v866
  let v870 : BitVec 32 := Scalar.select v869 c10_i32_754 v868
  let v872 : BitVec 32 := Scalar.select v871 c6_i32_756 v870
  let v874 : BitVec 32 := Scalar.select v873 c5_i32_758 v872
  let v876 : BitVec 32 := Scalar.select v875 c9_i32_760 v874
  let v878 : BitVec 32 := Scalar.select v877 c13_i32_762 v876
  let v880 : BitVec 32 := Scalar.select v879 c12_i32_764 v878
  let v882 : BitVec 32 := Scalar.select v881 c8_i32_766 v880
  let v884 : BitVec 32 := Scalar.select v883 c4_i32_768 v882
  let v1548 : BitVec 32 := Scalar.muli c2_i32_1376 v884
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let v1549 : BitVec 32 := Scalar.addi v1548 v79
  let c256_i32_1377 : BitVec 32 := 256#32
  let v1550 : BitVec 32 := Scalar.muli v1549 c256_i32_1377
  let v1551 : BitVec 32 := Scalar.addi v1550 c0_i32_1378
  let c0_i32_1383 : BitVec 32 := 0#32
  ![v1551.toNat, 0]
def k0_off7 (d0 : Dev nD) (c1_i32_229 : BitVec 32) (c0_i32_1387 : BitVec 32) : Fin 2 → Nat :=
  let c2_i32_1385 : BitVec 32 := 2#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v80 : BitVec 32 := Scalar.muli c4_i32 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v81 : BitVec 32 := Scalar.addi v80 v46
  let c15_i32_55 : BitVec 32 := 15#32
  let v110 : BitVec 1 := Scalar.cmpi .eq v81 c15_i32_55
  let c6_i32_56 : BitVec 32 := 6#32
  let c14_i32_53 : BitVec 32 := 14#32
  let v108 : BitVec 1 := Scalar.cmpi .eq v81 c14_i32_53
  let c7_i32_54 : BitVec 32 := 7#32
  let c13_i32_51 : BitVec 32 := 13#32
  let v106 : BitVec 1 := Scalar.cmpi .eq v81 c13_i32_51
  let c12_i32_52 : BitVec 32 := 12#32
  let c12_i32 : BitVec 32 := 12#32
  let v104 : BitVec 1 := Scalar.cmpi .eq v81 c12_i32
  let c13_i32 : BitVec 32 := 13#32
  let c11_i32_49 : BitVec 32 := 11#32
  let v102 : BitVec 1 := Scalar.cmpi .eq v81 c11_i32_49
  let c5_i32_50 : BitVec 32 := 5#32
  let c10_i32_47 : BitVec 32 := 10#32
  let v100 : BitVec 1 := Scalar.cmpi .eq v81 c10_i32_47
  let c8_i32_48 : BitVec 32 := 8#32
  let c9_i32_46 : BitVec 32 := 9#32
  let v98 : BitVec 1 := Scalar.cmpi .eq v81 c9_i32_46
  let c11_i32 : BitVec 32 := 11#32
  let c8_i32_45 : BitVec 32 := 8#32
  let v96 : BitVec 1 := Scalar.cmpi .eq v81 c8_i32_45
  let c14_i32 : BitVec 32 := 14#32
  let c7_i32 : BitVec 32 := 7#32
  let v94 : BitVec 1 := Scalar.cmpi .eq v81 c7_i32
  let c4_i32_44 : BitVec 32 := 4#32
  let c6_i32 : BitVec 32 := 6#32
  let v92 : BitVec 1 := Scalar.cmpi .eq v81 c6_i32
  let c9_i32 : BitVec 32 := 9#32
  let c5_i32 : BitVec 32 := 5#32
  let v90 : BitVec 1 := Scalar.cmpi .eq v81 c5_i32
  let c10_i32 : BitVec 32 := 10#32
  let c4_i32_43 : BitVec 32 := 4#32
  let v88 : BitVec 1 := Scalar.cmpi .eq v81 c4_i32_43
  let c15_i32 : BitVec 32 := 15#32
  let c3_i32 : BitVec 32 := 3#32
  let v86 : BitVec 1 := Scalar.cmpi .eq v81 c3_i32
  let c3_i32_42 : BitVec 32 := 3#32
  let c2_i32_40 : BitVec 32 := 2#32
  let v84 : BitVec 1 := Scalar.cmpi .eq v81 c2_i32_40
  let c2_i32_41 : BitVec 32 := 2#32
  let c1_i32_37 : BitVec 32 := 1#32
  let v82 : BitVec 1 := Scalar.cmpi .eq v81 c1_i32_37
  let c1_i32_38 : BitVec 32 := 1#32
  let c0_i32_39 : BitVec 32 := 0#32
  let v83 : BitVec 32 := Scalar.select v82 c1_i32_38 c0_i32_39
  let v85 : BitVec 32 := Scalar.select v84 c2_i32_41 v83
  let v87 : BitVec 32 := Scalar.select v86 c3_i32_42 v85
  let v89 : BitVec 32 := Scalar.select v88 c15_i32 v87
  let v91 : BitVec 32 := Scalar.select v90 c10_i32 v89
  let v93 : BitVec 32 := Scalar.select v92 c9_i32 v91
  let v95 : BitVec 32 := Scalar.select v94 c4_i32_44 v93
  let v97 : BitVec 32 := Scalar.select v96 c14_i32 v95
  let v99 : BitVec 32 := Scalar.select v98 c11_i32 v97
  let v101 : BitVec 32 := Scalar.select v100 c8_i32_48 v99
  let v103 : BitVec 32 := Scalar.select v102 c5_i32_50 v101
  let v105 : BitVec 32 := Scalar.select v104 c13_i32 v103
  let v107 : BitVec 32 := Scalar.select v106 c12_i32_52 v105
  let v109 : BitVec 32 := Scalar.select v108 c7_i32_54 v107
  let v111 : BitVec 32 := Scalar.select v110 c6_i32_56 v109
  let c16_i32_228 : BitVec 32 := 16#32
  let v302 : BitVec 32 := Scalar.addi v111 c16_i32_228
  let v303 : BitVec 32 := Scalar.subi v302 c1_i32_229
  let c16_i32_230 : BitVec 32 := 16#32
  let c0_i32_231 : BitVec 32 := 0#32
  let v304 : BitVec 1 := Scalar.cmpi .eq c16_i32_230 c0_i32_231
  let c1_i32_232 : BitVec 32 := 1#32
  let v305 : BitVec 32 := Scalar.select v304 c1_i32_232 c16_i32_230
  let v306 : BitVec 32 := Scalar.remsi v303 v305
  let c0_i32_234 : BitVec 32 := 0#32
  let v308 : BitVec 1 := Scalar.cmpi .slt v306 c0_i32_234
  let c0_i32_235 : BitVec 32 := 0#32
  let v309 : BitVec 1 := Scalar.cmpi .slt v305 c0_i32_235
  let v310 : BitVec 1 := Scalar.xori v308 v309
  let c0_i32_233 : BitVec 32 := 0#32
  let v307 : BitVec 1 := Scalar.cmpi .ne v306 c0_i32_233
  let v311 : BitVec 1 := Scalar.andi v310 v307
  let v312 : BitVec 32 := Scalar.addi v306 v305
  let v313 : BitVec 32 := Scalar.select v311 v312 v306
  let c15_i32_265 : BitVec 32 := 15#32
  let v342 : BitVec 1 := Scalar.cmpi .eq v313 c15_i32_265
  let c4_i32_266 : BitVec 32 := 4#32
  let c14_i32_263 : BitVec 32 := 14#32
  let v340 : BitVec 1 := Scalar.cmpi .eq v313 c14_i32_263
  let c8_i32_264 : BitVec 32 := 8#32
  let c13_i32_261 : BitVec 32 := 13#32
  let v338 : BitVec 1 := Scalar.cmpi .eq v313 c13_i32_261
  let c12_i32_262 : BitVec 32 := 12#32
  let c12_i32_259 : BitVec 32 := 12#32
  let v336 : BitVec 1 := Scalar.cmpi .eq v313 c12_i32_259
  let c13_i32_260 : BitVec 32 := 13#32
  let c11_i32_257 : BitVec 32 := 11#32
  let v334 : BitVec 1 := Scalar.cmpi .eq v313 c11_i32_257
  let c9_i32_258 : BitVec 32 := 9#32
  let c10_i32_255 : BitVec 32 := 10#32
  let v332 : BitVec 1 := Scalar.cmpi .eq v313 c10_i32_255
  let c5_i32_256 : BitVec 32 := 5#32
  let c9_i32_253 : BitVec 32 := 9#32
  let v330 : BitVec 1 := Scalar.cmpi .eq v313 c9_i32_253
  let c6_i32_254 : BitVec 32 := 6#32
  let c8_i32_251 : BitVec 32 := 8#32
  let v328 : BitVec 1 := Scalar.cmpi .eq v313 c8_i32_251
  let c10_i32_252 : BitVec 32 := 10#32
  let c7_i32_249 : BitVec 32 := 7#32
  let v326 : BitVec 1 := Scalar.cmpi .eq v313 c7_i32_249
  let c14_i32_250 : BitVec 32 := 14#32
  let c6_i32_247 : BitVec 32 := 6#32
  let v324 : BitVec 1 := Scalar.cmpi .eq v313 c6_i32_247
  let c15_i32_248 : BitVec 32 := 15#32
  let c5_i32_245 : BitVec 32 := 5#32
  let v322 : BitVec 1 := Scalar.cmpi .eq v313 c5_i32_245
  let c11_i32_246 : BitVec 32 := 11#32
  let c4_i32_243 : BitVec 32 := 4#32
  let v320 : BitVec 1 := Scalar.cmpi .eq v313 c4_i32_243
  let c7_i32_244 : BitVec 32 := 7#32
  let c3_i32_241 : BitVec 32 := 3#32
  let v318 : BitVec 1 := Scalar.cmpi .eq v313 c3_i32_241
  let c3_i32_242 : BitVec 32 := 3#32
  let c2_i32_239 : BitVec 32 := 2#32
  let v316 : BitVec 1 := Scalar.cmpi .eq v313 c2_i32_239
  let c2_i32_240 : BitVec 32 := 2#32
  let c1_i32_236 : BitVec 32 := 1#32
  let v314 : BitVec 1 := Scalar.cmpi .eq v313 c1_i32_236
  let c1_i32_237 : BitVec 32 := 1#32
  let c0_i32_238 : BitVec 32 := 0#32
  let v315 : BitVec 32 := Scalar.select v314 c1_i32_237 c0_i32_238
  let v317 : BitVec 32 := Scalar.select v316 c2_i32_240 v315
  let v319 : BitVec 32 := Scalar.select v318 c3_i32_242 v317
  let v321 : BitVec 32 := Scalar.select v320 c7_i32_244 v319
  let v323 : BitVec 32 := Scalar.select v322 c11_i32_246 v321
  let v325 : BitVec 32 := Scalar.select v324 c15_i32_248 v323
  let v327 : BitVec 32 := Scalar.select v326 c14_i32_250 v325
  let v329 : BitVec 32 := Scalar.select v328 c10_i32_252 v327
  let v331 : BitVec 32 := Scalar.select v330 c6_i32_254 v329
  let v333 : BitVec 32 := Scalar.select v332 c5_i32_256 v331
  let v335 : BitVec 32 := Scalar.select v334 c9_i32_258 v333
  let v337 : BitVec 32 := Scalar.select v336 c13_i32_260 v335
  let v339 : BitVec 32 := Scalar.select v338 c12_i32_262 v337
  let v341 : BitVec 32 := Scalar.select v340 c8_i32_264 v339
  let v343 : BitVec 32 := Scalar.select v342 c4_i32_266 v341
  let v1558 : BitVec 32 := Scalar.muli c2_i32_1385 v343
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let v1559 : BitVec 32 := Scalar.addi v1558 v79
  let c256_i32_1386 : BitVec 32 := 256#32
  let v1560 : BitVec 32 := Scalar.muli v1559 c256_i32_1386
  let v1561 : BitVec 32 := Scalar.addi v1560 c0_i32_1387
  let c0_i32_1392 : BitVec 32 := 0#32
  ![v1561.toNat, 0]
def k0_dev10 (d0 : Dev nD) : Nat :=
  let c0_i32_1391 : BitVec 32 := 0#32
  let c8_i32_126 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v80 : BitVec 32 := Scalar.muli c4_i32 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v81 : BitVec 32 := Scalar.addi v80 v46
  let c15_i32_55 : BitVec 32 := 15#32
  let v110 : BitVec 1 := Scalar.cmpi .eq v81 c15_i32_55
  let c6_i32_56 : BitVec 32 := 6#32
  let c14_i32_53 : BitVec 32 := 14#32
  let v108 : BitVec 1 := Scalar.cmpi .eq v81 c14_i32_53
  let c7_i32_54 : BitVec 32 := 7#32
  let c13_i32_51 : BitVec 32 := 13#32
  let v106 : BitVec 1 := Scalar.cmpi .eq v81 c13_i32_51
  let c12_i32_52 : BitVec 32 := 12#32
  let c12_i32 : BitVec 32 := 12#32
  let v104 : BitVec 1 := Scalar.cmpi .eq v81 c12_i32
  let c13_i32 : BitVec 32 := 13#32
  let c11_i32_49 : BitVec 32 := 11#32
  let v102 : BitVec 1 := Scalar.cmpi .eq v81 c11_i32_49
  let c5_i32_50 : BitVec 32 := 5#32
  let c10_i32_47 : BitVec 32 := 10#32
  let v100 : BitVec 1 := Scalar.cmpi .eq v81 c10_i32_47
  let c8_i32_48 : BitVec 32 := 8#32
  let c9_i32_46 : BitVec 32 := 9#32
  let v98 : BitVec 1 := Scalar.cmpi .eq v81 c9_i32_46
  let c11_i32 : BitVec 32 := 11#32
  let c8_i32_45 : BitVec 32 := 8#32
  let v96 : BitVec 1 := Scalar.cmpi .eq v81 c8_i32_45
  let c14_i32 : BitVec 32 := 14#32
  let c7_i32 : BitVec 32 := 7#32
  let v94 : BitVec 1 := Scalar.cmpi .eq v81 c7_i32
  let c4_i32_44 : BitVec 32 := 4#32
  let c6_i32 : BitVec 32 := 6#32
  let v92 : BitVec 1 := Scalar.cmpi .eq v81 c6_i32
  let c9_i32 : BitVec 32 := 9#32
  let c5_i32 : BitVec 32 := 5#32
  let v90 : BitVec 1 := Scalar.cmpi .eq v81 c5_i32
  let c10_i32 : BitVec 32 := 10#32
  let c4_i32_43 : BitVec 32 := 4#32
  let v88 : BitVec 1 := Scalar.cmpi .eq v81 c4_i32_43
  let c15_i32 : BitVec 32 := 15#32
  let c3_i32 : BitVec 32 := 3#32
  let v86 : BitVec 1 := Scalar.cmpi .eq v81 c3_i32
  let c3_i32_42 : BitVec 32 := 3#32
  let c2_i32_40 : BitVec 32 := 2#32
  let v84 : BitVec 1 := Scalar.cmpi .eq v81 c2_i32_40
  let c2_i32_41 : BitVec 32 := 2#32
  let c1_i32_37 : BitVec 32 := 1#32
  let v82 : BitVec 1 := Scalar.cmpi .eq v81 c1_i32_37
  let c1_i32_38 : BitVec 32 := 1#32
  let c0_i32_39 : BitVec 32 := 0#32
  let v83 : BitVec 32 := Scalar.select v82 c1_i32_38 c0_i32_39
  let v85 : BitVec 32 := Scalar.select v84 c2_i32_41 v83
  let v87 : BitVec 32 := Scalar.select v86 c3_i32_42 v85
  let v89 : BitVec 32 := Scalar.select v88 c15_i32 v87
  let v91 : BitVec 32 := Scalar.select v90 c10_i32 v89
  let v93 : BitVec 32 := Scalar.select v92 c9_i32 v91
  let v95 : BitVec 32 := Scalar.select v94 c4_i32_44 v93
  let v97 : BitVec 32 := Scalar.select v96 c14_i32 v95
  let v99 : BitVec 32 := Scalar.select v98 c11_i32 v97
  let v101 : BitVec 32 := Scalar.select v100 c8_i32_48 v99
  let v103 : BitVec 32 := Scalar.select v102 c5_i32_50 v101
  let v105 : BitVec 32 := Scalar.select v104 c13_i32 v103
  let v107 : BitVec 32 := Scalar.select v106 c12_i32_52 v105
  let v109 : BitVec 32 := Scalar.select v108 c7_i32_54 v107
  let v111 : BitVec 32 := Scalar.select v110 c6_i32_56 v109
  let c1_i32_58 : BitVec 32 := 1#32
  let v113 : BitVec 32 := Scalar.addi v111 c1_i32_58
  let c16_i32 : BitVec 32 := 16#32
  let c0_i32_59 : BitVec 32 := 0#32
  let v114 : BitVec 1 := Scalar.cmpi .eq c16_i32 c0_i32_59
  let c1_i32_60 : BitVec 32 := 1#32
  let v115 : BitVec 32 := Scalar.select v114 c1_i32_60 c16_i32
  let v116 : BitVec 32 := Scalar.remsi v113 v115
  let c0_i32_62 : BitVec 32 := 0#32
  let v118 : BitVec 1 := Scalar.cmpi .slt v116 c0_i32_62
  let c0_i32_63 : BitVec 32 := 0#32
  let v119 : BitVec 1 := Scalar.cmpi .slt v115 c0_i32_63
  let v120 : BitVec 1 := Scalar.xori v118 v119
  let c0_i32_61 : BitVec 32 := 0#32
  let v117 : BitVec 1 := Scalar.cmpi .ne v116 c0_i32_61
  let v121 : BitVec 1 := Scalar.andi v120 v117
  let v122 : BitVec 32 := Scalar.addi v116 v115
  let v123 : BitVec 32 := Scalar.select v121 v122 v116
  let c15_i32_124 : BitVec 32 := 15#32
  let v182 : BitVec 1 := Scalar.cmpi .eq v123 c15_i32_124
  let c1_i32_125 : BitVec 32 := 1#32
  let c14_i32_122 : BitVec 32 := 14#32
  let v180 : BitVec 1 := Scalar.cmpi .eq v123 c14_i32_122
  let c2_i32_123 : BitVec 32 := 2#32
  let c13_i32_120 : BitVec 32 := 13#32
  let v178 : BitVec 1 := Scalar.cmpi .eq v123 c13_i32_120
  let c3_i32_121 : BitVec 32 := 3#32
  let c12_i32_118 : BitVec 32 := 12#32
  let v176 : BitVec 1 := Scalar.cmpi .eq v123 c12_i32_118
  let c3_i32_119 : BitVec 32 := 3#32
  let c11_i32_116 : BitVec 32 := 11#32
  let v174 : BitVec 1 := Scalar.cmpi .eq v123 c11_i32_116
  let c2_i32_117 : BitVec 32 := 2#32
  let c10_i32_114 : BitVec 32 := 10#32
  let v172 : BitVec 1 := Scalar.cmpi .eq v123 c10_i32_114
  let c1_i32_115 : BitVec 32 := 1#32
  let c9_i32_112 : BitVec 32 := 9#32
  let v170 : BitVec 1 := Scalar.cmpi .eq v123 c9_i32_112
  let c1_i32_113 : BitVec 32 := 1#32
  let c8_i32_110 : BitVec 32 := 8#32
  let v168 : BitVec 1 := Scalar.cmpi .eq v123 c8_i32_110
  let c2_i32_111 : BitVec 32 := 2#32
  let c7_i32_108 : BitVec 32 := 7#32
  let v166 : BitVec 1 := Scalar.cmpi .eq v123 c7_i32_108
  let c3_i32_109 : BitVec 32 := 3#32
  let c6_i32_106 : BitVec 32 := 6#32
  let v164 : BitVec 1 := Scalar.cmpi .eq v123 c6_i32_106
  let c3_i32_107 : BitVec 32 := 3#32
  let c5_i32_104 : BitVec 32 := 5#32
  let v162 : BitVec 1 := Scalar.cmpi .eq v123 c5_i32_104
  let c2_i32_105 : BitVec 32 := 2#32
  let c4_i32_102 : BitVec 32 := 4#32
  let v160 : BitVec 1 := Scalar.cmpi .eq v123 c4_i32_102
  let c1_i32_103 : BitVec 32 := 1#32
  let c3_i32_100 : BitVec 32 := 3#32
  let v158 : BitVec 1 := Scalar.cmpi .eq v123 c3_i32_100
  let c0_i32_101 : BitVec 32 := 0#32
  let c2_i32_98 : BitVec 32 := 2#32
  let v156 : BitVec 1 := Scalar.cmpi .eq v123 c2_i32_98
  let c0_i32_99 : BitVec 32 := 0#32
  let c1_i32_95 : BitVec 32 := 1#32
  let v154 : BitVec 1 := Scalar.cmpi .eq v123 c1_i32_95
  let c0_i32_96 : BitVec 32 := 0#32
  let c0_i32_97 : BitVec 32 := 0#32
  let v155 : BitVec 32 := Scalar.select v154 c0_i32_96 c0_i32_97
  let v157 : BitVec 32 := Scalar.select v156 c0_i32_99 v155
  let v159 : BitVec 32 := Scalar.select v158 c0_i32_101 v157
  let v161 : BitVec 32 := Scalar.select v160 c1_i32_103 v159
  let v163 : BitVec 32 := Scalar.select v162 c2_i32_105 v161
  let v165 : BitVec 32 := Scalar.select v164 c3_i32_107 v163
  let v167 : BitVec 32 := Scalar.select v166 c3_i32_109 v165
  let v169 : BitVec 32 := Scalar.select v168 c2_i32_111 v167
  let v171 : BitVec 32 := Scalar.select v170 c1_i32_113 v169
  let v173 : BitVec 32 := Scalar.select v172 c1_i32_115 v171
  let v175 : BitVec 32 := Scalar.select v174 c2_i32_117 v173
  let v177 : BitVec 32 := Scalar.select v176 c3_i32_119 v175
  let v179 : BitVec 32 := Scalar.select v178 c3_i32_121 v177
  let v181 : BitVec 32 := Scalar.select v180 c2_i32_123 v179
  let v183 : BitVec 32 := Scalar.select v182 c1_i32_125 v181
  let v184 : BitVec 32 := Scalar.muli c8_i32_126 v183
  let c2_i32_127 : BitVec 32 := 2#32
  let c15_i32_93 : BitVec 32 := 15#32
  let v152 : BitVec 1 := Scalar.cmpi .eq v123 c15_i32_93
  let c0_i32_94 : BitVec 32 := 0#32
  let c14_i32_91 : BitVec 32 := 14#32
  let v150 : BitVec 1 := Scalar.cmpi .eq v123 c14_i32_91
  let c0_i32_92 : BitVec 32 := 0#32
  let c13_i32_89 : BitVec 32 := 13#32
  let v148 : BitVec 1 := Scalar.cmpi .eq v123 c13_i32_89
  let c0_i32_90 : BitVec 32 := 0#32
  let c12_i32_87 : BitVec 32 := 12#32
  let v146 : BitVec 1 := Scalar.cmpi .eq v123 c12_i32_87
  let c1_i32_88 : BitVec 32 := 1#32
  let c11_i32_85 : BitVec 32 := 11#32
  let v144 : BitVec 1 := Scalar.cmpi .eq v123 c11_i32_85
  let c1_i32_86 : BitVec 32 := 1#32
  let c10_i32_83 : BitVec 32 := 10#32
  let v142 : BitVec 1 := Scalar.cmpi .eq v123 c10_i32_83
  let c1_i32_84 : BitVec 32 := 1#32
  let c9_i32_81 : BitVec 32 := 9#32
  let v140 : BitVec 1 := Scalar.cmpi .eq v123 c9_i32_81
  let c2_i32_82 : BitVec 32 := 2#32
  let c8_i32_79 : BitVec 32 := 8#32
  let v138 : BitVec 1 := Scalar.cmpi .eq v123 c8_i32_79
  let c2_i32_80 : BitVec 32 := 2#32
  let c7_i32_77 : BitVec 32 := 7#32
  let v136 : BitVec 1 := Scalar.cmpi .eq v123 c7_i32_77
  let c2_i32_78 : BitVec 32 := 2#32
  let c6_i32_75 : BitVec 32 := 6#32
  let v134 : BitVec 1 := Scalar.cmpi .eq v123 c6_i32_75
  let c3_i32_76 : BitVec 32 := 3#32
  let c5_i32_73 : BitVec 32 := 5#32
  let v132 : BitVec 1 := Scalar.cmpi .eq v123 c5_i32_73
  let c3_i32_74 : BitVec 32 := 3#32
  let c4_i32_71 : BitVec 32 := 4#32
  let v130 : BitVec 1 := Scalar.cmpi .eq v123 c4_i32_71
  let c3_i32_72 : BitVec 32 := 3#32
  let c3_i32_69 : BitVec 32 := 3#32
  let v128 : BitVec 1 := Scalar.cmpi .eq v123 c3_i32_69
  let c3_i32_70 : BitVec 32 := 3#32
  let c2_i32_67 : BitVec 32 := 2#32
  let v126 : BitVec 1 := Scalar.cmpi .eq v123 c2_i32_67
  let c2_i32_68 : BitVec 32 := 2#32
  let c1_i32_64 : BitVec 32 := 1#32
  let v124 : BitVec 1 := Scalar.cmpi .eq v123 c1_i32_64
  let c1_i32_65 : BitVec 32 := 1#32
  let c0_i32_66 : BitVec 32 := 0#32
  let v125 : BitVec 32 := Scalar.select v124 c1_i32_65 c0_i32_66
  let v127 : BitVec 32 := Scalar.select v126 c2_i32_68 v125
  let v129 : BitVec 32 := Scalar.select v128 c3_i32_70 v127
  let v131 : BitVec 32 := Scalar.select v130 c3_i32_72 v129
  let v133 : BitVec 32 := Scalar.select v132 c3_i32_74 v131
  let v135 : BitVec 32 := Scalar.select v134 c3_i32_76 v133
  let v137 : BitVec 32 := Scalar.select v136 c2_i32_78 v135
  let v139 : BitVec 32 := Scalar.select v138 c2_i32_80 v137
  let v141 : BitVec 32 := Scalar.select v140 c2_i32_82 v139
  let v143 : BitVec 32 := Scalar.select v142 c1_i32_84 v141
  let v145 : BitVec 32 := Scalar.select v144 c1_i32_86 v143
  let v147 : BitVec 32 := Scalar.select v146 c1_i32_88 v145
  let v149 : BitVec 32 := Scalar.select v148 c0_i32_90 v147
  let v151 : BitVec 32 := Scalar.select v150 c0_i32_92 v149
  let v153 : BitVec 32 := Scalar.select v152 c0_i32_94 v151
  let v185 : BitVec 32 := Scalar.muli c2_i32_127 v153
  let v186 : BitVec 32 := Scalar.addi v184 v185
  let c2_i32_128 : BitVec 32 := 2#32
  let c0_i32_129 : BitVec 32 := 0#32
  let v187 : BitVec 1 := Scalar.cmpi .eq c2_i32_128 c0_i32_129
  let c1_i32_130 : BitVec 32 := 1#32
  let v188 : BitVec 32 := Scalar.select v187 c1_i32_130 c2_i32_128
  let v189 : BitVec 32 := Scalar.remsi v153 v188
  let c0_i32_132 : BitVec 32 := 0#32
  let v191 : BitVec 1 := Scalar.cmpi .slt v189 c0_i32_132
  let c0_i32_133 : BitVec 32 := 0#32
  let v192 : BitVec 1 := Scalar.cmpi .slt v188 c0_i32_133
  let v193 : BitVec 1 := Scalar.xori v191 v192
  let c0_i32_131 : BitVec 32 := 0#32
  let v190 : BitVec 1 := Scalar.cmpi .ne v189 c0_i32_131
  let v194 : BitVec 1 := Scalar.andi v193 v190
  let v195 : BitVec 32 := Scalar.addi v189 v188
  let v196 : BitVec 32 := Scalar.select v194 v195 v189
  let c0_i32_134 : BitVec 32 := 0#32
  let v197 : BitVec 1 := Scalar.cmpi .eq v196 c0_i32_134
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_135 : BitVec 32 := 1#32
  let v198 : BitVec 32 := Scalar.subi c1_i32_135 v79
  let v199 : BitVec 32 := Scalar.select v197 v79 v198
  let v200 : BitVec 32 := Scalar.addi v186 v199
  let c1_i32_1390 : BitVec 32 := 1#32
  let v1562 : BitVec 32 := Scalar.muli v200 c1_i32_1390
  let v1563 : BitVec 32 := Scalar.addi c0_i32_1391 v1562
  v1563.toNat
def k0_dev11 (d0 : Dev nD) : Nat :=
  let c0_i32_1400 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_57 : BitVec 32 := 1#32
  let v112 : BitVec 32 := Scalar.xori v2 c1_i32_57
  let c1_i32_1399 : BitVec 32 := 1#32
  let v1574 : BitVec 32 := Scalar.muli v112 c1_i32_1399
  let v1575 : BitVec 32 := Scalar.addi c0_i32_1400 v1574
  v1575.toNat
def k0_off8 (d0 : Dev nD) (c0_i32_1050 : BitVec 32) (c0_i32_1410 : BitVec 32) : Fin 2 → Nat :=
  let c2_i32_1408 : BitVec 32 := 2#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v80 : BitVec 32 := Scalar.muli c4_i32 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v81 : BitVec 32 := Scalar.addi v80 v46
  let c15_i32_55 : BitVec 32 := 15#32
  let v110 : BitVec 1 := Scalar.cmpi .eq v81 c15_i32_55
  let c6_i32_56 : BitVec 32 := 6#32
  let c14_i32_53 : BitVec 32 := 14#32
  let v108 : BitVec 1 := Scalar.cmpi .eq v81 c14_i32_53
  let c7_i32_54 : BitVec 32 := 7#32
  let c13_i32_51 : BitVec 32 := 13#32
  let v106 : BitVec 1 := Scalar.cmpi .eq v81 c13_i32_51
  let c12_i32_52 : BitVec 32 := 12#32
  let c12_i32 : BitVec 32 := 12#32
  let v104 : BitVec 1 := Scalar.cmpi .eq v81 c12_i32
  let c13_i32 : BitVec 32 := 13#32
  let c11_i32_49 : BitVec 32 := 11#32
  let v102 : BitVec 1 := Scalar.cmpi .eq v81 c11_i32_49
  let c5_i32_50 : BitVec 32 := 5#32
  let c10_i32_47 : BitVec 32 := 10#32
  let v100 : BitVec 1 := Scalar.cmpi .eq v81 c10_i32_47
  let c8_i32_48 : BitVec 32 := 8#32
  let c9_i32_46 : BitVec 32 := 9#32
  let v98 : BitVec 1 := Scalar.cmpi .eq v81 c9_i32_46
  let c11_i32 : BitVec 32 := 11#32
  let c8_i32_45 : BitVec 32 := 8#32
  let v96 : BitVec 1 := Scalar.cmpi .eq v81 c8_i32_45
  let c14_i32 : BitVec 32 := 14#32
  let c7_i32 : BitVec 32 := 7#32
  let v94 : BitVec 1 := Scalar.cmpi .eq v81 c7_i32
  let c4_i32_44 : BitVec 32 := 4#32
  let c6_i32 : BitVec 32 := 6#32
  let v92 : BitVec 1 := Scalar.cmpi .eq v81 c6_i32
  let c9_i32 : BitVec 32 := 9#32
  let c5_i32 : BitVec 32 := 5#32
  let v90 : BitVec 1 := Scalar.cmpi .eq v81 c5_i32
  let c10_i32 : BitVec 32 := 10#32
  let c4_i32_43 : BitVec 32 := 4#32
  let v88 : BitVec 1 := Scalar.cmpi .eq v81 c4_i32_43
  let c15_i32 : BitVec 32 := 15#32
  let c3_i32 : BitVec 32 := 3#32
  let v86 : BitVec 1 := Scalar.cmpi .eq v81 c3_i32
  let c3_i32_42 : BitVec 32 := 3#32
  let c2_i32_40 : BitVec 32 := 2#32
  let v84 : BitVec 1 := Scalar.cmpi .eq v81 c2_i32_40
  let c2_i32_41 : BitVec 32 := 2#32
  let c1_i32_37 : BitVec 32 := 1#32
  let v82 : BitVec 1 := Scalar.cmpi .eq v81 c1_i32_37
  let c1_i32_38 : BitVec 32 := 1#32
  let c0_i32_39 : BitVec 32 := 0#32
  let v83 : BitVec 32 := Scalar.select v82 c1_i32_38 c0_i32_39
  let v85 : BitVec 32 := Scalar.select v84 c2_i32_41 v83
  let v87 : BitVec 32 := Scalar.select v86 c3_i32_42 v85
  let v89 : BitVec 32 := Scalar.select v88 c15_i32 v87
  let v91 : BitVec 32 := Scalar.select v90 c10_i32 v89
  let v93 : BitVec 32 := Scalar.select v92 c9_i32 v91
  let v95 : BitVec 32 := Scalar.select v94 c4_i32_44 v93
  let v97 : BitVec 32 := Scalar.select v96 c14_i32 v95
  let v99 : BitVec 32 := Scalar.select v98 c11_i32 v97
  let v101 : BitVec 32 := Scalar.select v100 c8_i32_48 v99
  let v103 : BitVec 32 := Scalar.select v102 c5_i32_50 v101
  let v105 : BitVec 32 := Scalar.select v104 c13_i32 v103
  let v107 : BitVec 32 := Scalar.select v106 c12_i32_52 v105
  let v109 : BitVec 32 := Scalar.select v108 c7_i32_54 v107
  let v111 : BitVec 32 := Scalar.select v110 c6_i32_56 v109
  let c1_i32_1049 : BitVec 32 := 1#32
  let v1186 : BitVec 32 := Scalar.addi v111 c1_i32_1049
  let v1187 : BitVec 32 := Scalar.addi v1186 c0_i32_1050
  let c16_i32_1051 : BitVec 32 := 16#32
  let c0_i32_1052 : BitVec 32 := 0#32
  let v1188 : BitVec 1 := Scalar.cmpi .eq c16_i32_1051 c0_i32_1052
  let c1_i32_1053 : BitVec 32 := 1#32
  let v1189 : BitVec 32 := Scalar.select v1188 c1_i32_1053 c16_i32_1051
  let v1190 : BitVec 32 := Scalar.remsi v1187 v1189
  let c0_i32_1055 : BitVec 32 := 0#32
  let v1192 : BitVec 1 := Scalar.cmpi .slt v1190 c0_i32_1055
  let c0_i32_1056 : BitVec 32 := 0#32
  let v1193 : BitVec 1 := Scalar.cmpi .slt v1189 c0_i32_1056
  let v1194 : BitVec 1 := Scalar.xori v1192 v1193
  let c0_i32_1054 : BitVec 32 := 0#32
  let v1191 : BitVec 1 := Scalar.cmpi .ne v1190 c0_i32_1054
  let v1195 : BitVec 1 := Scalar.andi v1194 v1191
  let v1196 : BitVec 32 := Scalar.addi v1190 v1189
  let v1197 : BitVec 32 := Scalar.select v1195 v1196 v1190
  let c15_i32_1086 : BitVec 32 := 15#32
  let v1226 : BitVec 1 := Scalar.cmpi .eq v1197 c15_i32_1086
  let c4_i32_1087 : BitVec 32 := 4#32
  let c14_i32_1084 : BitVec 32 := 14#32
  let v1224 : BitVec 1 := Scalar.cmpi .eq v1197 c14_i32_1084
  let c8_i32_1085 : BitVec 32 := 8#32
  let c13_i32_1082 : BitVec 32 := 13#32
  let v1222 : BitVec 1 := Scalar.cmpi .eq v1197 c13_i32_1082
  let c12_i32_1083 : BitVec 32 := 12#32
  let c12_i32_1080 : BitVec 32 := 12#32
  let v1220 : BitVec 1 := Scalar.cmpi .eq v1197 c12_i32_1080
  let c13_i32_1081 : BitVec 32 := 13#32
  let c11_i32_1078 : BitVec 32 := 11#32
  let v1218 : BitVec 1 := Scalar.cmpi .eq v1197 c11_i32_1078
  let c9_i32_1079 : BitVec 32 := 9#32
  let c10_i32_1076 : BitVec 32 := 10#32
  let v1216 : BitVec 1 := Scalar.cmpi .eq v1197 c10_i32_1076
  let c5_i32_1077 : BitVec 32 := 5#32
  let c9_i32_1074 : BitVec 32 := 9#32
  let v1214 : BitVec 1 := Scalar.cmpi .eq v1197 c9_i32_1074
  let c6_i32_1075 : BitVec 32 := 6#32
  let c8_i32_1072 : BitVec 32 := 8#32
  let v1212 : BitVec 1 := Scalar.cmpi .eq v1197 c8_i32_1072
  let c10_i32_1073 : BitVec 32 := 10#32
  let c7_i32_1070 : BitVec 32 := 7#32
  let v1210 : BitVec 1 := Scalar.cmpi .eq v1197 c7_i32_1070
  let c14_i32_1071 : BitVec 32 := 14#32
  let c6_i32_1068 : BitVec 32 := 6#32
  let v1208 : BitVec 1 := Scalar.cmpi .eq v1197 c6_i32_1068
  let c15_i32_1069 : BitVec 32 := 15#32
  let c5_i32_1066 : BitVec 32 := 5#32
  let v1206 : BitVec 1 := Scalar.cmpi .eq v1197 c5_i32_1066
  let c11_i32_1067 : BitVec 32 := 11#32
  let c4_i32_1064 : BitVec 32 := 4#32
  let v1204 : BitVec 1 := Scalar.cmpi .eq v1197 c4_i32_1064
  let c7_i32_1065 : BitVec 32 := 7#32
  let c3_i32_1062 : BitVec 32 := 3#32
  let v1202 : BitVec 1 := Scalar.cmpi .eq v1197 c3_i32_1062
  let c3_i32_1063 : BitVec 32 := 3#32
  let c2_i32_1060 : BitVec 32 := 2#32
  let v1200 : BitVec 1 := Scalar.cmpi .eq v1197 c2_i32_1060
  let c2_i32_1061 : BitVec 32 := 2#32
  let c1_i32_1057 : BitVec 32 := 1#32
  let v1198 : BitVec 1 := Scalar.cmpi .eq v1197 c1_i32_1057
  let c1_i32_1058 : BitVec 32 := 1#32
  let c0_i32_1059 : BitVec 32 := 0#32
  let v1199 : BitVec 32 := Scalar.select v1198 c1_i32_1058 c0_i32_1059
  let v1201 : BitVec 32 := Scalar.select v1200 c2_i32_1061 v1199
  let v1203 : BitVec 32 := Scalar.select v1202 c3_i32_1063 v1201
  let v1205 : BitVec 32 := Scalar.select v1204 c7_i32_1065 v1203
  let v1207 : BitVec 32 := Scalar.select v1206 c11_i32_1067 v1205
  let v1209 : BitVec 32 := Scalar.select v1208 c15_i32_1069 v1207
  let v1211 : BitVec 32 := Scalar.select v1210 c14_i32_1071 v1209
  let v1213 : BitVec 32 := Scalar.select v1212 c10_i32_1073 v1211
  let v1215 : BitVec 32 := Scalar.select v1214 c6_i32_1075 v1213
  let v1217 : BitVec 32 := Scalar.select v1216 c5_i32_1077 v1215
  let v1219 : BitVec 32 := Scalar.select v1218 c9_i32_1079 v1217
  let v1221 : BitVec 32 := Scalar.select v1220 c13_i32_1081 v1219
  let v1223 : BitVec 32 := Scalar.select v1222 c12_i32_1083 v1221
  let v1225 : BitVec 32 := Scalar.select v1224 c8_i32_1085 v1223
  let v1227 : BitVec 32 := Scalar.select v1226 c4_i32_1087 v1225
  let v1586 : BitVec 32 := Scalar.muli c2_i32_1408 v1227
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let v1587 : BitVec 32 := Scalar.addi v1586 v79
  let c256_i32_1409 : BitVec 32 := 256#32
  let v1588 : BitVec 32 := Scalar.muli v1587 c256_i32_1409
  let v1589 : BitVec 32 := Scalar.addi v1588 c0_i32_1410
  let c0_i32_1415 : BitVec 32 := 0#32
  ![v1589.toNat, 0]
def k0_off9 (d0 : Dev nD) (c1_i32_501 : BitVec 32) (c0_i32_1419 : BitVec 32) : Fin 2 → Nat :=
  let c2_i32_1417 : BitVec 32 := 2#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v80 : BitVec 32 := Scalar.muli c4_i32 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v81 : BitVec 32 := Scalar.addi v80 v46
  let c15_i32_55 : BitVec 32 := 15#32
  let v110 : BitVec 1 := Scalar.cmpi .eq v81 c15_i32_55
  let c6_i32_56 : BitVec 32 := 6#32
  let c14_i32_53 : BitVec 32 := 14#32
  let v108 : BitVec 1 := Scalar.cmpi .eq v81 c14_i32_53
  let c7_i32_54 : BitVec 32 := 7#32
  let c13_i32_51 : BitVec 32 := 13#32
  let v106 : BitVec 1 := Scalar.cmpi .eq v81 c13_i32_51
  let c12_i32_52 : BitVec 32 := 12#32
  let c12_i32 : BitVec 32 := 12#32
  let v104 : BitVec 1 := Scalar.cmpi .eq v81 c12_i32
  let c13_i32 : BitVec 32 := 13#32
  let c11_i32_49 : BitVec 32 := 11#32
  let v102 : BitVec 1 := Scalar.cmpi .eq v81 c11_i32_49
  let c5_i32_50 : BitVec 32 := 5#32
  let c10_i32_47 : BitVec 32 := 10#32
  let v100 : BitVec 1 := Scalar.cmpi .eq v81 c10_i32_47
  let c8_i32_48 : BitVec 32 := 8#32
  let c9_i32_46 : BitVec 32 := 9#32
  let v98 : BitVec 1 := Scalar.cmpi .eq v81 c9_i32_46
  let c11_i32 : BitVec 32 := 11#32
  let c8_i32_45 : BitVec 32 := 8#32
  let v96 : BitVec 1 := Scalar.cmpi .eq v81 c8_i32_45
  let c14_i32 : BitVec 32 := 14#32
  let c7_i32 : BitVec 32 := 7#32
  let v94 : BitVec 1 := Scalar.cmpi .eq v81 c7_i32
  let c4_i32_44 : BitVec 32 := 4#32
  let c6_i32 : BitVec 32 := 6#32
  let v92 : BitVec 1 := Scalar.cmpi .eq v81 c6_i32
  let c9_i32 : BitVec 32 := 9#32
  let c5_i32 : BitVec 32 := 5#32
  let v90 : BitVec 1 := Scalar.cmpi .eq v81 c5_i32
  let c10_i32 : BitVec 32 := 10#32
  let c4_i32_43 : BitVec 32 := 4#32
  let v88 : BitVec 1 := Scalar.cmpi .eq v81 c4_i32_43
  let c15_i32 : BitVec 32 := 15#32
  let c3_i32 : BitVec 32 := 3#32
  let v86 : BitVec 1 := Scalar.cmpi .eq v81 c3_i32
  let c3_i32_42 : BitVec 32 := 3#32
  let c2_i32_40 : BitVec 32 := 2#32
  let v84 : BitVec 1 := Scalar.cmpi .eq v81 c2_i32_40
  let c2_i32_41 : BitVec 32 := 2#32
  let c1_i32_37 : BitVec 32 := 1#32
  let v82 : BitVec 1 := Scalar.cmpi .eq v81 c1_i32_37
  let c1_i32_38 : BitVec 32 := 1#32
  let c0_i32_39 : BitVec 32 := 0#32
  let v83 : BitVec 32 := Scalar.select v82 c1_i32_38 c0_i32_39
  let v85 : BitVec 32 := Scalar.select v84 c2_i32_41 v83
  let v87 : BitVec 32 := Scalar.select v86 c3_i32_42 v85
  let v89 : BitVec 32 := Scalar.select v88 c15_i32 v87
  let v91 : BitVec 32 := Scalar.select v90 c10_i32 v89
  let v93 : BitVec 32 := Scalar.select v92 c9_i32 v91
  let v95 : BitVec 32 := Scalar.select v94 c4_i32_44 v93
  let v97 : BitVec 32 := Scalar.select v96 c14_i32 v95
  let v99 : BitVec 32 := Scalar.select v98 c11_i32 v97
  let v101 : BitVec 32 := Scalar.select v100 c8_i32_48 v99
  let v103 : BitVec 32 := Scalar.select v102 c5_i32_50 v101
  let v105 : BitVec 32 := Scalar.select v104 c13_i32 v103
  let v107 : BitVec 32 := Scalar.select v106 c12_i32_52 v105
  let v109 : BitVec 32 := Scalar.select v108 c7_i32_54 v107
  let v111 : BitVec 32 := Scalar.select v110 c6_i32_56 v109
  let v596 : BitVec 32 := Scalar.addi v111 c1_i32_501
  let c16_i32_502 : BitVec 32 := 16#32
  let c0_i32_503 : BitVec 32 := 0#32
  let v597 : BitVec 1 := Scalar.cmpi .eq c16_i32_502 c0_i32_503
  let c1_i32_504 : BitVec 32 := 1#32
  let v598 : BitVec 32 := Scalar.select v597 c1_i32_504 c16_i32_502
  let v599 : BitVec 32 := Scalar.remsi v596 v598
  let c0_i32_506 : BitVec 32 := 0#32
  let v601 : BitVec 1 := Scalar.cmpi .slt v599 c0_i32_506
  let c0_i32_507 : BitVec 32 := 0#32
  let v602 : BitVec 1 := Scalar.cmpi .slt v598 c0_i32_507
  let v603 : BitVec 1 := Scalar.xori v601 v602
  let c0_i32_505 : BitVec 32 := 0#32
  let v600 : BitVec 1 := Scalar.cmpi .ne v599 c0_i32_505
  let v604 : BitVec 1 := Scalar.andi v603 v600
  let v605 : BitVec 32 := Scalar.addi v599 v598
  let v606 : BitVec 32 := Scalar.select v604 v605 v599
  let c15_i32_537 : BitVec 32 := 15#32
  let v635 : BitVec 1 := Scalar.cmpi .eq v606 c15_i32_537
  let c4_i32_538 : BitVec 32 := 4#32
  let c14_i32_535 : BitVec 32 := 14#32
  let v633 : BitVec 1 := Scalar.cmpi .eq v606 c14_i32_535
  let c8_i32_536 : BitVec 32 := 8#32
  let c13_i32_533 : BitVec 32 := 13#32
  let v631 : BitVec 1 := Scalar.cmpi .eq v606 c13_i32_533
  let c12_i32_534 : BitVec 32 := 12#32
  let c12_i32_531 : BitVec 32 := 12#32
  let v629 : BitVec 1 := Scalar.cmpi .eq v606 c12_i32_531
  let c13_i32_532 : BitVec 32 := 13#32
  let c11_i32_529 : BitVec 32 := 11#32
  let v627 : BitVec 1 := Scalar.cmpi .eq v606 c11_i32_529
  let c9_i32_530 : BitVec 32 := 9#32
  let c10_i32_527 : BitVec 32 := 10#32
  let v625 : BitVec 1 := Scalar.cmpi .eq v606 c10_i32_527
  let c5_i32_528 : BitVec 32 := 5#32
  let c9_i32_525 : BitVec 32 := 9#32
  let v623 : BitVec 1 := Scalar.cmpi .eq v606 c9_i32_525
  let c6_i32_526 : BitVec 32 := 6#32
  let c8_i32_523 : BitVec 32 := 8#32
  let v621 : BitVec 1 := Scalar.cmpi .eq v606 c8_i32_523
  let c10_i32_524 : BitVec 32 := 10#32
  let c7_i32_521 : BitVec 32 := 7#32
  let v619 : BitVec 1 := Scalar.cmpi .eq v606 c7_i32_521
  let c14_i32_522 : BitVec 32 := 14#32
  let c6_i32_519 : BitVec 32 := 6#32
  let v617 : BitVec 1 := Scalar.cmpi .eq v606 c6_i32_519
  let c15_i32_520 : BitVec 32 := 15#32
  let c5_i32_517 : BitVec 32 := 5#32
  let v615 : BitVec 1 := Scalar.cmpi .eq v606 c5_i32_517
  let c11_i32_518 : BitVec 32 := 11#32
  let c4_i32_515 : BitVec 32 := 4#32
  let v613 : BitVec 1 := Scalar.cmpi .eq v606 c4_i32_515
  let c7_i32_516 : BitVec 32 := 7#32
  let c3_i32_513 : BitVec 32 := 3#32
  let v611 : BitVec 1 := Scalar.cmpi .eq v606 c3_i32_513
  let c3_i32_514 : BitVec 32 := 3#32
  let c2_i32_511 : BitVec 32 := 2#32
  let v609 : BitVec 1 := Scalar.cmpi .eq v606 c2_i32_511
  let c2_i32_512 : BitVec 32 := 2#32
  let c1_i32_508 : BitVec 32 := 1#32
  let v607 : BitVec 1 := Scalar.cmpi .eq v606 c1_i32_508
  let c1_i32_509 : BitVec 32 := 1#32
  let c0_i32_510 : BitVec 32 := 0#32
  let v608 : BitVec 32 := Scalar.select v607 c1_i32_509 c0_i32_510
  let v610 : BitVec 32 := Scalar.select v609 c2_i32_512 v608
  let v612 : BitVec 32 := Scalar.select v611 c3_i32_514 v610
  let v614 : BitVec 32 := Scalar.select v613 c7_i32_516 v612
  let v616 : BitVec 32 := Scalar.select v615 c11_i32_518 v614
  let v618 : BitVec 32 := Scalar.select v617 c15_i32_520 v616
  let v620 : BitVec 32 := Scalar.select v619 c14_i32_522 v618
  let v622 : BitVec 32 := Scalar.select v621 c10_i32_524 v620
  let v624 : BitVec 32 := Scalar.select v623 c6_i32_526 v622
  let v626 : BitVec 32 := Scalar.select v625 c5_i32_528 v624
  let v628 : BitVec 32 := Scalar.select v627 c9_i32_530 v626
  let v630 : BitVec 32 := Scalar.select v629 c13_i32_532 v628
  let v632 : BitVec 32 := Scalar.select v631 c12_i32_534 v630
  let v634 : BitVec 32 := Scalar.select v633 c8_i32_536 v632
  let v636 : BitVec 32 := Scalar.select v635 c4_i32_538 v634
  let v1596 : BitVec 32 := Scalar.muli c2_i32_1417 v636
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let v1597 : BitVec 32 := Scalar.addi v1596 v79
  let c256_i32_1418 : BitVec 32 := 256#32
  let v1598 : BitVec 32 := Scalar.muli v1597 c256_i32_1418
  let v1599 : BitVec 32 := Scalar.addi v1598 c0_i32_1419
  let c0_i32_1424 : BitVec 32 := 0#32
  ![v1599.toNat, 0]
def k0_dev12 (d0 : Dev nD) : Nat :=
  let c0_i32_1423 : BitVec 32 := 0#32
  let c8_i32_206 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v80 : BitVec 32 := Scalar.muli c4_i32 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v81 : BitVec 32 := Scalar.addi v80 v46
  let c15_i32_55 : BitVec 32 := 15#32
  let v110 : BitVec 1 := Scalar.cmpi .eq v81 c15_i32_55
  let c6_i32_56 : BitVec 32 := 6#32
  let c14_i32_53 : BitVec 32 := 14#32
  let v108 : BitVec 1 := Scalar.cmpi .eq v81 c14_i32_53
  let c7_i32_54 : BitVec 32 := 7#32
  let c13_i32_51 : BitVec 32 := 13#32
  let v106 : BitVec 1 := Scalar.cmpi .eq v81 c13_i32_51
  let c12_i32_52 : BitVec 32 := 12#32
  let c12_i32 : BitVec 32 := 12#32
  let v104 : BitVec 1 := Scalar.cmpi .eq v81 c12_i32
  let c13_i32 : BitVec 32 := 13#32
  let c11_i32_49 : BitVec 32 := 11#32
  let v102 : BitVec 1 := Scalar.cmpi .eq v81 c11_i32_49
  let c5_i32_50 : BitVec 32 := 5#32
  let c10_i32_47 : BitVec 32 := 10#32
  let v100 : BitVec 1 := Scalar.cmpi .eq v81 c10_i32_47
  let c8_i32_48 : BitVec 32 := 8#32
  let c9_i32_46 : BitVec 32 := 9#32
  let v98 : BitVec 1 := Scalar.cmpi .eq v81 c9_i32_46
  let c11_i32 : BitVec 32 := 11#32
  let c8_i32_45 : BitVec 32 := 8#32
  let v96 : BitVec 1 := Scalar.cmpi .eq v81 c8_i32_45
  let c14_i32 : BitVec 32 := 14#32
  let c7_i32 : BitVec 32 := 7#32
  let v94 : BitVec 1 := Scalar.cmpi .eq v81 c7_i32
  let c4_i32_44 : BitVec 32 := 4#32
  let c6_i32 : BitVec 32 := 6#32
  let v92 : BitVec 1 := Scalar.cmpi .eq v81 c6_i32
  let c9_i32 : BitVec 32 := 9#32
  let c5_i32 : BitVec 32 := 5#32
  let v90 : BitVec 1 := Scalar.cmpi .eq v81 c5_i32
  let c10_i32 : BitVec 32 := 10#32
  let c4_i32_43 : BitVec 32 := 4#32
  let v88 : BitVec 1 := Scalar.cmpi .eq v81 c4_i32_43
  let c15_i32 : BitVec 32 := 15#32
  let c3_i32 : BitVec 32 := 3#32
  let v86 : BitVec 1 := Scalar.cmpi .eq v81 c3_i32
  let c3_i32_42 : BitVec 32 := 3#32
  let c2_i32_40 : BitVec 32 := 2#32
  let v84 : BitVec 1 := Scalar.cmpi .eq v81 c2_i32_40
  let c2_i32_41 : BitVec 32 := 2#32
  let c1_i32_37 : BitVec 32 := 1#32
  let v82 : BitVec 1 := Scalar.cmpi .eq v81 c1_i32_37
  let c1_i32_38 : BitVec 32 := 1#32
  let c0_i32_39 : BitVec 32 := 0#32
  let v83 : BitVec 32 := Scalar.select v82 c1_i32_38 c0_i32_39
  let v85 : BitVec 32 := Scalar.select v84 c2_i32_41 v83
  let v87 : BitVec 32 := Scalar.select v86 c3_i32_42 v85
  let v89 : BitVec 32 := Scalar.select v88 c15_i32 v87
  let v91 : BitVec 32 := Scalar.select v90 c10_i32 v89
  let v93 : BitVec 32 := Scalar.select v92 c9_i32 v91
  let v95 : BitVec 32 := Scalar.select v94 c4_i32_44 v93
  let v97 : BitVec 32 := Scalar.select v96 c14_i32 v95
  let v99 : BitVec 32 := Scalar.select v98 c11_i32 v97
  let v101 : BitVec 32 := Scalar.select v100 c8_i32_48 v99
  let v103 : BitVec 32 := Scalar.select v102 c5_i32_50 v101
  let v105 : BitVec 32 := Scalar.select v104 c13_i32 v103
  let v107 : BitVec 32 := Scalar.select v106 c12_i32_52 v105
  let v109 : BitVec 32 := Scalar.select v108 c7_i32_54 v107
  let v111 : BitVec 32 := Scalar.select v110 c6_i32_56 v109
  let c16_i32_136 : BitVec 32 := 16#32
  let v201 : BitVec 32 := Scalar.addi v111 c16_i32_136
  let c1_i32_137 : BitVec 32 := 1#32
  let v202 : BitVec 32 := Scalar.subi v201 c1_i32_137
  let c16_i32_138 : BitVec 32 := 16#32
  let c0_i32_139 : BitVec 32 := 0#32
  let v203 : BitVec 1 := Scalar.cmpi .eq c16_i32_138 c0_i32_139
  let c1_i32_140 : BitVec 32 := 1#32
  let v204 : BitVec 32 := Scalar.select v203 c1_i32_140 c16_i32_138
  let v205 : BitVec 32 := Scalar.remsi v202 v204
  let c0_i32_142 : BitVec 32 := 0#32
  let v207 : BitVec 1 := Scalar.cmpi .slt v205 c0_i32_142
  let c0_i32_143 : BitVec 32 := 0#32
  let v208 : BitVec 1 := Scalar.cmpi .slt v204 c0_i32_143
  let v209 : BitVec 1 := Scalar.xori v207 v208
  let c0_i32_141 : BitVec 32 := 0#32
  let v206 : BitVec 1 := Scalar.cmpi .ne v205 c0_i32_141
  let v210 : BitVec 1 := Scalar.andi v209 v206
  let v211 : BitVec 32 := Scalar.addi v205 v204
  let v212 : BitVec 32 := Scalar.select v210 v211 v205
  let c15_i32_204 : BitVec 32 := 15#32
  let v271 : BitVec 1 := Scalar.cmpi .eq v212 c15_i32_204
  let c1_i32_205 : BitVec 32 := 1#32
  let c14_i32_202 : BitVec 32 := 14#32
  let v269 : BitVec 1 := Scalar.cmpi .eq v212 c14_i32_202
  let c2_i32_203 : BitVec 32 := 2#32
  let c13_i32_200 : BitVec 32 := 13#32
  let v267 : BitVec 1 := Scalar.cmpi .eq v212 c13_i32_200
  let c3_i32_201 : BitVec 32 := 3#32
  let c12_i32_198 : BitVec 32 := 12#32
  let v265 : BitVec 1 := Scalar.cmpi .eq v212 c12_i32_198
  let c3_i32_199 : BitVec 32 := 3#32
  let c11_i32_196 : BitVec 32 := 11#32
  let v263 : BitVec 1 := Scalar.cmpi .eq v212 c11_i32_196
  let c2_i32_197 : BitVec 32 := 2#32
  let c10_i32_194 : BitVec 32 := 10#32
  let v261 : BitVec 1 := Scalar.cmpi .eq v212 c10_i32_194
  let c1_i32_195 : BitVec 32 := 1#32
  let c9_i32_192 : BitVec 32 := 9#32
  let v259 : BitVec 1 := Scalar.cmpi .eq v212 c9_i32_192
  let c1_i32_193 : BitVec 32 := 1#32
  let c8_i32_190 : BitVec 32 := 8#32
  let v257 : BitVec 1 := Scalar.cmpi .eq v212 c8_i32_190
  let c2_i32_191 : BitVec 32 := 2#32
  let c7_i32_188 : BitVec 32 := 7#32
  let v255 : BitVec 1 := Scalar.cmpi .eq v212 c7_i32_188
  let c3_i32_189 : BitVec 32 := 3#32
  let c6_i32_186 : BitVec 32 := 6#32
  let v253 : BitVec 1 := Scalar.cmpi .eq v212 c6_i32_186
  let c3_i32_187 : BitVec 32 := 3#32
  let c5_i32_184 : BitVec 32 := 5#32
  let v251 : BitVec 1 := Scalar.cmpi .eq v212 c5_i32_184
  let c2_i32_185 : BitVec 32 := 2#32
  let c4_i32_182 : BitVec 32 := 4#32
  let v249 : BitVec 1 := Scalar.cmpi .eq v212 c4_i32_182
  let c1_i32_183 : BitVec 32 := 1#32
  let c3_i32_180 : BitVec 32 := 3#32
  let v247 : BitVec 1 := Scalar.cmpi .eq v212 c3_i32_180
  let c0_i32_181 : BitVec 32 := 0#32
  let c2_i32_178 : BitVec 32 := 2#32
  let v245 : BitVec 1 := Scalar.cmpi .eq v212 c2_i32_178
  let c0_i32_179 : BitVec 32 := 0#32
  let c1_i32_175 : BitVec 32 := 1#32
  let v243 : BitVec 1 := Scalar.cmpi .eq v212 c1_i32_175
  let c0_i32_176 : BitVec 32 := 0#32
  let c0_i32_177 : BitVec 32 := 0#32
  let v244 : BitVec 32 := Scalar.select v243 c0_i32_176 c0_i32_177
  let v246 : BitVec 32 := Scalar.select v245 c0_i32_179 v244
  let v248 : BitVec 32 := Scalar.select v247 c0_i32_181 v246
  let v250 : BitVec 32 := Scalar.select v249 c1_i32_183 v248
  let v252 : BitVec 32 := Scalar.select v251 c2_i32_185 v250
  let v254 : BitVec 32 := Scalar.select v253 c3_i32_187 v252
  let v256 : BitVec 32 := Scalar.select v255 c3_i32_189 v254
  let v258 : BitVec 32 := Scalar.select v257 c2_i32_191 v256
  let v260 : BitVec 32 := Scalar.select v259 c1_i32_193 v258
  let v262 : BitVec 32 := Scalar.select v261 c1_i32_195 v260
  let v264 : BitVec 32 := Scalar.select v263 c2_i32_197 v262
  let v266 : BitVec 32 := Scalar.select v265 c3_i32_199 v264
  let v268 : BitVec 32 := Scalar.select v267 c3_i32_201 v266
  let v270 : BitVec 32 := Scalar.select v269 c2_i32_203 v268
  let v272 : BitVec 32 := Scalar.select v271 c1_i32_205 v270
  let v273 : BitVec 32 := Scalar.muli c8_i32_206 v272
  let c2_i32_207 : BitVec 32 := 2#32
  let c15_i32_173 : BitVec 32 := 15#32
  let v241 : BitVec 1 := Scalar.cmpi .eq v212 c15_i32_173
  let c0_i32_174 : BitVec 32 := 0#32
  let c14_i32_171 : BitVec 32 := 14#32
  let v239 : BitVec 1 := Scalar.cmpi .eq v212 c14_i32_171
  let c0_i32_172 : BitVec 32 := 0#32
  let c13_i32_169 : BitVec 32 := 13#32
  let v237 : BitVec 1 := Scalar.cmpi .eq v212 c13_i32_169
  let c0_i32_170 : BitVec 32 := 0#32
  let c12_i32_167 : BitVec 32 := 12#32
  let v235 : BitVec 1 := Scalar.cmpi .eq v212 c12_i32_167
  let c1_i32_168 : BitVec 32 := 1#32
  let c11_i32_165 : BitVec 32 := 11#32
  let v233 : BitVec 1 := Scalar.cmpi .eq v212 c11_i32_165
  let c1_i32_166 : BitVec 32 := 1#32
  let c10_i32_163 : BitVec 32 := 10#32
  let v231 : BitVec 1 := Scalar.cmpi .eq v212 c10_i32_163
  let c1_i32_164 : BitVec 32 := 1#32
  let c9_i32_161 : BitVec 32 := 9#32
  let v229 : BitVec 1 := Scalar.cmpi .eq v212 c9_i32_161
  let c2_i32_162 : BitVec 32 := 2#32
  let c8_i32_159 : BitVec 32 := 8#32
  let v227 : BitVec 1 := Scalar.cmpi .eq v212 c8_i32_159
  let c2_i32_160 : BitVec 32 := 2#32
  let c7_i32_157 : BitVec 32 := 7#32
  let v225 : BitVec 1 := Scalar.cmpi .eq v212 c7_i32_157
  let c2_i32_158 : BitVec 32 := 2#32
  let c6_i32_155 : BitVec 32 := 6#32
  let v223 : BitVec 1 := Scalar.cmpi .eq v212 c6_i32_155
  let c3_i32_156 : BitVec 32 := 3#32
  let c5_i32_153 : BitVec 32 := 5#32
  let v221 : BitVec 1 := Scalar.cmpi .eq v212 c5_i32_153
  let c3_i32_154 : BitVec 32 := 3#32
  let c4_i32_151 : BitVec 32 := 4#32
  let v219 : BitVec 1 := Scalar.cmpi .eq v212 c4_i32_151
  let c3_i32_152 : BitVec 32 := 3#32
  let c3_i32_149 : BitVec 32 := 3#32
  let v217 : BitVec 1 := Scalar.cmpi .eq v212 c3_i32_149
  let c3_i32_150 : BitVec 32 := 3#32
  let c2_i32_147 : BitVec 32 := 2#32
  let v215 : BitVec 1 := Scalar.cmpi .eq v212 c2_i32_147
  let c2_i32_148 : BitVec 32 := 2#32
  let c1_i32_144 : BitVec 32 := 1#32
  let v213 : BitVec 1 := Scalar.cmpi .eq v212 c1_i32_144
  let c1_i32_145 : BitVec 32 := 1#32
  let c0_i32_146 : BitVec 32 := 0#32
  let v214 : BitVec 32 := Scalar.select v213 c1_i32_145 c0_i32_146
  let v216 : BitVec 32 := Scalar.select v215 c2_i32_148 v214
  let v218 : BitVec 32 := Scalar.select v217 c3_i32_150 v216
  let v220 : BitVec 32 := Scalar.select v219 c3_i32_152 v218
  let v222 : BitVec 32 := Scalar.select v221 c3_i32_154 v220
  let v224 : BitVec 32 := Scalar.select v223 c3_i32_156 v222
  let v226 : BitVec 32 := Scalar.select v225 c2_i32_158 v224
  let v228 : BitVec 32 := Scalar.select v227 c2_i32_160 v226
  let v230 : BitVec 32 := Scalar.select v229 c2_i32_162 v228
  let v232 : BitVec 32 := Scalar.select v231 c1_i32_164 v230
  let v234 : BitVec 32 := Scalar.select v233 c1_i32_166 v232
  let v236 : BitVec 32 := Scalar.select v235 c1_i32_168 v234
  let v238 : BitVec 32 := Scalar.select v237 c0_i32_170 v236
  let v240 : BitVec 32 := Scalar.select v239 c0_i32_172 v238
  let v242 : BitVec 32 := Scalar.select v241 c0_i32_174 v240
  let v274 : BitVec 32 := Scalar.muli c2_i32_207 v242
  let v275 : BitVec 32 := Scalar.addi v273 v274
  let c2_i32_208 : BitVec 32 := 2#32
  let c0_i32_209 : BitVec 32 := 0#32
  let v276 : BitVec 1 := Scalar.cmpi .eq c2_i32_208 c0_i32_209
  let c1_i32_210 : BitVec 32 := 1#32
  let v277 : BitVec 32 := Scalar.select v276 c1_i32_210 c2_i32_208
  let v278 : BitVec 32 := Scalar.remsi v242 v277
  let c0_i32_212 : BitVec 32 := 0#32
  let v280 : BitVec 1 := Scalar.cmpi .slt v278 c0_i32_212
  let c0_i32_213 : BitVec 32 := 0#32
  let v281 : BitVec 1 := Scalar.cmpi .slt v277 c0_i32_213
  let v282 : BitVec 1 := Scalar.xori v280 v281
  let c0_i32_211 : BitVec 32 := 0#32
  let v279 : BitVec 1 := Scalar.cmpi .ne v278 c0_i32_211
  let v283 : BitVec 1 := Scalar.andi v282 v279
  let v284 : BitVec 32 := Scalar.addi v278 v277
  let v285 : BitVec 32 := Scalar.select v283 v284 v278
  let c0_i32_214 : BitVec 32 := 0#32
  let v286 : BitVec 1 := Scalar.cmpi .eq v285 c0_i32_214
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_215 : BitVec 32 := 1#32
  let v287 : BitVec 32 := Scalar.subi c1_i32_215 v79
  let v288 : BitVec 32 := Scalar.select v286 v79 v287
  let v289 : BitVec 32 := Scalar.addi v275 v288
  let c1_i32_1422 : BitVec 32 := 1#32
  let v1600 : BitVec 32 := Scalar.muli v289 c1_i32_1422
  let v1601 : BitVec 32 := Scalar.addi c0_i32_1423 v1600
  v1601.toNat
def k0_dev13 (d0 : Dev nD) : Nat :=
  let c0_i32_1432 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_57 : BitVec 32 := 1#32
  let v112 : BitVec 32 := Scalar.xori v2 c1_i32_57
  let c1_i32_1431 : BitVec 32 := 1#32
  let v1612 : BitVec 32 := Scalar.muli v112 c1_i32_1431
  let v1613 : BitVec 32 := Scalar.addi c0_i32_1432 v1612
  v1613.toNat
def k0_dev14 (d0 : Dev nD) : Nat :=
  let c0_i32_1455 : BitVec 32 := 0#32
  let c8_i32_126 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v80 : BitVec 32 := Scalar.muli c4_i32 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v81 : BitVec 32 := Scalar.addi v80 v46
  let c15_i32_55 : BitVec 32 := 15#32
  let v110 : BitVec 1 := Scalar.cmpi .eq v81 c15_i32_55
  let c6_i32_56 : BitVec 32 := 6#32
  let c14_i32_53 : BitVec 32 := 14#32
  let v108 : BitVec 1 := Scalar.cmpi .eq v81 c14_i32_53
  let c7_i32_54 : BitVec 32 := 7#32
  let c13_i32_51 : BitVec 32 := 13#32
  let v106 : BitVec 1 := Scalar.cmpi .eq v81 c13_i32_51
  let c12_i32_52 : BitVec 32 := 12#32
  let c12_i32 : BitVec 32 := 12#32
  let v104 : BitVec 1 := Scalar.cmpi .eq v81 c12_i32
  let c13_i32 : BitVec 32 := 13#32
  let c11_i32_49 : BitVec 32 := 11#32
  let v102 : BitVec 1 := Scalar.cmpi .eq v81 c11_i32_49
  let c5_i32_50 : BitVec 32 := 5#32
  let c10_i32_47 : BitVec 32 := 10#32
  let v100 : BitVec 1 := Scalar.cmpi .eq v81 c10_i32_47
  let c8_i32_48 : BitVec 32 := 8#32
  let c9_i32_46 : BitVec 32 := 9#32
  let v98 : BitVec 1 := Scalar.cmpi .eq v81 c9_i32_46
  let c11_i32 : BitVec 32 := 11#32
  let c8_i32_45 : BitVec 32 := 8#32
  let v96 : BitVec 1 := Scalar.cmpi .eq v81 c8_i32_45
  let c14_i32 : BitVec 32 := 14#32
  let c7_i32 : BitVec 32 := 7#32
  let v94 : BitVec 1 := Scalar.cmpi .eq v81 c7_i32
  let c4_i32_44 : BitVec 32 := 4#32
  let c6_i32 : BitVec 32 := 6#32
  let v92 : BitVec 1 := Scalar.cmpi .eq v81 c6_i32
  let c9_i32 : BitVec 32 := 9#32
  let c5_i32 : BitVec 32 := 5#32
  let v90 : BitVec 1 := Scalar.cmpi .eq v81 c5_i32
  let c10_i32 : BitVec 32 := 10#32
  let c4_i32_43 : BitVec 32 := 4#32
  let v88 : BitVec 1 := Scalar.cmpi .eq v81 c4_i32_43
  let c15_i32 : BitVec 32 := 15#32
  let c3_i32 : BitVec 32 := 3#32
  let v86 : BitVec 1 := Scalar.cmpi .eq v81 c3_i32
  let c3_i32_42 : BitVec 32 := 3#32
  let c2_i32_40 : BitVec 32 := 2#32
  let v84 : BitVec 1 := Scalar.cmpi .eq v81 c2_i32_40
  let c2_i32_41 : BitVec 32 := 2#32
  let c1_i32_37 : BitVec 32 := 1#32
  let v82 : BitVec 1 := Scalar.cmpi .eq v81 c1_i32_37
  let c1_i32_38 : BitVec 32 := 1#32
  let c0_i32_39 : BitVec 32 := 0#32
  let v83 : BitVec 32 := Scalar.select v82 c1_i32_38 c0_i32_39
  let v85 : BitVec 32 := Scalar.select v84 c2_i32_41 v83
  let v87 : BitVec 32 := Scalar.select v86 c3_i32_42 v85
  let v89 : BitVec 32 := Scalar.select v88 c15_i32 v87
  let v91 : BitVec 32 := Scalar.select v90 c10_i32 v89
  let v93 : BitVec 32 := Scalar.select v92 c9_i32 v91
  let v95 : BitVec 32 := Scalar.select v94 c4_i32_44 v93
  let v97 : BitVec 32 := Scalar.select v96 c14_i32 v95
  let v99 : BitVec 32 := Scalar.select v98 c11_i32 v97
  let v101 : BitVec 32 := Scalar.select v100 c8_i32_48 v99
  let v103 : BitVec 32 := Scalar.select v102 c5_i32_50 v101
  let v105 : BitVec 32 := Scalar.select v104 c13_i32 v103
  let v107 : BitVec 32 := Scalar.select v106 c12_i32_52 v105
  let v109 : BitVec 32 := Scalar.select v108 c7_i32_54 v107
  let v111 : BitVec 32 := Scalar.select v110 c6_i32_56 v109
  let c1_i32_58 : BitVec 32 := 1#32
  let v113 : BitVec 32 := Scalar.addi v111 c1_i32_58
  let c16_i32 : BitVec 32 := 16#32
  let c0_i32_59 : BitVec 32 := 0#32
  let v114 : BitVec 1 := Scalar.cmpi .eq c16_i32 c0_i32_59
  let c1_i32_60 : BitVec 32 := 1#32
  let v115 : BitVec 32 := Scalar.select v114 c1_i32_60 c16_i32
  let v116 : BitVec 32 := Scalar.remsi v113 v115
  let c0_i32_62 : BitVec 32 := 0#32
  let v118 : BitVec 1 := Scalar.cmpi .slt v116 c0_i32_62
  let c0_i32_63 : BitVec 32 := 0#32
  let v119 : BitVec 1 := Scalar.cmpi .slt v115 c0_i32_63
  let v120 : BitVec 1 := Scalar.xori v118 v119
  let c0_i32_61 : BitVec 32 := 0#32
  let v117 : BitVec 1 := Scalar.cmpi .ne v116 c0_i32_61
  let v121 : BitVec 1 := Scalar.andi v120 v117
  let v122 : BitVec 32 := Scalar.addi v116 v115
  let v123 : BitVec 32 := Scalar.select v121 v122 v116
  let c15_i32_124 : BitVec 32 := 15#32
  let v182 : BitVec 1 := Scalar.cmpi .eq v123 c15_i32_124
  let c1_i32_125 : BitVec 32 := 1#32
  let c14_i32_122 : BitVec 32 := 14#32
  let v180 : BitVec 1 := Scalar.cmpi .eq v123 c14_i32_122
  let c2_i32_123 : BitVec 32 := 2#32
  let c13_i32_120 : BitVec 32 := 13#32
  let v178 : BitVec 1 := Scalar.cmpi .eq v123 c13_i32_120
  let c3_i32_121 : BitVec 32 := 3#32
  let c12_i32_118 : BitVec 32 := 12#32
  let v176 : BitVec 1 := Scalar.cmpi .eq v123 c12_i32_118
  let c3_i32_119 : BitVec 32 := 3#32
  let c11_i32_116 : BitVec 32 := 11#32
  let v174 : BitVec 1 := Scalar.cmpi .eq v123 c11_i32_116
  let c2_i32_117 : BitVec 32 := 2#32
  let c10_i32_114 : BitVec 32 := 10#32
  let v172 : BitVec 1 := Scalar.cmpi .eq v123 c10_i32_114
  let c1_i32_115 : BitVec 32 := 1#32
  let c9_i32_112 : BitVec 32 := 9#32
  let v170 : BitVec 1 := Scalar.cmpi .eq v123 c9_i32_112
  let c1_i32_113 : BitVec 32 := 1#32
  let c8_i32_110 : BitVec 32 := 8#32
  let v168 : BitVec 1 := Scalar.cmpi .eq v123 c8_i32_110
  let c2_i32_111 : BitVec 32 := 2#32
  let c7_i32_108 : BitVec 32 := 7#32
  let v166 : BitVec 1 := Scalar.cmpi .eq v123 c7_i32_108
  let c3_i32_109 : BitVec 32 := 3#32
  let c6_i32_106 : BitVec 32 := 6#32
  let v164 : BitVec 1 := Scalar.cmpi .eq v123 c6_i32_106
  let c3_i32_107 : BitVec 32 := 3#32
  let c5_i32_104 : BitVec 32 := 5#32
  let v162 : BitVec 1 := Scalar.cmpi .eq v123 c5_i32_104
  let c2_i32_105 : BitVec 32 := 2#32
  let c4_i32_102 : BitVec 32 := 4#32
  let v160 : BitVec 1 := Scalar.cmpi .eq v123 c4_i32_102
  let c1_i32_103 : BitVec 32 := 1#32
  let c3_i32_100 : BitVec 32 := 3#32
  let v158 : BitVec 1 := Scalar.cmpi .eq v123 c3_i32_100
  let c0_i32_101 : BitVec 32 := 0#32
  let c2_i32_98 : BitVec 32 := 2#32
  let v156 : BitVec 1 := Scalar.cmpi .eq v123 c2_i32_98
  let c0_i32_99 : BitVec 32 := 0#32
  let c1_i32_95 : BitVec 32 := 1#32
  let v154 : BitVec 1 := Scalar.cmpi .eq v123 c1_i32_95
  let c0_i32_96 : BitVec 32 := 0#32
  let c0_i32_97 : BitVec 32 := 0#32
  let v155 : BitVec 32 := Scalar.select v154 c0_i32_96 c0_i32_97
  let v157 : BitVec 32 := Scalar.select v156 c0_i32_99 v155
  let v159 : BitVec 32 := Scalar.select v158 c0_i32_101 v157
  let v161 : BitVec 32 := Scalar.select v160 c1_i32_103 v159
  let v163 : BitVec 32 := Scalar.select v162 c2_i32_105 v161
  let v165 : BitVec 32 := Scalar.select v164 c3_i32_107 v163
  let v167 : BitVec 32 := Scalar.select v166 c3_i32_109 v165
  let v169 : BitVec 32 := Scalar.select v168 c2_i32_111 v167
  let v171 : BitVec 32 := Scalar.select v170 c1_i32_113 v169
  let v173 : BitVec 32 := Scalar.select v172 c1_i32_115 v171
  let v175 : BitVec 32 := Scalar.select v174 c2_i32_117 v173
  let v177 : BitVec 32 := Scalar.select v176 c3_i32_119 v175
  let v179 : BitVec 32 := Scalar.select v178 c3_i32_121 v177
  let v181 : BitVec 32 := Scalar.select v180 c2_i32_123 v179
  let v183 : BitVec 32 := Scalar.select v182 c1_i32_125 v181
  let v184 : BitVec 32 := Scalar.muli c8_i32_126 v183
  let c2_i32_127 : BitVec 32 := 2#32
  let c15_i32_93 : BitVec 32 := 15#32
  let v152 : BitVec 1 := Scalar.cmpi .eq v123 c15_i32_93
  let c0_i32_94 : BitVec 32 := 0#32
  let c14_i32_91 : BitVec 32 := 14#32
  let v150 : BitVec 1 := Scalar.cmpi .eq v123 c14_i32_91
  let c0_i32_92 : BitVec 32 := 0#32
  let c13_i32_89 : BitVec 32 := 13#32
  let v148 : BitVec 1 := Scalar.cmpi .eq v123 c13_i32_89
  let c0_i32_90 : BitVec 32 := 0#32
  let c12_i32_87 : BitVec 32 := 12#32
  let v146 : BitVec 1 := Scalar.cmpi .eq v123 c12_i32_87
  let c1_i32_88 : BitVec 32 := 1#32
  let c11_i32_85 : BitVec 32 := 11#32
  let v144 : BitVec 1 := Scalar.cmpi .eq v123 c11_i32_85
  let c1_i32_86 : BitVec 32 := 1#32
  let c10_i32_83 : BitVec 32 := 10#32
  let v142 : BitVec 1 := Scalar.cmpi .eq v123 c10_i32_83
  let c1_i32_84 : BitVec 32 := 1#32
  let c9_i32_81 : BitVec 32 := 9#32
  let v140 : BitVec 1 := Scalar.cmpi .eq v123 c9_i32_81
  let c2_i32_82 : BitVec 32 := 2#32
  let c8_i32_79 : BitVec 32 := 8#32
  let v138 : BitVec 1 := Scalar.cmpi .eq v123 c8_i32_79
  let c2_i32_80 : BitVec 32 := 2#32
  let c7_i32_77 : BitVec 32 := 7#32
  let v136 : BitVec 1 := Scalar.cmpi .eq v123 c7_i32_77
  let c2_i32_78 : BitVec 32 := 2#32
  let c6_i32_75 : BitVec 32 := 6#32
  let v134 : BitVec 1 := Scalar.cmpi .eq v123 c6_i32_75
  let c3_i32_76 : BitVec 32 := 3#32
  let c5_i32_73 : BitVec 32 := 5#32
  let v132 : BitVec 1 := Scalar.cmpi .eq v123 c5_i32_73
  let c3_i32_74 : BitVec 32 := 3#32
  let c4_i32_71 : BitVec 32 := 4#32
  let v130 : BitVec 1 := Scalar.cmpi .eq v123 c4_i32_71
  let c3_i32_72 : BitVec 32 := 3#32
  let c3_i32_69 : BitVec 32 := 3#32
  let v128 : BitVec 1 := Scalar.cmpi .eq v123 c3_i32_69
  let c3_i32_70 : BitVec 32 := 3#32
  let c2_i32_67 : BitVec 32 := 2#32
  let v126 : BitVec 1 := Scalar.cmpi .eq v123 c2_i32_67
  let c2_i32_68 : BitVec 32 := 2#32
  let c1_i32_64 : BitVec 32 := 1#32
  let v124 : BitVec 1 := Scalar.cmpi .eq v123 c1_i32_64
  let c1_i32_65 : BitVec 32 := 1#32
  let c0_i32_66 : BitVec 32 := 0#32
  let v125 : BitVec 32 := Scalar.select v124 c1_i32_65 c0_i32_66
  let v127 : BitVec 32 := Scalar.select v126 c2_i32_68 v125
  let v129 : BitVec 32 := Scalar.select v128 c3_i32_70 v127
  let v131 : BitVec 32 := Scalar.select v130 c3_i32_72 v129
  let v133 : BitVec 32 := Scalar.select v132 c3_i32_74 v131
  let v135 : BitVec 32 := Scalar.select v134 c3_i32_76 v133
  let v137 : BitVec 32 := Scalar.select v136 c2_i32_78 v135
  let v139 : BitVec 32 := Scalar.select v138 c2_i32_80 v137
  let v141 : BitVec 32 := Scalar.select v140 c2_i32_82 v139
  let v143 : BitVec 32 := Scalar.select v142 c1_i32_84 v141
  let v145 : BitVec 32 := Scalar.select v144 c1_i32_86 v143
  let v147 : BitVec 32 := Scalar.select v146 c1_i32_88 v145
  let v149 : BitVec 32 := Scalar.select v148 c0_i32_90 v147
  let v151 : BitVec 32 := Scalar.select v150 c0_i32_92 v149
  let v153 : BitVec 32 := Scalar.select v152 c0_i32_94 v151
  let v185 : BitVec 32 := Scalar.muli c2_i32_127 v153
  let v186 : BitVec 32 := Scalar.addi v184 v185
  let c2_i32_128 : BitVec 32 := 2#32
  let c0_i32_129 : BitVec 32 := 0#32
  let v187 : BitVec 1 := Scalar.cmpi .eq c2_i32_128 c0_i32_129
  let c1_i32_130 : BitVec 32 := 1#32
  let v188 : BitVec 32 := Scalar.select v187 c1_i32_130 c2_i32_128
  let v189 : BitVec 32 := Scalar.remsi v153 v188
  let c0_i32_132 : BitVec 32 := 0#32
  let v191 : BitVec 1 := Scalar.cmpi .slt v189 c0_i32_132
  let c0_i32_133 : BitVec 32 := 0#32
  let v192 : BitVec 1 := Scalar.cmpi .slt v188 c0_i32_133
  let v193 : BitVec 1 := Scalar.xori v191 v192
  let c0_i32_131 : BitVec 32 := 0#32
  let v190 : BitVec 1 := Scalar.cmpi .ne v189 c0_i32_131
  let v194 : BitVec 1 := Scalar.andi v193 v190
  let v195 : BitVec 32 := Scalar.addi v189 v188
  let v196 : BitVec 32 := Scalar.select v194 v195 v189
  let c0_i32_134 : BitVec 32 := 0#32
  let v197 : BitVec 1 := Scalar.cmpi .eq v196 c0_i32_134
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_135 : BitVec 32 := 1#32
  let v198 : BitVec 32 := Scalar.subi c1_i32_135 v79
  let v199 : BitVec 32 := Scalar.select v197 v79 v198
  let v200 : BitVec 32 := Scalar.addi v186 v199
  let c1_i32_1454 : BitVec 32 := 1#32
  let v1638 : BitVec 32 := Scalar.muli v200 c1_i32_1454
  let v1639 : BitVec 32 := Scalar.addi c0_i32_1455 v1638
  v1639.toNat
def k0_dev15 (d0 : Dev nD) : Nat :=
  let c0_i32_1464 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_57 : BitVec 32 := 1#32
  let v112 : BitVec 32 := Scalar.xori v2 c1_i32_57
  let c1_i32_1463 : BitVec 32 := 1#32
  let v1650 : BitVec 32 := Scalar.muli v112 c1_i32_1463
  let v1651 : BitVec 32 := Scalar.addi c0_i32_1464 v1650
  v1651.toNat
def k0_dev16 (d0 : Dev nD) : Nat :=
  let c0_i32_1487 : BitVec 32 := 0#32
  let c8_i32_206 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v80 : BitVec 32 := Scalar.muli c4_i32 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v81 : BitVec 32 := Scalar.addi v80 v46
  let c15_i32_55 : BitVec 32 := 15#32
  let v110 : BitVec 1 := Scalar.cmpi .eq v81 c15_i32_55
  let c6_i32_56 : BitVec 32 := 6#32
  let c14_i32_53 : BitVec 32 := 14#32
  let v108 : BitVec 1 := Scalar.cmpi .eq v81 c14_i32_53
  let c7_i32_54 : BitVec 32 := 7#32
  let c13_i32_51 : BitVec 32 := 13#32
  let v106 : BitVec 1 := Scalar.cmpi .eq v81 c13_i32_51
  let c12_i32_52 : BitVec 32 := 12#32
  let c12_i32 : BitVec 32 := 12#32
  let v104 : BitVec 1 := Scalar.cmpi .eq v81 c12_i32
  let c13_i32 : BitVec 32 := 13#32
  let c11_i32_49 : BitVec 32 := 11#32
  let v102 : BitVec 1 := Scalar.cmpi .eq v81 c11_i32_49
  let c5_i32_50 : BitVec 32 := 5#32
  let c10_i32_47 : BitVec 32 := 10#32
  let v100 : BitVec 1 := Scalar.cmpi .eq v81 c10_i32_47
  let c8_i32_48 : BitVec 32 := 8#32
  let c9_i32_46 : BitVec 32 := 9#32
  let v98 : BitVec 1 := Scalar.cmpi .eq v81 c9_i32_46
  let c11_i32 : BitVec 32 := 11#32
  let c8_i32_45 : BitVec 32 := 8#32
  let v96 : BitVec 1 := Scalar.cmpi .eq v81 c8_i32_45
  let c14_i32 : BitVec 32 := 14#32
  let c7_i32 : BitVec 32 := 7#32
  let v94 : BitVec 1 := Scalar.cmpi .eq v81 c7_i32
  let c4_i32_44 : BitVec 32 := 4#32
  let c6_i32 : BitVec 32 := 6#32
  let v92 : BitVec 1 := Scalar.cmpi .eq v81 c6_i32
  let c9_i32 : BitVec 32 := 9#32
  let c5_i32 : BitVec 32 := 5#32
  let v90 : BitVec 1 := Scalar.cmpi .eq v81 c5_i32
  let c10_i32 : BitVec 32 := 10#32
  let c4_i32_43 : BitVec 32 := 4#32
  let v88 : BitVec 1 := Scalar.cmpi .eq v81 c4_i32_43
  let c15_i32 : BitVec 32 := 15#32
  let c3_i32 : BitVec 32 := 3#32
  let v86 : BitVec 1 := Scalar.cmpi .eq v81 c3_i32
  let c3_i32_42 : BitVec 32 := 3#32
  let c2_i32_40 : BitVec 32 := 2#32
  let v84 : BitVec 1 := Scalar.cmpi .eq v81 c2_i32_40
  let c2_i32_41 : BitVec 32 := 2#32
  let c1_i32_37 : BitVec 32 := 1#32
  let v82 : BitVec 1 := Scalar.cmpi .eq v81 c1_i32_37
  let c1_i32_38 : BitVec 32 := 1#32
  let c0_i32_39 : BitVec 32 := 0#32
  let v83 : BitVec 32 := Scalar.select v82 c1_i32_38 c0_i32_39
  let v85 : BitVec 32 := Scalar.select v84 c2_i32_41 v83
  let v87 : BitVec 32 := Scalar.select v86 c3_i32_42 v85
  let v89 : BitVec 32 := Scalar.select v88 c15_i32 v87
  let v91 : BitVec 32 := Scalar.select v90 c10_i32 v89
  let v93 : BitVec 32 := Scalar.select v92 c9_i32 v91
  let v95 : BitVec 32 := Scalar.select v94 c4_i32_44 v93
  let v97 : BitVec 32 := Scalar.select v96 c14_i32 v95
  let v99 : BitVec 32 := Scalar.select v98 c11_i32 v97
  let v101 : BitVec 32 := Scalar.select v100 c8_i32_48 v99
  let v103 : BitVec 32 := Scalar.select v102 c5_i32_50 v101
  let v105 : BitVec 32 := Scalar.select v104 c13_i32 v103
  let v107 : BitVec 32 := Scalar.select v106 c12_i32_52 v105
  let v109 : BitVec 32 := Scalar.select v108 c7_i32_54 v107
  let v111 : BitVec 32 := Scalar.select v110 c6_i32_56 v109
  let c16_i32_136 : BitVec 32 := 16#32
  let v201 : BitVec 32 := Scalar.addi v111 c16_i32_136
  let c1_i32_137 : BitVec 32 := 1#32
  let v202 : BitVec 32 := Scalar.subi v201 c1_i32_137
  let c16_i32_138 : BitVec 32 := 16#32
  let c0_i32_139 : BitVec 32 := 0#32
  let v203 : BitVec 1 := Scalar.cmpi .eq c16_i32_138 c0_i32_139
  let c1_i32_140 : BitVec 32 := 1#32
  let v204 : BitVec 32 := Scalar.select v203 c1_i32_140 c16_i32_138
  let v205 : BitVec 32 := Scalar.remsi v202 v204
  let c0_i32_142 : BitVec 32 := 0#32
  let v207 : BitVec 1 := Scalar.cmpi .slt v205 c0_i32_142
  let c0_i32_143 : BitVec 32 := 0#32
  let v208 : BitVec 1 := Scalar.cmpi .slt v204 c0_i32_143
  let v209 : BitVec 1 := Scalar.xori v207 v208
  let c0_i32_141 : BitVec 32 := 0#32
  let v206 : BitVec 1 := Scalar.cmpi .ne v205 c0_i32_141
  let v210 : BitVec 1 := Scalar.andi v209 v206
  let v211 : BitVec 32 := Scalar.addi v205 v204
  let v212 : BitVec 32 := Scalar.select v210 v211 v205
  let c15_i32_204 : BitVec 32 := 15#32
  let v271 : BitVec 1 := Scalar.cmpi .eq v212 c15_i32_204
  let c1_i32_205 : BitVec 32 := 1#32
  let c14_i32_202 : BitVec 32 := 14#32
  let v269 : BitVec 1 := Scalar.cmpi .eq v212 c14_i32_202
  let c2_i32_203 : BitVec 32 := 2#32
  let c13_i32_200 : BitVec 32 := 13#32
  let v267 : BitVec 1 := Scalar.cmpi .eq v212 c13_i32_200
  let c3_i32_201 : BitVec 32 := 3#32
  let c12_i32_198 : BitVec 32 := 12#32
  let v265 : BitVec 1 := Scalar.cmpi .eq v212 c12_i32_198
  let c3_i32_199 : BitVec 32 := 3#32
  let c11_i32_196 : BitVec 32 := 11#32
  let v263 : BitVec 1 := Scalar.cmpi .eq v212 c11_i32_196
  let c2_i32_197 : BitVec 32 := 2#32
  let c10_i32_194 : BitVec 32 := 10#32
  let v261 : BitVec 1 := Scalar.cmpi .eq v212 c10_i32_194
  let c1_i32_195 : BitVec 32 := 1#32
  let c9_i32_192 : BitVec 32 := 9#32
  let v259 : BitVec 1 := Scalar.cmpi .eq v212 c9_i32_192
  let c1_i32_193 : BitVec 32 := 1#32
  let c8_i32_190 : BitVec 32 := 8#32
  let v257 : BitVec 1 := Scalar.cmpi .eq v212 c8_i32_190
  let c2_i32_191 : BitVec 32 := 2#32
  let c7_i32_188 : BitVec 32 := 7#32
  let v255 : BitVec 1 := Scalar.cmpi .eq v212 c7_i32_188
  let c3_i32_189 : BitVec 32 := 3#32
  let c6_i32_186 : BitVec 32 := 6#32
  let v253 : BitVec 1 := Scalar.cmpi .eq v212 c6_i32_186
  let c3_i32_187 : BitVec 32 := 3#32
  let c5_i32_184 : BitVec 32 := 5#32
  let v251 : BitVec 1 := Scalar.cmpi .eq v212 c5_i32_184
  let c2_i32_185 : BitVec 32 := 2#32
  let c4_i32_182 : BitVec 32 := 4#32
  let v249 : BitVec 1 := Scalar.cmpi .eq v212 c4_i32_182
  let c1_i32_183 : BitVec 32 := 1#32
  let c3_i32_180 : BitVec 32 := 3#32
  let v247 : BitVec 1 := Scalar.cmpi .eq v212 c3_i32_180
  let c0_i32_181 : BitVec 32 := 0#32
  let c2_i32_178 : BitVec 32 := 2#32
  let v245 : BitVec 1 := Scalar.cmpi .eq v212 c2_i32_178
  let c0_i32_179 : BitVec 32 := 0#32
  let c1_i32_175 : BitVec 32 := 1#32
  let v243 : BitVec 1 := Scalar.cmpi .eq v212 c1_i32_175
  let c0_i32_176 : BitVec 32 := 0#32
  let c0_i32_177 : BitVec 32 := 0#32
  let v244 : BitVec 32 := Scalar.select v243 c0_i32_176 c0_i32_177
  let v246 : BitVec 32 := Scalar.select v245 c0_i32_179 v244
  let v248 : BitVec 32 := Scalar.select v247 c0_i32_181 v246
  let v250 : BitVec 32 := Scalar.select v249 c1_i32_183 v248
  let v252 : BitVec 32 := Scalar.select v251 c2_i32_185 v250
  let v254 : BitVec 32 := Scalar.select v253 c3_i32_187 v252
  let v256 : BitVec 32 := Scalar.select v255 c3_i32_189 v254
  let v258 : BitVec 32 := Scalar.select v257 c2_i32_191 v256
  let v260 : BitVec 32 := Scalar.select v259 c1_i32_193 v258
  let v262 : BitVec 32 := Scalar.select v261 c1_i32_195 v260
  let v264 : BitVec 32 := Scalar.select v263 c2_i32_197 v262
  let v266 : BitVec 32 := Scalar.select v265 c3_i32_199 v264
  let v268 : BitVec 32 := Scalar.select v267 c3_i32_201 v266
  let v270 : BitVec 32 := Scalar.select v269 c2_i32_203 v268
  let v272 : BitVec 32 := Scalar.select v271 c1_i32_205 v270
  let v273 : BitVec 32 := Scalar.muli c8_i32_206 v272
  let c2_i32_207 : BitVec 32 := 2#32
  let c15_i32_173 : BitVec 32 := 15#32
  let v241 : BitVec 1 := Scalar.cmpi .eq v212 c15_i32_173
  let c0_i32_174 : BitVec 32 := 0#32
  let c14_i32_171 : BitVec 32 := 14#32
  let v239 : BitVec 1 := Scalar.cmpi .eq v212 c14_i32_171
  let c0_i32_172 : BitVec 32 := 0#32
  let c13_i32_169 : BitVec 32 := 13#32
  let v237 : BitVec 1 := Scalar.cmpi .eq v212 c13_i32_169
  let c0_i32_170 : BitVec 32 := 0#32
  let c12_i32_167 : BitVec 32 := 12#32
  let v235 : BitVec 1 := Scalar.cmpi .eq v212 c12_i32_167
  let c1_i32_168 : BitVec 32 := 1#32
  let c11_i32_165 : BitVec 32 := 11#32
  let v233 : BitVec 1 := Scalar.cmpi .eq v212 c11_i32_165
  let c1_i32_166 : BitVec 32 := 1#32
  let c10_i32_163 : BitVec 32 := 10#32
  let v231 : BitVec 1 := Scalar.cmpi .eq v212 c10_i32_163
  let c1_i32_164 : BitVec 32 := 1#32
  let c9_i32_161 : BitVec 32 := 9#32
  let v229 : BitVec 1 := Scalar.cmpi .eq v212 c9_i32_161
  let c2_i32_162 : BitVec 32 := 2#32
  let c8_i32_159 : BitVec 32 := 8#32
  let v227 : BitVec 1 := Scalar.cmpi .eq v212 c8_i32_159
  let c2_i32_160 : BitVec 32 := 2#32
  let c7_i32_157 : BitVec 32 := 7#32
  let v225 : BitVec 1 := Scalar.cmpi .eq v212 c7_i32_157
  let c2_i32_158 : BitVec 32 := 2#32
  let c6_i32_155 : BitVec 32 := 6#32
  let v223 : BitVec 1 := Scalar.cmpi .eq v212 c6_i32_155
  let c3_i32_156 : BitVec 32 := 3#32
  let c5_i32_153 : BitVec 32 := 5#32
  let v221 : BitVec 1 := Scalar.cmpi .eq v212 c5_i32_153
  let c3_i32_154 : BitVec 32 := 3#32
  let c4_i32_151 : BitVec 32 := 4#32
  let v219 : BitVec 1 := Scalar.cmpi .eq v212 c4_i32_151
  let c3_i32_152 : BitVec 32 := 3#32
  let c3_i32_149 : BitVec 32 := 3#32
  let v217 : BitVec 1 := Scalar.cmpi .eq v212 c3_i32_149
  let c3_i32_150 : BitVec 32 := 3#32
  let c2_i32_147 : BitVec 32 := 2#32
  let v215 : BitVec 1 := Scalar.cmpi .eq v212 c2_i32_147
  let c2_i32_148 : BitVec 32 := 2#32
  let c1_i32_144 : BitVec 32 := 1#32
  let v213 : BitVec 1 := Scalar.cmpi .eq v212 c1_i32_144
  let c1_i32_145 : BitVec 32 := 1#32
  let c0_i32_146 : BitVec 32 := 0#32
  let v214 : BitVec 32 := Scalar.select v213 c1_i32_145 c0_i32_146
  let v216 : BitVec 32 := Scalar.select v215 c2_i32_148 v214
  let v218 : BitVec 32 := Scalar.select v217 c3_i32_150 v216
  let v220 : BitVec 32 := Scalar.select v219 c3_i32_152 v218
  let v222 : BitVec 32 := Scalar.select v221 c3_i32_154 v220
  let v224 : BitVec 32 := Scalar.select v223 c3_i32_156 v222
  let v226 : BitVec 32 := Scalar.select v225 c2_i32_158 v224
  let v228 : BitVec 32 := Scalar.select v227 c2_i32_160 v226
  let v230 : BitVec 32 := Scalar.select v229 c2_i32_162 v228
  let v232 : BitVec 32 := Scalar.select v231 c1_i32_164 v230
  let v234 : BitVec 32 := Scalar.select v233 c1_i32_166 v232
  let v236 : BitVec 32 := Scalar.select v235 c1_i32_168 v234
  let v238 : BitVec 32 := Scalar.select v237 c0_i32_170 v236
  let v240 : BitVec 32 := Scalar.select v239 c0_i32_172 v238
  let v242 : BitVec 32 := Scalar.select v241 c0_i32_174 v240
  let v274 : BitVec 32 := Scalar.muli c2_i32_207 v242
  let v275 : BitVec 32 := Scalar.addi v273 v274
  let c2_i32_208 : BitVec 32 := 2#32
  let c0_i32_209 : BitVec 32 := 0#32
  let v276 : BitVec 1 := Scalar.cmpi .eq c2_i32_208 c0_i32_209
  let c1_i32_210 : BitVec 32 := 1#32
  let v277 : BitVec 32 := Scalar.select v276 c1_i32_210 c2_i32_208
  let v278 : BitVec 32 := Scalar.remsi v242 v277
  let c0_i32_212 : BitVec 32 := 0#32
  let v280 : BitVec 1 := Scalar.cmpi .slt v278 c0_i32_212
  let c0_i32_213 : BitVec 32 := 0#32
  let v281 : BitVec 1 := Scalar.cmpi .slt v277 c0_i32_213
  let v282 : BitVec 1 := Scalar.xori v280 v281
  let c0_i32_211 : BitVec 32 := 0#32
  let v279 : BitVec 1 := Scalar.cmpi .ne v278 c0_i32_211
  let v283 : BitVec 1 := Scalar.andi v282 v279
  let v284 : BitVec 32 := Scalar.addi v278 v277
  let v285 : BitVec 32 := Scalar.select v283 v284 v278
  let c0_i32_214 : BitVec 32 := 0#32
  let v286 : BitVec 1 := Scalar.cmpi .eq v285 c0_i32_214
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_215 : BitVec 32 := 1#32
  let v287 : BitVec 32 := Scalar.subi c1_i32_215 v79
  let v288 : BitVec 32 := Scalar.select v286 v79 v287
  let v289 : BitVec 32 := Scalar.addi v275 v288
  let c1_i32_1486 : BitVec 32 := 1#32
  let v1676 : BitVec 32 := Scalar.muli v289 c1_i32_1486
  let v1677 : BitVec 32 := Scalar.addi c0_i32_1487 v1676
  v1677.toNat
def k0_dev17 (d0 : Dev nD) : Nat :=
  let c0_i32_1496 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_57 : BitVec 32 := 1#32
  let v112 : BitVec 32 := Scalar.xori v2 c1_i32_57
  let c1_i32_1495 : BitVec 32 := 1#32
  let v1688 : BitVec 32 := Scalar.muli v112 c1_i32_1495
  let v1689 : BitVec 32 := Scalar.addi c0_i32_1496 v1688
  v1689.toNat
def k0_dev18 (d0 : Dev nD) : Nat :=
  let c0_i32_1516 : BitVec 32 := 0#32
  let c8_i32_126 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v80 : BitVec 32 := Scalar.muli c4_i32 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v81 : BitVec 32 := Scalar.addi v80 v46
  let c15_i32_55 : BitVec 32 := 15#32
  let v110 : BitVec 1 := Scalar.cmpi .eq v81 c15_i32_55
  let c6_i32_56 : BitVec 32 := 6#32
  let c14_i32_53 : BitVec 32 := 14#32
  let v108 : BitVec 1 := Scalar.cmpi .eq v81 c14_i32_53
  let c7_i32_54 : BitVec 32 := 7#32
  let c13_i32_51 : BitVec 32 := 13#32
  let v106 : BitVec 1 := Scalar.cmpi .eq v81 c13_i32_51
  let c12_i32_52 : BitVec 32 := 12#32
  let c12_i32 : BitVec 32 := 12#32
  let v104 : BitVec 1 := Scalar.cmpi .eq v81 c12_i32
  let c13_i32 : BitVec 32 := 13#32
  let c11_i32_49 : BitVec 32 := 11#32
  let v102 : BitVec 1 := Scalar.cmpi .eq v81 c11_i32_49
  let c5_i32_50 : BitVec 32 := 5#32
  let c10_i32_47 : BitVec 32 := 10#32
  let v100 : BitVec 1 := Scalar.cmpi .eq v81 c10_i32_47
  let c8_i32_48 : BitVec 32 := 8#32
  let c9_i32_46 : BitVec 32 := 9#32
  let v98 : BitVec 1 := Scalar.cmpi .eq v81 c9_i32_46
  let c11_i32 : BitVec 32 := 11#32
  let c8_i32_45 : BitVec 32 := 8#32
  let v96 : BitVec 1 := Scalar.cmpi .eq v81 c8_i32_45
  let c14_i32 : BitVec 32 := 14#32
  let c7_i32 : BitVec 32 := 7#32
  let v94 : BitVec 1 := Scalar.cmpi .eq v81 c7_i32
  let c4_i32_44 : BitVec 32 := 4#32
  let c6_i32 : BitVec 32 := 6#32
  let v92 : BitVec 1 := Scalar.cmpi .eq v81 c6_i32
  let c9_i32 : BitVec 32 := 9#32
  let c5_i32 : BitVec 32 := 5#32
  let v90 : BitVec 1 := Scalar.cmpi .eq v81 c5_i32
  let c10_i32 : BitVec 32 := 10#32
  let c4_i32_43 : BitVec 32 := 4#32
  let v88 : BitVec 1 := Scalar.cmpi .eq v81 c4_i32_43
  let c15_i32 : BitVec 32 := 15#32
  let c3_i32 : BitVec 32 := 3#32
  let v86 : BitVec 1 := Scalar.cmpi .eq v81 c3_i32
  let c3_i32_42 : BitVec 32 := 3#32
  let c2_i32_40 : BitVec 32 := 2#32
  let v84 : BitVec 1 := Scalar.cmpi .eq v81 c2_i32_40
  let c2_i32_41 : BitVec 32 := 2#32
  let c1_i32_37 : BitVec 32 := 1#32
  let v82 : BitVec 1 := Scalar.cmpi .eq v81 c1_i32_37
  let c1_i32_38 : BitVec 32 := 1#32
  let c0_i32_39 : BitVec 32 := 0#32
  let v83 : BitVec 32 := Scalar.select v82 c1_i32_38 c0_i32_39
  let v85 : BitVec 32 := Scalar.select v84 c2_i32_41 v83
  let v87 : BitVec 32 := Scalar.select v86 c3_i32_42 v85
  let v89 : BitVec 32 := Scalar.select v88 c15_i32 v87
  let v91 : BitVec 32 := Scalar.select v90 c10_i32 v89
  let v93 : BitVec 32 := Scalar.select v92 c9_i32 v91
  let v95 : BitVec 32 := Scalar.select v94 c4_i32_44 v93
  let v97 : BitVec 32 := Scalar.select v96 c14_i32 v95
  let v99 : BitVec 32 := Scalar.select v98 c11_i32 v97
  let v101 : BitVec 32 := Scalar.select v100 c8_i32_48 v99
  let v103 : BitVec 32 := Scalar.select v102 c5_i32_50 v101
  let v105 : BitVec 32 := Scalar.select v104 c13_i32 v103
  let v107 : BitVec 32 := Scalar.select v106 c12_i32_52 v105
  let v109 : BitVec 32 := Scalar.select v108 c7_i32_54 v107
  let v111 : BitVec 32 := Scalar.select v110 c6_i32_56 v109
  let c1_i32_58 : BitVec 32 := 1#32
  let v113 : BitVec 32 := Scalar.addi v111 c1_i32_58
  let c16_i32 : BitVec 32 := 16#32
  let c0_i32_59 : BitVec 32 := 0#32
  let v114 : BitVec 1 := Scalar.cmpi .eq c16_i32 c0_i32_59
  let c1_i32_60 : BitVec 32 := 1#32
  let v115 : BitVec 32 := Scalar.select v114 c1_i32_60 c16_i32
  let v116 : BitVec 32 := Scalar.remsi v113 v115
  let c0_i32_62 : BitVec 32 := 0#32
  let v118 : BitVec 1 := Scalar.cmpi .slt v116 c0_i32_62
  let c0_i32_63 : BitVec 32 := 0#32
  let v119 : BitVec 1 := Scalar.cmpi .slt v115 c0_i32_63
  let v120 : BitVec 1 := Scalar.xori v118 v119
  let c0_i32_61 : BitVec 32 := 0#32
  let v117 : BitVec 1 := Scalar.cmpi .ne v116 c0_i32_61
  let v121 : BitVec 1 := Scalar.andi v120 v117
  let v122 : BitVec 32 := Scalar.addi v116 v115
  let v123 : BitVec 32 := Scalar.select v121 v122 v116
  let c15_i32_124 : BitVec 32 := 15#32
  let v182 : BitVec 1 := Scalar.cmpi .eq v123 c15_i32_124
  let c1_i32_125 : BitVec 32 := 1#32
  let c14_i32_122 : BitVec 32 := 14#32
  let v180 : BitVec 1 := Scalar.cmpi .eq v123 c14_i32_122
  let c2_i32_123 : BitVec 32 := 2#32
  let c13_i32_120 : BitVec 32 := 13#32
  let v178 : BitVec 1 := Scalar.cmpi .eq v123 c13_i32_120
  let c3_i32_121 : BitVec 32 := 3#32
  let c12_i32_118 : BitVec 32 := 12#32
  let v176 : BitVec 1 := Scalar.cmpi .eq v123 c12_i32_118
  let c3_i32_119 : BitVec 32 := 3#32
  let c11_i32_116 : BitVec 32 := 11#32
  let v174 : BitVec 1 := Scalar.cmpi .eq v123 c11_i32_116
  let c2_i32_117 : BitVec 32 := 2#32
  let c10_i32_114 : BitVec 32 := 10#32
  let v172 : BitVec 1 := Scalar.cmpi .eq v123 c10_i32_114
  let c1_i32_115 : BitVec 32 := 1#32
  let c9_i32_112 : BitVec 32 := 9#32
  let v170 : BitVec 1 := Scalar.cmpi .eq v123 c9_i32_112
  let c1_i32_113 : BitVec 32 := 1#32
  let c8_i32_110 : BitVec 32 := 8#32
  let v168 : BitVec 1 := Scalar.cmpi .eq v123 c8_i32_110
  let c2_i32_111 : BitVec 32 := 2#32
  let c7_i32_108 : BitVec 32 := 7#32
  let v166 : BitVec 1 := Scalar.cmpi .eq v123 c7_i32_108
  let c3_i32_109 : BitVec 32 := 3#32
  let c6_i32_106 : BitVec 32 := 6#32
  let v164 : BitVec 1 := Scalar.cmpi .eq v123 c6_i32_106
  let c3_i32_107 : BitVec 32 := 3#32
  let c5_i32_104 : BitVec 32 := 5#32
  let v162 : BitVec 1 := Scalar.cmpi .eq v123 c5_i32_104
  let c2_i32_105 : BitVec 32 := 2#32
  let c4_i32_102 : BitVec 32 := 4#32
  let v160 : BitVec 1 := Scalar.cmpi .eq v123 c4_i32_102
  let c1_i32_103 : BitVec 32 := 1#32
  let c3_i32_100 : BitVec 32 := 3#32
  let v158 : BitVec 1 := Scalar.cmpi .eq v123 c3_i32_100
  let c0_i32_101 : BitVec 32 := 0#32
  let c2_i32_98 : BitVec 32 := 2#32
  let v156 : BitVec 1 := Scalar.cmpi .eq v123 c2_i32_98
  let c0_i32_99 : BitVec 32 := 0#32
  let c1_i32_95 : BitVec 32 := 1#32
  let v154 : BitVec 1 := Scalar.cmpi .eq v123 c1_i32_95
  let c0_i32_96 : BitVec 32 := 0#32
  let c0_i32_97 : BitVec 32 := 0#32
  let v155 : BitVec 32 := Scalar.select v154 c0_i32_96 c0_i32_97
  let v157 : BitVec 32 := Scalar.select v156 c0_i32_99 v155
  let v159 : BitVec 32 := Scalar.select v158 c0_i32_101 v157
  let v161 : BitVec 32 := Scalar.select v160 c1_i32_103 v159
  let v163 : BitVec 32 := Scalar.select v162 c2_i32_105 v161
  let v165 : BitVec 32 := Scalar.select v164 c3_i32_107 v163
  let v167 : BitVec 32 := Scalar.select v166 c3_i32_109 v165
  let v169 : BitVec 32 := Scalar.select v168 c2_i32_111 v167
  let v171 : BitVec 32 := Scalar.select v170 c1_i32_113 v169
  let v173 : BitVec 32 := Scalar.select v172 c1_i32_115 v171
  let v175 : BitVec 32 := Scalar.select v174 c2_i32_117 v173
  let v177 : BitVec 32 := Scalar.select v176 c3_i32_119 v175
  let v179 : BitVec 32 := Scalar.select v178 c3_i32_121 v177
  let v181 : BitVec 32 := Scalar.select v180 c2_i32_123 v179
  let v183 : BitVec 32 := Scalar.select v182 c1_i32_125 v181
  let v184 : BitVec 32 := Scalar.muli c8_i32_126 v183
  let c2_i32_127 : BitVec 32 := 2#32
  let c15_i32_93 : BitVec 32 := 15#32
  let v152 : BitVec 1 := Scalar.cmpi .eq v123 c15_i32_93
  let c0_i32_94 : BitVec 32 := 0#32
  let c14_i32_91 : BitVec 32 := 14#32
  let v150 : BitVec 1 := Scalar.cmpi .eq v123 c14_i32_91
  let c0_i32_92 : BitVec 32 := 0#32
  let c13_i32_89 : BitVec 32 := 13#32
  let v148 : BitVec 1 := Scalar.cmpi .eq v123 c13_i32_89
  let c0_i32_90 : BitVec 32 := 0#32
  let c12_i32_87 : BitVec 32 := 12#32
  let v146 : BitVec 1 := Scalar.cmpi .eq v123 c12_i32_87
  let c1_i32_88 : BitVec 32 := 1#32
  let c11_i32_85 : BitVec 32 := 11#32
  let v144 : BitVec 1 := Scalar.cmpi .eq v123 c11_i32_85
  let c1_i32_86 : BitVec 32 := 1#32
  let c10_i32_83 : BitVec 32 := 10#32
  let v142 : BitVec 1 := Scalar.cmpi .eq v123 c10_i32_83
  let c1_i32_84 : BitVec 32 := 1#32
  let c9_i32_81 : BitVec 32 := 9#32
  let v140 : BitVec 1 := Scalar.cmpi .eq v123 c9_i32_81
  let c2_i32_82 : BitVec 32 := 2#32
  let c8_i32_79 : BitVec 32 := 8#32
  let v138 : BitVec 1 := Scalar.cmpi .eq v123 c8_i32_79
  let c2_i32_80 : BitVec 32 := 2#32
  let c7_i32_77 : BitVec 32 := 7#32
  let v136 : BitVec 1 := Scalar.cmpi .eq v123 c7_i32_77
  let c2_i32_78 : BitVec 32 := 2#32
  let c6_i32_75 : BitVec 32 := 6#32
  let v134 : BitVec 1 := Scalar.cmpi .eq v123 c6_i32_75
  let c3_i32_76 : BitVec 32 := 3#32
  let c5_i32_73 : BitVec 32 := 5#32
  let v132 : BitVec 1 := Scalar.cmpi .eq v123 c5_i32_73
  let c3_i32_74 : BitVec 32 := 3#32
  let c4_i32_71 : BitVec 32 := 4#32
  let v130 : BitVec 1 := Scalar.cmpi .eq v123 c4_i32_71
  let c3_i32_72 : BitVec 32 := 3#32
  let c3_i32_69 : BitVec 32 := 3#32
  let v128 : BitVec 1 := Scalar.cmpi .eq v123 c3_i32_69
  let c3_i32_70 : BitVec 32 := 3#32
  let c2_i32_67 : BitVec 32 := 2#32
  let v126 : BitVec 1 := Scalar.cmpi .eq v123 c2_i32_67
  let c2_i32_68 : BitVec 32 := 2#32
  let c1_i32_64 : BitVec 32 := 1#32
  let v124 : BitVec 1 := Scalar.cmpi .eq v123 c1_i32_64
  let c1_i32_65 : BitVec 32 := 1#32
  let c0_i32_66 : BitVec 32 := 0#32
  let v125 : BitVec 32 := Scalar.select v124 c1_i32_65 c0_i32_66
  let v127 : BitVec 32 := Scalar.select v126 c2_i32_68 v125
  let v129 : BitVec 32 := Scalar.select v128 c3_i32_70 v127
  let v131 : BitVec 32 := Scalar.select v130 c3_i32_72 v129
  let v133 : BitVec 32 := Scalar.select v132 c3_i32_74 v131
  let v135 : BitVec 32 := Scalar.select v134 c3_i32_76 v133
  let v137 : BitVec 32 := Scalar.select v136 c2_i32_78 v135
  let v139 : BitVec 32 := Scalar.select v138 c2_i32_80 v137
  let v141 : BitVec 32 := Scalar.select v140 c2_i32_82 v139
  let v143 : BitVec 32 := Scalar.select v142 c1_i32_84 v141
  let v145 : BitVec 32 := Scalar.select v144 c1_i32_86 v143
  let v147 : BitVec 32 := Scalar.select v146 c1_i32_88 v145
  let v149 : BitVec 32 := Scalar.select v148 c0_i32_90 v147
  let v151 : BitVec 32 := Scalar.select v150 c0_i32_92 v149
  let v153 : BitVec 32 := Scalar.select v152 c0_i32_94 v151
  let v185 : BitVec 32 := Scalar.muli c2_i32_127 v153
  let v186 : BitVec 32 := Scalar.addi v184 v185
  let c2_i32_128 : BitVec 32 := 2#32
  let c0_i32_129 : BitVec 32 := 0#32
  let v187 : BitVec 1 := Scalar.cmpi .eq c2_i32_128 c0_i32_129
  let c1_i32_130 : BitVec 32 := 1#32
  let v188 : BitVec 32 := Scalar.select v187 c1_i32_130 c2_i32_128
  let v189 : BitVec 32 := Scalar.remsi v153 v188
  let c0_i32_132 : BitVec 32 := 0#32
  let v191 : BitVec 1 := Scalar.cmpi .slt v189 c0_i32_132
  let c0_i32_133 : BitVec 32 := 0#32
  let v192 : BitVec 1 := Scalar.cmpi .slt v188 c0_i32_133
  let v193 : BitVec 1 := Scalar.xori v191 v192
  let c0_i32_131 : BitVec 32 := 0#32
  let v190 : BitVec 1 := Scalar.cmpi .ne v189 c0_i32_131
  let v194 : BitVec 1 := Scalar.andi v193 v190
  let v195 : BitVec 32 := Scalar.addi v189 v188
  let v196 : BitVec 32 := Scalar.select v194 v195 v189
  let c0_i32_134 : BitVec 32 := 0#32
  let v197 : BitVec 1 := Scalar.cmpi .eq v196 c0_i32_134
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_135 : BitVec 32 := 1#32
  let v198 : BitVec 32 := Scalar.subi c1_i32_135 v79
  let v199 : BitVec 32 := Scalar.select v197 v79 v198
  let v200 : BitVec 32 := Scalar.addi v186 v199
  let c1_i32_1515 : BitVec 32 := 1#32
  let v1710 : BitVec 32 := Scalar.muli v200 c1_i32_1515
  let v1711 : BitVec 32 := Scalar.addi c0_i32_1516 v1710
  v1711.toNat
def k0_dev19 (d0 : Dev nD) : Nat :=
  let c0_i32_1525 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_57 : BitVec 32 := 1#32
  let v112 : BitVec 32 := Scalar.xori v2 c1_i32_57
  let c1_i32_1524 : BitVec 32 := 1#32
  let v1722 : BitVec 32 := Scalar.muli v112 c1_i32_1524
  let v1723 : BitVec 32 := Scalar.addi c0_i32_1525 v1722
  v1723.toNat
def k0_dev20 (d0 : Dev nD) : Nat :=
  let c0_i32_1545 : BitVec 32 := 0#32
  let c8_i32_206 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v80 : BitVec 32 := Scalar.muli c4_i32 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v81 : BitVec 32 := Scalar.addi v80 v46
  let c15_i32_55 : BitVec 32 := 15#32
  let v110 : BitVec 1 := Scalar.cmpi .eq v81 c15_i32_55
  let c6_i32_56 : BitVec 32 := 6#32
  let c14_i32_53 : BitVec 32 := 14#32
  let v108 : BitVec 1 := Scalar.cmpi .eq v81 c14_i32_53
  let c7_i32_54 : BitVec 32 := 7#32
  let c13_i32_51 : BitVec 32 := 13#32
  let v106 : BitVec 1 := Scalar.cmpi .eq v81 c13_i32_51
  let c12_i32_52 : BitVec 32 := 12#32
  let c12_i32 : BitVec 32 := 12#32
  let v104 : BitVec 1 := Scalar.cmpi .eq v81 c12_i32
  let c13_i32 : BitVec 32 := 13#32
  let c11_i32_49 : BitVec 32 := 11#32
  let v102 : BitVec 1 := Scalar.cmpi .eq v81 c11_i32_49
  let c5_i32_50 : BitVec 32 := 5#32
  let c10_i32_47 : BitVec 32 := 10#32
  let v100 : BitVec 1 := Scalar.cmpi .eq v81 c10_i32_47
  let c8_i32_48 : BitVec 32 := 8#32
  let c9_i32_46 : BitVec 32 := 9#32
  let v98 : BitVec 1 := Scalar.cmpi .eq v81 c9_i32_46
  let c11_i32 : BitVec 32 := 11#32
  let c8_i32_45 : BitVec 32 := 8#32
  let v96 : BitVec 1 := Scalar.cmpi .eq v81 c8_i32_45
  let c14_i32 : BitVec 32 := 14#32
  let c7_i32 : BitVec 32 := 7#32
  let v94 : BitVec 1 := Scalar.cmpi .eq v81 c7_i32
  let c4_i32_44 : BitVec 32 := 4#32
  let c6_i32 : BitVec 32 := 6#32
  let v92 : BitVec 1 := Scalar.cmpi .eq v81 c6_i32
  let c9_i32 : BitVec 32 := 9#32
  let c5_i32 : BitVec 32 := 5#32
  let v90 : BitVec 1 := Scalar.cmpi .eq v81 c5_i32
  let c10_i32 : BitVec 32 := 10#32
  let c4_i32_43 : BitVec 32 := 4#32
  let v88 : BitVec 1 := Scalar.cmpi .eq v81 c4_i32_43
  let c15_i32 : BitVec 32 := 15#32
  let c3_i32 : BitVec 32 := 3#32
  let v86 : BitVec 1 := Scalar.cmpi .eq v81 c3_i32
  let c3_i32_42 : BitVec 32 := 3#32
  let c2_i32_40 : BitVec 32 := 2#32
  let v84 : BitVec 1 := Scalar.cmpi .eq v81 c2_i32_40
  let c2_i32_41 : BitVec 32 := 2#32
  let c1_i32_37 : BitVec 32 := 1#32
  let v82 : BitVec 1 := Scalar.cmpi .eq v81 c1_i32_37
  let c1_i32_38 : BitVec 32 := 1#32
  let c0_i32_39 : BitVec 32 := 0#32
  let v83 : BitVec 32 := Scalar.select v82 c1_i32_38 c0_i32_39
  let v85 : BitVec 32 := Scalar.select v84 c2_i32_41 v83
  let v87 : BitVec 32 := Scalar.select v86 c3_i32_42 v85
  let v89 : BitVec 32 := Scalar.select v88 c15_i32 v87
  let v91 : BitVec 32 := Scalar.select v90 c10_i32 v89
  let v93 : BitVec 32 := Scalar.select v92 c9_i32 v91
  let v95 : BitVec 32 := Scalar.select v94 c4_i32_44 v93
  let v97 : BitVec 32 := Scalar.select v96 c14_i32 v95
  let v99 : BitVec 32 := Scalar.select v98 c11_i32 v97
  let v101 : BitVec 32 := Scalar.select v100 c8_i32_48 v99
  let v103 : BitVec 32 := Scalar.select v102 c5_i32_50 v101
  let v105 : BitVec 32 := Scalar.select v104 c13_i32 v103
  let v107 : BitVec 32 := Scalar.select v106 c12_i32_52 v105
  let v109 : BitVec 32 := Scalar.select v108 c7_i32_54 v107
  let v111 : BitVec 32 := Scalar.select v110 c6_i32_56 v109
  let c16_i32_136 : BitVec 32 := 16#32
  let v201 : BitVec 32 := Scalar.addi v111 c16_i32_136
  let c1_i32_137 : BitVec 32 := 1#32
  let v202 : BitVec 32 := Scalar.subi v201 c1_i32_137
  let c16_i32_138 : BitVec 32 := 16#32
  let c0_i32_139 : BitVec 32 := 0#32
  let v203 : BitVec 1 := Scalar.cmpi .eq c16_i32_138 c0_i32_139
  let c1_i32_140 : BitVec 32 := 1#32
  let v204 : BitVec 32 := Scalar.select v203 c1_i32_140 c16_i32_138
  let v205 : BitVec 32 := Scalar.remsi v202 v204
  let c0_i32_142 : BitVec 32 := 0#32
  let v207 : BitVec 1 := Scalar.cmpi .slt v205 c0_i32_142
  let c0_i32_143 : BitVec 32 := 0#32
  let v208 : BitVec 1 := Scalar.cmpi .slt v204 c0_i32_143
  let v209 : BitVec 1 := Scalar.xori v207 v208
  let c0_i32_141 : BitVec 32 := 0#32
  let v206 : BitVec 1 := Scalar.cmpi .ne v205 c0_i32_141
  let v210 : BitVec 1 := Scalar.andi v209 v206
  let v211 : BitVec 32 := Scalar.addi v205 v204
  let v212 : BitVec 32 := Scalar.select v210 v211 v205
  let c15_i32_204 : BitVec 32 := 15#32
  let v271 : BitVec 1 := Scalar.cmpi .eq v212 c15_i32_204
  let c1_i32_205 : BitVec 32 := 1#32
  let c14_i32_202 : BitVec 32 := 14#32
  let v269 : BitVec 1 := Scalar.cmpi .eq v212 c14_i32_202
  let c2_i32_203 : BitVec 32 := 2#32
  let c13_i32_200 : BitVec 32 := 13#32
  let v267 : BitVec 1 := Scalar.cmpi .eq v212 c13_i32_200
  let c3_i32_201 : BitVec 32 := 3#32
  let c12_i32_198 : BitVec 32 := 12#32
  let v265 : BitVec 1 := Scalar.cmpi .eq v212 c12_i32_198
  let c3_i32_199 : BitVec 32 := 3#32
  let c11_i32_196 : BitVec 32 := 11#32
  let v263 : BitVec 1 := Scalar.cmpi .eq v212 c11_i32_196
  let c2_i32_197 : BitVec 32 := 2#32
  let c10_i32_194 : BitVec 32 := 10#32
  let v261 : BitVec 1 := Scalar.cmpi .eq v212 c10_i32_194
  let c1_i32_195 : BitVec 32 := 1#32
  let c9_i32_192 : BitVec 32 := 9#32
  let v259 : BitVec 1 := Scalar.cmpi .eq v212 c9_i32_192
  let c1_i32_193 : BitVec 32 := 1#32
  let c8_i32_190 : BitVec 32 := 8#32
  let v257 : BitVec 1 := Scalar.cmpi .eq v212 c8_i32_190
  let c2_i32_191 : BitVec 32 := 2#32
  let c7_i32_188 : BitVec 32 := 7#32
  let v255 : BitVec 1 := Scalar.cmpi .eq v212 c7_i32_188
  let c3_i32_189 : BitVec 32 := 3#32
  let c6_i32_186 : BitVec 32 := 6#32
  let v253 : BitVec 1 := Scalar.cmpi .eq v212 c6_i32_186
  let c3_i32_187 : BitVec 32 := 3#32
  let c5_i32_184 : BitVec 32 := 5#32
  let v251 : BitVec 1 := Scalar.cmpi .eq v212 c5_i32_184
  let c2_i32_185 : BitVec 32 := 2#32
  let c4_i32_182 : BitVec 32 := 4#32
  let v249 : BitVec 1 := Scalar.cmpi .eq v212 c4_i32_182
  let c1_i32_183 : BitVec 32 := 1#32
  let c3_i32_180 : BitVec 32 := 3#32
  let v247 : BitVec 1 := Scalar.cmpi .eq v212 c3_i32_180
  let c0_i32_181 : BitVec 32 := 0#32
  let c2_i32_178 : BitVec 32 := 2#32
  let v245 : BitVec 1 := Scalar.cmpi .eq v212 c2_i32_178
  let c0_i32_179 : BitVec 32 := 0#32
  let c1_i32_175 : BitVec 32 := 1#32
  let v243 : BitVec 1 := Scalar.cmpi .eq v212 c1_i32_175
  let c0_i32_176 : BitVec 32 := 0#32
  let c0_i32_177 : BitVec 32 := 0#32
  let v244 : BitVec 32 := Scalar.select v243 c0_i32_176 c0_i32_177
  let v246 : BitVec 32 := Scalar.select v245 c0_i32_179 v244
  let v248 : BitVec 32 := Scalar.select v247 c0_i32_181 v246
  let v250 : BitVec 32 := Scalar.select v249 c1_i32_183 v248
  let v252 : BitVec 32 := Scalar.select v251 c2_i32_185 v250
  let v254 : BitVec 32 := Scalar.select v253 c3_i32_187 v252
  let v256 : BitVec 32 := Scalar.select v255 c3_i32_189 v254
  let v258 : BitVec 32 := Scalar.select v257 c2_i32_191 v256
  let v260 : BitVec 32 := Scalar.select v259 c1_i32_193 v258
  let v262 : BitVec 32 := Scalar.select v261 c1_i32_195 v260
  let v264 : BitVec 32 := Scalar.select v263 c2_i32_197 v262
  let v266 : BitVec 32 := Scalar.select v265 c3_i32_199 v264
  let v268 : BitVec 32 := Scalar.select v267 c3_i32_201 v266
  let v270 : BitVec 32 := Scalar.select v269 c2_i32_203 v268
  let v272 : BitVec 32 := Scalar.select v271 c1_i32_205 v270
  let v273 : BitVec 32 := Scalar.muli c8_i32_206 v272
  let c2_i32_207 : BitVec 32 := 2#32
  let c15_i32_173 : BitVec 32 := 15#32
  let v241 : BitVec 1 := Scalar.cmpi .eq v212 c15_i32_173
  let c0_i32_174 : BitVec 32 := 0#32
  let c14_i32_171 : BitVec 32 := 14#32
  let v239 : BitVec 1 := Scalar.cmpi .eq v212 c14_i32_171
  let c0_i32_172 : BitVec 32 := 0#32
  let c13_i32_169 : BitVec 32 := 13#32
  let v237 : BitVec 1 := Scalar.cmpi .eq v212 c13_i32_169
  let c0_i32_170 : BitVec 32 := 0#32
  let c12_i32_167 : BitVec 32 := 12#32
  let v235 : BitVec 1 := Scalar.cmpi .eq v212 c12_i32_167
  let c1_i32_168 : BitVec 32 := 1#32
  let c11_i32_165 : BitVec 32 := 11#32
  let v233 : BitVec 1 := Scalar.cmpi .eq v212 c11_i32_165
  let c1_i32_166 : BitVec 32 := 1#32
  let c10_i32_163 : BitVec 32 := 10#32
  let v231 : BitVec 1 := Scalar.cmpi .eq v212 c10_i32_163
  let c1_i32_164 : BitVec 32 := 1#32
  let c9_i32_161 : BitVec 32 := 9#32
  let v229 : BitVec 1 := Scalar.cmpi .eq v212 c9_i32_161
  let c2_i32_162 : BitVec 32 := 2#32
  let c8_i32_159 : BitVec 32 := 8#32
  let v227 : BitVec 1 := Scalar.cmpi .eq v212 c8_i32_159
  let c2_i32_160 : BitVec 32 := 2#32
  let c7_i32_157 : BitVec 32 := 7#32
  let v225 : BitVec 1 := Scalar.cmpi .eq v212 c7_i32_157
  let c2_i32_158 : BitVec 32 := 2#32
  let c6_i32_155 : BitVec 32 := 6#32
  let v223 : BitVec 1 := Scalar.cmpi .eq v212 c6_i32_155
  let c3_i32_156 : BitVec 32 := 3#32
  let c5_i32_153 : BitVec 32 := 5#32
  let v221 : BitVec 1 := Scalar.cmpi .eq v212 c5_i32_153
  let c3_i32_154 : BitVec 32 := 3#32
  let c4_i32_151 : BitVec 32 := 4#32
  let v219 : BitVec 1 := Scalar.cmpi .eq v212 c4_i32_151
  let c3_i32_152 : BitVec 32 := 3#32
  let c3_i32_149 : BitVec 32 := 3#32
  let v217 : BitVec 1 := Scalar.cmpi .eq v212 c3_i32_149
  let c3_i32_150 : BitVec 32 := 3#32
  let c2_i32_147 : BitVec 32 := 2#32
  let v215 : BitVec 1 := Scalar.cmpi .eq v212 c2_i32_147
  let c2_i32_148 : BitVec 32 := 2#32
  let c1_i32_144 : BitVec 32 := 1#32
  let v213 : BitVec 1 := Scalar.cmpi .eq v212 c1_i32_144
  let c1_i32_145 : BitVec 32 := 1#32
  let c0_i32_146 : BitVec 32 := 0#32
  let v214 : BitVec 32 := Scalar.select v213 c1_i32_145 c0_i32_146
  let v216 : BitVec 32 := Scalar.select v215 c2_i32_148 v214
  let v218 : BitVec 32 := Scalar.select v217 c3_i32_150 v216
  let v220 : BitVec 32 := Scalar.select v219 c3_i32_152 v218
  let v222 : BitVec 32 := Scalar.select v221 c3_i32_154 v220
  let v224 : BitVec 32 := Scalar.select v223 c3_i32_156 v222
  let v226 : BitVec 32 := Scalar.select v225 c2_i32_158 v224
  let v228 : BitVec 32 := Scalar.select v227 c2_i32_160 v226
  let v230 : BitVec 32 := Scalar.select v229 c2_i32_162 v228
  let v232 : BitVec 32 := Scalar.select v231 c1_i32_164 v230
  let v234 : BitVec 32 := Scalar.select v233 c1_i32_166 v232
  let v236 : BitVec 32 := Scalar.select v235 c1_i32_168 v234
  let v238 : BitVec 32 := Scalar.select v237 c0_i32_170 v236
  let v240 : BitVec 32 := Scalar.select v239 c0_i32_172 v238
  let v242 : BitVec 32 := Scalar.select v241 c0_i32_174 v240
  let v274 : BitVec 32 := Scalar.muli c2_i32_207 v242
  let v275 : BitVec 32 := Scalar.addi v273 v274
  let c2_i32_208 : BitVec 32 := 2#32
  let c0_i32_209 : BitVec 32 := 0#32
  let v276 : BitVec 1 := Scalar.cmpi .eq c2_i32_208 c0_i32_209
  let c1_i32_210 : BitVec 32 := 1#32
  let v277 : BitVec 32 := Scalar.select v276 c1_i32_210 c2_i32_208
  let v278 : BitVec 32 := Scalar.remsi v242 v277
  let c0_i32_212 : BitVec 32 := 0#32
  let v280 : BitVec 1 := Scalar.cmpi .slt v278 c0_i32_212
  let c0_i32_213 : BitVec 32 := 0#32
  let v281 : BitVec 1 := Scalar.cmpi .slt v277 c0_i32_213
  let v282 : BitVec 1 := Scalar.xori v280 v281
  let c0_i32_211 : BitVec 32 := 0#32
  let v279 : BitVec 1 := Scalar.cmpi .ne v278 c0_i32_211
  let v283 : BitVec 1 := Scalar.andi v282 v279
  let v284 : BitVec 32 := Scalar.addi v278 v277
  let v285 : BitVec 32 := Scalar.select v283 v284 v278
  let c0_i32_214 : BitVec 32 := 0#32
  let v286 : BitVec 1 := Scalar.cmpi .eq v285 c0_i32_214
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_215 : BitVec 32 := 1#32
  let v287 : BitVec 32 := Scalar.subi c1_i32_215 v79
  let v288 : BitVec 32 := Scalar.select v286 v79 v287
  let v289 : BitVec 32 := Scalar.addi v275 v288
  let c1_i32_1544 : BitVec 32 := 1#32
  let v1744 : BitVec 32 := Scalar.muli v289 c1_i32_1544
  let v1745 : BitVec 32 := Scalar.addi c0_i32_1545 v1744
  v1745.toNat
def k0_dev21 (d0 : Dev nD) : Nat :=
  let c0_i32_1554 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_57 : BitVec 32 := 1#32
  let v112 : BitVec 32 := Scalar.xori v2 c1_i32_57
  let c1_i32_1553 : BitVec 32 := 1#32
  let v1756 : BitVec 32 := Scalar.muli v112 c1_i32_1553
  let v1757 : BitVec 32 := Scalar.addi c0_i32_1554 v1756
  v1757.toNat
def k0_dev22 (d0 : Dev nD) : Nat :=
  let c0_i32_1574 : BitVec 32 := 0#32
  let c8_i32_126 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v80 : BitVec 32 := Scalar.muli c4_i32 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v81 : BitVec 32 := Scalar.addi v80 v46
  let c15_i32_55 : BitVec 32 := 15#32
  let v110 : BitVec 1 := Scalar.cmpi .eq v81 c15_i32_55
  let c6_i32_56 : BitVec 32 := 6#32
  let c14_i32_53 : BitVec 32 := 14#32
  let v108 : BitVec 1 := Scalar.cmpi .eq v81 c14_i32_53
  let c7_i32_54 : BitVec 32 := 7#32
  let c13_i32_51 : BitVec 32 := 13#32
  let v106 : BitVec 1 := Scalar.cmpi .eq v81 c13_i32_51
  let c12_i32_52 : BitVec 32 := 12#32
  let c12_i32 : BitVec 32 := 12#32
  let v104 : BitVec 1 := Scalar.cmpi .eq v81 c12_i32
  let c13_i32 : BitVec 32 := 13#32
  let c11_i32_49 : BitVec 32 := 11#32
  let v102 : BitVec 1 := Scalar.cmpi .eq v81 c11_i32_49
  let c5_i32_50 : BitVec 32 := 5#32
  let c10_i32_47 : BitVec 32 := 10#32
  let v100 : BitVec 1 := Scalar.cmpi .eq v81 c10_i32_47
  let c8_i32_48 : BitVec 32 := 8#32
  let c9_i32_46 : BitVec 32 := 9#32
  let v98 : BitVec 1 := Scalar.cmpi .eq v81 c9_i32_46
  let c11_i32 : BitVec 32 := 11#32
  let c8_i32_45 : BitVec 32 := 8#32
  let v96 : BitVec 1 := Scalar.cmpi .eq v81 c8_i32_45
  let c14_i32 : BitVec 32 := 14#32
  let c7_i32 : BitVec 32 := 7#32
  let v94 : BitVec 1 := Scalar.cmpi .eq v81 c7_i32
  let c4_i32_44 : BitVec 32 := 4#32
  let c6_i32 : BitVec 32 := 6#32
  let v92 : BitVec 1 := Scalar.cmpi .eq v81 c6_i32
  let c9_i32 : BitVec 32 := 9#32
  let c5_i32 : BitVec 32 := 5#32
  let v90 : BitVec 1 := Scalar.cmpi .eq v81 c5_i32
  let c10_i32 : BitVec 32 := 10#32
  let c4_i32_43 : BitVec 32 := 4#32
  let v88 : BitVec 1 := Scalar.cmpi .eq v81 c4_i32_43
  let c15_i32 : BitVec 32 := 15#32
  let c3_i32 : BitVec 32 := 3#32
  let v86 : BitVec 1 := Scalar.cmpi .eq v81 c3_i32
  let c3_i32_42 : BitVec 32 := 3#32
  let c2_i32_40 : BitVec 32 := 2#32
  let v84 : BitVec 1 := Scalar.cmpi .eq v81 c2_i32_40
  let c2_i32_41 : BitVec 32 := 2#32
  let c1_i32_37 : BitVec 32 := 1#32
  let v82 : BitVec 1 := Scalar.cmpi .eq v81 c1_i32_37
  let c1_i32_38 : BitVec 32 := 1#32
  let c0_i32_39 : BitVec 32 := 0#32
  let v83 : BitVec 32 := Scalar.select v82 c1_i32_38 c0_i32_39
  let v85 : BitVec 32 := Scalar.select v84 c2_i32_41 v83
  let v87 : BitVec 32 := Scalar.select v86 c3_i32_42 v85
  let v89 : BitVec 32 := Scalar.select v88 c15_i32 v87
  let v91 : BitVec 32 := Scalar.select v90 c10_i32 v89
  let v93 : BitVec 32 := Scalar.select v92 c9_i32 v91
  let v95 : BitVec 32 := Scalar.select v94 c4_i32_44 v93
  let v97 : BitVec 32 := Scalar.select v96 c14_i32 v95
  let v99 : BitVec 32 := Scalar.select v98 c11_i32 v97
  let v101 : BitVec 32 := Scalar.select v100 c8_i32_48 v99
  let v103 : BitVec 32 := Scalar.select v102 c5_i32_50 v101
  let v105 : BitVec 32 := Scalar.select v104 c13_i32 v103
  let v107 : BitVec 32 := Scalar.select v106 c12_i32_52 v105
  let v109 : BitVec 32 := Scalar.select v108 c7_i32_54 v107
  let v111 : BitVec 32 := Scalar.select v110 c6_i32_56 v109
  let c1_i32_58 : BitVec 32 := 1#32
  let v113 : BitVec 32 := Scalar.addi v111 c1_i32_58
  let c16_i32 : BitVec 32 := 16#32
  let c0_i32_59 : BitVec 32 := 0#32
  let v114 : BitVec 1 := Scalar.cmpi .eq c16_i32 c0_i32_59
  let c1_i32_60 : BitVec 32 := 1#32
  let v115 : BitVec 32 := Scalar.select v114 c1_i32_60 c16_i32
  let v116 : BitVec 32 := Scalar.remsi v113 v115
  let c0_i32_62 : BitVec 32 := 0#32
  let v118 : BitVec 1 := Scalar.cmpi .slt v116 c0_i32_62
  let c0_i32_63 : BitVec 32 := 0#32
  let v119 : BitVec 1 := Scalar.cmpi .slt v115 c0_i32_63
  let v120 : BitVec 1 := Scalar.xori v118 v119
  let c0_i32_61 : BitVec 32 := 0#32
  let v117 : BitVec 1 := Scalar.cmpi .ne v116 c0_i32_61
  let v121 : BitVec 1 := Scalar.andi v120 v117
  let v122 : BitVec 32 := Scalar.addi v116 v115
  let v123 : BitVec 32 := Scalar.select v121 v122 v116
  let c15_i32_124 : BitVec 32 := 15#32
  let v182 : BitVec 1 := Scalar.cmpi .eq v123 c15_i32_124
  let c1_i32_125 : BitVec 32 := 1#32
  let c14_i32_122 : BitVec 32 := 14#32
  let v180 : BitVec 1 := Scalar.cmpi .eq v123 c14_i32_122
  let c2_i32_123 : BitVec 32 := 2#32
  let c13_i32_120 : BitVec 32 := 13#32
  let v178 : BitVec 1 := Scalar.cmpi .eq v123 c13_i32_120
  let c3_i32_121 : BitVec 32 := 3#32
  let c12_i32_118 : BitVec 32 := 12#32
  let v176 : BitVec 1 := Scalar.cmpi .eq v123 c12_i32_118
  let c3_i32_119 : BitVec 32 := 3#32
  let c11_i32_116 : BitVec 32 := 11#32
  let v174 : BitVec 1 := Scalar.cmpi .eq v123 c11_i32_116
  let c2_i32_117 : BitVec 32 := 2#32
  let c10_i32_114 : BitVec 32 := 10#32
  let v172 : BitVec 1 := Scalar.cmpi .eq v123 c10_i32_114
  let c1_i32_115 : BitVec 32 := 1#32
  let c9_i32_112 : BitVec 32 := 9#32
  let v170 : BitVec 1 := Scalar.cmpi .eq v123 c9_i32_112
  let c1_i32_113 : BitVec 32 := 1#32
  let c8_i32_110 : BitVec 32 := 8#32
  let v168 : BitVec 1 := Scalar.cmpi .eq v123 c8_i32_110
  let c2_i32_111 : BitVec 32 := 2#32
  let c7_i32_108 : BitVec 32 := 7#32
  let v166 : BitVec 1 := Scalar.cmpi .eq v123 c7_i32_108
  let c3_i32_109 : BitVec 32 := 3#32
  let c6_i32_106 : BitVec 32 := 6#32
  let v164 : BitVec 1 := Scalar.cmpi .eq v123 c6_i32_106
  let c3_i32_107 : BitVec 32 := 3#32
  let c5_i32_104 : BitVec 32 := 5#32
  let v162 : BitVec 1 := Scalar.cmpi .eq v123 c5_i32_104
  let c2_i32_105 : BitVec 32 := 2#32
  let c4_i32_102 : BitVec 32 := 4#32
  let v160 : BitVec 1 := Scalar.cmpi .eq v123 c4_i32_102
  let c1_i32_103 : BitVec 32 := 1#32
  let c3_i32_100 : BitVec 32 := 3#32
  let v158 : BitVec 1 := Scalar.cmpi .eq v123 c3_i32_100
  let c0_i32_101 : BitVec 32 := 0#32
  let c2_i32_98 : BitVec 32 := 2#32
  let v156 : BitVec 1 := Scalar.cmpi .eq v123 c2_i32_98
  let c0_i32_99 : BitVec 32 := 0#32
  let c1_i32_95 : BitVec 32 := 1#32
  let v154 : BitVec 1 := Scalar.cmpi .eq v123 c1_i32_95
  let c0_i32_96 : BitVec 32 := 0#32
  let c0_i32_97 : BitVec 32 := 0#32
  let v155 : BitVec 32 := Scalar.select v154 c0_i32_96 c0_i32_97
  let v157 : BitVec 32 := Scalar.select v156 c0_i32_99 v155
  let v159 : BitVec 32 := Scalar.select v158 c0_i32_101 v157
  let v161 : BitVec 32 := Scalar.select v160 c1_i32_103 v159
  let v163 : BitVec 32 := Scalar.select v162 c2_i32_105 v161
  let v165 : BitVec 32 := Scalar.select v164 c3_i32_107 v163
  let v167 : BitVec 32 := Scalar.select v166 c3_i32_109 v165
  let v169 : BitVec 32 := Scalar.select v168 c2_i32_111 v167
  let v171 : BitVec 32 := Scalar.select v170 c1_i32_113 v169
  let v173 : BitVec 32 := Scalar.select v172 c1_i32_115 v171
  let v175 : BitVec 32 := Scalar.select v174 c2_i32_117 v173
  let v177 : BitVec 32 := Scalar.select v176 c3_i32_119 v175
  let v179 : BitVec 32 := Scalar.select v178 c3_i32_121 v177
  let v181 : BitVec 32 := Scalar.select v180 c2_i32_123 v179
  let v183 : BitVec 32 := Scalar.select v182 c1_i32_125 v181
  let v184 : BitVec 32 := Scalar.muli c8_i32_126 v183
  let c2_i32_127 : BitVec 32 := 2#32
  let c15_i32_93 : BitVec 32 := 15#32
  let v152 : BitVec 1 := Scalar.cmpi .eq v123 c15_i32_93
  let c0_i32_94 : BitVec 32 := 0#32
  let c14_i32_91 : BitVec 32 := 14#32
  let v150 : BitVec 1 := Scalar.cmpi .eq v123 c14_i32_91
  let c0_i32_92 : BitVec 32 := 0#32
  let c13_i32_89 : BitVec 32 := 13#32
  let v148 : BitVec 1 := Scalar.cmpi .eq v123 c13_i32_89
  let c0_i32_90 : BitVec 32 := 0#32
  let c12_i32_87 : BitVec 32 := 12#32
  let v146 : BitVec 1 := Scalar.cmpi .eq v123 c12_i32_87
  let c1_i32_88 : BitVec 32 := 1#32
  let c11_i32_85 : BitVec 32 := 11#32
  let v144 : BitVec 1 := Scalar.cmpi .eq v123 c11_i32_85
  let c1_i32_86 : BitVec 32 := 1#32
  let c10_i32_83 : BitVec 32 := 10#32
  let v142 : BitVec 1 := Scalar.cmpi .eq v123 c10_i32_83
  let c1_i32_84 : BitVec 32 := 1#32
  let c9_i32_81 : BitVec 32 := 9#32
  let v140 : BitVec 1 := Scalar.cmpi .eq v123 c9_i32_81
  let c2_i32_82 : BitVec 32 := 2#32
  let c8_i32_79 : BitVec 32 := 8#32
  let v138 : BitVec 1 := Scalar.cmpi .eq v123 c8_i32_79
  let c2_i32_80 : BitVec 32 := 2#32
  let c7_i32_77 : BitVec 32 := 7#32
  let v136 : BitVec 1 := Scalar.cmpi .eq v123 c7_i32_77
  let c2_i32_78 : BitVec 32 := 2#32
  let c6_i32_75 : BitVec 32 := 6#32
  let v134 : BitVec 1 := Scalar.cmpi .eq v123 c6_i32_75
  let c3_i32_76 : BitVec 32 := 3#32
  let c5_i32_73 : BitVec 32 := 5#32
  let v132 : BitVec 1 := Scalar.cmpi .eq v123 c5_i32_73
  let c3_i32_74 : BitVec 32 := 3#32
  let c4_i32_71 : BitVec 32 := 4#32
  let v130 : BitVec 1 := Scalar.cmpi .eq v123 c4_i32_71
  let c3_i32_72 : BitVec 32 := 3#32
  let c3_i32_69 : BitVec 32 := 3#32
  let v128 : BitVec 1 := Scalar.cmpi .eq v123 c3_i32_69
  let c3_i32_70 : BitVec 32 := 3#32
  let c2_i32_67 : BitVec 32 := 2#32
  let v126 : BitVec 1 := Scalar.cmpi .eq v123 c2_i32_67
  let c2_i32_68 : BitVec 32 := 2#32
  let c1_i32_64 : BitVec 32 := 1#32
  let v124 : BitVec 1 := Scalar.cmpi .eq v123 c1_i32_64
  let c1_i32_65 : BitVec 32 := 1#32
  let c0_i32_66 : BitVec 32 := 0#32
  let v125 : BitVec 32 := Scalar.select v124 c1_i32_65 c0_i32_66
  let v127 : BitVec 32 := Scalar.select v126 c2_i32_68 v125
  let v129 : BitVec 32 := Scalar.select v128 c3_i32_70 v127
  let v131 : BitVec 32 := Scalar.select v130 c3_i32_72 v129
  let v133 : BitVec 32 := Scalar.select v132 c3_i32_74 v131
  let v135 : BitVec 32 := Scalar.select v134 c3_i32_76 v133
  let v137 : BitVec 32 := Scalar.select v136 c2_i32_78 v135
  let v139 : BitVec 32 := Scalar.select v138 c2_i32_80 v137
  let v141 : BitVec 32 := Scalar.select v140 c2_i32_82 v139
  let v143 : BitVec 32 := Scalar.select v142 c1_i32_84 v141
  let v145 : BitVec 32 := Scalar.select v144 c1_i32_86 v143
  let v147 : BitVec 32 := Scalar.select v146 c1_i32_88 v145
  let v149 : BitVec 32 := Scalar.select v148 c0_i32_90 v147
  let v151 : BitVec 32 := Scalar.select v150 c0_i32_92 v149
  let v153 : BitVec 32 := Scalar.select v152 c0_i32_94 v151
  let v185 : BitVec 32 := Scalar.muli c2_i32_127 v153
  let v186 : BitVec 32 := Scalar.addi v184 v185
  let c2_i32_128 : BitVec 32 := 2#32
  let c0_i32_129 : BitVec 32 := 0#32
  let v187 : BitVec 1 := Scalar.cmpi .eq c2_i32_128 c0_i32_129
  let c1_i32_130 : BitVec 32 := 1#32
  let v188 : BitVec 32 := Scalar.select v187 c1_i32_130 c2_i32_128
  let v189 : BitVec 32 := Scalar.remsi v153 v188
  let c0_i32_132 : BitVec 32 := 0#32
  let v191 : BitVec 1 := Scalar.cmpi .slt v189 c0_i32_132
  let c0_i32_133 : BitVec 32 := 0#32
  let v192 : BitVec 1 := Scalar.cmpi .slt v188 c0_i32_133
  let v193 : BitVec 1 := Scalar.xori v191 v192
  let c0_i32_131 : BitVec 32 := 0#32
  let v190 : BitVec 1 := Scalar.cmpi .ne v189 c0_i32_131
  let v194 : BitVec 1 := Scalar.andi v193 v190
  let v195 : BitVec 32 := Scalar.addi v189 v188
  let v196 : BitVec 32 := Scalar.select v194 v195 v189
  let c0_i32_134 : BitVec 32 := 0#32
  let v197 : BitVec 1 := Scalar.cmpi .eq v196 c0_i32_134
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_135 : BitVec 32 := 1#32
  let v198 : BitVec 32 := Scalar.subi c1_i32_135 v79
  let v199 : BitVec 32 := Scalar.select v197 v79 v198
  let v200 : BitVec 32 := Scalar.addi v186 v199
  let c1_i32_1573 : BitVec 32 := 1#32
  let v1778 : BitVec 32 := Scalar.muli v200 c1_i32_1573
  let v1779 : BitVec 32 := Scalar.addi c0_i32_1574 v1778
  v1779.toNat
def k0_dev23 (d0 : Dev nD) : Nat :=
  let c0_i32_1583 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_57 : BitVec 32 := 1#32
  let v112 : BitVec 32 := Scalar.xori v2 c1_i32_57
  let c1_i32_1582 : BitVec 32 := 1#32
  let v1790 : BitVec 32 := Scalar.muli v112 c1_i32_1582
  let v1791 : BitVec 32 := Scalar.addi c0_i32_1583 v1790
  v1791.toNat
def k0_dev24 (d0 : Dev nD) : Nat :=
  let c0_i32_1603 : BitVec 32 := 0#32
  let c8_i32_206 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v80 : BitVec 32 := Scalar.muli c4_i32 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v81 : BitVec 32 := Scalar.addi v80 v46
  let c15_i32_55 : BitVec 32 := 15#32
  let v110 : BitVec 1 := Scalar.cmpi .eq v81 c15_i32_55
  let c6_i32_56 : BitVec 32 := 6#32
  let c14_i32_53 : BitVec 32 := 14#32
  let v108 : BitVec 1 := Scalar.cmpi .eq v81 c14_i32_53
  let c7_i32_54 : BitVec 32 := 7#32
  let c13_i32_51 : BitVec 32 := 13#32
  let v106 : BitVec 1 := Scalar.cmpi .eq v81 c13_i32_51
  let c12_i32_52 : BitVec 32 := 12#32
  let c12_i32 : BitVec 32 := 12#32
  let v104 : BitVec 1 := Scalar.cmpi .eq v81 c12_i32
  let c13_i32 : BitVec 32 := 13#32
  let c11_i32_49 : BitVec 32 := 11#32
  let v102 : BitVec 1 := Scalar.cmpi .eq v81 c11_i32_49
  let c5_i32_50 : BitVec 32 := 5#32
  let c10_i32_47 : BitVec 32 := 10#32
  let v100 : BitVec 1 := Scalar.cmpi .eq v81 c10_i32_47
  let c8_i32_48 : BitVec 32 := 8#32
  let c9_i32_46 : BitVec 32 := 9#32
  let v98 : BitVec 1 := Scalar.cmpi .eq v81 c9_i32_46
  let c11_i32 : BitVec 32 := 11#32
  let c8_i32_45 : BitVec 32 := 8#32
  let v96 : BitVec 1 := Scalar.cmpi .eq v81 c8_i32_45
  let c14_i32 : BitVec 32 := 14#32
  let c7_i32 : BitVec 32 := 7#32
  let v94 : BitVec 1 := Scalar.cmpi .eq v81 c7_i32
  let c4_i32_44 : BitVec 32 := 4#32
  let c6_i32 : BitVec 32 := 6#32
  let v92 : BitVec 1 := Scalar.cmpi .eq v81 c6_i32
  let c9_i32 : BitVec 32 := 9#32
  let c5_i32 : BitVec 32 := 5#32
  let v90 : BitVec 1 := Scalar.cmpi .eq v81 c5_i32
  let c10_i32 : BitVec 32 := 10#32
  let c4_i32_43 : BitVec 32 := 4#32
  let v88 : BitVec 1 := Scalar.cmpi .eq v81 c4_i32_43
  let c15_i32 : BitVec 32 := 15#32
  let c3_i32 : BitVec 32 := 3#32
  let v86 : BitVec 1 := Scalar.cmpi .eq v81 c3_i32
  let c3_i32_42 : BitVec 32 := 3#32
  let c2_i32_40 : BitVec 32 := 2#32
  let v84 : BitVec 1 := Scalar.cmpi .eq v81 c2_i32_40
  let c2_i32_41 : BitVec 32 := 2#32
  let c1_i32_37 : BitVec 32 := 1#32
  let v82 : BitVec 1 := Scalar.cmpi .eq v81 c1_i32_37
  let c1_i32_38 : BitVec 32 := 1#32
  let c0_i32_39 : BitVec 32 := 0#32
  let v83 : BitVec 32 := Scalar.select v82 c1_i32_38 c0_i32_39
  let v85 : BitVec 32 := Scalar.select v84 c2_i32_41 v83
  let v87 : BitVec 32 := Scalar.select v86 c3_i32_42 v85
  let v89 : BitVec 32 := Scalar.select v88 c15_i32 v87
  let v91 : BitVec 32 := Scalar.select v90 c10_i32 v89
  let v93 : BitVec 32 := Scalar.select v92 c9_i32 v91
  let v95 : BitVec 32 := Scalar.select v94 c4_i32_44 v93
  let v97 : BitVec 32 := Scalar.select v96 c14_i32 v95
  let v99 : BitVec 32 := Scalar.select v98 c11_i32 v97
  let v101 : BitVec 32 := Scalar.select v100 c8_i32_48 v99
  let v103 : BitVec 32 := Scalar.select v102 c5_i32_50 v101
  let v105 : BitVec 32 := Scalar.select v104 c13_i32 v103
  let v107 : BitVec 32 := Scalar.select v106 c12_i32_52 v105
  let v109 : BitVec 32 := Scalar.select v108 c7_i32_54 v107
  let v111 : BitVec 32 := Scalar.select v110 c6_i32_56 v109
  let c16_i32_136 : BitVec 32 := 16#32
  let v201 : BitVec 32 := Scalar.addi v111 c16_i32_136
  let c1_i32_137 : BitVec 32 := 1#32
  let v202 : BitVec 32 := Scalar.subi v201 c1_i32_137
  let c16_i32_138 : BitVec 32 := 16#32
  let c0_i32_139 : BitVec 32 := 0#32
  let v203 : BitVec 1 := Scalar.cmpi .eq c16_i32_138 c0_i32_139
  let c1_i32_140 : BitVec 32 := 1#32
  let v204 : BitVec 32 := Scalar.select v203 c1_i32_140 c16_i32_138
  let v205 : BitVec 32 := Scalar.remsi v202 v204
  let c0_i32_142 : BitVec 32 := 0#32
  let v207 : BitVec 1 := Scalar.cmpi .slt v205 c0_i32_142
  let c0_i32_143 : BitVec 32 := 0#32
  let v208 : BitVec 1 := Scalar.cmpi .slt v204 c0_i32_143
  let v209 : BitVec 1 := Scalar.xori v207 v208
  let c0_i32_141 : BitVec 32 := 0#32
  let v206 : BitVec 1 := Scalar.cmpi .ne v205 c0_i32_141
  let v210 : BitVec 1 := Scalar.andi v209 v206
  let v211 : BitVec 32 := Scalar.addi v205 v204
  let v212 : BitVec 32 := Scalar.select v210 v211 v205
  let c15_i32_204 : BitVec 32 := 15#32
  let v271 : BitVec 1 := Scalar.cmpi .eq v212 c15_i32_204
  let c1_i32_205 : BitVec 32 := 1#32
  let c14_i32_202 : BitVec 32 := 14#32
  let v269 : BitVec 1 := Scalar.cmpi .eq v212 c14_i32_202
  let c2_i32_203 : BitVec 32 := 2#32
  let c13_i32_200 : BitVec 32 := 13#32
  let v267 : BitVec 1 := Scalar.cmpi .eq v212 c13_i32_200
  let c3_i32_201 : BitVec 32 := 3#32
  let c12_i32_198 : BitVec 32 := 12#32
  let v265 : BitVec 1 := Scalar.cmpi .eq v212 c12_i32_198
  let c3_i32_199 : BitVec 32 := 3#32
  let c11_i32_196 : BitVec 32 := 11#32
  let v263 : BitVec 1 := Scalar.cmpi .eq v212 c11_i32_196
  let c2_i32_197 : BitVec 32 := 2#32
  let c10_i32_194 : BitVec 32 := 10#32
  let v261 : BitVec 1 := Scalar.cmpi .eq v212 c10_i32_194
  let c1_i32_195 : BitVec 32 := 1#32
  let c9_i32_192 : BitVec 32 := 9#32
  let v259 : BitVec 1 := Scalar.cmpi .eq v212 c9_i32_192
  let c1_i32_193 : BitVec 32 := 1#32
  let c8_i32_190 : BitVec 32 := 8#32
  let v257 : BitVec 1 := Scalar.cmpi .eq v212 c8_i32_190
  let c2_i32_191 : BitVec 32 := 2#32
  let c7_i32_188 : BitVec 32 := 7#32
  let v255 : BitVec 1 := Scalar.cmpi .eq v212 c7_i32_188
  let c3_i32_189 : BitVec 32 := 3#32
  let c6_i32_186 : BitVec 32 := 6#32
  let v253 : BitVec 1 := Scalar.cmpi .eq v212 c6_i32_186
  let c3_i32_187 : BitVec 32 := 3#32
  let c5_i32_184 : BitVec 32 := 5#32
  let v251 : BitVec 1 := Scalar.cmpi .eq v212 c5_i32_184
  let c2_i32_185 : BitVec 32 := 2#32
  let c4_i32_182 : BitVec 32 := 4#32
  let v249 : BitVec 1 := Scalar.cmpi .eq v212 c4_i32_182
  let c1_i32_183 : BitVec 32 := 1#32
  let c3_i32_180 : BitVec 32 := 3#32
  let v247 : BitVec 1 := Scalar.cmpi .eq v212 c3_i32_180
  let c0_i32_181 : BitVec 32 := 0#32
  let c2_i32_178 : BitVec 32 := 2#32
  let v245 : BitVec 1 := Scalar.cmpi .eq v212 c2_i32_178
  let c0_i32_179 : BitVec 32 := 0#32
  let c1_i32_175 : BitVec 32 := 1#32
  let v243 : BitVec 1 := Scalar.cmpi .eq v212 c1_i32_175
  let c0_i32_176 : BitVec 32 := 0#32
  let c0_i32_177 : BitVec 32 := 0#32
  let v244 : BitVec 32 := Scalar.select v243 c0_i32_176 c0_i32_177
  let v246 : BitVec 32 := Scalar.select v245 c0_i32_179 v244
  let v248 : BitVec 32 := Scalar.select v247 c0_i32_181 v246
  let v250 : BitVec 32 := Scalar.select v249 c1_i32_183 v248
  let v252 : BitVec 32 := Scalar.select v251 c2_i32_185 v250
  let v254 : BitVec 32 := Scalar.select v253 c3_i32_187 v252
  let v256 : BitVec 32 := Scalar.select v255 c3_i32_189 v254
  let v258 : BitVec 32 := Scalar.select v257 c2_i32_191 v256
  let v260 : BitVec 32 := Scalar.select v259 c1_i32_193 v258
  let v262 : BitVec 32 := Scalar.select v261 c1_i32_195 v260
  let v264 : BitVec 32 := Scalar.select v263 c2_i32_197 v262
  let v266 : BitVec 32 := Scalar.select v265 c3_i32_199 v264
  let v268 : BitVec 32 := Scalar.select v267 c3_i32_201 v266
  let v270 : BitVec 32 := Scalar.select v269 c2_i32_203 v268
  let v272 : BitVec 32 := Scalar.select v271 c1_i32_205 v270
  let v273 : BitVec 32 := Scalar.muli c8_i32_206 v272
  let c2_i32_207 : BitVec 32 := 2#32
  let c15_i32_173 : BitVec 32 := 15#32
  let v241 : BitVec 1 := Scalar.cmpi .eq v212 c15_i32_173
  let c0_i32_174 : BitVec 32 := 0#32
  let c14_i32_171 : BitVec 32 := 14#32
  let v239 : BitVec 1 := Scalar.cmpi .eq v212 c14_i32_171
  let c0_i32_172 : BitVec 32 := 0#32
  let c13_i32_169 : BitVec 32 := 13#32
  let v237 : BitVec 1 := Scalar.cmpi .eq v212 c13_i32_169
  let c0_i32_170 : BitVec 32 := 0#32
  let c12_i32_167 : BitVec 32 := 12#32
  let v235 : BitVec 1 := Scalar.cmpi .eq v212 c12_i32_167
  let c1_i32_168 : BitVec 32 := 1#32
  let c11_i32_165 : BitVec 32 := 11#32
  let v233 : BitVec 1 := Scalar.cmpi .eq v212 c11_i32_165
  let c1_i32_166 : BitVec 32 := 1#32
  let c10_i32_163 : BitVec 32 := 10#32
  let v231 : BitVec 1 := Scalar.cmpi .eq v212 c10_i32_163
  let c1_i32_164 : BitVec 32 := 1#32
  let c9_i32_161 : BitVec 32 := 9#32
  let v229 : BitVec 1 := Scalar.cmpi .eq v212 c9_i32_161
  let c2_i32_162 : BitVec 32 := 2#32
  let c8_i32_159 : BitVec 32 := 8#32
  let v227 : BitVec 1 := Scalar.cmpi .eq v212 c8_i32_159
  let c2_i32_160 : BitVec 32 := 2#32
  let c7_i32_157 : BitVec 32 := 7#32
  let v225 : BitVec 1 := Scalar.cmpi .eq v212 c7_i32_157
  let c2_i32_158 : BitVec 32 := 2#32
  let c6_i32_155 : BitVec 32 := 6#32
  let v223 : BitVec 1 := Scalar.cmpi .eq v212 c6_i32_155
  let c3_i32_156 : BitVec 32 := 3#32
  let c5_i32_153 : BitVec 32 := 5#32
  let v221 : BitVec 1 := Scalar.cmpi .eq v212 c5_i32_153
  let c3_i32_154 : BitVec 32 := 3#32
  let c4_i32_151 : BitVec 32 := 4#32
  let v219 : BitVec 1 := Scalar.cmpi .eq v212 c4_i32_151
  let c3_i32_152 : BitVec 32 := 3#32
  let c3_i32_149 : BitVec 32 := 3#32
  let v217 : BitVec 1 := Scalar.cmpi .eq v212 c3_i32_149
  let c3_i32_150 : BitVec 32 := 3#32
  let c2_i32_147 : BitVec 32 := 2#32
  let v215 : BitVec 1 := Scalar.cmpi .eq v212 c2_i32_147
  let c2_i32_148 : BitVec 32 := 2#32
  let c1_i32_144 : BitVec 32 := 1#32
  let v213 : BitVec 1 := Scalar.cmpi .eq v212 c1_i32_144
  let c1_i32_145 : BitVec 32 := 1#32
  let c0_i32_146 : BitVec 32 := 0#32
  let v214 : BitVec 32 := Scalar.select v213 c1_i32_145 c0_i32_146
  let v216 : BitVec 32 := Scalar.select v215 c2_i32_148 v214
  let v218 : BitVec 32 := Scalar.select v217 c3_i32_150 v216
  let v220 : BitVec 32 := Scalar.select v219 c3_i32_152 v218
  let v222 : BitVec 32 := Scalar.select v221 c3_i32_154 v220
  let v224 : BitVec 32 := Scalar.select v223 c3_i32_156 v222
  let v226 : BitVec 32 := Scalar.select v225 c2_i32_158 v224
  let v228 : BitVec 32 := Scalar.select v227 c2_i32_160 v226
  let v230 : BitVec 32 := Scalar.select v229 c2_i32_162 v228
  let v232 : BitVec 32 := Scalar.select v231 c1_i32_164 v230
  let v234 : BitVec 32 := Scalar.select v233 c1_i32_166 v232
  let v236 : BitVec 32 := Scalar.select v235 c1_i32_168 v234
  let v238 : BitVec 32 := Scalar.select v237 c0_i32_170 v236
  let v240 : BitVec 32 := Scalar.select v239 c0_i32_172 v238
  let v242 : BitVec 32 := Scalar.select v241 c0_i32_174 v240
  let v274 : BitVec 32 := Scalar.muli c2_i32_207 v242
  let v275 : BitVec 32 := Scalar.addi v273 v274
  let c2_i32_208 : BitVec 32 := 2#32
  let c0_i32_209 : BitVec 32 := 0#32
  let v276 : BitVec 1 := Scalar.cmpi .eq c2_i32_208 c0_i32_209
  let c1_i32_210 : BitVec 32 := 1#32
  let v277 : BitVec 32 := Scalar.select v276 c1_i32_210 c2_i32_208
  let v278 : BitVec 32 := Scalar.remsi v242 v277
  let c0_i32_212 : BitVec 32 := 0#32
  let v280 : BitVec 1 := Scalar.cmpi .slt v278 c0_i32_212
  let c0_i32_213 : BitVec 32 := 0#32
  let v281 : BitVec 1 := Scalar.cmpi .slt v277 c0_i32_213
  let v282 : BitVec 1 := Scalar.xori v280 v281
  let c0_i32_211 : BitVec 32 := 0#32
  let v279 : BitVec 1 := Scalar.cmpi .ne v278 c0_i32_211
  let v283 : BitVec 1 := Scalar.andi v282 v279
  let v284 : BitVec 32 := Scalar.addi v278 v277
  let v285 : BitVec 32 := Scalar.select v283 v284 v278
  let c0_i32_214 : BitVec 32 := 0#32
  let v286 : BitVec 1 := Scalar.cmpi .eq v285 c0_i32_214
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_215 : BitVec 32 := 1#32
  let v287 : BitVec 32 := Scalar.subi c1_i32_215 v79
  let v288 : BitVec 32 := Scalar.select v286 v79 v287
  let v289 : BitVec 32 := Scalar.addi v275 v288
  let c1_i32_1602 : BitVec 32 := 1#32
  let v1812 : BitVec 32 := Scalar.muli v289 c1_i32_1602
  let v1813 : BitVec 32 := Scalar.addi c0_i32_1603 v1812
  v1813.toNat
def k0_dev25 (d0 : Dev nD) : Nat :=
  let c0_i32_1612 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_57 : BitVec 32 := 1#32
  let v112 : BitVec 32 := Scalar.xori v2 c1_i32_57
  let c1_i32_1611 : BitVec 32 := 1#32
  let v1824 : BitVec 32 := Scalar.muli v112 c1_i32_1611
  let v1825 : BitVec 32 := Scalar.addi c0_i32_1612 v1824
  v1825.toNat
def k0_dev26 (d0 : Dev nD) : Nat :=
  let c0_i32_1632 : BitVec 32 := 0#32
  let c8_i32_126 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v80 : BitVec 32 := Scalar.muli c4_i32 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v81 : BitVec 32 := Scalar.addi v80 v46
  let c15_i32_55 : BitVec 32 := 15#32
  let v110 : BitVec 1 := Scalar.cmpi .eq v81 c15_i32_55
  let c6_i32_56 : BitVec 32 := 6#32
  let c14_i32_53 : BitVec 32 := 14#32
  let v108 : BitVec 1 := Scalar.cmpi .eq v81 c14_i32_53
  let c7_i32_54 : BitVec 32 := 7#32
  let c13_i32_51 : BitVec 32 := 13#32
  let v106 : BitVec 1 := Scalar.cmpi .eq v81 c13_i32_51
  let c12_i32_52 : BitVec 32 := 12#32
  let c12_i32 : BitVec 32 := 12#32
  let v104 : BitVec 1 := Scalar.cmpi .eq v81 c12_i32
  let c13_i32 : BitVec 32 := 13#32
  let c11_i32_49 : BitVec 32 := 11#32
  let v102 : BitVec 1 := Scalar.cmpi .eq v81 c11_i32_49
  let c5_i32_50 : BitVec 32 := 5#32
  let c10_i32_47 : BitVec 32 := 10#32
  let v100 : BitVec 1 := Scalar.cmpi .eq v81 c10_i32_47
  let c8_i32_48 : BitVec 32 := 8#32
  let c9_i32_46 : BitVec 32 := 9#32
  let v98 : BitVec 1 := Scalar.cmpi .eq v81 c9_i32_46
  let c11_i32 : BitVec 32 := 11#32
  let c8_i32_45 : BitVec 32 := 8#32
  let v96 : BitVec 1 := Scalar.cmpi .eq v81 c8_i32_45
  let c14_i32 : BitVec 32 := 14#32
  let c7_i32 : BitVec 32 := 7#32
  let v94 : BitVec 1 := Scalar.cmpi .eq v81 c7_i32
  let c4_i32_44 : BitVec 32 := 4#32
  let c6_i32 : BitVec 32 := 6#32
  let v92 : BitVec 1 := Scalar.cmpi .eq v81 c6_i32
  let c9_i32 : BitVec 32 := 9#32
  let c5_i32 : BitVec 32 := 5#32
  let v90 : BitVec 1 := Scalar.cmpi .eq v81 c5_i32
  let c10_i32 : BitVec 32 := 10#32
  let c4_i32_43 : BitVec 32 := 4#32
  let v88 : BitVec 1 := Scalar.cmpi .eq v81 c4_i32_43
  let c15_i32 : BitVec 32 := 15#32
  let c3_i32 : BitVec 32 := 3#32
  let v86 : BitVec 1 := Scalar.cmpi .eq v81 c3_i32
  let c3_i32_42 : BitVec 32 := 3#32
  let c2_i32_40 : BitVec 32 := 2#32
  let v84 : BitVec 1 := Scalar.cmpi .eq v81 c2_i32_40
  let c2_i32_41 : BitVec 32 := 2#32
  let c1_i32_37 : BitVec 32 := 1#32
  let v82 : BitVec 1 := Scalar.cmpi .eq v81 c1_i32_37
  let c1_i32_38 : BitVec 32 := 1#32
  let c0_i32_39 : BitVec 32 := 0#32
  let v83 : BitVec 32 := Scalar.select v82 c1_i32_38 c0_i32_39
  let v85 : BitVec 32 := Scalar.select v84 c2_i32_41 v83
  let v87 : BitVec 32 := Scalar.select v86 c3_i32_42 v85
  let v89 : BitVec 32 := Scalar.select v88 c15_i32 v87
  let v91 : BitVec 32 := Scalar.select v90 c10_i32 v89
  let v93 : BitVec 32 := Scalar.select v92 c9_i32 v91
  let v95 : BitVec 32 := Scalar.select v94 c4_i32_44 v93
  let v97 : BitVec 32 := Scalar.select v96 c14_i32 v95
  let v99 : BitVec 32 := Scalar.select v98 c11_i32 v97
  let v101 : BitVec 32 := Scalar.select v100 c8_i32_48 v99
  let v103 : BitVec 32 := Scalar.select v102 c5_i32_50 v101
  let v105 : BitVec 32 := Scalar.select v104 c13_i32 v103
  let v107 : BitVec 32 := Scalar.select v106 c12_i32_52 v105
  let v109 : BitVec 32 := Scalar.select v108 c7_i32_54 v107
  let v111 : BitVec 32 := Scalar.select v110 c6_i32_56 v109
  let c1_i32_58 : BitVec 32 := 1#32
  let v113 : BitVec 32 := Scalar.addi v111 c1_i32_58
  let c16_i32 : BitVec 32 := 16#32
  let c0_i32_59 : BitVec 32 := 0#32
  let v114 : BitVec 1 := Scalar.cmpi .eq c16_i32 c0_i32_59
  let c1_i32_60 : BitVec 32 := 1#32
  let v115 : BitVec 32 := Scalar.select v114 c1_i32_60 c16_i32
  let v116 : BitVec 32 := Scalar.remsi v113 v115
  let c0_i32_62 : BitVec 32 := 0#32
  let v118 : BitVec 1 := Scalar.cmpi .slt v116 c0_i32_62
  let c0_i32_63 : BitVec 32 := 0#32
  let v119 : BitVec 1 := Scalar.cmpi .slt v115 c0_i32_63
  let v120 : BitVec 1 := Scalar.xori v118 v119
  let c0_i32_61 : BitVec 32 := 0#32
  let v117 : BitVec 1 := Scalar.cmpi .ne v116 c0_i32_61
  let v121 : BitVec 1 := Scalar.andi v120 v117
  let v122 : BitVec 32 := Scalar.addi v116 v115
  let v123 : BitVec 32 := Scalar.select v121 v122 v116
  let c15_i32_124 : BitVec 32 := 15#32
  let v182 : BitVec 1 := Scalar.cmpi .eq v123 c15_i32_124
  let c1_i32_125 : BitVec 32 := 1#32
  let c14_i32_122 : BitVec 32 := 14#32
  let v180 : BitVec 1 := Scalar.cmpi .eq v123 c14_i32_122
  let c2_i32_123 : BitVec 32 := 2#32
  let c13_i32_120 : BitVec 32 := 13#32
  let v178 : BitVec 1 := Scalar.cmpi .eq v123 c13_i32_120
  let c3_i32_121 : BitVec 32 := 3#32
  let c12_i32_118 : BitVec 32 := 12#32
  let v176 : BitVec 1 := Scalar.cmpi .eq v123 c12_i32_118
  let c3_i32_119 : BitVec 32 := 3#32
  let c11_i32_116 : BitVec 32 := 11#32
  let v174 : BitVec 1 := Scalar.cmpi .eq v123 c11_i32_116
  let c2_i32_117 : BitVec 32 := 2#32
  let c10_i32_114 : BitVec 32 := 10#32
  let v172 : BitVec 1 := Scalar.cmpi .eq v123 c10_i32_114
  let c1_i32_115 : BitVec 32 := 1#32
  let c9_i32_112 : BitVec 32 := 9#32
  let v170 : BitVec 1 := Scalar.cmpi .eq v123 c9_i32_112
  let c1_i32_113 : BitVec 32 := 1#32
  let c8_i32_110 : BitVec 32 := 8#32
  let v168 : BitVec 1 := Scalar.cmpi .eq v123 c8_i32_110
  let c2_i32_111 : BitVec 32 := 2#32
  let c7_i32_108 : BitVec 32 := 7#32
  let v166 : BitVec 1 := Scalar.cmpi .eq v123 c7_i32_108
  let c3_i32_109 : BitVec 32 := 3#32
  let c6_i32_106 : BitVec 32 := 6#32
  let v164 : BitVec 1 := Scalar.cmpi .eq v123 c6_i32_106
  let c3_i32_107 : BitVec 32 := 3#32
  let c5_i32_104 : BitVec 32 := 5#32
  let v162 : BitVec 1 := Scalar.cmpi .eq v123 c5_i32_104
  let c2_i32_105 : BitVec 32 := 2#32
  let c4_i32_102 : BitVec 32 := 4#32
  let v160 : BitVec 1 := Scalar.cmpi .eq v123 c4_i32_102
  let c1_i32_103 : BitVec 32 := 1#32
  let c3_i32_100 : BitVec 32 := 3#32
  let v158 : BitVec 1 := Scalar.cmpi .eq v123 c3_i32_100
  let c0_i32_101 : BitVec 32 := 0#32
  let c2_i32_98 : BitVec 32 := 2#32
  let v156 : BitVec 1 := Scalar.cmpi .eq v123 c2_i32_98
  let c0_i32_99 : BitVec 32 := 0#32
  let c1_i32_95 : BitVec 32 := 1#32
  let v154 : BitVec 1 := Scalar.cmpi .eq v123 c1_i32_95
  let c0_i32_96 : BitVec 32 := 0#32
  let c0_i32_97 : BitVec 32 := 0#32
  let v155 : BitVec 32 := Scalar.select v154 c0_i32_96 c0_i32_97
  let v157 : BitVec 32 := Scalar.select v156 c0_i32_99 v155
  let v159 : BitVec 32 := Scalar.select v158 c0_i32_101 v157
  let v161 : BitVec 32 := Scalar.select v160 c1_i32_103 v159
  let v163 : BitVec 32 := Scalar.select v162 c2_i32_105 v161
  let v165 : BitVec 32 := Scalar.select v164 c3_i32_107 v163
  let v167 : BitVec 32 := Scalar.select v166 c3_i32_109 v165
  let v169 : BitVec 32 := Scalar.select v168 c2_i32_111 v167
  let v171 : BitVec 32 := Scalar.select v170 c1_i32_113 v169
  let v173 : BitVec 32 := Scalar.select v172 c1_i32_115 v171
  let v175 : BitVec 32 := Scalar.select v174 c2_i32_117 v173
  let v177 : BitVec 32 := Scalar.select v176 c3_i32_119 v175
  let v179 : BitVec 32 := Scalar.select v178 c3_i32_121 v177
  let v181 : BitVec 32 := Scalar.select v180 c2_i32_123 v179
  let v183 : BitVec 32 := Scalar.select v182 c1_i32_125 v181
  let v184 : BitVec 32 := Scalar.muli c8_i32_126 v183
  let c2_i32_127 : BitVec 32 := 2#32
  let c15_i32_93 : BitVec 32 := 15#32
  let v152 : BitVec 1 := Scalar.cmpi .eq v123 c15_i32_93
  let c0_i32_94 : BitVec 32 := 0#32
  let c14_i32_91 : BitVec 32 := 14#32
  let v150 : BitVec 1 := Scalar.cmpi .eq v123 c14_i32_91
  let c0_i32_92 : BitVec 32 := 0#32
  let c13_i32_89 : BitVec 32 := 13#32
  let v148 : BitVec 1 := Scalar.cmpi .eq v123 c13_i32_89
  let c0_i32_90 : BitVec 32 := 0#32
  let c12_i32_87 : BitVec 32 := 12#32
  let v146 : BitVec 1 := Scalar.cmpi .eq v123 c12_i32_87
  let c1_i32_88 : BitVec 32 := 1#32
  let c11_i32_85 : BitVec 32 := 11#32
  let v144 : BitVec 1 := Scalar.cmpi .eq v123 c11_i32_85
  let c1_i32_86 : BitVec 32 := 1#32
  let c10_i32_83 : BitVec 32 := 10#32
  let v142 : BitVec 1 := Scalar.cmpi .eq v123 c10_i32_83
  let c1_i32_84 : BitVec 32 := 1#32
  let c9_i32_81 : BitVec 32 := 9#32
  let v140 : BitVec 1 := Scalar.cmpi .eq v123 c9_i32_81
  let c2_i32_82 : BitVec 32 := 2#32
  let c8_i32_79 : BitVec 32 := 8#32
  let v138 : BitVec 1 := Scalar.cmpi .eq v123 c8_i32_79
  let c2_i32_80 : BitVec 32 := 2#32
  let c7_i32_77 : BitVec 32 := 7#32
  let v136 : BitVec 1 := Scalar.cmpi .eq v123 c7_i32_77
  let c2_i32_78 : BitVec 32 := 2#32
  let c6_i32_75 : BitVec 32 := 6#32
  let v134 : BitVec 1 := Scalar.cmpi .eq v123 c6_i32_75
  let c3_i32_76 : BitVec 32 := 3#32
  let c5_i32_73 : BitVec 32 := 5#32
  let v132 : BitVec 1 := Scalar.cmpi .eq v123 c5_i32_73
  let c3_i32_74 : BitVec 32 := 3#32
  let c4_i32_71 : BitVec 32 := 4#32
  let v130 : BitVec 1 := Scalar.cmpi .eq v123 c4_i32_71
  let c3_i32_72 : BitVec 32 := 3#32
  let c3_i32_69 : BitVec 32 := 3#32
  let v128 : BitVec 1 := Scalar.cmpi .eq v123 c3_i32_69
  let c3_i32_70 : BitVec 32 := 3#32
  let c2_i32_67 : BitVec 32 := 2#32
  let v126 : BitVec 1 := Scalar.cmpi .eq v123 c2_i32_67
  let c2_i32_68 : BitVec 32 := 2#32
  let c1_i32_64 : BitVec 32 := 1#32
  let v124 : BitVec 1 := Scalar.cmpi .eq v123 c1_i32_64
  let c1_i32_65 : BitVec 32 := 1#32
  let c0_i32_66 : BitVec 32 := 0#32
  let v125 : BitVec 32 := Scalar.select v124 c1_i32_65 c0_i32_66
  let v127 : BitVec 32 := Scalar.select v126 c2_i32_68 v125
  let v129 : BitVec 32 := Scalar.select v128 c3_i32_70 v127
  let v131 : BitVec 32 := Scalar.select v130 c3_i32_72 v129
  let v133 : BitVec 32 := Scalar.select v132 c3_i32_74 v131
  let v135 : BitVec 32 := Scalar.select v134 c3_i32_76 v133
  let v137 : BitVec 32 := Scalar.select v136 c2_i32_78 v135
  let v139 : BitVec 32 := Scalar.select v138 c2_i32_80 v137
  let v141 : BitVec 32 := Scalar.select v140 c2_i32_82 v139
  let v143 : BitVec 32 := Scalar.select v142 c1_i32_84 v141
  let v145 : BitVec 32 := Scalar.select v144 c1_i32_86 v143
  let v147 : BitVec 32 := Scalar.select v146 c1_i32_88 v145
  let v149 : BitVec 32 := Scalar.select v148 c0_i32_90 v147
  let v151 : BitVec 32 := Scalar.select v150 c0_i32_92 v149
  let v153 : BitVec 32 := Scalar.select v152 c0_i32_94 v151
  let v185 : BitVec 32 := Scalar.muli c2_i32_127 v153
  let v186 : BitVec 32 := Scalar.addi v184 v185
  let c2_i32_128 : BitVec 32 := 2#32
  let c0_i32_129 : BitVec 32 := 0#32
  let v187 : BitVec 1 := Scalar.cmpi .eq c2_i32_128 c0_i32_129
  let c1_i32_130 : BitVec 32 := 1#32
  let v188 : BitVec 32 := Scalar.select v187 c1_i32_130 c2_i32_128
  let v189 : BitVec 32 := Scalar.remsi v153 v188
  let c0_i32_132 : BitVec 32 := 0#32
  let v191 : BitVec 1 := Scalar.cmpi .slt v189 c0_i32_132
  let c0_i32_133 : BitVec 32 := 0#32
  let v192 : BitVec 1 := Scalar.cmpi .slt v188 c0_i32_133
  let v193 : BitVec 1 := Scalar.xori v191 v192
  let c0_i32_131 : BitVec 32 := 0#32
  let v190 : BitVec 1 := Scalar.cmpi .ne v189 c0_i32_131
  let v194 : BitVec 1 := Scalar.andi v193 v190
  let v195 : BitVec 32 := Scalar.addi v189 v188
  let v196 : BitVec 32 := Scalar.select v194 v195 v189
  let c0_i32_134 : BitVec 32 := 0#32
  let v197 : BitVec 1 := Scalar.cmpi .eq v196 c0_i32_134
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_135 : BitVec 32 := 1#32
  let v198 : BitVec 32 := Scalar.subi c1_i32_135 v79
  let v199 : BitVec 32 := Scalar.select v197 v79 v198
  let v200 : BitVec 32 := Scalar.addi v186 v199
  let c1_i32_1631 : BitVec 32 := 1#32
  let v1846 : BitVec 32 := Scalar.muli v200 c1_i32_1631
  let v1847 : BitVec 32 := Scalar.addi c0_i32_1632 v1846
  v1847.toNat
def k0_dev27 (d0 : Dev nD) : Nat :=
  let c0_i32_1641 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_57 : BitVec 32 := 1#32
  let v112 : BitVec 32 := Scalar.xori v2 c1_i32_57
  let c1_i32_1640 : BitVec 32 := 1#32
  let v1858 : BitVec 32 := Scalar.muli v112 c1_i32_1640
  let v1859 : BitVec 32 := Scalar.addi c0_i32_1641 v1858
  v1859.toNat
def k0_dev28 (d0 : Dev nD) : Nat :=
  let c0_i32_1661 : BitVec 32 := 0#32
  let c8_i32_206 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v80 : BitVec 32 := Scalar.muli c4_i32 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v81 : BitVec 32 := Scalar.addi v80 v46
  let c15_i32_55 : BitVec 32 := 15#32
  let v110 : BitVec 1 := Scalar.cmpi .eq v81 c15_i32_55
  let c6_i32_56 : BitVec 32 := 6#32
  let c14_i32_53 : BitVec 32 := 14#32
  let v108 : BitVec 1 := Scalar.cmpi .eq v81 c14_i32_53
  let c7_i32_54 : BitVec 32 := 7#32
  let c13_i32_51 : BitVec 32 := 13#32
  let v106 : BitVec 1 := Scalar.cmpi .eq v81 c13_i32_51
  let c12_i32_52 : BitVec 32 := 12#32
  let c12_i32 : BitVec 32 := 12#32
  let v104 : BitVec 1 := Scalar.cmpi .eq v81 c12_i32
  let c13_i32 : BitVec 32 := 13#32
  let c11_i32_49 : BitVec 32 := 11#32
  let v102 : BitVec 1 := Scalar.cmpi .eq v81 c11_i32_49
  let c5_i32_50 : BitVec 32 := 5#32
  let c10_i32_47 : BitVec 32 := 10#32
  let v100 : BitVec 1 := Scalar.cmpi .eq v81 c10_i32_47
  let c8_i32_48 : BitVec 32 := 8#32
  let c9_i32_46 : BitVec 32 := 9#32
  let v98 : BitVec 1 := Scalar.cmpi .eq v81 c9_i32_46
  let c11_i32 : BitVec 32 := 11#32
  let c8_i32_45 : BitVec 32 := 8#32
  let v96 : BitVec 1 := Scalar.cmpi .eq v81 c8_i32_45
  let c14_i32 : BitVec 32 := 14#32
  let c7_i32 : BitVec 32 := 7#32
  let v94 : BitVec 1 := Scalar.cmpi .eq v81 c7_i32
  let c4_i32_44 : BitVec 32 := 4#32
  let c6_i32 : BitVec 32 := 6#32
  let v92 : BitVec 1 := Scalar.cmpi .eq v81 c6_i32
  let c9_i32 : BitVec 32 := 9#32
  let c5_i32 : BitVec 32 := 5#32
  let v90 : BitVec 1 := Scalar.cmpi .eq v81 c5_i32
  let c10_i32 : BitVec 32 := 10#32
  let c4_i32_43 : BitVec 32 := 4#32
  let v88 : BitVec 1 := Scalar.cmpi .eq v81 c4_i32_43
  let c15_i32 : BitVec 32 := 15#32
  let c3_i32 : BitVec 32 := 3#32
  let v86 : BitVec 1 := Scalar.cmpi .eq v81 c3_i32
  let c3_i32_42 : BitVec 32 := 3#32
  let c2_i32_40 : BitVec 32 := 2#32
  let v84 : BitVec 1 := Scalar.cmpi .eq v81 c2_i32_40
  let c2_i32_41 : BitVec 32 := 2#32
  let c1_i32_37 : BitVec 32 := 1#32
  let v82 : BitVec 1 := Scalar.cmpi .eq v81 c1_i32_37
  let c1_i32_38 : BitVec 32 := 1#32
  let c0_i32_39 : BitVec 32 := 0#32
  let v83 : BitVec 32 := Scalar.select v82 c1_i32_38 c0_i32_39
  let v85 : BitVec 32 := Scalar.select v84 c2_i32_41 v83
  let v87 : BitVec 32 := Scalar.select v86 c3_i32_42 v85
  let v89 : BitVec 32 := Scalar.select v88 c15_i32 v87
  let v91 : BitVec 32 := Scalar.select v90 c10_i32 v89
  let v93 : BitVec 32 := Scalar.select v92 c9_i32 v91
  let v95 : BitVec 32 := Scalar.select v94 c4_i32_44 v93
  let v97 : BitVec 32 := Scalar.select v96 c14_i32 v95
  let v99 : BitVec 32 := Scalar.select v98 c11_i32 v97
  let v101 : BitVec 32 := Scalar.select v100 c8_i32_48 v99
  let v103 : BitVec 32 := Scalar.select v102 c5_i32_50 v101
  let v105 : BitVec 32 := Scalar.select v104 c13_i32 v103
  let v107 : BitVec 32 := Scalar.select v106 c12_i32_52 v105
  let v109 : BitVec 32 := Scalar.select v108 c7_i32_54 v107
  let v111 : BitVec 32 := Scalar.select v110 c6_i32_56 v109
  let c16_i32_136 : BitVec 32 := 16#32
  let v201 : BitVec 32 := Scalar.addi v111 c16_i32_136
  let c1_i32_137 : BitVec 32 := 1#32
  let v202 : BitVec 32 := Scalar.subi v201 c1_i32_137
  let c16_i32_138 : BitVec 32 := 16#32
  let c0_i32_139 : BitVec 32 := 0#32
  let v203 : BitVec 1 := Scalar.cmpi .eq c16_i32_138 c0_i32_139
  let c1_i32_140 : BitVec 32 := 1#32
  let v204 : BitVec 32 := Scalar.select v203 c1_i32_140 c16_i32_138
  let v205 : BitVec 32 := Scalar.remsi v202 v204
  let c0_i32_142 : BitVec 32 := 0#32
  let v207 : BitVec 1 := Scalar.cmpi .slt v205 c0_i32_142
  let c0_i32_143 : BitVec 32 := 0#32
  let v208 : BitVec 1 := Scalar.cmpi .slt v204 c0_i32_143
  let v209 : BitVec 1 := Scalar.xori v207 v208
  let c0_i32_141 : BitVec 32 := 0#32
  let v206 : BitVec 1 := Scalar.cmpi .ne v205 c0_i32_141
  let v210 : BitVec 1 := Scalar.andi v209 v206
  let v211 : BitVec 32 := Scalar.addi v205 v204
  let v212 : BitVec 32 := Scalar.select v210 v211 v205
  let c15_i32_204 : BitVec 32 := 15#32
  let v271 : BitVec 1 := Scalar.cmpi .eq v212 c15_i32_204
  let c1_i32_205 : BitVec 32 := 1#32
  let c14_i32_202 : BitVec 32 := 14#32
  let v269 : BitVec 1 := Scalar.cmpi .eq v212 c14_i32_202
  let c2_i32_203 : BitVec 32 := 2#32
  let c13_i32_200 : BitVec 32 := 13#32
  let v267 : BitVec 1 := Scalar.cmpi .eq v212 c13_i32_200
  let c3_i32_201 : BitVec 32 := 3#32
  let c12_i32_198 : BitVec 32 := 12#32
  let v265 : BitVec 1 := Scalar.cmpi .eq v212 c12_i32_198
  let c3_i32_199 : BitVec 32 := 3#32
  let c11_i32_196 : BitVec 32 := 11#32
  let v263 : BitVec 1 := Scalar.cmpi .eq v212 c11_i32_196
  let c2_i32_197 : BitVec 32 := 2#32
  let c10_i32_194 : BitVec 32 := 10#32
  let v261 : BitVec 1 := Scalar.cmpi .eq v212 c10_i32_194
  let c1_i32_195 : BitVec 32 := 1#32
  let c9_i32_192 : BitVec 32 := 9#32
  let v259 : BitVec 1 := Scalar.cmpi .eq v212 c9_i32_192
  let c1_i32_193 : BitVec 32 := 1#32
  let c8_i32_190 : BitVec 32 := 8#32
  let v257 : BitVec 1 := Scalar.cmpi .eq v212 c8_i32_190
  let c2_i32_191 : BitVec 32 := 2#32
  let c7_i32_188 : BitVec 32 := 7#32
  let v255 : BitVec 1 := Scalar.cmpi .eq v212 c7_i32_188
  let c3_i32_189 : BitVec 32 := 3#32
  let c6_i32_186 : BitVec 32 := 6#32
  let v253 : BitVec 1 := Scalar.cmpi .eq v212 c6_i32_186
  let c3_i32_187 : BitVec 32 := 3#32
  let c5_i32_184 : BitVec 32 := 5#32
  let v251 : BitVec 1 := Scalar.cmpi .eq v212 c5_i32_184
  let c2_i32_185 : BitVec 32 := 2#32
  let c4_i32_182 : BitVec 32 := 4#32
  let v249 : BitVec 1 := Scalar.cmpi .eq v212 c4_i32_182
  let c1_i32_183 : BitVec 32 := 1#32
  let c3_i32_180 : BitVec 32 := 3#32
  let v247 : BitVec 1 := Scalar.cmpi .eq v212 c3_i32_180
  let c0_i32_181 : BitVec 32 := 0#32
  let c2_i32_178 : BitVec 32 := 2#32
  let v245 : BitVec 1 := Scalar.cmpi .eq v212 c2_i32_178
  let c0_i32_179 : BitVec 32 := 0#32
  let c1_i32_175 : BitVec 32 := 1#32
  let v243 : BitVec 1 := Scalar.cmpi .eq v212 c1_i32_175
  let c0_i32_176 : BitVec 32 := 0#32
  let c0_i32_177 : BitVec 32 := 0#32
  let v244 : BitVec 32 := Scalar.select v243 c0_i32_176 c0_i32_177
  let v246 : BitVec 32 := Scalar.select v245 c0_i32_179 v244
  let v248 : BitVec 32 := Scalar.select v247 c0_i32_181 v246
  let v250 : BitVec 32 := Scalar.select v249 c1_i32_183 v248
  let v252 : BitVec 32 := Scalar.select v251 c2_i32_185 v250
  let v254 : BitVec 32 := Scalar.select v253 c3_i32_187 v252
  let v256 : BitVec 32 := Scalar.select v255 c3_i32_189 v254
  let v258 : BitVec 32 := Scalar.select v257 c2_i32_191 v256
  let v260 : BitVec 32 := Scalar.select v259 c1_i32_193 v258
  let v262 : BitVec 32 := Scalar.select v261 c1_i32_195 v260
  let v264 : BitVec 32 := Scalar.select v263 c2_i32_197 v262
  let v266 : BitVec 32 := Scalar.select v265 c3_i32_199 v264
  let v268 : BitVec 32 := Scalar.select v267 c3_i32_201 v266
  let v270 : BitVec 32 := Scalar.select v269 c2_i32_203 v268
  let v272 : BitVec 32 := Scalar.select v271 c1_i32_205 v270
  let v273 : BitVec 32 := Scalar.muli c8_i32_206 v272
  let c2_i32_207 : BitVec 32 := 2#32
  let c15_i32_173 : BitVec 32 := 15#32
  let v241 : BitVec 1 := Scalar.cmpi .eq v212 c15_i32_173
  let c0_i32_174 : BitVec 32 := 0#32
  let c14_i32_171 : BitVec 32 := 14#32
  let v239 : BitVec 1 := Scalar.cmpi .eq v212 c14_i32_171
  let c0_i32_172 : BitVec 32 := 0#32
  let c13_i32_169 : BitVec 32 := 13#32
  let v237 : BitVec 1 := Scalar.cmpi .eq v212 c13_i32_169
  let c0_i32_170 : BitVec 32 := 0#32
  let c12_i32_167 : BitVec 32 := 12#32
  let v235 : BitVec 1 := Scalar.cmpi .eq v212 c12_i32_167
  let c1_i32_168 : BitVec 32 := 1#32
  let c11_i32_165 : BitVec 32 := 11#32
  let v233 : BitVec 1 := Scalar.cmpi .eq v212 c11_i32_165
  let c1_i32_166 : BitVec 32 := 1#32
  let c10_i32_163 : BitVec 32 := 10#32
  let v231 : BitVec 1 := Scalar.cmpi .eq v212 c10_i32_163
  let c1_i32_164 : BitVec 32 := 1#32
  let c9_i32_161 : BitVec 32 := 9#32
  let v229 : BitVec 1 := Scalar.cmpi .eq v212 c9_i32_161
  let c2_i32_162 : BitVec 32 := 2#32
  let c8_i32_159 : BitVec 32 := 8#32
  let v227 : BitVec 1 := Scalar.cmpi .eq v212 c8_i32_159
  let c2_i32_160 : BitVec 32 := 2#32
  let c7_i32_157 : BitVec 32 := 7#32
  let v225 : BitVec 1 := Scalar.cmpi .eq v212 c7_i32_157
  let c2_i32_158 : BitVec 32 := 2#32
  let c6_i32_155 : BitVec 32 := 6#32
  let v223 : BitVec 1 := Scalar.cmpi .eq v212 c6_i32_155
  let c3_i32_156 : BitVec 32 := 3#32
  let c5_i32_153 : BitVec 32 := 5#32
  let v221 : BitVec 1 := Scalar.cmpi .eq v212 c5_i32_153
  let c3_i32_154 : BitVec 32 := 3#32
  let c4_i32_151 : BitVec 32 := 4#32
  let v219 : BitVec 1 := Scalar.cmpi .eq v212 c4_i32_151
  let c3_i32_152 : BitVec 32 := 3#32
  let c3_i32_149 : BitVec 32 := 3#32
  let v217 : BitVec 1 := Scalar.cmpi .eq v212 c3_i32_149
  let c3_i32_150 : BitVec 32 := 3#32
  let c2_i32_147 : BitVec 32 := 2#32
  let v215 : BitVec 1 := Scalar.cmpi .eq v212 c2_i32_147
  let c2_i32_148 : BitVec 32 := 2#32
  let c1_i32_144 : BitVec 32 := 1#32
  let v213 : BitVec 1 := Scalar.cmpi .eq v212 c1_i32_144
  let c1_i32_145 : BitVec 32 := 1#32
  let c0_i32_146 : BitVec 32 := 0#32
  let v214 : BitVec 32 := Scalar.select v213 c1_i32_145 c0_i32_146
  let v216 : BitVec 32 := Scalar.select v215 c2_i32_148 v214
  let v218 : BitVec 32 := Scalar.select v217 c3_i32_150 v216
  let v220 : BitVec 32 := Scalar.select v219 c3_i32_152 v218
  let v222 : BitVec 32 := Scalar.select v221 c3_i32_154 v220
  let v224 : BitVec 32 := Scalar.select v223 c3_i32_156 v222
  let v226 : BitVec 32 := Scalar.select v225 c2_i32_158 v224
  let v228 : BitVec 32 := Scalar.select v227 c2_i32_160 v226
  let v230 : BitVec 32 := Scalar.select v229 c2_i32_162 v228
  let v232 : BitVec 32 := Scalar.select v231 c1_i32_164 v230
  let v234 : BitVec 32 := Scalar.select v233 c1_i32_166 v232
  let v236 : BitVec 32 := Scalar.select v235 c1_i32_168 v234
  let v238 : BitVec 32 := Scalar.select v237 c0_i32_170 v236
  let v240 : BitVec 32 := Scalar.select v239 c0_i32_172 v238
  let v242 : BitVec 32 := Scalar.select v241 c0_i32_174 v240
  let v274 : BitVec 32 := Scalar.muli c2_i32_207 v242
  let v275 : BitVec 32 := Scalar.addi v273 v274
  let c2_i32_208 : BitVec 32 := 2#32
  let c0_i32_209 : BitVec 32 := 0#32
  let v276 : BitVec 1 := Scalar.cmpi .eq c2_i32_208 c0_i32_209
  let c1_i32_210 : BitVec 32 := 1#32
  let v277 : BitVec 32 := Scalar.select v276 c1_i32_210 c2_i32_208
  let v278 : BitVec 32 := Scalar.remsi v242 v277
  let c0_i32_212 : BitVec 32 := 0#32
  let v280 : BitVec 1 := Scalar.cmpi .slt v278 c0_i32_212
  let c0_i32_213 : BitVec 32 := 0#32
  let v281 : BitVec 1 := Scalar.cmpi .slt v277 c0_i32_213
  let v282 : BitVec 1 := Scalar.xori v280 v281
  let c0_i32_211 : BitVec 32 := 0#32
  let v279 : BitVec 1 := Scalar.cmpi .ne v278 c0_i32_211
  let v283 : BitVec 1 := Scalar.andi v282 v279
  let v284 : BitVec 32 := Scalar.addi v278 v277
  let v285 : BitVec 32 := Scalar.select v283 v284 v278
  let c0_i32_214 : BitVec 32 := 0#32
  let v286 : BitVec 1 := Scalar.cmpi .eq v285 c0_i32_214
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_215 : BitVec 32 := 1#32
  let v287 : BitVec 32 := Scalar.subi c1_i32_215 v79
  let v288 : BitVec 32 := Scalar.select v286 v79 v287
  let v289 : BitVec 32 := Scalar.addi v275 v288
  let c1_i32_1660 : BitVec 32 := 1#32
  let v1880 : BitVec 32 := Scalar.muli v289 c1_i32_1660
  let v1881 : BitVec 32 := Scalar.addi c0_i32_1661 v1880
  v1881.toNat
def k0_dev29 (d0 : Dev nD) : Nat :=
  let c0_i32_1670 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_57 : BitVec 32 := 1#32
  let v112 : BitVec 32 := Scalar.xori v2 c1_i32_57
  let c1_i32_1669 : BitVec 32 := 1#32
  let v1892 : BitVec 32 := Scalar.muli v112 c1_i32_1669
  let v1893 : BitVec 32 := Scalar.addi c0_i32_1670 v1892
  v1893.toNat
def k0_dev30 (d0 : Dev nD) : Nat :=
  let c0_i32_1690 : BitVec 32 := 0#32
  let c8_i32_126 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v80 : BitVec 32 := Scalar.muli c4_i32 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v81 : BitVec 32 := Scalar.addi v80 v46
  let c15_i32_55 : BitVec 32 := 15#32
  let v110 : BitVec 1 := Scalar.cmpi .eq v81 c15_i32_55
  let c6_i32_56 : BitVec 32 := 6#32
  let c14_i32_53 : BitVec 32 := 14#32
  let v108 : BitVec 1 := Scalar.cmpi .eq v81 c14_i32_53
  let c7_i32_54 : BitVec 32 := 7#32
  let c13_i32_51 : BitVec 32 := 13#32
  let v106 : BitVec 1 := Scalar.cmpi .eq v81 c13_i32_51
  let c12_i32_52 : BitVec 32 := 12#32
  let c12_i32 : BitVec 32 := 12#32
  let v104 : BitVec 1 := Scalar.cmpi .eq v81 c12_i32
  let c13_i32 : BitVec 32 := 13#32
  let c11_i32_49 : BitVec 32 := 11#32
  let v102 : BitVec 1 := Scalar.cmpi .eq v81 c11_i32_49
  let c5_i32_50 : BitVec 32 := 5#32
  let c10_i32_47 : BitVec 32 := 10#32
  let v100 : BitVec 1 := Scalar.cmpi .eq v81 c10_i32_47
  let c8_i32_48 : BitVec 32 := 8#32
  let c9_i32_46 : BitVec 32 := 9#32
  let v98 : BitVec 1 := Scalar.cmpi .eq v81 c9_i32_46
  let c11_i32 : BitVec 32 := 11#32
  let c8_i32_45 : BitVec 32 := 8#32
  let v96 : BitVec 1 := Scalar.cmpi .eq v81 c8_i32_45
  let c14_i32 : BitVec 32 := 14#32
  let c7_i32 : BitVec 32 := 7#32
  let v94 : BitVec 1 := Scalar.cmpi .eq v81 c7_i32
  let c4_i32_44 : BitVec 32 := 4#32
  let c6_i32 : BitVec 32 := 6#32
  let v92 : BitVec 1 := Scalar.cmpi .eq v81 c6_i32
  let c9_i32 : BitVec 32 := 9#32
  let c5_i32 : BitVec 32 := 5#32
  let v90 : BitVec 1 := Scalar.cmpi .eq v81 c5_i32
  let c10_i32 : BitVec 32 := 10#32
  let c4_i32_43 : BitVec 32 := 4#32
  let v88 : BitVec 1 := Scalar.cmpi .eq v81 c4_i32_43
  let c15_i32 : BitVec 32 := 15#32
  let c3_i32 : BitVec 32 := 3#32
  let v86 : BitVec 1 := Scalar.cmpi .eq v81 c3_i32
  let c3_i32_42 : BitVec 32 := 3#32
  let c2_i32_40 : BitVec 32 := 2#32
  let v84 : BitVec 1 := Scalar.cmpi .eq v81 c2_i32_40
  let c2_i32_41 : BitVec 32 := 2#32
  let c1_i32_37 : BitVec 32 := 1#32
  let v82 : BitVec 1 := Scalar.cmpi .eq v81 c1_i32_37
  let c1_i32_38 : BitVec 32 := 1#32
  let c0_i32_39 : BitVec 32 := 0#32
  let v83 : BitVec 32 := Scalar.select v82 c1_i32_38 c0_i32_39
  let v85 : BitVec 32 := Scalar.select v84 c2_i32_41 v83
  let v87 : BitVec 32 := Scalar.select v86 c3_i32_42 v85
  let v89 : BitVec 32 := Scalar.select v88 c15_i32 v87
  let v91 : BitVec 32 := Scalar.select v90 c10_i32 v89
  let v93 : BitVec 32 := Scalar.select v92 c9_i32 v91
  let v95 : BitVec 32 := Scalar.select v94 c4_i32_44 v93
  let v97 : BitVec 32 := Scalar.select v96 c14_i32 v95
  let v99 : BitVec 32 := Scalar.select v98 c11_i32 v97
  let v101 : BitVec 32 := Scalar.select v100 c8_i32_48 v99
  let v103 : BitVec 32 := Scalar.select v102 c5_i32_50 v101
  let v105 : BitVec 32 := Scalar.select v104 c13_i32 v103
  let v107 : BitVec 32 := Scalar.select v106 c12_i32_52 v105
  let v109 : BitVec 32 := Scalar.select v108 c7_i32_54 v107
  let v111 : BitVec 32 := Scalar.select v110 c6_i32_56 v109
  let c1_i32_58 : BitVec 32 := 1#32
  let v113 : BitVec 32 := Scalar.addi v111 c1_i32_58
  let c16_i32 : BitVec 32 := 16#32
  let c0_i32_59 : BitVec 32 := 0#32
  let v114 : BitVec 1 := Scalar.cmpi .eq c16_i32 c0_i32_59
  let c1_i32_60 : BitVec 32 := 1#32
  let v115 : BitVec 32 := Scalar.select v114 c1_i32_60 c16_i32
  let v116 : BitVec 32 := Scalar.remsi v113 v115
  let c0_i32_62 : BitVec 32 := 0#32
  let v118 : BitVec 1 := Scalar.cmpi .slt v116 c0_i32_62
  let c0_i32_63 : BitVec 32 := 0#32
  let v119 : BitVec 1 := Scalar.cmpi .slt v115 c0_i32_63
  let v120 : BitVec 1 := Scalar.xori v118 v119
  let c0_i32_61 : BitVec 32 := 0#32
  let v117 : BitVec 1 := Scalar.cmpi .ne v116 c0_i32_61
  let v121 : BitVec 1 := Scalar.andi v120 v117
  let v122 : BitVec 32 := Scalar.addi v116 v115
  let v123 : BitVec 32 := Scalar.select v121 v122 v116
  let c15_i32_124 : BitVec 32 := 15#32
  let v182 : BitVec 1 := Scalar.cmpi .eq v123 c15_i32_124
  let c1_i32_125 : BitVec 32 := 1#32
  let c14_i32_122 : BitVec 32 := 14#32
  let v180 : BitVec 1 := Scalar.cmpi .eq v123 c14_i32_122
  let c2_i32_123 : BitVec 32 := 2#32
  let c13_i32_120 : BitVec 32 := 13#32
  let v178 : BitVec 1 := Scalar.cmpi .eq v123 c13_i32_120
  let c3_i32_121 : BitVec 32 := 3#32
  let c12_i32_118 : BitVec 32 := 12#32
  let v176 : BitVec 1 := Scalar.cmpi .eq v123 c12_i32_118
  let c3_i32_119 : BitVec 32 := 3#32
  let c11_i32_116 : BitVec 32 := 11#32
  let v174 : BitVec 1 := Scalar.cmpi .eq v123 c11_i32_116
  let c2_i32_117 : BitVec 32 := 2#32
  let c10_i32_114 : BitVec 32 := 10#32
  let v172 : BitVec 1 := Scalar.cmpi .eq v123 c10_i32_114
  let c1_i32_115 : BitVec 32 := 1#32
  let c9_i32_112 : BitVec 32 := 9#32
  let v170 : BitVec 1 := Scalar.cmpi .eq v123 c9_i32_112
  let c1_i32_113 : BitVec 32 := 1#32
  let c8_i32_110 : BitVec 32 := 8#32
  let v168 : BitVec 1 := Scalar.cmpi .eq v123 c8_i32_110
  let c2_i32_111 : BitVec 32 := 2#32
  let c7_i32_108 : BitVec 32 := 7#32
  let v166 : BitVec 1 := Scalar.cmpi .eq v123 c7_i32_108
  let c3_i32_109 : BitVec 32 := 3#32
  let c6_i32_106 : BitVec 32 := 6#32
  let v164 : BitVec 1 := Scalar.cmpi .eq v123 c6_i32_106
  let c3_i32_107 : BitVec 32 := 3#32
  let c5_i32_104 : BitVec 32 := 5#32
  let v162 : BitVec 1 := Scalar.cmpi .eq v123 c5_i32_104
  let c2_i32_105 : BitVec 32 := 2#32
  let c4_i32_102 : BitVec 32 := 4#32
  let v160 : BitVec 1 := Scalar.cmpi .eq v123 c4_i32_102
  let c1_i32_103 : BitVec 32 := 1#32
  let c3_i32_100 : BitVec 32 := 3#32
  let v158 : BitVec 1 := Scalar.cmpi .eq v123 c3_i32_100
  let c0_i32_101 : BitVec 32 := 0#32
  let c2_i32_98 : BitVec 32 := 2#32
  let v156 : BitVec 1 := Scalar.cmpi .eq v123 c2_i32_98
  let c0_i32_99 : BitVec 32 := 0#32
  let c1_i32_95 : BitVec 32 := 1#32
  let v154 : BitVec 1 := Scalar.cmpi .eq v123 c1_i32_95
  let c0_i32_96 : BitVec 32 := 0#32
  let c0_i32_97 : BitVec 32 := 0#32
  let v155 : BitVec 32 := Scalar.select v154 c0_i32_96 c0_i32_97
  let v157 : BitVec 32 := Scalar.select v156 c0_i32_99 v155
  let v159 : BitVec 32 := Scalar.select v158 c0_i32_101 v157
  let v161 : BitVec 32 := Scalar.select v160 c1_i32_103 v159
  let v163 : BitVec 32 := Scalar.select v162 c2_i32_105 v161
  let v165 : BitVec 32 := Scalar.select v164 c3_i32_107 v163
  let v167 : BitVec 32 := Scalar.select v166 c3_i32_109 v165
  let v169 : BitVec 32 := Scalar.select v168 c2_i32_111 v167
  let v171 : BitVec 32 := Scalar.select v170 c1_i32_113 v169
  let v173 : BitVec 32 := Scalar.select v172 c1_i32_115 v171
  let v175 : BitVec 32 := Scalar.select v174 c2_i32_117 v173
  let v177 : BitVec 32 := Scalar.select v176 c3_i32_119 v175
  let v179 : BitVec 32 := Scalar.select v178 c3_i32_121 v177
  let v181 : BitVec 32 := Scalar.select v180 c2_i32_123 v179
  let v183 : BitVec 32 := Scalar.select v182 c1_i32_125 v181
  let v184 : BitVec 32 := Scalar.muli c8_i32_126 v183
  let c2_i32_127 : BitVec 32 := 2#32
  let c15_i32_93 : BitVec 32 := 15#32
  let v152 : BitVec 1 := Scalar.cmpi .eq v123 c15_i32_93
  let c0_i32_94 : BitVec 32 := 0#32
  let c14_i32_91 : BitVec 32 := 14#32
  let v150 : BitVec 1 := Scalar.cmpi .eq v123 c14_i32_91
  let c0_i32_92 : BitVec 32 := 0#32
  let c13_i32_89 : BitVec 32 := 13#32
  let v148 : BitVec 1 := Scalar.cmpi .eq v123 c13_i32_89
  let c0_i32_90 : BitVec 32 := 0#32
  let c12_i32_87 : BitVec 32 := 12#32
  let v146 : BitVec 1 := Scalar.cmpi .eq v123 c12_i32_87
  let c1_i32_88 : BitVec 32 := 1#32
  let c11_i32_85 : BitVec 32 := 11#32
  let v144 : BitVec 1 := Scalar.cmpi .eq v123 c11_i32_85
  let c1_i32_86 : BitVec 32 := 1#32
  let c10_i32_83 : BitVec 32 := 10#32
  let v142 : BitVec 1 := Scalar.cmpi .eq v123 c10_i32_83
  let c1_i32_84 : BitVec 32 := 1#32
  let c9_i32_81 : BitVec 32 := 9#32
  let v140 : BitVec 1 := Scalar.cmpi .eq v123 c9_i32_81
  let c2_i32_82 : BitVec 32 := 2#32
  let c8_i32_79 : BitVec 32 := 8#32
  let v138 : BitVec 1 := Scalar.cmpi .eq v123 c8_i32_79
  let c2_i32_80 : BitVec 32 := 2#32
  let c7_i32_77 : BitVec 32 := 7#32
  let v136 : BitVec 1 := Scalar.cmpi .eq v123 c7_i32_77
  let c2_i32_78 : BitVec 32 := 2#32
  let c6_i32_75 : BitVec 32 := 6#32
  let v134 : BitVec 1 := Scalar.cmpi .eq v123 c6_i32_75
  let c3_i32_76 : BitVec 32 := 3#32
  let c5_i32_73 : BitVec 32 := 5#32
  let v132 : BitVec 1 := Scalar.cmpi .eq v123 c5_i32_73
  let c3_i32_74 : BitVec 32 := 3#32
  let c4_i32_71 : BitVec 32 := 4#32
  let v130 : BitVec 1 := Scalar.cmpi .eq v123 c4_i32_71
  let c3_i32_72 : BitVec 32 := 3#32
  let c3_i32_69 : BitVec 32 := 3#32
  let v128 : BitVec 1 := Scalar.cmpi .eq v123 c3_i32_69
  let c3_i32_70 : BitVec 32 := 3#32
  let c2_i32_67 : BitVec 32 := 2#32
  let v126 : BitVec 1 := Scalar.cmpi .eq v123 c2_i32_67
  let c2_i32_68 : BitVec 32 := 2#32
  let c1_i32_64 : BitVec 32 := 1#32
  let v124 : BitVec 1 := Scalar.cmpi .eq v123 c1_i32_64
  let c1_i32_65 : BitVec 32 := 1#32
  let c0_i32_66 : BitVec 32 := 0#32
  let v125 : BitVec 32 := Scalar.select v124 c1_i32_65 c0_i32_66
  let v127 : BitVec 32 := Scalar.select v126 c2_i32_68 v125
  let v129 : BitVec 32 := Scalar.select v128 c3_i32_70 v127
  let v131 : BitVec 32 := Scalar.select v130 c3_i32_72 v129
  let v133 : BitVec 32 := Scalar.select v132 c3_i32_74 v131
  let v135 : BitVec 32 := Scalar.select v134 c3_i32_76 v133
  let v137 : BitVec 32 := Scalar.select v136 c2_i32_78 v135
  let v139 : BitVec 32 := Scalar.select v138 c2_i32_80 v137
  let v141 : BitVec 32 := Scalar.select v140 c2_i32_82 v139
  let v143 : BitVec 32 := Scalar.select v142 c1_i32_84 v141
  let v145 : BitVec 32 := Scalar.select v144 c1_i32_86 v143
  let v147 : BitVec 32 := Scalar.select v146 c1_i32_88 v145
  let v149 : BitVec 32 := Scalar.select v148 c0_i32_90 v147
  let v151 : BitVec 32 := Scalar.select v150 c0_i32_92 v149
  let v153 : BitVec 32 := Scalar.select v152 c0_i32_94 v151
  let v185 : BitVec 32 := Scalar.muli c2_i32_127 v153
  let v186 : BitVec 32 := Scalar.addi v184 v185
  let c2_i32_128 : BitVec 32 := 2#32
  let c0_i32_129 : BitVec 32 := 0#32
  let v187 : BitVec 1 := Scalar.cmpi .eq c2_i32_128 c0_i32_129
  let c1_i32_130 : BitVec 32 := 1#32
  let v188 : BitVec 32 := Scalar.select v187 c1_i32_130 c2_i32_128
  let v189 : BitVec 32 := Scalar.remsi v153 v188
  let c0_i32_132 : BitVec 32 := 0#32
  let v191 : BitVec 1 := Scalar.cmpi .slt v189 c0_i32_132
  let c0_i32_133 : BitVec 32 := 0#32
  let v192 : BitVec 1 := Scalar.cmpi .slt v188 c0_i32_133
  let v193 : BitVec 1 := Scalar.xori v191 v192
  let c0_i32_131 : BitVec 32 := 0#32
  let v190 : BitVec 1 := Scalar.cmpi .ne v189 c0_i32_131
  let v194 : BitVec 1 := Scalar.andi v193 v190
  let v195 : BitVec 32 := Scalar.addi v189 v188
  let v196 : BitVec 32 := Scalar.select v194 v195 v189
  let c0_i32_134 : BitVec 32 := 0#32
  let v197 : BitVec 1 := Scalar.cmpi .eq v196 c0_i32_134
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_135 : BitVec 32 := 1#32
  let v198 : BitVec 32 := Scalar.subi c1_i32_135 v79
  let v199 : BitVec 32 := Scalar.select v197 v79 v198
  let v200 : BitVec 32 := Scalar.addi v186 v199
  let c1_i32_1689 : BitVec 32 := 1#32
  let v1914 : BitVec 32 := Scalar.muli v200 c1_i32_1689
  let v1915 : BitVec 32 := Scalar.addi c0_i32_1690 v1914
  v1915.toNat
def k0_dev31 (d0 : Dev nD) : Nat :=
  let c0_i32_1699 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_57 : BitVec 32 := 1#32
  let v112 : BitVec 32 := Scalar.xori v2 c1_i32_57
  let c1_i32_1698 : BitVec 32 := 1#32
  let v1926 : BitVec 32 := Scalar.muli v112 c1_i32_1698
  let v1927 : BitVec 32 := Scalar.addi c0_i32_1699 v1926
  v1927.toNat
def k0_dev32 (d0 : Dev nD) : Nat :=
  let c0_i32_1719 : BitVec 32 := 0#32
  let c8_i32_206 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v80 : BitVec 32 := Scalar.muli c4_i32 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v81 : BitVec 32 := Scalar.addi v80 v46
  let c15_i32_55 : BitVec 32 := 15#32
  let v110 : BitVec 1 := Scalar.cmpi .eq v81 c15_i32_55
  let c6_i32_56 : BitVec 32 := 6#32
  let c14_i32_53 : BitVec 32 := 14#32
  let v108 : BitVec 1 := Scalar.cmpi .eq v81 c14_i32_53
  let c7_i32_54 : BitVec 32 := 7#32
  let c13_i32_51 : BitVec 32 := 13#32
  let v106 : BitVec 1 := Scalar.cmpi .eq v81 c13_i32_51
  let c12_i32_52 : BitVec 32 := 12#32
  let c12_i32 : BitVec 32 := 12#32
  let v104 : BitVec 1 := Scalar.cmpi .eq v81 c12_i32
  let c13_i32 : BitVec 32 := 13#32
  let c11_i32_49 : BitVec 32 := 11#32
  let v102 : BitVec 1 := Scalar.cmpi .eq v81 c11_i32_49
  let c5_i32_50 : BitVec 32 := 5#32
  let c10_i32_47 : BitVec 32 := 10#32
  let v100 : BitVec 1 := Scalar.cmpi .eq v81 c10_i32_47
  let c8_i32_48 : BitVec 32 := 8#32
  let c9_i32_46 : BitVec 32 := 9#32
  let v98 : BitVec 1 := Scalar.cmpi .eq v81 c9_i32_46
  let c11_i32 : BitVec 32 := 11#32
  let c8_i32_45 : BitVec 32 := 8#32
  let v96 : BitVec 1 := Scalar.cmpi .eq v81 c8_i32_45
  let c14_i32 : BitVec 32 := 14#32
  let c7_i32 : BitVec 32 := 7#32
  let v94 : BitVec 1 := Scalar.cmpi .eq v81 c7_i32
  let c4_i32_44 : BitVec 32 := 4#32
  let c6_i32 : BitVec 32 := 6#32
  let v92 : BitVec 1 := Scalar.cmpi .eq v81 c6_i32
  let c9_i32 : BitVec 32 := 9#32
  let c5_i32 : BitVec 32 := 5#32
  let v90 : BitVec 1 := Scalar.cmpi .eq v81 c5_i32
  let c10_i32 : BitVec 32 := 10#32
  let c4_i32_43 : BitVec 32 := 4#32
  let v88 : BitVec 1 := Scalar.cmpi .eq v81 c4_i32_43
  let c15_i32 : BitVec 32 := 15#32
  let c3_i32 : BitVec 32 := 3#32
  let v86 : BitVec 1 := Scalar.cmpi .eq v81 c3_i32
  let c3_i32_42 : BitVec 32 := 3#32
  let c2_i32_40 : BitVec 32 := 2#32
  let v84 : BitVec 1 := Scalar.cmpi .eq v81 c2_i32_40
  let c2_i32_41 : BitVec 32 := 2#32
  let c1_i32_37 : BitVec 32 := 1#32
  let v82 : BitVec 1 := Scalar.cmpi .eq v81 c1_i32_37
  let c1_i32_38 : BitVec 32 := 1#32
  let c0_i32_39 : BitVec 32 := 0#32
  let v83 : BitVec 32 := Scalar.select v82 c1_i32_38 c0_i32_39
  let v85 : BitVec 32 := Scalar.select v84 c2_i32_41 v83
  let v87 : BitVec 32 := Scalar.select v86 c3_i32_42 v85
  let v89 : BitVec 32 := Scalar.select v88 c15_i32 v87
  let v91 : BitVec 32 := Scalar.select v90 c10_i32 v89
  let v93 : BitVec 32 := Scalar.select v92 c9_i32 v91
  let v95 : BitVec 32 := Scalar.select v94 c4_i32_44 v93
  let v97 : BitVec 32 := Scalar.select v96 c14_i32 v95
  let v99 : BitVec 32 := Scalar.select v98 c11_i32 v97
  let v101 : BitVec 32 := Scalar.select v100 c8_i32_48 v99
  let v103 : BitVec 32 := Scalar.select v102 c5_i32_50 v101
  let v105 : BitVec 32 := Scalar.select v104 c13_i32 v103
  let v107 : BitVec 32 := Scalar.select v106 c12_i32_52 v105
  let v109 : BitVec 32 := Scalar.select v108 c7_i32_54 v107
  let v111 : BitVec 32 := Scalar.select v110 c6_i32_56 v109
  let c16_i32_136 : BitVec 32 := 16#32
  let v201 : BitVec 32 := Scalar.addi v111 c16_i32_136
  let c1_i32_137 : BitVec 32 := 1#32
  let v202 : BitVec 32 := Scalar.subi v201 c1_i32_137
  let c16_i32_138 : BitVec 32 := 16#32
  let c0_i32_139 : BitVec 32 := 0#32
  let v203 : BitVec 1 := Scalar.cmpi .eq c16_i32_138 c0_i32_139
  let c1_i32_140 : BitVec 32 := 1#32
  let v204 : BitVec 32 := Scalar.select v203 c1_i32_140 c16_i32_138
  let v205 : BitVec 32 := Scalar.remsi v202 v204
  let c0_i32_142 : BitVec 32 := 0#32
  let v207 : BitVec 1 := Scalar.cmpi .slt v205 c0_i32_142
  let c0_i32_143 : BitVec 32 := 0#32
  let v208 : BitVec 1 := Scalar.cmpi .slt v204 c0_i32_143
  let v209 : BitVec 1 := Scalar.xori v207 v208
  let c0_i32_141 : BitVec 32 := 0#32
  let v206 : BitVec 1 := Scalar.cmpi .ne v205 c0_i32_141
  let v210 : BitVec 1 := Scalar.andi v209 v206
  let v211 : BitVec 32 := Scalar.addi v205 v204
  let v212 : BitVec 32 := Scalar.select v210 v211 v205
  let c15_i32_204 : BitVec 32 := 15#32
  let v271 : BitVec 1 := Scalar.cmpi .eq v212 c15_i32_204
  let c1_i32_205 : BitVec 32 := 1#32
  let c14_i32_202 : BitVec 32 := 14#32
  let v269 : BitVec 1 := Scalar.cmpi .eq v212 c14_i32_202
  let c2_i32_203 : BitVec 32 := 2#32
  let c13_i32_200 : BitVec 32 := 13#32
  let v267 : BitVec 1 := Scalar.cmpi .eq v212 c13_i32_200
  let c3_i32_201 : BitVec 32 := 3#32
  let c12_i32_198 : BitVec 32 := 12#32
  let v265 : BitVec 1 := Scalar.cmpi .eq v212 c12_i32_198
  let c3_i32_199 : BitVec 32 := 3#32
  let c11_i32_196 : BitVec 32 := 11#32
  let v263 : BitVec 1 := Scalar.cmpi .eq v212 c11_i32_196
  let c2_i32_197 : BitVec 32 := 2#32
  let c10_i32_194 : BitVec 32 := 10#32
  let v261 : BitVec 1 := Scalar.cmpi .eq v212 c10_i32_194
  let c1_i32_195 : BitVec 32 := 1#32
  let c9_i32_192 : BitVec 32 := 9#32
  let v259 : BitVec 1 := Scalar.cmpi .eq v212 c9_i32_192
  let c1_i32_193 : BitVec 32 := 1#32
  let c8_i32_190 : BitVec 32 := 8#32
  let v257 : BitVec 1 := Scalar.cmpi .eq v212 c8_i32_190
  let c2_i32_191 : BitVec 32 := 2#32
  let c7_i32_188 : BitVec 32 := 7#32
  let v255 : BitVec 1 := Scalar.cmpi .eq v212 c7_i32_188
  let c3_i32_189 : BitVec 32 := 3#32
  let c6_i32_186 : BitVec 32 := 6#32
  let v253 : BitVec 1 := Scalar.cmpi .eq v212 c6_i32_186
  let c3_i32_187 : BitVec 32 := 3#32
  let c5_i32_184 : BitVec 32 := 5#32
  let v251 : BitVec 1 := Scalar.cmpi .eq v212 c5_i32_184
  let c2_i32_185 : BitVec 32 := 2#32
  let c4_i32_182 : BitVec 32 := 4#32
  let v249 : BitVec 1 := Scalar.cmpi .eq v212 c4_i32_182
  let c1_i32_183 : BitVec 32 := 1#32
  let c3_i32_180 : BitVec 32 := 3#32
  let v247 : BitVec 1 := Scalar.cmpi .eq v212 c3_i32_180
  let c0_i32_181 : BitVec 32 := 0#32
  let c2_i32_178 : BitVec 32 := 2#32
  let v245 : BitVec 1 := Scalar.cmpi .eq v212 c2_i32_178
  let c0_i32_179 : BitVec 32 := 0#32
  let c1_i32_175 : BitVec 32 := 1#32
  let v243 : BitVec 1 := Scalar.cmpi .eq v212 c1_i32_175
  let c0_i32_176 : BitVec 32 := 0#32
  let c0_i32_177 : BitVec 32 := 0#32
  let v244 : BitVec 32 := Scalar.select v243 c0_i32_176 c0_i32_177
  let v246 : BitVec 32 := Scalar.select v245 c0_i32_179 v244
  let v248 : BitVec 32 := Scalar.select v247 c0_i32_181 v246
  let v250 : BitVec 32 := Scalar.select v249 c1_i32_183 v248
  let v252 : BitVec 32 := Scalar.select v251 c2_i32_185 v250
  let v254 : BitVec 32 := Scalar.select v253 c3_i32_187 v252
  let v256 : BitVec 32 := Scalar.select v255 c3_i32_189 v254
  let v258 : BitVec 32 := Scalar.select v257 c2_i32_191 v256
  let v260 : BitVec 32 := Scalar.select v259 c1_i32_193 v258
  let v262 : BitVec 32 := Scalar.select v261 c1_i32_195 v260
  let v264 : BitVec 32 := Scalar.select v263 c2_i32_197 v262
  let v266 : BitVec 32 := Scalar.select v265 c3_i32_199 v264
  let v268 : BitVec 32 := Scalar.select v267 c3_i32_201 v266
  let v270 : BitVec 32 := Scalar.select v269 c2_i32_203 v268
  let v272 : BitVec 32 := Scalar.select v271 c1_i32_205 v270
  let v273 : BitVec 32 := Scalar.muli c8_i32_206 v272
  let c2_i32_207 : BitVec 32 := 2#32
  let c15_i32_173 : BitVec 32 := 15#32
  let v241 : BitVec 1 := Scalar.cmpi .eq v212 c15_i32_173
  let c0_i32_174 : BitVec 32 := 0#32
  let c14_i32_171 : BitVec 32 := 14#32
  let v239 : BitVec 1 := Scalar.cmpi .eq v212 c14_i32_171
  let c0_i32_172 : BitVec 32 := 0#32
  let c13_i32_169 : BitVec 32 := 13#32
  let v237 : BitVec 1 := Scalar.cmpi .eq v212 c13_i32_169
  let c0_i32_170 : BitVec 32 := 0#32
  let c12_i32_167 : BitVec 32 := 12#32
  let v235 : BitVec 1 := Scalar.cmpi .eq v212 c12_i32_167
  let c1_i32_168 : BitVec 32 := 1#32
  let c11_i32_165 : BitVec 32 := 11#32
  let v233 : BitVec 1 := Scalar.cmpi .eq v212 c11_i32_165
  let c1_i32_166 : BitVec 32 := 1#32
  let c10_i32_163 : BitVec 32 := 10#32
  let v231 : BitVec 1 := Scalar.cmpi .eq v212 c10_i32_163
  let c1_i32_164 : BitVec 32 := 1#32
  let c9_i32_161 : BitVec 32 := 9#32
  let v229 : BitVec 1 := Scalar.cmpi .eq v212 c9_i32_161
  let c2_i32_162 : BitVec 32 := 2#32
  let c8_i32_159 : BitVec 32 := 8#32
  let v227 : BitVec 1 := Scalar.cmpi .eq v212 c8_i32_159
  let c2_i32_160 : BitVec 32 := 2#32
  let c7_i32_157 : BitVec 32 := 7#32
  let v225 : BitVec 1 := Scalar.cmpi .eq v212 c7_i32_157
  let c2_i32_158 : BitVec 32 := 2#32
  let c6_i32_155 : BitVec 32 := 6#32
  let v223 : BitVec 1 := Scalar.cmpi .eq v212 c6_i32_155
  let c3_i32_156 : BitVec 32 := 3#32
  let c5_i32_153 : BitVec 32 := 5#32
  let v221 : BitVec 1 := Scalar.cmpi .eq v212 c5_i32_153
  let c3_i32_154 : BitVec 32 := 3#32
  let c4_i32_151 : BitVec 32 := 4#32
  let v219 : BitVec 1 := Scalar.cmpi .eq v212 c4_i32_151
  let c3_i32_152 : BitVec 32 := 3#32
  let c3_i32_149 : BitVec 32 := 3#32
  let v217 : BitVec 1 := Scalar.cmpi .eq v212 c3_i32_149
  let c3_i32_150 : BitVec 32 := 3#32
  let c2_i32_147 : BitVec 32 := 2#32
  let v215 : BitVec 1 := Scalar.cmpi .eq v212 c2_i32_147
  let c2_i32_148 : BitVec 32 := 2#32
  let c1_i32_144 : BitVec 32 := 1#32
  let v213 : BitVec 1 := Scalar.cmpi .eq v212 c1_i32_144
  let c1_i32_145 : BitVec 32 := 1#32
  let c0_i32_146 : BitVec 32 := 0#32
  let v214 : BitVec 32 := Scalar.select v213 c1_i32_145 c0_i32_146
  let v216 : BitVec 32 := Scalar.select v215 c2_i32_148 v214
  let v218 : BitVec 32 := Scalar.select v217 c3_i32_150 v216
  let v220 : BitVec 32 := Scalar.select v219 c3_i32_152 v218
  let v222 : BitVec 32 := Scalar.select v221 c3_i32_154 v220
  let v224 : BitVec 32 := Scalar.select v223 c3_i32_156 v222
  let v226 : BitVec 32 := Scalar.select v225 c2_i32_158 v224
  let v228 : BitVec 32 := Scalar.select v227 c2_i32_160 v226
  let v230 : BitVec 32 := Scalar.select v229 c2_i32_162 v228
  let v232 : BitVec 32 := Scalar.select v231 c1_i32_164 v230
  let v234 : BitVec 32 := Scalar.select v233 c1_i32_166 v232
  let v236 : BitVec 32 := Scalar.select v235 c1_i32_168 v234
  let v238 : BitVec 32 := Scalar.select v237 c0_i32_170 v236
  let v240 : BitVec 32 := Scalar.select v239 c0_i32_172 v238
  let v242 : BitVec 32 := Scalar.select v241 c0_i32_174 v240
  let v274 : BitVec 32 := Scalar.muli c2_i32_207 v242
  let v275 : BitVec 32 := Scalar.addi v273 v274
  let c2_i32_208 : BitVec 32 := 2#32
  let c0_i32_209 : BitVec 32 := 0#32
  let v276 : BitVec 1 := Scalar.cmpi .eq c2_i32_208 c0_i32_209
  let c1_i32_210 : BitVec 32 := 1#32
  let v277 : BitVec 32 := Scalar.select v276 c1_i32_210 c2_i32_208
  let v278 : BitVec 32 := Scalar.remsi v242 v277
  let c0_i32_212 : BitVec 32 := 0#32
  let v280 : BitVec 1 := Scalar.cmpi .slt v278 c0_i32_212
  let c0_i32_213 : BitVec 32 := 0#32
  let v281 : BitVec 1 := Scalar.cmpi .slt v277 c0_i32_213
  let v282 : BitVec 1 := Scalar.xori v280 v281
  let c0_i32_211 : BitVec 32 := 0#32
  let v279 : BitVec 1 := Scalar.cmpi .ne v278 c0_i32_211
  let v283 : BitVec 1 := Scalar.andi v282 v279
  let v284 : BitVec 32 := Scalar.addi v278 v277
  let v285 : BitVec 32 := Scalar.select v283 v284 v278
  let c0_i32_214 : BitVec 32 := 0#32
  let v286 : BitVec 1 := Scalar.cmpi .eq v285 c0_i32_214
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_215 : BitVec 32 := 1#32
  let v287 : BitVec 32 := Scalar.subi c1_i32_215 v79
  let v288 : BitVec 32 := Scalar.select v286 v79 v287
  let v289 : BitVec 32 := Scalar.addi v275 v288
  let c1_i32_1718 : BitVec 32 := 1#32
  let v1948 : BitVec 32 := Scalar.muli v289 c1_i32_1718
  let v1949 : BitVec 32 := Scalar.addi c0_i32_1719 v1948
  v1949.toNat
def k0_dev33 (d0 : Dev nD) : Nat :=
  let c0_i32_1728 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_57 : BitVec 32 := 1#32
  let v112 : BitVec 32 := Scalar.xori v2 c1_i32_57
  let c1_i32_1727 : BitVec 32 := 1#32
  let v1960 : BitVec 32 := Scalar.muli v112 c1_i32_1727
  let v1961 : BitVec 32 := Scalar.addi c0_i32_1728 v1960
  v1961.toNat
def k0_dev34 (d0 : Dev nD) : Nat :=
  let c0_i32_1748 : BitVec 32 := 0#32
  let c8_i32_126 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v80 : BitVec 32 := Scalar.muli c4_i32 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v81 : BitVec 32 := Scalar.addi v80 v46
  let c15_i32_55 : BitVec 32 := 15#32
  let v110 : BitVec 1 := Scalar.cmpi .eq v81 c15_i32_55
  let c6_i32_56 : BitVec 32 := 6#32
  let c14_i32_53 : BitVec 32 := 14#32
  let v108 : BitVec 1 := Scalar.cmpi .eq v81 c14_i32_53
  let c7_i32_54 : BitVec 32 := 7#32
  let c13_i32_51 : BitVec 32 := 13#32
  let v106 : BitVec 1 := Scalar.cmpi .eq v81 c13_i32_51
  let c12_i32_52 : BitVec 32 := 12#32
  let c12_i32 : BitVec 32 := 12#32
  let v104 : BitVec 1 := Scalar.cmpi .eq v81 c12_i32
  let c13_i32 : BitVec 32 := 13#32
  let c11_i32_49 : BitVec 32 := 11#32
  let v102 : BitVec 1 := Scalar.cmpi .eq v81 c11_i32_49
  let c5_i32_50 : BitVec 32 := 5#32
  let c10_i32_47 : BitVec 32 := 10#32
  let v100 : BitVec 1 := Scalar.cmpi .eq v81 c10_i32_47
  let c8_i32_48 : BitVec 32 := 8#32
  let c9_i32_46 : BitVec 32 := 9#32
  let v98 : BitVec 1 := Scalar.cmpi .eq v81 c9_i32_46
  let c11_i32 : BitVec 32 := 11#32
  let c8_i32_45 : BitVec 32 := 8#32
  let v96 : BitVec 1 := Scalar.cmpi .eq v81 c8_i32_45
  let c14_i32 : BitVec 32 := 14#32
  let c7_i32 : BitVec 32 := 7#32
  let v94 : BitVec 1 := Scalar.cmpi .eq v81 c7_i32
  let c4_i32_44 : BitVec 32 := 4#32
  let c6_i32 : BitVec 32 := 6#32
  let v92 : BitVec 1 := Scalar.cmpi .eq v81 c6_i32
  let c9_i32 : BitVec 32 := 9#32
  let c5_i32 : BitVec 32 := 5#32
  let v90 : BitVec 1 := Scalar.cmpi .eq v81 c5_i32
  let c10_i32 : BitVec 32 := 10#32
  let c4_i32_43 : BitVec 32 := 4#32
  let v88 : BitVec 1 := Scalar.cmpi .eq v81 c4_i32_43
  let c15_i32 : BitVec 32 := 15#32
  let c3_i32 : BitVec 32 := 3#32
  let v86 : BitVec 1 := Scalar.cmpi .eq v81 c3_i32
  let c3_i32_42 : BitVec 32 := 3#32
  let c2_i32_40 : BitVec 32 := 2#32
  let v84 : BitVec 1 := Scalar.cmpi .eq v81 c2_i32_40
  let c2_i32_41 : BitVec 32 := 2#32
  let c1_i32_37 : BitVec 32 := 1#32
  let v82 : BitVec 1 := Scalar.cmpi .eq v81 c1_i32_37
  let c1_i32_38 : BitVec 32 := 1#32
  let c0_i32_39 : BitVec 32 := 0#32
  let v83 : BitVec 32 := Scalar.select v82 c1_i32_38 c0_i32_39
  let v85 : BitVec 32 := Scalar.select v84 c2_i32_41 v83
  let v87 : BitVec 32 := Scalar.select v86 c3_i32_42 v85
  let v89 : BitVec 32 := Scalar.select v88 c15_i32 v87
  let v91 : BitVec 32 := Scalar.select v90 c10_i32 v89
  let v93 : BitVec 32 := Scalar.select v92 c9_i32 v91
  let v95 : BitVec 32 := Scalar.select v94 c4_i32_44 v93
  let v97 : BitVec 32 := Scalar.select v96 c14_i32 v95
  let v99 : BitVec 32 := Scalar.select v98 c11_i32 v97
  let v101 : BitVec 32 := Scalar.select v100 c8_i32_48 v99
  let v103 : BitVec 32 := Scalar.select v102 c5_i32_50 v101
  let v105 : BitVec 32 := Scalar.select v104 c13_i32 v103
  let v107 : BitVec 32 := Scalar.select v106 c12_i32_52 v105
  let v109 : BitVec 32 := Scalar.select v108 c7_i32_54 v107
  let v111 : BitVec 32 := Scalar.select v110 c6_i32_56 v109
  let c1_i32_58 : BitVec 32 := 1#32
  let v113 : BitVec 32 := Scalar.addi v111 c1_i32_58
  let c16_i32 : BitVec 32 := 16#32
  let c0_i32_59 : BitVec 32 := 0#32
  let v114 : BitVec 1 := Scalar.cmpi .eq c16_i32 c0_i32_59
  let c1_i32_60 : BitVec 32 := 1#32
  let v115 : BitVec 32 := Scalar.select v114 c1_i32_60 c16_i32
  let v116 : BitVec 32 := Scalar.remsi v113 v115
  let c0_i32_62 : BitVec 32 := 0#32
  let v118 : BitVec 1 := Scalar.cmpi .slt v116 c0_i32_62
  let c0_i32_63 : BitVec 32 := 0#32
  let v119 : BitVec 1 := Scalar.cmpi .slt v115 c0_i32_63
  let v120 : BitVec 1 := Scalar.xori v118 v119
  let c0_i32_61 : BitVec 32 := 0#32
  let v117 : BitVec 1 := Scalar.cmpi .ne v116 c0_i32_61
  let v121 : BitVec 1 := Scalar.andi v120 v117
  let v122 : BitVec 32 := Scalar.addi v116 v115
  let v123 : BitVec 32 := Scalar.select v121 v122 v116
  let c15_i32_124 : BitVec 32 := 15#32
  let v182 : BitVec 1 := Scalar.cmpi .eq v123 c15_i32_124
  let c1_i32_125 : BitVec 32 := 1#32
  let c14_i32_122 : BitVec 32 := 14#32
  let v180 : BitVec 1 := Scalar.cmpi .eq v123 c14_i32_122
  let c2_i32_123 : BitVec 32 := 2#32
  let c13_i32_120 : BitVec 32 := 13#32
  let v178 : BitVec 1 := Scalar.cmpi .eq v123 c13_i32_120
  let c3_i32_121 : BitVec 32 := 3#32
  let c12_i32_118 : BitVec 32 := 12#32
  let v176 : BitVec 1 := Scalar.cmpi .eq v123 c12_i32_118
  let c3_i32_119 : BitVec 32 := 3#32
  let c11_i32_116 : BitVec 32 := 11#32
  let v174 : BitVec 1 := Scalar.cmpi .eq v123 c11_i32_116
  let c2_i32_117 : BitVec 32 := 2#32
  let c10_i32_114 : BitVec 32 := 10#32
  let v172 : BitVec 1 := Scalar.cmpi .eq v123 c10_i32_114
  let c1_i32_115 : BitVec 32 := 1#32
  let c9_i32_112 : BitVec 32 := 9#32
  let v170 : BitVec 1 := Scalar.cmpi .eq v123 c9_i32_112
  let c1_i32_113 : BitVec 32 := 1#32
  let c8_i32_110 : BitVec 32 := 8#32
  let v168 : BitVec 1 := Scalar.cmpi .eq v123 c8_i32_110
  let c2_i32_111 : BitVec 32 := 2#32
  let c7_i32_108 : BitVec 32 := 7#32
  let v166 : BitVec 1 := Scalar.cmpi .eq v123 c7_i32_108
  let c3_i32_109 : BitVec 32 := 3#32
  let c6_i32_106 : BitVec 32 := 6#32
  let v164 : BitVec 1 := Scalar.cmpi .eq v123 c6_i32_106
  let c3_i32_107 : BitVec 32 := 3#32
  let c5_i32_104 : BitVec 32 := 5#32
  let v162 : BitVec 1 := Scalar.cmpi .eq v123 c5_i32_104
  let c2_i32_105 : BitVec 32 := 2#32
  let c4_i32_102 : BitVec 32 := 4#32
  let v160 : BitVec 1 := Scalar.cmpi .eq v123 c4_i32_102
  let c1_i32_103 : BitVec 32 := 1#32
  let c3_i32_100 : BitVec 32 := 3#32
  let v158 : BitVec 1 := Scalar.cmpi .eq v123 c3_i32_100
  let c0_i32_101 : BitVec 32 := 0#32
  let c2_i32_98 : BitVec 32 := 2#32
  let v156 : BitVec 1 := Scalar.cmpi .eq v123 c2_i32_98
  let c0_i32_99 : BitVec 32 := 0#32
  let c1_i32_95 : BitVec 32 := 1#32
  let v154 : BitVec 1 := Scalar.cmpi .eq v123 c1_i32_95
  let c0_i32_96 : BitVec 32 := 0#32
  let c0_i32_97 : BitVec 32 := 0#32
  let v155 : BitVec 32 := Scalar.select v154 c0_i32_96 c0_i32_97
  let v157 : BitVec 32 := Scalar.select v156 c0_i32_99 v155
  let v159 : BitVec 32 := Scalar.select v158 c0_i32_101 v157
  let v161 : BitVec 32 := Scalar.select v160 c1_i32_103 v159
  let v163 : BitVec 32 := Scalar.select v162 c2_i32_105 v161
  let v165 : BitVec 32 := Scalar.select v164 c3_i32_107 v163
  let v167 : BitVec 32 := Scalar.select v166 c3_i32_109 v165
  let v169 : BitVec 32 := Scalar.select v168 c2_i32_111 v167
  let v171 : BitVec 32 := Scalar.select v170 c1_i32_113 v169
  let v173 : BitVec 32 := Scalar.select v172 c1_i32_115 v171
  let v175 : BitVec 32 := Scalar.select v174 c2_i32_117 v173
  let v177 : BitVec 32 := Scalar.select v176 c3_i32_119 v175
  let v179 : BitVec 32 := Scalar.select v178 c3_i32_121 v177
  let v181 : BitVec 32 := Scalar.select v180 c2_i32_123 v179
  let v183 : BitVec 32 := Scalar.select v182 c1_i32_125 v181
  let v184 : BitVec 32 := Scalar.muli c8_i32_126 v183
  let c2_i32_127 : BitVec 32 := 2#32
  let c15_i32_93 : BitVec 32 := 15#32
  let v152 : BitVec 1 := Scalar.cmpi .eq v123 c15_i32_93
  let c0_i32_94 : BitVec 32 := 0#32
  let c14_i32_91 : BitVec 32 := 14#32
  let v150 : BitVec 1 := Scalar.cmpi .eq v123 c14_i32_91
  let c0_i32_92 : BitVec 32 := 0#32
  let c13_i32_89 : BitVec 32 := 13#32
  let v148 : BitVec 1 := Scalar.cmpi .eq v123 c13_i32_89
  let c0_i32_90 : BitVec 32 := 0#32
  let c12_i32_87 : BitVec 32 := 12#32
  let v146 : BitVec 1 := Scalar.cmpi .eq v123 c12_i32_87
  let c1_i32_88 : BitVec 32 := 1#32
  let c11_i32_85 : BitVec 32 := 11#32
  let v144 : BitVec 1 := Scalar.cmpi .eq v123 c11_i32_85
  let c1_i32_86 : BitVec 32 := 1#32
  let c10_i32_83 : BitVec 32 := 10#32
  let v142 : BitVec 1 := Scalar.cmpi .eq v123 c10_i32_83
  let c1_i32_84 : BitVec 32 := 1#32
  let c9_i32_81 : BitVec 32 := 9#32
  let v140 : BitVec 1 := Scalar.cmpi .eq v123 c9_i32_81
  let c2_i32_82 : BitVec 32 := 2#32
  let c8_i32_79 : BitVec 32 := 8#32
  let v138 : BitVec 1 := Scalar.cmpi .eq v123 c8_i32_79
  let c2_i32_80 : BitVec 32 := 2#32
  let c7_i32_77 : BitVec 32 := 7#32
  let v136 : BitVec 1 := Scalar.cmpi .eq v123 c7_i32_77
  let c2_i32_78 : BitVec 32 := 2#32
  let c6_i32_75 : BitVec 32 := 6#32
  let v134 : BitVec 1 := Scalar.cmpi .eq v123 c6_i32_75
  let c3_i32_76 : BitVec 32 := 3#32
  let c5_i32_73 : BitVec 32 := 5#32
  let v132 : BitVec 1 := Scalar.cmpi .eq v123 c5_i32_73
  let c3_i32_74 : BitVec 32 := 3#32
  let c4_i32_71 : BitVec 32 := 4#32
  let v130 : BitVec 1 := Scalar.cmpi .eq v123 c4_i32_71
  let c3_i32_72 : BitVec 32 := 3#32
  let c3_i32_69 : BitVec 32 := 3#32
  let v128 : BitVec 1 := Scalar.cmpi .eq v123 c3_i32_69
  let c3_i32_70 : BitVec 32 := 3#32
  let c2_i32_67 : BitVec 32 := 2#32
  let v126 : BitVec 1 := Scalar.cmpi .eq v123 c2_i32_67
  let c2_i32_68 : BitVec 32 := 2#32
  let c1_i32_64 : BitVec 32 := 1#32
  let v124 : BitVec 1 := Scalar.cmpi .eq v123 c1_i32_64
  let c1_i32_65 : BitVec 32 := 1#32
  let c0_i32_66 : BitVec 32 := 0#32
  let v125 : BitVec 32 := Scalar.select v124 c1_i32_65 c0_i32_66
  let v127 : BitVec 32 := Scalar.select v126 c2_i32_68 v125
  let v129 : BitVec 32 := Scalar.select v128 c3_i32_70 v127
  let v131 : BitVec 32 := Scalar.select v130 c3_i32_72 v129
  let v133 : BitVec 32 := Scalar.select v132 c3_i32_74 v131
  let v135 : BitVec 32 := Scalar.select v134 c3_i32_76 v133
  let v137 : BitVec 32 := Scalar.select v136 c2_i32_78 v135
  let v139 : BitVec 32 := Scalar.select v138 c2_i32_80 v137
  let v141 : BitVec 32 := Scalar.select v140 c2_i32_82 v139
  let v143 : BitVec 32 := Scalar.select v142 c1_i32_84 v141
  let v145 : BitVec 32 := Scalar.select v144 c1_i32_86 v143
  let v147 : BitVec 32 := Scalar.select v146 c1_i32_88 v145
  let v149 : BitVec 32 := Scalar.select v148 c0_i32_90 v147
  let v151 : BitVec 32 := Scalar.select v150 c0_i32_92 v149
  let v153 : BitVec 32 := Scalar.select v152 c0_i32_94 v151
  let v185 : BitVec 32 := Scalar.muli c2_i32_127 v153
  let v186 : BitVec 32 := Scalar.addi v184 v185
  let c2_i32_128 : BitVec 32 := 2#32
  let c0_i32_129 : BitVec 32 := 0#32
  let v187 : BitVec 1 := Scalar.cmpi .eq c2_i32_128 c0_i32_129
  let c1_i32_130 : BitVec 32 := 1#32
  let v188 : BitVec 32 := Scalar.select v187 c1_i32_130 c2_i32_128
  let v189 : BitVec 32 := Scalar.remsi v153 v188
  let c0_i32_132 : BitVec 32 := 0#32
  let v191 : BitVec 1 := Scalar.cmpi .slt v189 c0_i32_132
  let c0_i32_133 : BitVec 32 := 0#32
  let v192 : BitVec 1 := Scalar.cmpi .slt v188 c0_i32_133
  let v193 : BitVec 1 := Scalar.xori v191 v192
  let c0_i32_131 : BitVec 32 := 0#32
  let v190 : BitVec 1 := Scalar.cmpi .ne v189 c0_i32_131
  let v194 : BitVec 1 := Scalar.andi v193 v190
  let v195 : BitVec 32 := Scalar.addi v189 v188
  let v196 : BitVec 32 := Scalar.select v194 v195 v189
  let c0_i32_134 : BitVec 32 := 0#32
  let v197 : BitVec 1 := Scalar.cmpi .eq v196 c0_i32_134
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_135 : BitVec 32 := 1#32
  let v198 : BitVec 32 := Scalar.subi c1_i32_135 v79
  let v199 : BitVec 32 := Scalar.select v197 v79 v198
  let v200 : BitVec 32 := Scalar.addi v186 v199
  let c1_i32_1747 : BitVec 32 := 1#32
  let v1982 : BitVec 32 := Scalar.muli v200 c1_i32_1747
  let v1983 : BitVec 32 := Scalar.addi c0_i32_1748 v1982
  v1983.toNat
def k0_dev35 (d0 : Dev nD) : Nat :=
  let c0_i32_1757 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_57 : BitVec 32 := 1#32
  let v112 : BitVec 32 := Scalar.xori v2 c1_i32_57
  let c1_i32_1756 : BitVec 32 := 1#32
  let v1994 : BitVec 32 := Scalar.muli v112 c1_i32_1756
  let v1995 : BitVec 32 := Scalar.addi c0_i32_1757 v1994
  v1995.toNat
def k0_dev36 (d0 : Dev nD) : Nat :=
  let c0_i32_1777 : BitVec 32 := 0#32
  let c8_i32_206 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v80 : BitVec 32 := Scalar.muli c4_i32 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v81 : BitVec 32 := Scalar.addi v80 v46
  let c15_i32_55 : BitVec 32 := 15#32
  let v110 : BitVec 1 := Scalar.cmpi .eq v81 c15_i32_55
  let c6_i32_56 : BitVec 32 := 6#32
  let c14_i32_53 : BitVec 32 := 14#32
  let v108 : BitVec 1 := Scalar.cmpi .eq v81 c14_i32_53
  let c7_i32_54 : BitVec 32 := 7#32
  let c13_i32_51 : BitVec 32 := 13#32
  let v106 : BitVec 1 := Scalar.cmpi .eq v81 c13_i32_51
  let c12_i32_52 : BitVec 32 := 12#32
  let c12_i32 : BitVec 32 := 12#32
  let v104 : BitVec 1 := Scalar.cmpi .eq v81 c12_i32
  let c13_i32 : BitVec 32 := 13#32
  let c11_i32_49 : BitVec 32 := 11#32
  let v102 : BitVec 1 := Scalar.cmpi .eq v81 c11_i32_49
  let c5_i32_50 : BitVec 32 := 5#32
  let c10_i32_47 : BitVec 32 := 10#32
  let v100 : BitVec 1 := Scalar.cmpi .eq v81 c10_i32_47
  let c8_i32_48 : BitVec 32 := 8#32
  let c9_i32_46 : BitVec 32 := 9#32
  let v98 : BitVec 1 := Scalar.cmpi .eq v81 c9_i32_46
  let c11_i32 : BitVec 32 := 11#32
  let c8_i32_45 : BitVec 32 := 8#32
  let v96 : BitVec 1 := Scalar.cmpi .eq v81 c8_i32_45
  let c14_i32 : BitVec 32 := 14#32
  let c7_i32 : BitVec 32 := 7#32
  let v94 : BitVec 1 := Scalar.cmpi .eq v81 c7_i32
  let c4_i32_44 : BitVec 32 := 4#32
  let c6_i32 : BitVec 32 := 6#32
  let v92 : BitVec 1 := Scalar.cmpi .eq v81 c6_i32
  let c9_i32 : BitVec 32 := 9#32
  let c5_i32 : BitVec 32 := 5#32
  let v90 : BitVec 1 := Scalar.cmpi .eq v81 c5_i32
  let c10_i32 : BitVec 32 := 10#32
  let c4_i32_43 : BitVec 32 := 4#32
  let v88 : BitVec 1 := Scalar.cmpi .eq v81 c4_i32_43
  let c15_i32 : BitVec 32 := 15#32
  let c3_i32 : BitVec 32 := 3#32
  let v86 : BitVec 1 := Scalar.cmpi .eq v81 c3_i32
  let c3_i32_42 : BitVec 32 := 3#32
  let c2_i32_40 : BitVec 32 := 2#32
  let v84 : BitVec 1 := Scalar.cmpi .eq v81 c2_i32_40
  let c2_i32_41 : BitVec 32 := 2#32
  let c1_i32_37 : BitVec 32 := 1#32
  let v82 : BitVec 1 := Scalar.cmpi .eq v81 c1_i32_37
  let c1_i32_38 : BitVec 32 := 1#32
  let c0_i32_39 : BitVec 32 := 0#32
  let v83 : BitVec 32 := Scalar.select v82 c1_i32_38 c0_i32_39
  let v85 : BitVec 32 := Scalar.select v84 c2_i32_41 v83
  let v87 : BitVec 32 := Scalar.select v86 c3_i32_42 v85
  let v89 : BitVec 32 := Scalar.select v88 c15_i32 v87
  let v91 : BitVec 32 := Scalar.select v90 c10_i32 v89
  let v93 : BitVec 32 := Scalar.select v92 c9_i32 v91
  let v95 : BitVec 32 := Scalar.select v94 c4_i32_44 v93
  let v97 : BitVec 32 := Scalar.select v96 c14_i32 v95
  let v99 : BitVec 32 := Scalar.select v98 c11_i32 v97
  let v101 : BitVec 32 := Scalar.select v100 c8_i32_48 v99
  let v103 : BitVec 32 := Scalar.select v102 c5_i32_50 v101
  let v105 : BitVec 32 := Scalar.select v104 c13_i32 v103
  let v107 : BitVec 32 := Scalar.select v106 c12_i32_52 v105
  let v109 : BitVec 32 := Scalar.select v108 c7_i32_54 v107
  let v111 : BitVec 32 := Scalar.select v110 c6_i32_56 v109
  let c16_i32_136 : BitVec 32 := 16#32
  let v201 : BitVec 32 := Scalar.addi v111 c16_i32_136
  let c1_i32_137 : BitVec 32 := 1#32
  let v202 : BitVec 32 := Scalar.subi v201 c1_i32_137
  let c16_i32_138 : BitVec 32 := 16#32
  let c0_i32_139 : BitVec 32 := 0#32
  let v203 : BitVec 1 := Scalar.cmpi .eq c16_i32_138 c0_i32_139
  let c1_i32_140 : BitVec 32 := 1#32
  let v204 : BitVec 32 := Scalar.select v203 c1_i32_140 c16_i32_138
  let v205 : BitVec 32 := Scalar.remsi v202 v204
  let c0_i32_142 : BitVec 32 := 0#32
  let v207 : BitVec 1 := Scalar.cmpi .slt v205 c0_i32_142
  let c0_i32_143 : BitVec 32 := 0#32
  let v208 : BitVec 1 := Scalar.cmpi .slt v204 c0_i32_143
  let v209 : BitVec 1 := Scalar.xori v207 v208
  let c0_i32_141 : BitVec 32 := 0#32
  let v206 : BitVec 1 := Scalar.cmpi .ne v205 c0_i32_141
  let v210 : BitVec 1 := Scalar.andi v209 v206
  let v211 : BitVec 32 := Scalar.addi v205 v204
  let v212 : BitVec 32 := Scalar.select v210 v211 v205
  let c15_i32_204 : BitVec 32 := 15#32
  let v271 : BitVec 1 := Scalar.cmpi .eq v212 c15_i32_204
  let c1_i32_205 : BitVec 32 := 1#32
  let c14_i32_202 : BitVec 32 := 14#32
  let v269 : BitVec 1 := Scalar.cmpi .eq v212 c14_i32_202
  let c2_i32_203 : BitVec 32 := 2#32
  let c13_i32_200 : BitVec 32 := 13#32
  let v267 : BitVec 1 := Scalar.cmpi .eq v212 c13_i32_200
  let c3_i32_201 : BitVec 32 := 3#32
  let c12_i32_198 : BitVec 32 := 12#32
  let v265 : BitVec 1 := Scalar.cmpi .eq v212 c12_i32_198
  let c3_i32_199 : BitVec 32 := 3#32
  let c11_i32_196 : BitVec 32 := 11#32
  let v263 : BitVec 1 := Scalar.cmpi .eq v212 c11_i32_196
  let c2_i32_197 : BitVec 32 := 2#32
  let c10_i32_194 : BitVec 32 := 10#32
  let v261 : BitVec 1 := Scalar.cmpi .eq v212 c10_i32_194
  let c1_i32_195 : BitVec 32 := 1#32
  let c9_i32_192 : BitVec 32 := 9#32
  let v259 : BitVec 1 := Scalar.cmpi .eq v212 c9_i32_192
  let c1_i32_193 : BitVec 32 := 1#32
  let c8_i32_190 : BitVec 32 := 8#32
  let v257 : BitVec 1 := Scalar.cmpi .eq v212 c8_i32_190
  let c2_i32_191 : BitVec 32 := 2#32
  let c7_i32_188 : BitVec 32 := 7#32
  let v255 : BitVec 1 := Scalar.cmpi .eq v212 c7_i32_188
  let c3_i32_189 : BitVec 32 := 3#32
  let c6_i32_186 : BitVec 32 := 6#32
  let v253 : BitVec 1 := Scalar.cmpi .eq v212 c6_i32_186
  let c3_i32_187 : BitVec 32 := 3#32
  let c5_i32_184 : BitVec 32 := 5#32
  let v251 : BitVec 1 := Scalar.cmpi .eq v212 c5_i32_184
  let c2_i32_185 : BitVec 32 := 2#32
  let c4_i32_182 : BitVec 32 := 4#32
  let v249 : BitVec 1 := Scalar.cmpi .eq v212 c4_i32_182
  let c1_i32_183 : BitVec 32 := 1#32
  let c3_i32_180 : BitVec 32 := 3#32
  let v247 : BitVec 1 := Scalar.cmpi .eq v212 c3_i32_180
  let c0_i32_181 : BitVec 32 := 0#32
  let c2_i32_178 : BitVec 32 := 2#32
  let v245 : BitVec 1 := Scalar.cmpi .eq v212 c2_i32_178
  let c0_i32_179 : BitVec 32 := 0#32
  let c1_i32_175 : BitVec 32 := 1#32
  let v243 : BitVec 1 := Scalar.cmpi .eq v212 c1_i32_175
  let c0_i32_176 : BitVec 32 := 0#32
  let c0_i32_177 : BitVec 32 := 0#32
  let v244 : BitVec 32 := Scalar.select v243 c0_i32_176 c0_i32_177
  let v246 : BitVec 32 := Scalar.select v245 c0_i32_179 v244
  let v248 : BitVec 32 := Scalar.select v247 c0_i32_181 v246
  let v250 : BitVec 32 := Scalar.select v249 c1_i32_183 v248
  let v252 : BitVec 32 := Scalar.select v251 c2_i32_185 v250
  let v254 : BitVec 32 := Scalar.select v253 c3_i32_187 v252
  let v256 : BitVec 32 := Scalar.select v255 c3_i32_189 v254
  let v258 : BitVec 32 := Scalar.select v257 c2_i32_191 v256
  let v260 : BitVec 32 := Scalar.select v259 c1_i32_193 v258
  let v262 : BitVec 32 := Scalar.select v261 c1_i32_195 v260
  let v264 : BitVec 32 := Scalar.select v263 c2_i32_197 v262
  let v266 : BitVec 32 := Scalar.select v265 c3_i32_199 v264
  let v268 : BitVec 32 := Scalar.select v267 c3_i32_201 v266
  let v270 : BitVec 32 := Scalar.select v269 c2_i32_203 v268
  let v272 : BitVec 32 := Scalar.select v271 c1_i32_205 v270
  let v273 : BitVec 32 := Scalar.muli c8_i32_206 v272
  let c2_i32_207 : BitVec 32 := 2#32
  let c15_i32_173 : BitVec 32 := 15#32
  let v241 : BitVec 1 := Scalar.cmpi .eq v212 c15_i32_173
  let c0_i32_174 : BitVec 32 := 0#32
  let c14_i32_171 : BitVec 32 := 14#32
  let v239 : BitVec 1 := Scalar.cmpi .eq v212 c14_i32_171
  let c0_i32_172 : BitVec 32 := 0#32
  let c13_i32_169 : BitVec 32 := 13#32
  let v237 : BitVec 1 := Scalar.cmpi .eq v212 c13_i32_169
  let c0_i32_170 : BitVec 32 := 0#32
  let c12_i32_167 : BitVec 32 := 12#32
  let v235 : BitVec 1 := Scalar.cmpi .eq v212 c12_i32_167
  let c1_i32_168 : BitVec 32 := 1#32
  let c11_i32_165 : BitVec 32 := 11#32
  let v233 : BitVec 1 := Scalar.cmpi .eq v212 c11_i32_165
  let c1_i32_166 : BitVec 32 := 1#32
  let c10_i32_163 : BitVec 32 := 10#32
  let v231 : BitVec 1 := Scalar.cmpi .eq v212 c10_i32_163
  let c1_i32_164 : BitVec 32 := 1#32
  let c9_i32_161 : BitVec 32 := 9#32
  let v229 : BitVec 1 := Scalar.cmpi .eq v212 c9_i32_161
  let c2_i32_162 : BitVec 32 := 2#32
  let c8_i32_159 : BitVec 32 := 8#32
  let v227 : BitVec 1 := Scalar.cmpi .eq v212 c8_i32_159
  let c2_i32_160 : BitVec 32 := 2#32
  let c7_i32_157 : BitVec 32 := 7#32
  let v225 : BitVec 1 := Scalar.cmpi .eq v212 c7_i32_157
  let c2_i32_158 : BitVec 32 := 2#32
  let c6_i32_155 : BitVec 32 := 6#32
  let v223 : BitVec 1 := Scalar.cmpi .eq v212 c6_i32_155
  let c3_i32_156 : BitVec 32 := 3#32
  let c5_i32_153 : BitVec 32 := 5#32
  let v221 : BitVec 1 := Scalar.cmpi .eq v212 c5_i32_153
  let c3_i32_154 : BitVec 32 := 3#32
  let c4_i32_151 : BitVec 32 := 4#32
  let v219 : BitVec 1 := Scalar.cmpi .eq v212 c4_i32_151
  let c3_i32_152 : BitVec 32 := 3#32
  let c3_i32_149 : BitVec 32 := 3#32
  let v217 : BitVec 1 := Scalar.cmpi .eq v212 c3_i32_149
  let c3_i32_150 : BitVec 32 := 3#32
  let c2_i32_147 : BitVec 32 := 2#32
  let v215 : BitVec 1 := Scalar.cmpi .eq v212 c2_i32_147
  let c2_i32_148 : BitVec 32 := 2#32
  let c1_i32_144 : BitVec 32 := 1#32
  let v213 : BitVec 1 := Scalar.cmpi .eq v212 c1_i32_144
  let c1_i32_145 : BitVec 32 := 1#32
  let c0_i32_146 : BitVec 32 := 0#32
  let v214 : BitVec 32 := Scalar.select v213 c1_i32_145 c0_i32_146
  let v216 : BitVec 32 := Scalar.select v215 c2_i32_148 v214
  let v218 : BitVec 32 := Scalar.select v217 c3_i32_150 v216
  let v220 : BitVec 32 := Scalar.select v219 c3_i32_152 v218
  let v222 : BitVec 32 := Scalar.select v221 c3_i32_154 v220
  let v224 : BitVec 32 := Scalar.select v223 c3_i32_156 v222
  let v226 : BitVec 32 := Scalar.select v225 c2_i32_158 v224
  let v228 : BitVec 32 := Scalar.select v227 c2_i32_160 v226
  let v230 : BitVec 32 := Scalar.select v229 c2_i32_162 v228
  let v232 : BitVec 32 := Scalar.select v231 c1_i32_164 v230
  let v234 : BitVec 32 := Scalar.select v233 c1_i32_166 v232
  let v236 : BitVec 32 := Scalar.select v235 c1_i32_168 v234
  let v238 : BitVec 32 := Scalar.select v237 c0_i32_170 v236
  let v240 : BitVec 32 := Scalar.select v239 c0_i32_172 v238
  let v242 : BitVec 32 := Scalar.select v241 c0_i32_174 v240
  let v274 : BitVec 32 := Scalar.muli c2_i32_207 v242
  let v275 : BitVec 32 := Scalar.addi v273 v274
  let c2_i32_208 : BitVec 32 := 2#32
  let c0_i32_209 : BitVec 32 := 0#32
  let v276 : BitVec 1 := Scalar.cmpi .eq c2_i32_208 c0_i32_209
  let c1_i32_210 : BitVec 32 := 1#32
  let v277 : BitVec 32 := Scalar.select v276 c1_i32_210 c2_i32_208
  let v278 : BitVec 32 := Scalar.remsi v242 v277
  let c0_i32_212 : BitVec 32 := 0#32
  let v280 : BitVec 1 := Scalar.cmpi .slt v278 c0_i32_212
  let c0_i32_213 : BitVec 32 := 0#32
  let v281 : BitVec 1 := Scalar.cmpi .slt v277 c0_i32_213
  let v282 : BitVec 1 := Scalar.xori v280 v281
  let c0_i32_211 : BitVec 32 := 0#32
  let v279 : BitVec 1 := Scalar.cmpi .ne v278 c0_i32_211
  let v283 : BitVec 1 := Scalar.andi v282 v279
  let v284 : BitVec 32 := Scalar.addi v278 v277
  let v285 : BitVec 32 := Scalar.select v283 v284 v278
  let c0_i32_214 : BitVec 32 := 0#32
  let v286 : BitVec 1 := Scalar.cmpi .eq v285 c0_i32_214
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_215 : BitVec 32 := 1#32
  let v287 : BitVec 32 := Scalar.subi c1_i32_215 v79
  let v288 : BitVec 32 := Scalar.select v286 v79 v287
  let v289 : BitVec 32 := Scalar.addi v275 v288
  let c1_i32_1776 : BitVec 32 := 1#32
  let v2016 : BitVec 32 := Scalar.muli v289 c1_i32_1776
  let v2017 : BitVec 32 := Scalar.addi c0_i32_1777 v2016
  v2017.toNat
def k0_dev37 (d0 : Dev nD) : Nat :=
  let c0_i32_1786 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_57 : BitVec 32 := 1#32
  let v112 : BitVec 32 := Scalar.xori v2 c1_i32_57
  let c1_i32_1785 : BitVec 32 := 1#32
  let v2028 : BitVec 32 := Scalar.muli v112 c1_i32_1785
  let v2029 : BitVec 32 := Scalar.addi c0_i32_1786 v2028
  v2029.toNat
def k0_dev38 (d0 : Dev nD) : Nat :=
  let c0_i32_1806 : BitVec 32 := 0#32
  let c8_i32_126 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v80 : BitVec 32 := Scalar.muli c4_i32 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v81 : BitVec 32 := Scalar.addi v80 v46
  let c15_i32_55 : BitVec 32 := 15#32
  let v110 : BitVec 1 := Scalar.cmpi .eq v81 c15_i32_55
  let c6_i32_56 : BitVec 32 := 6#32
  let c14_i32_53 : BitVec 32 := 14#32
  let v108 : BitVec 1 := Scalar.cmpi .eq v81 c14_i32_53
  let c7_i32_54 : BitVec 32 := 7#32
  let c13_i32_51 : BitVec 32 := 13#32
  let v106 : BitVec 1 := Scalar.cmpi .eq v81 c13_i32_51
  let c12_i32_52 : BitVec 32 := 12#32
  let c12_i32 : BitVec 32 := 12#32
  let v104 : BitVec 1 := Scalar.cmpi .eq v81 c12_i32
  let c13_i32 : BitVec 32 := 13#32
  let c11_i32_49 : BitVec 32 := 11#32
  let v102 : BitVec 1 := Scalar.cmpi .eq v81 c11_i32_49
  let c5_i32_50 : BitVec 32 := 5#32
  let c10_i32_47 : BitVec 32 := 10#32
  let v100 : BitVec 1 := Scalar.cmpi .eq v81 c10_i32_47
  let c8_i32_48 : BitVec 32 := 8#32
  let c9_i32_46 : BitVec 32 := 9#32
  let v98 : BitVec 1 := Scalar.cmpi .eq v81 c9_i32_46
  let c11_i32 : BitVec 32 := 11#32
  let c8_i32_45 : BitVec 32 := 8#32
  let v96 : BitVec 1 := Scalar.cmpi .eq v81 c8_i32_45
  let c14_i32 : BitVec 32 := 14#32
  let c7_i32 : BitVec 32 := 7#32
  let v94 : BitVec 1 := Scalar.cmpi .eq v81 c7_i32
  let c4_i32_44 : BitVec 32 := 4#32
  let c6_i32 : BitVec 32 := 6#32
  let v92 : BitVec 1 := Scalar.cmpi .eq v81 c6_i32
  let c9_i32 : BitVec 32 := 9#32
  let c5_i32 : BitVec 32 := 5#32
  let v90 : BitVec 1 := Scalar.cmpi .eq v81 c5_i32
  let c10_i32 : BitVec 32 := 10#32
  let c4_i32_43 : BitVec 32 := 4#32
  let v88 : BitVec 1 := Scalar.cmpi .eq v81 c4_i32_43
  let c15_i32 : BitVec 32 := 15#32
  let c3_i32 : BitVec 32 := 3#32
  let v86 : BitVec 1 := Scalar.cmpi .eq v81 c3_i32
  let c3_i32_42 : BitVec 32 := 3#32
  let c2_i32_40 : BitVec 32 := 2#32
  let v84 : BitVec 1 := Scalar.cmpi .eq v81 c2_i32_40
  let c2_i32_41 : BitVec 32 := 2#32
  let c1_i32_37 : BitVec 32 := 1#32
  let v82 : BitVec 1 := Scalar.cmpi .eq v81 c1_i32_37
  let c1_i32_38 : BitVec 32 := 1#32
  let c0_i32_39 : BitVec 32 := 0#32
  let v83 : BitVec 32 := Scalar.select v82 c1_i32_38 c0_i32_39
  let v85 : BitVec 32 := Scalar.select v84 c2_i32_41 v83
  let v87 : BitVec 32 := Scalar.select v86 c3_i32_42 v85
  let v89 : BitVec 32 := Scalar.select v88 c15_i32 v87
  let v91 : BitVec 32 := Scalar.select v90 c10_i32 v89
  let v93 : BitVec 32 := Scalar.select v92 c9_i32 v91
  let v95 : BitVec 32 := Scalar.select v94 c4_i32_44 v93
  let v97 : BitVec 32 := Scalar.select v96 c14_i32 v95
  let v99 : BitVec 32 := Scalar.select v98 c11_i32 v97
  let v101 : BitVec 32 := Scalar.select v100 c8_i32_48 v99
  let v103 : BitVec 32 := Scalar.select v102 c5_i32_50 v101
  let v105 : BitVec 32 := Scalar.select v104 c13_i32 v103
  let v107 : BitVec 32 := Scalar.select v106 c12_i32_52 v105
  let v109 : BitVec 32 := Scalar.select v108 c7_i32_54 v107
  let v111 : BitVec 32 := Scalar.select v110 c6_i32_56 v109
  let c1_i32_58 : BitVec 32 := 1#32
  let v113 : BitVec 32 := Scalar.addi v111 c1_i32_58
  let c16_i32 : BitVec 32 := 16#32
  let c0_i32_59 : BitVec 32 := 0#32
  let v114 : BitVec 1 := Scalar.cmpi .eq c16_i32 c0_i32_59
  let c1_i32_60 : BitVec 32 := 1#32
  let v115 : BitVec 32 := Scalar.select v114 c1_i32_60 c16_i32
  let v116 : BitVec 32 := Scalar.remsi v113 v115
  let c0_i32_62 : BitVec 32 := 0#32
  let v118 : BitVec 1 := Scalar.cmpi .slt v116 c0_i32_62
  let c0_i32_63 : BitVec 32 := 0#32
  let v119 : BitVec 1 := Scalar.cmpi .slt v115 c0_i32_63
  let v120 : BitVec 1 := Scalar.xori v118 v119
  let c0_i32_61 : BitVec 32 := 0#32
  let v117 : BitVec 1 := Scalar.cmpi .ne v116 c0_i32_61
  let v121 : BitVec 1 := Scalar.andi v120 v117
  let v122 : BitVec 32 := Scalar.addi v116 v115
  let v123 : BitVec 32 := Scalar.select v121 v122 v116
  let c15_i32_124 : BitVec 32 := 15#32
  let v182 : BitVec 1 := Scalar.cmpi .eq v123 c15_i32_124
  let c1_i32_125 : BitVec 32 := 1#32
  let c14_i32_122 : BitVec 32 := 14#32
  let v180 : BitVec 1 := Scalar.cmpi .eq v123 c14_i32_122
  let c2_i32_123 : BitVec 32 := 2#32
  let c13_i32_120 : BitVec 32 := 13#32
  let v178 : BitVec 1 := Scalar.cmpi .eq v123 c13_i32_120
  let c3_i32_121 : BitVec 32 := 3#32
  let c12_i32_118 : BitVec 32 := 12#32
  let v176 : BitVec 1 := Scalar.cmpi .eq v123 c12_i32_118
  let c3_i32_119 : BitVec 32 := 3#32
  let c11_i32_116 : BitVec 32 := 11#32
  let v174 : BitVec 1 := Scalar.cmpi .eq v123 c11_i32_116
  let c2_i32_117 : BitVec 32 := 2#32
  let c10_i32_114 : BitVec 32 := 10#32
  let v172 : BitVec 1 := Scalar.cmpi .eq v123 c10_i32_114
  let c1_i32_115 : BitVec 32 := 1#32
  let c9_i32_112 : BitVec 32 := 9#32
  let v170 : BitVec 1 := Scalar.cmpi .eq v123 c9_i32_112
  let c1_i32_113 : BitVec 32 := 1#32
  let c8_i32_110 : BitVec 32 := 8#32
  let v168 : BitVec 1 := Scalar.cmpi .eq v123 c8_i32_110
  let c2_i32_111 : BitVec 32 := 2#32
  let c7_i32_108 : BitVec 32 := 7#32
  let v166 : BitVec 1 := Scalar.cmpi .eq v123 c7_i32_108
  let c3_i32_109 : BitVec 32 := 3#32
  let c6_i32_106 : BitVec 32 := 6#32
  let v164 : BitVec 1 := Scalar.cmpi .eq v123 c6_i32_106
  let c3_i32_107 : BitVec 32 := 3#32
  let c5_i32_104 : BitVec 32 := 5#32
  let v162 : BitVec 1 := Scalar.cmpi .eq v123 c5_i32_104
  let c2_i32_105 : BitVec 32 := 2#32
  let c4_i32_102 : BitVec 32 := 4#32
  let v160 : BitVec 1 := Scalar.cmpi .eq v123 c4_i32_102
  let c1_i32_103 : BitVec 32 := 1#32
  let c3_i32_100 : BitVec 32 := 3#32
  let v158 : BitVec 1 := Scalar.cmpi .eq v123 c3_i32_100
  let c0_i32_101 : BitVec 32 := 0#32
  let c2_i32_98 : BitVec 32 := 2#32
  let v156 : BitVec 1 := Scalar.cmpi .eq v123 c2_i32_98
  let c0_i32_99 : BitVec 32 := 0#32
  let c1_i32_95 : BitVec 32 := 1#32
  let v154 : BitVec 1 := Scalar.cmpi .eq v123 c1_i32_95
  let c0_i32_96 : BitVec 32 := 0#32
  let c0_i32_97 : BitVec 32 := 0#32
  let v155 : BitVec 32 := Scalar.select v154 c0_i32_96 c0_i32_97
  let v157 : BitVec 32 := Scalar.select v156 c0_i32_99 v155
  let v159 : BitVec 32 := Scalar.select v158 c0_i32_101 v157
  let v161 : BitVec 32 := Scalar.select v160 c1_i32_103 v159
  let v163 : BitVec 32 := Scalar.select v162 c2_i32_105 v161
  let v165 : BitVec 32 := Scalar.select v164 c3_i32_107 v163
  let v167 : BitVec 32 := Scalar.select v166 c3_i32_109 v165
  let v169 : BitVec 32 := Scalar.select v168 c2_i32_111 v167
  let v171 : BitVec 32 := Scalar.select v170 c1_i32_113 v169
  let v173 : BitVec 32 := Scalar.select v172 c1_i32_115 v171
  let v175 : BitVec 32 := Scalar.select v174 c2_i32_117 v173
  let v177 : BitVec 32 := Scalar.select v176 c3_i32_119 v175
  let v179 : BitVec 32 := Scalar.select v178 c3_i32_121 v177
  let v181 : BitVec 32 := Scalar.select v180 c2_i32_123 v179
  let v183 : BitVec 32 := Scalar.select v182 c1_i32_125 v181
  let v184 : BitVec 32 := Scalar.muli c8_i32_126 v183
  let c2_i32_127 : BitVec 32 := 2#32
  let c15_i32_93 : BitVec 32 := 15#32
  let v152 : BitVec 1 := Scalar.cmpi .eq v123 c15_i32_93
  let c0_i32_94 : BitVec 32 := 0#32
  let c14_i32_91 : BitVec 32 := 14#32
  let v150 : BitVec 1 := Scalar.cmpi .eq v123 c14_i32_91
  let c0_i32_92 : BitVec 32 := 0#32
  let c13_i32_89 : BitVec 32 := 13#32
  let v148 : BitVec 1 := Scalar.cmpi .eq v123 c13_i32_89
  let c0_i32_90 : BitVec 32 := 0#32
  let c12_i32_87 : BitVec 32 := 12#32
  let v146 : BitVec 1 := Scalar.cmpi .eq v123 c12_i32_87
  let c1_i32_88 : BitVec 32 := 1#32
  let c11_i32_85 : BitVec 32 := 11#32
  let v144 : BitVec 1 := Scalar.cmpi .eq v123 c11_i32_85
  let c1_i32_86 : BitVec 32 := 1#32
  let c10_i32_83 : BitVec 32 := 10#32
  let v142 : BitVec 1 := Scalar.cmpi .eq v123 c10_i32_83
  let c1_i32_84 : BitVec 32 := 1#32
  let c9_i32_81 : BitVec 32 := 9#32
  let v140 : BitVec 1 := Scalar.cmpi .eq v123 c9_i32_81
  let c2_i32_82 : BitVec 32 := 2#32
  let c8_i32_79 : BitVec 32 := 8#32
  let v138 : BitVec 1 := Scalar.cmpi .eq v123 c8_i32_79
  let c2_i32_80 : BitVec 32 := 2#32
  let c7_i32_77 : BitVec 32 := 7#32
  let v136 : BitVec 1 := Scalar.cmpi .eq v123 c7_i32_77
  let c2_i32_78 : BitVec 32 := 2#32
  let c6_i32_75 : BitVec 32 := 6#32
  let v134 : BitVec 1 := Scalar.cmpi .eq v123 c6_i32_75
  let c3_i32_76 : BitVec 32 := 3#32
  let c5_i32_73 : BitVec 32 := 5#32
  let v132 : BitVec 1 := Scalar.cmpi .eq v123 c5_i32_73
  let c3_i32_74 : BitVec 32 := 3#32
  let c4_i32_71 : BitVec 32 := 4#32
  let v130 : BitVec 1 := Scalar.cmpi .eq v123 c4_i32_71
  let c3_i32_72 : BitVec 32 := 3#32
  let c3_i32_69 : BitVec 32 := 3#32
  let v128 : BitVec 1 := Scalar.cmpi .eq v123 c3_i32_69
  let c3_i32_70 : BitVec 32 := 3#32
  let c2_i32_67 : BitVec 32 := 2#32
  let v126 : BitVec 1 := Scalar.cmpi .eq v123 c2_i32_67
  let c2_i32_68 : BitVec 32 := 2#32
  let c1_i32_64 : BitVec 32 := 1#32
  let v124 : BitVec 1 := Scalar.cmpi .eq v123 c1_i32_64
  let c1_i32_65 : BitVec 32 := 1#32
  let c0_i32_66 : BitVec 32 := 0#32
  let v125 : BitVec 32 := Scalar.select v124 c1_i32_65 c0_i32_66
  let v127 : BitVec 32 := Scalar.select v126 c2_i32_68 v125
  let v129 : BitVec 32 := Scalar.select v128 c3_i32_70 v127
  let v131 : BitVec 32 := Scalar.select v130 c3_i32_72 v129
  let v133 : BitVec 32 := Scalar.select v132 c3_i32_74 v131
  let v135 : BitVec 32 := Scalar.select v134 c3_i32_76 v133
  let v137 : BitVec 32 := Scalar.select v136 c2_i32_78 v135
  let v139 : BitVec 32 := Scalar.select v138 c2_i32_80 v137
  let v141 : BitVec 32 := Scalar.select v140 c2_i32_82 v139
  let v143 : BitVec 32 := Scalar.select v142 c1_i32_84 v141
  let v145 : BitVec 32 := Scalar.select v144 c1_i32_86 v143
  let v147 : BitVec 32 := Scalar.select v146 c1_i32_88 v145
  let v149 : BitVec 32 := Scalar.select v148 c0_i32_90 v147
  let v151 : BitVec 32 := Scalar.select v150 c0_i32_92 v149
  let v153 : BitVec 32 := Scalar.select v152 c0_i32_94 v151
  let v185 : BitVec 32 := Scalar.muli c2_i32_127 v153
  let v186 : BitVec 32 := Scalar.addi v184 v185
  let c2_i32_128 : BitVec 32 := 2#32
  let c0_i32_129 : BitVec 32 := 0#32
  let v187 : BitVec 1 := Scalar.cmpi .eq c2_i32_128 c0_i32_129
  let c1_i32_130 : BitVec 32 := 1#32
  let v188 : BitVec 32 := Scalar.select v187 c1_i32_130 c2_i32_128
  let v189 : BitVec 32 := Scalar.remsi v153 v188
  let c0_i32_132 : BitVec 32 := 0#32
  let v191 : BitVec 1 := Scalar.cmpi .slt v189 c0_i32_132
  let c0_i32_133 : BitVec 32 := 0#32
  let v192 : BitVec 1 := Scalar.cmpi .slt v188 c0_i32_133
  let v193 : BitVec 1 := Scalar.xori v191 v192
  let c0_i32_131 : BitVec 32 := 0#32
  let v190 : BitVec 1 := Scalar.cmpi .ne v189 c0_i32_131
  let v194 : BitVec 1 := Scalar.andi v193 v190
  let v195 : BitVec 32 := Scalar.addi v189 v188
  let v196 : BitVec 32 := Scalar.select v194 v195 v189
  let c0_i32_134 : BitVec 32 := 0#32
  let v197 : BitVec 1 := Scalar.cmpi .eq v196 c0_i32_134
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_135 : BitVec 32 := 1#32
  let v198 : BitVec 32 := Scalar.subi c1_i32_135 v79
  let v199 : BitVec 32 := Scalar.select v197 v79 v198
  let v200 : BitVec 32 := Scalar.addi v186 v199
  let c1_i32_1805 : BitVec 32 := 1#32
  let v2050 : BitVec 32 := Scalar.muli v200 c1_i32_1805
  let v2051 : BitVec 32 := Scalar.addi c0_i32_1806 v2050
  v2051.toNat
def k0_dev39 (d0 : Dev nD) : Nat :=
  let c0_i32_1815 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_57 : BitVec 32 := 1#32
  let v112 : BitVec 32 := Scalar.xori v2 c1_i32_57
  let c1_i32_1814 : BitVec 32 := 1#32
  let v2062 : BitVec 32 := Scalar.muli v112 c1_i32_1814
  let v2063 : BitVec 32 := Scalar.addi c0_i32_1815 v2062
  v2063.toNat
def k0_dev40 (d0 : Dev nD) : Nat :=
  let c0_i32_1835 : BitVec 32 := 0#32
  let c8_i32_206 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v80 : BitVec 32 := Scalar.muli c4_i32 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v81 : BitVec 32 := Scalar.addi v80 v46
  let c15_i32_55 : BitVec 32 := 15#32
  let v110 : BitVec 1 := Scalar.cmpi .eq v81 c15_i32_55
  let c6_i32_56 : BitVec 32 := 6#32
  let c14_i32_53 : BitVec 32 := 14#32
  let v108 : BitVec 1 := Scalar.cmpi .eq v81 c14_i32_53
  let c7_i32_54 : BitVec 32 := 7#32
  let c13_i32_51 : BitVec 32 := 13#32
  let v106 : BitVec 1 := Scalar.cmpi .eq v81 c13_i32_51
  let c12_i32_52 : BitVec 32 := 12#32
  let c12_i32 : BitVec 32 := 12#32
  let v104 : BitVec 1 := Scalar.cmpi .eq v81 c12_i32
  let c13_i32 : BitVec 32 := 13#32
  let c11_i32_49 : BitVec 32 := 11#32
  let v102 : BitVec 1 := Scalar.cmpi .eq v81 c11_i32_49
  let c5_i32_50 : BitVec 32 := 5#32
  let c10_i32_47 : BitVec 32 := 10#32
  let v100 : BitVec 1 := Scalar.cmpi .eq v81 c10_i32_47
  let c8_i32_48 : BitVec 32 := 8#32
  let c9_i32_46 : BitVec 32 := 9#32
  let v98 : BitVec 1 := Scalar.cmpi .eq v81 c9_i32_46
  let c11_i32 : BitVec 32 := 11#32
  let c8_i32_45 : BitVec 32 := 8#32
  let v96 : BitVec 1 := Scalar.cmpi .eq v81 c8_i32_45
  let c14_i32 : BitVec 32 := 14#32
  let c7_i32 : BitVec 32 := 7#32
  let v94 : BitVec 1 := Scalar.cmpi .eq v81 c7_i32
  let c4_i32_44 : BitVec 32 := 4#32
  let c6_i32 : BitVec 32 := 6#32
  let v92 : BitVec 1 := Scalar.cmpi .eq v81 c6_i32
  let c9_i32 : BitVec 32 := 9#32
  let c5_i32 : BitVec 32 := 5#32
  let v90 : BitVec 1 := Scalar.cmpi .eq v81 c5_i32
  let c10_i32 : BitVec 32 := 10#32
  let c4_i32_43 : BitVec 32 := 4#32
  let v88 : BitVec 1 := Scalar.cmpi .eq v81 c4_i32_43
  let c15_i32 : BitVec 32 := 15#32
  let c3_i32 : BitVec 32 := 3#32
  let v86 : BitVec 1 := Scalar.cmpi .eq v81 c3_i32
  let c3_i32_42 : BitVec 32 := 3#32
  let c2_i32_40 : BitVec 32 := 2#32
  let v84 : BitVec 1 := Scalar.cmpi .eq v81 c2_i32_40
  let c2_i32_41 : BitVec 32 := 2#32
  let c1_i32_37 : BitVec 32 := 1#32
  let v82 : BitVec 1 := Scalar.cmpi .eq v81 c1_i32_37
  let c1_i32_38 : BitVec 32 := 1#32
  let c0_i32_39 : BitVec 32 := 0#32
  let v83 : BitVec 32 := Scalar.select v82 c1_i32_38 c0_i32_39
  let v85 : BitVec 32 := Scalar.select v84 c2_i32_41 v83
  let v87 : BitVec 32 := Scalar.select v86 c3_i32_42 v85
  let v89 : BitVec 32 := Scalar.select v88 c15_i32 v87
  let v91 : BitVec 32 := Scalar.select v90 c10_i32 v89
  let v93 : BitVec 32 := Scalar.select v92 c9_i32 v91
  let v95 : BitVec 32 := Scalar.select v94 c4_i32_44 v93
  let v97 : BitVec 32 := Scalar.select v96 c14_i32 v95
  let v99 : BitVec 32 := Scalar.select v98 c11_i32 v97
  let v101 : BitVec 32 := Scalar.select v100 c8_i32_48 v99
  let v103 : BitVec 32 := Scalar.select v102 c5_i32_50 v101
  let v105 : BitVec 32 := Scalar.select v104 c13_i32 v103
  let v107 : BitVec 32 := Scalar.select v106 c12_i32_52 v105
  let v109 : BitVec 32 := Scalar.select v108 c7_i32_54 v107
  let v111 : BitVec 32 := Scalar.select v110 c6_i32_56 v109
  let c16_i32_136 : BitVec 32 := 16#32
  let v201 : BitVec 32 := Scalar.addi v111 c16_i32_136
  let c1_i32_137 : BitVec 32 := 1#32
  let v202 : BitVec 32 := Scalar.subi v201 c1_i32_137
  let c16_i32_138 : BitVec 32 := 16#32
  let c0_i32_139 : BitVec 32 := 0#32
  let v203 : BitVec 1 := Scalar.cmpi .eq c16_i32_138 c0_i32_139
  let c1_i32_140 : BitVec 32 := 1#32
  let v204 : BitVec 32 := Scalar.select v203 c1_i32_140 c16_i32_138
  let v205 : BitVec 32 := Scalar.remsi v202 v204
  let c0_i32_142 : BitVec 32 := 0#32
  let v207 : BitVec 1 := Scalar.cmpi .slt v205 c0_i32_142
  let c0_i32_143 : BitVec 32 := 0#32
  let v208 : BitVec 1 := Scalar.cmpi .slt v204 c0_i32_143
  let v209 : BitVec 1 := Scalar.xori v207 v208
  let c0_i32_141 : BitVec 32 := 0#32
  let v206 : BitVec 1 := Scalar.cmpi .ne v205 c0_i32_141
  let v210 : BitVec 1 := Scalar.andi v209 v206
  let v211 : BitVec 32 := Scalar.addi v205 v204
  let v212 : BitVec 32 := Scalar.select v210 v211 v205
  let c15_i32_204 : BitVec 32 := 15#32
  let v271 : BitVec 1 := Scalar.cmpi .eq v212 c15_i32_204
  let c1_i32_205 : BitVec 32 := 1#32
  let c14_i32_202 : BitVec 32 := 14#32
  let v269 : BitVec 1 := Scalar.cmpi .eq v212 c14_i32_202
  let c2_i32_203 : BitVec 32 := 2#32
  let c13_i32_200 : BitVec 32 := 13#32
  let v267 : BitVec 1 := Scalar.cmpi .eq v212 c13_i32_200
  let c3_i32_201 : BitVec 32 := 3#32
  let c12_i32_198 : BitVec 32 := 12#32
  let v265 : BitVec 1 := Scalar.cmpi .eq v212 c12_i32_198
  let c3_i32_199 : BitVec 32 := 3#32
  let c11_i32_196 : BitVec 32 := 11#32
  let v263 : BitVec 1 := Scalar.cmpi .eq v212 c11_i32_196
  let c2_i32_197 : BitVec 32 := 2#32
  let c10_i32_194 : BitVec 32 := 10#32
  let v261 : BitVec 1 := Scalar.cmpi .eq v212 c10_i32_194
  let c1_i32_195 : BitVec 32 := 1#32
  let c9_i32_192 : BitVec 32 := 9#32
  let v259 : BitVec 1 := Scalar.cmpi .eq v212 c9_i32_192
  let c1_i32_193 : BitVec 32 := 1#32
  let c8_i32_190 : BitVec 32 := 8#32
  let v257 : BitVec 1 := Scalar.cmpi .eq v212 c8_i32_190
  let c2_i32_191 : BitVec 32 := 2#32
  let c7_i32_188 : BitVec 32 := 7#32
  let v255 : BitVec 1 := Scalar.cmpi .eq v212 c7_i32_188
  let c3_i32_189 : BitVec 32 := 3#32
  let c6_i32_186 : BitVec 32 := 6#32
  let v253 : BitVec 1 := Scalar.cmpi .eq v212 c6_i32_186
  let c3_i32_187 : BitVec 32 := 3#32
  let c5_i32_184 : BitVec 32 := 5#32
  let v251 : BitVec 1 := Scalar.cmpi .eq v212 c5_i32_184
  let c2_i32_185 : BitVec 32 := 2#32
  let c4_i32_182 : BitVec 32 := 4#32
  let v249 : BitVec 1 := Scalar.cmpi .eq v212 c4_i32_182
  let c1_i32_183 : BitVec 32 := 1#32
  let c3_i32_180 : BitVec 32 := 3#32
  let v247 : BitVec 1 := Scalar.cmpi .eq v212 c3_i32_180
  let c0_i32_181 : BitVec 32 := 0#32
  let c2_i32_178 : BitVec 32 := 2#32
  let v245 : BitVec 1 := Scalar.cmpi .eq v212 c2_i32_178
  let c0_i32_179 : BitVec 32 := 0#32
  let c1_i32_175 : BitVec 32 := 1#32
  let v243 : BitVec 1 := Scalar.cmpi .eq v212 c1_i32_175
  let c0_i32_176 : BitVec 32 := 0#32
  let c0_i32_177 : BitVec 32 := 0#32
  let v244 : BitVec 32 := Scalar.select v243 c0_i32_176 c0_i32_177
  let v246 : BitVec 32 := Scalar.select v245 c0_i32_179 v244
  let v248 : BitVec 32 := Scalar.select v247 c0_i32_181 v246
  let v250 : BitVec 32 := Scalar.select v249 c1_i32_183 v248
  let v252 : BitVec 32 := Scalar.select v251 c2_i32_185 v250
  let v254 : BitVec 32 := Scalar.select v253 c3_i32_187 v252
  let v256 : BitVec 32 := Scalar.select v255 c3_i32_189 v254
  let v258 : BitVec 32 := Scalar.select v257 c2_i32_191 v256
  let v260 : BitVec 32 := Scalar.select v259 c1_i32_193 v258
  let v262 : BitVec 32 := Scalar.select v261 c1_i32_195 v260
  let v264 : BitVec 32 := Scalar.select v263 c2_i32_197 v262
  let v266 : BitVec 32 := Scalar.select v265 c3_i32_199 v264
  let v268 : BitVec 32 := Scalar.select v267 c3_i32_201 v266
  let v270 : BitVec 32 := Scalar.select v269 c2_i32_203 v268
  let v272 : BitVec 32 := Scalar.select v271 c1_i32_205 v270
  let v273 : BitVec 32 := Scalar.muli c8_i32_206 v272
  let c2_i32_207 : BitVec 32 := 2#32
  let c15_i32_173 : BitVec 32 := 15#32
  let v241 : BitVec 1 := Scalar.cmpi .eq v212 c15_i32_173
  let c0_i32_174 : BitVec 32 := 0#32
  let c14_i32_171 : BitVec 32 := 14#32
  let v239 : BitVec 1 := Scalar.cmpi .eq v212 c14_i32_171
  let c0_i32_172 : BitVec 32 := 0#32
  let c13_i32_169 : BitVec 32 := 13#32
  let v237 : BitVec 1 := Scalar.cmpi .eq v212 c13_i32_169
  let c0_i32_170 : BitVec 32 := 0#32
  let c12_i32_167 : BitVec 32 := 12#32
  let v235 : BitVec 1 := Scalar.cmpi .eq v212 c12_i32_167
  let c1_i32_168 : BitVec 32 := 1#32
  let c11_i32_165 : BitVec 32 := 11#32
  let v233 : BitVec 1 := Scalar.cmpi .eq v212 c11_i32_165
  let c1_i32_166 : BitVec 32 := 1#32
  let c10_i32_163 : BitVec 32 := 10#32
  let v231 : BitVec 1 := Scalar.cmpi .eq v212 c10_i32_163
  let c1_i32_164 : BitVec 32 := 1#32
  let c9_i32_161 : BitVec 32 := 9#32
  let v229 : BitVec 1 := Scalar.cmpi .eq v212 c9_i32_161
  let c2_i32_162 : BitVec 32 := 2#32
  let c8_i32_159 : BitVec 32 := 8#32
  let v227 : BitVec 1 := Scalar.cmpi .eq v212 c8_i32_159
  let c2_i32_160 : BitVec 32 := 2#32
  let c7_i32_157 : BitVec 32 := 7#32
  let v225 : BitVec 1 := Scalar.cmpi .eq v212 c7_i32_157
  let c2_i32_158 : BitVec 32 := 2#32
  let c6_i32_155 : BitVec 32 := 6#32
  let v223 : BitVec 1 := Scalar.cmpi .eq v212 c6_i32_155
  let c3_i32_156 : BitVec 32 := 3#32
  let c5_i32_153 : BitVec 32 := 5#32
  let v221 : BitVec 1 := Scalar.cmpi .eq v212 c5_i32_153
  let c3_i32_154 : BitVec 32 := 3#32
  let c4_i32_151 : BitVec 32 := 4#32
  let v219 : BitVec 1 := Scalar.cmpi .eq v212 c4_i32_151
  let c3_i32_152 : BitVec 32 := 3#32
  let c3_i32_149 : BitVec 32 := 3#32
  let v217 : BitVec 1 := Scalar.cmpi .eq v212 c3_i32_149
  let c3_i32_150 : BitVec 32 := 3#32
  let c2_i32_147 : BitVec 32 := 2#32
  let v215 : BitVec 1 := Scalar.cmpi .eq v212 c2_i32_147
  let c2_i32_148 : BitVec 32 := 2#32
  let c1_i32_144 : BitVec 32 := 1#32
  let v213 : BitVec 1 := Scalar.cmpi .eq v212 c1_i32_144
  let c1_i32_145 : BitVec 32 := 1#32
  let c0_i32_146 : BitVec 32 := 0#32
  let v214 : BitVec 32 := Scalar.select v213 c1_i32_145 c0_i32_146
  let v216 : BitVec 32 := Scalar.select v215 c2_i32_148 v214
  let v218 : BitVec 32 := Scalar.select v217 c3_i32_150 v216
  let v220 : BitVec 32 := Scalar.select v219 c3_i32_152 v218
  let v222 : BitVec 32 := Scalar.select v221 c3_i32_154 v220
  let v224 : BitVec 32 := Scalar.select v223 c3_i32_156 v222
  let v226 : BitVec 32 := Scalar.select v225 c2_i32_158 v224
  let v228 : BitVec 32 := Scalar.select v227 c2_i32_160 v226
  let v230 : BitVec 32 := Scalar.select v229 c2_i32_162 v228
  let v232 : BitVec 32 := Scalar.select v231 c1_i32_164 v230
  let v234 : BitVec 32 := Scalar.select v233 c1_i32_166 v232
  let v236 : BitVec 32 := Scalar.select v235 c1_i32_168 v234
  let v238 : BitVec 32 := Scalar.select v237 c0_i32_170 v236
  let v240 : BitVec 32 := Scalar.select v239 c0_i32_172 v238
  let v242 : BitVec 32 := Scalar.select v241 c0_i32_174 v240
  let v274 : BitVec 32 := Scalar.muli c2_i32_207 v242
  let v275 : BitVec 32 := Scalar.addi v273 v274
  let c2_i32_208 : BitVec 32 := 2#32
  let c0_i32_209 : BitVec 32 := 0#32
  let v276 : BitVec 1 := Scalar.cmpi .eq c2_i32_208 c0_i32_209
  let c1_i32_210 : BitVec 32 := 1#32
  let v277 : BitVec 32 := Scalar.select v276 c1_i32_210 c2_i32_208
  let v278 : BitVec 32 := Scalar.remsi v242 v277
  let c0_i32_212 : BitVec 32 := 0#32
  let v280 : BitVec 1 := Scalar.cmpi .slt v278 c0_i32_212
  let c0_i32_213 : BitVec 32 := 0#32
  let v281 : BitVec 1 := Scalar.cmpi .slt v277 c0_i32_213
  let v282 : BitVec 1 := Scalar.xori v280 v281
  let c0_i32_211 : BitVec 32 := 0#32
  let v279 : BitVec 1 := Scalar.cmpi .ne v278 c0_i32_211
  let v283 : BitVec 1 := Scalar.andi v282 v279
  let v284 : BitVec 32 := Scalar.addi v278 v277
  let v285 : BitVec 32 := Scalar.select v283 v284 v278
  let c0_i32_214 : BitVec 32 := 0#32
  let v286 : BitVec 1 := Scalar.cmpi .eq v285 c0_i32_214
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_215 : BitVec 32 := 1#32
  let v287 : BitVec 32 := Scalar.subi c1_i32_215 v79
  let v288 : BitVec 32 := Scalar.select v286 v79 v287
  let v289 : BitVec 32 := Scalar.addi v275 v288
  let c1_i32_1834 : BitVec 32 := 1#32
  let v2084 : BitVec 32 := Scalar.muli v289 c1_i32_1834
  let v2085 : BitVec 32 := Scalar.addi c0_i32_1835 v2084
  v2085.toNat
def k0_dev41 (d0 : Dev nD) : Nat :=
  let c0_i32_1844 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_57 : BitVec 32 := 1#32
  let v112 : BitVec 32 := Scalar.xori v2 c1_i32_57
  let c1_i32_1843 : BitVec 32 := 1#32
  let v2096 : BitVec 32 := Scalar.muli v112 c1_i32_1843
  let v2097 : BitVec 32 := Scalar.addi c0_i32_1844 v2096
  v2097.toNat
def k0_dev42 (d0 : Dev nD) : Nat :=
  let c0_i32_1864 : BitVec 32 := 0#32
  let c8_i32_126 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v80 : BitVec 32 := Scalar.muli c4_i32 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v81 : BitVec 32 := Scalar.addi v80 v46
  let c15_i32_55 : BitVec 32 := 15#32
  let v110 : BitVec 1 := Scalar.cmpi .eq v81 c15_i32_55
  let c6_i32_56 : BitVec 32 := 6#32
  let c14_i32_53 : BitVec 32 := 14#32
  let v108 : BitVec 1 := Scalar.cmpi .eq v81 c14_i32_53
  let c7_i32_54 : BitVec 32 := 7#32
  let c13_i32_51 : BitVec 32 := 13#32
  let v106 : BitVec 1 := Scalar.cmpi .eq v81 c13_i32_51
  let c12_i32_52 : BitVec 32 := 12#32
  let c12_i32 : BitVec 32 := 12#32
  let v104 : BitVec 1 := Scalar.cmpi .eq v81 c12_i32
  let c13_i32 : BitVec 32 := 13#32
  let c11_i32_49 : BitVec 32 := 11#32
  let v102 : BitVec 1 := Scalar.cmpi .eq v81 c11_i32_49
  let c5_i32_50 : BitVec 32 := 5#32
  let c10_i32_47 : BitVec 32 := 10#32
  let v100 : BitVec 1 := Scalar.cmpi .eq v81 c10_i32_47
  let c8_i32_48 : BitVec 32 := 8#32
  let c9_i32_46 : BitVec 32 := 9#32
  let v98 : BitVec 1 := Scalar.cmpi .eq v81 c9_i32_46
  let c11_i32 : BitVec 32 := 11#32
  let c8_i32_45 : BitVec 32 := 8#32
  let v96 : BitVec 1 := Scalar.cmpi .eq v81 c8_i32_45
  let c14_i32 : BitVec 32 := 14#32
  let c7_i32 : BitVec 32 := 7#32
  let v94 : BitVec 1 := Scalar.cmpi .eq v81 c7_i32
  let c4_i32_44 : BitVec 32 := 4#32
  let c6_i32 : BitVec 32 := 6#32
  let v92 : BitVec 1 := Scalar.cmpi .eq v81 c6_i32
  let c9_i32 : BitVec 32 := 9#32
  let c5_i32 : BitVec 32 := 5#32
  let v90 : BitVec 1 := Scalar.cmpi .eq v81 c5_i32
  let c10_i32 : BitVec 32 := 10#32
  let c4_i32_43 : BitVec 32 := 4#32
  let v88 : BitVec 1 := Scalar.cmpi .eq v81 c4_i32_43
  let c15_i32 : BitVec 32 := 15#32
  let c3_i32 : BitVec 32 := 3#32
  let v86 : BitVec 1 := Scalar.cmpi .eq v81 c3_i32
  let c3_i32_42 : BitVec 32 := 3#32
  let c2_i32_40 : BitVec 32 := 2#32
  let v84 : BitVec 1 := Scalar.cmpi .eq v81 c2_i32_40
  let c2_i32_41 : BitVec 32 := 2#32
  let c1_i32_37 : BitVec 32 := 1#32
  let v82 : BitVec 1 := Scalar.cmpi .eq v81 c1_i32_37
  let c1_i32_38 : BitVec 32 := 1#32
  let c0_i32_39 : BitVec 32 := 0#32
  let v83 : BitVec 32 := Scalar.select v82 c1_i32_38 c0_i32_39
  let v85 : BitVec 32 := Scalar.select v84 c2_i32_41 v83
  let v87 : BitVec 32 := Scalar.select v86 c3_i32_42 v85
  let v89 : BitVec 32 := Scalar.select v88 c15_i32 v87
  let v91 : BitVec 32 := Scalar.select v90 c10_i32 v89
  let v93 : BitVec 32 := Scalar.select v92 c9_i32 v91
  let v95 : BitVec 32 := Scalar.select v94 c4_i32_44 v93
  let v97 : BitVec 32 := Scalar.select v96 c14_i32 v95
  let v99 : BitVec 32 := Scalar.select v98 c11_i32 v97
  let v101 : BitVec 32 := Scalar.select v100 c8_i32_48 v99
  let v103 : BitVec 32 := Scalar.select v102 c5_i32_50 v101
  let v105 : BitVec 32 := Scalar.select v104 c13_i32 v103
  let v107 : BitVec 32 := Scalar.select v106 c12_i32_52 v105
  let v109 : BitVec 32 := Scalar.select v108 c7_i32_54 v107
  let v111 : BitVec 32 := Scalar.select v110 c6_i32_56 v109
  let c1_i32_58 : BitVec 32 := 1#32
  let v113 : BitVec 32 := Scalar.addi v111 c1_i32_58
  let c16_i32 : BitVec 32 := 16#32
  let c0_i32_59 : BitVec 32 := 0#32
  let v114 : BitVec 1 := Scalar.cmpi .eq c16_i32 c0_i32_59
  let c1_i32_60 : BitVec 32 := 1#32
  let v115 : BitVec 32 := Scalar.select v114 c1_i32_60 c16_i32
  let v116 : BitVec 32 := Scalar.remsi v113 v115
  let c0_i32_62 : BitVec 32 := 0#32
  let v118 : BitVec 1 := Scalar.cmpi .slt v116 c0_i32_62
  let c0_i32_63 : BitVec 32 := 0#32
  let v119 : BitVec 1 := Scalar.cmpi .slt v115 c0_i32_63
  let v120 : BitVec 1 := Scalar.xori v118 v119
  let c0_i32_61 : BitVec 32 := 0#32
  let v117 : BitVec 1 := Scalar.cmpi .ne v116 c0_i32_61
  let v121 : BitVec 1 := Scalar.andi v120 v117
  let v122 : BitVec 32 := Scalar.addi v116 v115
  let v123 : BitVec 32 := Scalar.select v121 v122 v116
  let c15_i32_124 : BitVec 32 := 15#32
  let v182 : BitVec 1 := Scalar.cmpi .eq v123 c15_i32_124
  let c1_i32_125 : BitVec 32 := 1#32
  let c14_i32_122 : BitVec 32 := 14#32
  let v180 : BitVec 1 := Scalar.cmpi .eq v123 c14_i32_122
  let c2_i32_123 : BitVec 32 := 2#32
  let c13_i32_120 : BitVec 32 := 13#32
  let v178 : BitVec 1 := Scalar.cmpi .eq v123 c13_i32_120
  let c3_i32_121 : BitVec 32 := 3#32
  let c12_i32_118 : BitVec 32 := 12#32
  let v176 : BitVec 1 := Scalar.cmpi .eq v123 c12_i32_118
  let c3_i32_119 : BitVec 32 := 3#32
  let c11_i32_116 : BitVec 32 := 11#32
  let v174 : BitVec 1 := Scalar.cmpi .eq v123 c11_i32_116
  let c2_i32_117 : BitVec 32 := 2#32
  let c10_i32_114 : BitVec 32 := 10#32
  let v172 : BitVec 1 := Scalar.cmpi .eq v123 c10_i32_114
  let c1_i32_115 : BitVec 32 := 1#32
  let c9_i32_112 : BitVec 32 := 9#32
  let v170 : BitVec 1 := Scalar.cmpi .eq v123 c9_i32_112
  let c1_i32_113 : BitVec 32 := 1#32
  let c8_i32_110 : BitVec 32 := 8#32
  let v168 : BitVec 1 := Scalar.cmpi .eq v123 c8_i32_110
  let c2_i32_111 : BitVec 32 := 2#32
  let c7_i32_108 : BitVec 32 := 7#32
  let v166 : BitVec 1 := Scalar.cmpi .eq v123 c7_i32_108
  let c3_i32_109 : BitVec 32 := 3#32
  let c6_i32_106 : BitVec 32 := 6#32
  let v164 : BitVec 1 := Scalar.cmpi .eq v123 c6_i32_106
  let c3_i32_107 : BitVec 32 := 3#32
  let c5_i32_104 : BitVec 32 := 5#32
  let v162 : BitVec 1 := Scalar.cmpi .eq v123 c5_i32_104
  let c2_i32_105 : BitVec 32 := 2#32
  let c4_i32_102 : BitVec 32 := 4#32
  let v160 : BitVec 1 := Scalar.cmpi .eq v123 c4_i32_102
  let c1_i32_103 : BitVec 32 := 1#32
  let c3_i32_100 : BitVec 32 := 3#32
  let v158 : BitVec 1 := Scalar.cmpi .eq v123 c3_i32_100
  let c0_i32_101 : BitVec 32 := 0#32
  let c2_i32_98 : BitVec 32 := 2#32
  let v156 : BitVec 1 := Scalar.cmpi .eq v123 c2_i32_98
  let c0_i32_99 : BitVec 32 := 0#32
  let c1_i32_95 : BitVec 32 := 1#32
  let v154 : BitVec 1 := Scalar.cmpi .eq v123 c1_i32_95
  let c0_i32_96 : BitVec 32 := 0#32
  let c0_i32_97 : BitVec 32 := 0#32
  let v155 : BitVec 32 := Scalar.select v154 c0_i32_96 c0_i32_97
  let v157 : BitVec 32 := Scalar.select v156 c0_i32_99 v155
  let v159 : BitVec 32 := Scalar.select v158 c0_i32_101 v157
  let v161 : BitVec 32 := Scalar.select v160 c1_i32_103 v159
  let v163 : BitVec 32 := Scalar.select v162 c2_i32_105 v161
  let v165 : BitVec 32 := Scalar.select v164 c3_i32_107 v163
  let v167 : BitVec 32 := Scalar.select v166 c3_i32_109 v165
  let v169 : BitVec 32 := Scalar.select v168 c2_i32_111 v167
  let v171 : BitVec 32 := Scalar.select v170 c1_i32_113 v169
  let v173 : BitVec 32 := Scalar.select v172 c1_i32_115 v171
  let v175 : BitVec 32 := Scalar.select v174 c2_i32_117 v173
  let v177 : BitVec 32 := Scalar.select v176 c3_i32_119 v175
  let v179 : BitVec 32 := Scalar.select v178 c3_i32_121 v177
  let v181 : BitVec 32 := Scalar.select v180 c2_i32_123 v179
  let v183 : BitVec 32 := Scalar.select v182 c1_i32_125 v181
  let v184 : BitVec 32 := Scalar.muli c8_i32_126 v183
  let c2_i32_127 : BitVec 32 := 2#32
  let c15_i32_93 : BitVec 32 := 15#32
  let v152 : BitVec 1 := Scalar.cmpi .eq v123 c15_i32_93
  let c0_i32_94 : BitVec 32 := 0#32
  let c14_i32_91 : BitVec 32 := 14#32
  let v150 : BitVec 1 := Scalar.cmpi .eq v123 c14_i32_91
  let c0_i32_92 : BitVec 32 := 0#32
  let c13_i32_89 : BitVec 32 := 13#32
  let v148 : BitVec 1 := Scalar.cmpi .eq v123 c13_i32_89
  let c0_i32_90 : BitVec 32 := 0#32
  let c12_i32_87 : BitVec 32 := 12#32
  let v146 : BitVec 1 := Scalar.cmpi .eq v123 c12_i32_87
  let c1_i32_88 : BitVec 32 := 1#32
  let c11_i32_85 : BitVec 32 := 11#32
  let v144 : BitVec 1 := Scalar.cmpi .eq v123 c11_i32_85
  let c1_i32_86 : BitVec 32 := 1#32
  let c10_i32_83 : BitVec 32 := 10#32
  let v142 : BitVec 1 := Scalar.cmpi .eq v123 c10_i32_83
  let c1_i32_84 : BitVec 32 := 1#32
  let c9_i32_81 : BitVec 32 := 9#32
  let v140 : BitVec 1 := Scalar.cmpi .eq v123 c9_i32_81
  let c2_i32_82 : BitVec 32 := 2#32
  let c8_i32_79 : BitVec 32 := 8#32
  let v138 : BitVec 1 := Scalar.cmpi .eq v123 c8_i32_79
  let c2_i32_80 : BitVec 32 := 2#32
  let c7_i32_77 : BitVec 32 := 7#32
  let v136 : BitVec 1 := Scalar.cmpi .eq v123 c7_i32_77
  let c2_i32_78 : BitVec 32 := 2#32
  let c6_i32_75 : BitVec 32 := 6#32
  let v134 : BitVec 1 := Scalar.cmpi .eq v123 c6_i32_75
  let c3_i32_76 : BitVec 32 := 3#32
  let c5_i32_73 : BitVec 32 := 5#32
  let v132 : BitVec 1 := Scalar.cmpi .eq v123 c5_i32_73
  let c3_i32_74 : BitVec 32 := 3#32
  let c4_i32_71 : BitVec 32 := 4#32
  let v130 : BitVec 1 := Scalar.cmpi .eq v123 c4_i32_71
  let c3_i32_72 : BitVec 32 := 3#32
  let c3_i32_69 : BitVec 32 := 3#32
  let v128 : BitVec 1 := Scalar.cmpi .eq v123 c3_i32_69
  let c3_i32_70 : BitVec 32 := 3#32
  let c2_i32_67 : BitVec 32 := 2#32
  let v126 : BitVec 1 := Scalar.cmpi .eq v123 c2_i32_67
  let c2_i32_68 : BitVec 32 := 2#32
  let c1_i32_64 : BitVec 32 := 1#32
  let v124 : BitVec 1 := Scalar.cmpi .eq v123 c1_i32_64
  let c1_i32_65 : BitVec 32 := 1#32
  let c0_i32_66 : BitVec 32 := 0#32
  let v125 : BitVec 32 := Scalar.select v124 c1_i32_65 c0_i32_66
  let v127 : BitVec 32 := Scalar.select v126 c2_i32_68 v125
  let v129 : BitVec 32 := Scalar.select v128 c3_i32_70 v127
  let v131 : BitVec 32 := Scalar.select v130 c3_i32_72 v129
  let v133 : BitVec 32 := Scalar.select v132 c3_i32_74 v131
  let v135 : BitVec 32 := Scalar.select v134 c3_i32_76 v133
  let v137 : BitVec 32 := Scalar.select v136 c2_i32_78 v135
  let v139 : BitVec 32 := Scalar.select v138 c2_i32_80 v137
  let v141 : BitVec 32 := Scalar.select v140 c2_i32_82 v139
  let v143 : BitVec 32 := Scalar.select v142 c1_i32_84 v141
  let v145 : BitVec 32 := Scalar.select v144 c1_i32_86 v143
  let v147 : BitVec 32 := Scalar.select v146 c1_i32_88 v145
  let v149 : BitVec 32 := Scalar.select v148 c0_i32_90 v147
  let v151 : BitVec 32 := Scalar.select v150 c0_i32_92 v149
  let v153 : BitVec 32 := Scalar.select v152 c0_i32_94 v151
  let v185 : BitVec 32 := Scalar.muli c2_i32_127 v153
  let v186 : BitVec 32 := Scalar.addi v184 v185
  let c2_i32_128 : BitVec 32 := 2#32
  let c0_i32_129 : BitVec 32 := 0#32
  let v187 : BitVec 1 := Scalar.cmpi .eq c2_i32_128 c0_i32_129
  let c1_i32_130 : BitVec 32 := 1#32
  let v188 : BitVec 32 := Scalar.select v187 c1_i32_130 c2_i32_128
  let v189 : BitVec 32 := Scalar.remsi v153 v188
  let c0_i32_132 : BitVec 32 := 0#32
  let v191 : BitVec 1 := Scalar.cmpi .slt v189 c0_i32_132
  let c0_i32_133 : BitVec 32 := 0#32
  let v192 : BitVec 1 := Scalar.cmpi .slt v188 c0_i32_133
  let v193 : BitVec 1 := Scalar.xori v191 v192
  let c0_i32_131 : BitVec 32 := 0#32
  let v190 : BitVec 1 := Scalar.cmpi .ne v189 c0_i32_131
  let v194 : BitVec 1 := Scalar.andi v193 v190
  let v195 : BitVec 32 := Scalar.addi v189 v188
  let v196 : BitVec 32 := Scalar.select v194 v195 v189
  let c0_i32_134 : BitVec 32 := 0#32
  let v197 : BitVec 1 := Scalar.cmpi .eq v196 c0_i32_134
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_135 : BitVec 32 := 1#32
  let v198 : BitVec 32 := Scalar.subi c1_i32_135 v79
  let v199 : BitVec 32 := Scalar.select v197 v79 v198
  let v200 : BitVec 32 := Scalar.addi v186 v199
  let c1_i32_1863 : BitVec 32 := 1#32
  let v2118 : BitVec 32 := Scalar.muli v200 c1_i32_1863
  let v2119 : BitVec 32 := Scalar.addi c0_i32_1864 v2118
  v2119.toNat
def k0_dev43 (d0 : Dev nD) : Nat :=
  let c0_i32_1873 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_57 : BitVec 32 := 1#32
  let v112 : BitVec 32 := Scalar.xori v2 c1_i32_57
  let c1_i32_1872 : BitVec 32 := 1#32
  let v2130 : BitVec 32 := Scalar.muli v112 c1_i32_1872
  let v2131 : BitVec 32 := Scalar.addi c0_i32_1873 v2130
  v2131.toNat
def k0_dev44 (d0 : Dev nD) : Nat :=
  let c0_i32_1893 : BitVec 32 := 0#32
  let c8_i32_206 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v80 : BitVec 32 := Scalar.muli c4_i32 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v81 : BitVec 32 := Scalar.addi v80 v46
  let c15_i32_55 : BitVec 32 := 15#32
  let v110 : BitVec 1 := Scalar.cmpi .eq v81 c15_i32_55
  let c6_i32_56 : BitVec 32 := 6#32
  let c14_i32_53 : BitVec 32 := 14#32
  let v108 : BitVec 1 := Scalar.cmpi .eq v81 c14_i32_53
  let c7_i32_54 : BitVec 32 := 7#32
  let c13_i32_51 : BitVec 32 := 13#32
  let v106 : BitVec 1 := Scalar.cmpi .eq v81 c13_i32_51
  let c12_i32_52 : BitVec 32 := 12#32
  let c12_i32 : BitVec 32 := 12#32
  let v104 : BitVec 1 := Scalar.cmpi .eq v81 c12_i32
  let c13_i32 : BitVec 32 := 13#32
  let c11_i32_49 : BitVec 32 := 11#32
  let v102 : BitVec 1 := Scalar.cmpi .eq v81 c11_i32_49
  let c5_i32_50 : BitVec 32 := 5#32
  let c10_i32_47 : BitVec 32 := 10#32
  let v100 : BitVec 1 := Scalar.cmpi .eq v81 c10_i32_47
  let c8_i32_48 : BitVec 32 := 8#32
  let c9_i32_46 : BitVec 32 := 9#32
  let v98 : BitVec 1 := Scalar.cmpi .eq v81 c9_i32_46
  let c11_i32 : BitVec 32 := 11#32
  let c8_i32_45 : BitVec 32 := 8#32
  let v96 : BitVec 1 := Scalar.cmpi .eq v81 c8_i32_45
  let c14_i32 : BitVec 32 := 14#32
  let c7_i32 : BitVec 32 := 7#32
  let v94 : BitVec 1 := Scalar.cmpi .eq v81 c7_i32
  let c4_i32_44 : BitVec 32 := 4#32
  let c6_i32 : BitVec 32 := 6#32
  let v92 : BitVec 1 := Scalar.cmpi .eq v81 c6_i32
  let c9_i32 : BitVec 32 := 9#32
  let c5_i32 : BitVec 32 := 5#32
  let v90 : BitVec 1 := Scalar.cmpi .eq v81 c5_i32
  let c10_i32 : BitVec 32 := 10#32
  let c4_i32_43 : BitVec 32 := 4#32
  let v88 : BitVec 1 := Scalar.cmpi .eq v81 c4_i32_43
  let c15_i32 : BitVec 32 := 15#32
  let c3_i32 : BitVec 32 := 3#32
  let v86 : BitVec 1 := Scalar.cmpi .eq v81 c3_i32
  let c3_i32_42 : BitVec 32 := 3#32
  let c2_i32_40 : BitVec 32 := 2#32
  let v84 : BitVec 1 := Scalar.cmpi .eq v81 c2_i32_40
  let c2_i32_41 : BitVec 32 := 2#32
  let c1_i32_37 : BitVec 32 := 1#32
  let v82 : BitVec 1 := Scalar.cmpi .eq v81 c1_i32_37
  let c1_i32_38 : BitVec 32 := 1#32
  let c0_i32_39 : BitVec 32 := 0#32
  let v83 : BitVec 32 := Scalar.select v82 c1_i32_38 c0_i32_39
  let v85 : BitVec 32 := Scalar.select v84 c2_i32_41 v83
  let v87 : BitVec 32 := Scalar.select v86 c3_i32_42 v85
  let v89 : BitVec 32 := Scalar.select v88 c15_i32 v87
  let v91 : BitVec 32 := Scalar.select v90 c10_i32 v89
  let v93 : BitVec 32 := Scalar.select v92 c9_i32 v91
  let v95 : BitVec 32 := Scalar.select v94 c4_i32_44 v93
  let v97 : BitVec 32 := Scalar.select v96 c14_i32 v95
  let v99 : BitVec 32 := Scalar.select v98 c11_i32 v97
  let v101 : BitVec 32 := Scalar.select v100 c8_i32_48 v99
  let v103 : BitVec 32 := Scalar.select v102 c5_i32_50 v101
  let v105 : BitVec 32 := Scalar.select v104 c13_i32 v103
  let v107 : BitVec 32 := Scalar.select v106 c12_i32_52 v105
  let v109 : BitVec 32 := Scalar.select v108 c7_i32_54 v107
  let v111 : BitVec 32 := Scalar.select v110 c6_i32_56 v109
  let c16_i32_136 : BitVec 32 := 16#32
  let v201 : BitVec 32 := Scalar.addi v111 c16_i32_136
  let c1_i32_137 : BitVec 32 := 1#32
  let v202 : BitVec 32 := Scalar.subi v201 c1_i32_137
  let c16_i32_138 : BitVec 32 := 16#32
  let c0_i32_139 : BitVec 32 := 0#32
  let v203 : BitVec 1 := Scalar.cmpi .eq c16_i32_138 c0_i32_139
  let c1_i32_140 : BitVec 32 := 1#32
  let v204 : BitVec 32 := Scalar.select v203 c1_i32_140 c16_i32_138
  let v205 : BitVec 32 := Scalar.remsi v202 v204
  let c0_i32_142 : BitVec 32 := 0#32
  let v207 : BitVec 1 := Scalar.cmpi .slt v205 c0_i32_142
  let c0_i32_143 : BitVec 32 := 0#32
  let v208 : BitVec 1 := Scalar.cmpi .slt v204 c0_i32_143
  let v209 : BitVec 1 := Scalar.xori v207 v208
  let c0_i32_141 : BitVec 32 := 0#32
  let v206 : BitVec 1 := Scalar.cmpi .ne v205 c0_i32_141
  let v210 : BitVec 1 := Scalar.andi v209 v206
  let v211 : BitVec 32 := Scalar.addi v205 v204
  let v212 : BitVec 32 := Scalar.select v210 v211 v205
  let c15_i32_204 : BitVec 32 := 15#32
  let v271 : BitVec 1 := Scalar.cmpi .eq v212 c15_i32_204
  let c1_i32_205 : BitVec 32 := 1#32
  let c14_i32_202 : BitVec 32 := 14#32
  let v269 : BitVec 1 := Scalar.cmpi .eq v212 c14_i32_202
  let c2_i32_203 : BitVec 32 := 2#32
  let c13_i32_200 : BitVec 32 := 13#32
  let v267 : BitVec 1 := Scalar.cmpi .eq v212 c13_i32_200
  let c3_i32_201 : BitVec 32 := 3#32
  let c12_i32_198 : BitVec 32 := 12#32
  let v265 : BitVec 1 := Scalar.cmpi .eq v212 c12_i32_198
  let c3_i32_199 : BitVec 32 := 3#32
  let c11_i32_196 : BitVec 32 := 11#32
  let v263 : BitVec 1 := Scalar.cmpi .eq v212 c11_i32_196
  let c2_i32_197 : BitVec 32 := 2#32
  let c10_i32_194 : BitVec 32 := 10#32
  let v261 : BitVec 1 := Scalar.cmpi .eq v212 c10_i32_194
  let c1_i32_195 : BitVec 32 := 1#32
  let c9_i32_192 : BitVec 32 := 9#32
  let v259 : BitVec 1 := Scalar.cmpi .eq v212 c9_i32_192
  let c1_i32_193 : BitVec 32 := 1#32
  let c8_i32_190 : BitVec 32 := 8#32
  let v257 : BitVec 1 := Scalar.cmpi .eq v212 c8_i32_190
  let c2_i32_191 : BitVec 32 := 2#32
  let c7_i32_188 : BitVec 32 := 7#32
  let v255 : BitVec 1 := Scalar.cmpi .eq v212 c7_i32_188
  let c3_i32_189 : BitVec 32 := 3#32
  let c6_i32_186 : BitVec 32 := 6#32
  let v253 : BitVec 1 := Scalar.cmpi .eq v212 c6_i32_186
  let c3_i32_187 : BitVec 32 := 3#32
  let c5_i32_184 : BitVec 32 := 5#32
  let v251 : BitVec 1 := Scalar.cmpi .eq v212 c5_i32_184
  let c2_i32_185 : BitVec 32 := 2#32
  let c4_i32_182 : BitVec 32 := 4#32
  let v249 : BitVec 1 := Scalar.cmpi .eq v212 c4_i32_182
  let c1_i32_183 : BitVec 32 := 1#32
  let c3_i32_180 : BitVec 32 := 3#32
  let v247 : BitVec 1 := Scalar.cmpi .eq v212 c3_i32_180
  let c0_i32_181 : BitVec 32 := 0#32
  let c2_i32_178 : BitVec 32 := 2#32
  let v245 : BitVec 1 := Scalar.cmpi .eq v212 c2_i32_178
  let c0_i32_179 : BitVec 32 := 0#32
  let c1_i32_175 : BitVec 32 := 1#32
  let v243 : BitVec 1 := Scalar.cmpi .eq v212 c1_i32_175
  let c0_i32_176 : BitVec 32 := 0#32
  let c0_i32_177 : BitVec 32 := 0#32
  let v244 : BitVec 32 := Scalar.select v243 c0_i32_176 c0_i32_177
  let v246 : BitVec 32 := Scalar.select v245 c0_i32_179 v244
  let v248 : BitVec 32 := Scalar.select v247 c0_i32_181 v246
  let v250 : BitVec 32 := Scalar.select v249 c1_i32_183 v248
  let v252 : BitVec 32 := Scalar.select v251 c2_i32_185 v250
  let v254 : BitVec 32 := Scalar.select v253 c3_i32_187 v252
  let v256 : BitVec 32 := Scalar.select v255 c3_i32_189 v254
  let v258 : BitVec 32 := Scalar.select v257 c2_i32_191 v256
  let v260 : BitVec 32 := Scalar.select v259 c1_i32_193 v258
  let v262 : BitVec 32 := Scalar.select v261 c1_i32_195 v260
  let v264 : BitVec 32 := Scalar.select v263 c2_i32_197 v262
  let v266 : BitVec 32 := Scalar.select v265 c3_i32_199 v264
  let v268 : BitVec 32 := Scalar.select v267 c3_i32_201 v266
  let v270 : BitVec 32 := Scalar.select v269 c2_i32_203 v268
  let v272 : BitVec 32 := Scalar.select v271 c1_i32_205 v270
  let v273 : BitVec 32 := Scalar.muli c8_i32_206 v272
  let c2_i32_207 : BitVec 32 := 2#32
  let c15_i32_173 : BitVec 32 := 15#32
  let v241 : BitVec 1 := Scalar.cmpi .eq v212 c15_i32_173
  let c0_i32_174 : BitVec 32 := 0#32
  let c14_i32_171 : BitVec 32 := 14#32
  let v239 : BitVec 1 := Scalar.cmpi .eq v212 c14_i32_171
  let c0_i32_172 : BitVec 32 := 0#32
  let c13_i32_169 : BitVec 32 := 13#32
  let v237 : BitVec 1 := Scalar.cmpi .eq v212 c13_i32_169
  let c0_i32_170 : BitVec 32 := 0#32
  let c12_i32_167 : BitVec 32 := 12#32
  let v235 : BitVec 1 := Scalar.cmpi .eq v212 c12_i32_167
  let c1_i32_168 : BitVec 32 := 1#32
  let c11_i32_165 : BitVec 32 := 11#32
  let v233 : BitVec 1 := Scalar.cmpi .eq v212 c11_i32_165
  let c1_i32_166 : BitVec 32 := 1#32
  let c10_i32_163 : BitVec 32 := 10#32
  let v231 : BitVec 1 := Scalar.cmpi .eq v212 c10_i32_163
  let c1_i32_164 : BitVec 32 := 1#32
  let c9_i32_161 : BitVec 32 := 9#32
  let v229 : BitVec 1 := Scalar.cmpi .eq v212 c9_i32_161
  let c2_i32_162 : BitVec 32 := 2#32
  let c8_i32_159 : BitVec 32 := 8#32
  let v227 : BitVec 1 := Scalar.cmpi .eq v212 c8_i32_159
  let c2_i32_160 : BitVec 32 := 2#32
  let c7_i32_157 : BitVec 32 := 7#32
  let v225 : BitVec 1 := Scalar.cmpi .eq v212 c7_i32_157
  let c2_i32_158 : BitVec 32 := 2#32
  let c6_i32_155 : BitVec 32 := 6#32
  let v223 : BitVec 1 := Scalar.cmpi .eq v212 c6_i32_155
  let c3_i32_156 : BitVec 32 := 3#32
  let c5_i32_153 : BitVec 32 := 5#32
  let v221 : BitVec 1 := Scalar.cmpi .eq v212 c5_i32_153
  let c3_i32_154 : BitVec 32 := 3#32
  let c4_i32_151 : BitVec 32 := 4#32
  let v219 : BitVec 1 := Scalar.cmpi .eq v212 c4_i32_151
  let c3_i32_152 : BitVec 32 := 3#32
  let c3_i32_149 : BitVec 32 := 3#32
  let v217 : BitVec 1 := Scalar.cmpi .eq v212 c3_i32_149
  let c3_i32_150 : BitVec 32 := 3#32
  let c2_i32_147 : BitVec 32 := 2#32
  let v215 : BitVec 1 := Scalar.cmpi .eq v212 c2_i32_147
  let c2_i32_148 : BitVec 32 := 2#32
  let c1_i32_144 : BitVec 32 := 1#32
  let v213 : BitVec 1 := Scalar.cmpi .eq v212 c1_i32_144
  let c1_i32_145 : BitVec 32 := 1#32
  let c0_i32_146 : BitVec 32 := 0#32
  let v214 : BitVec 32 := Scalar.select v213 c1_i32_145 c0_i32_146
  let v216 : BitVec 32 := Scalar.select v215 c2_i32_148 v214
  let v218 : BitVec 32 := Scalar.select v217 c3_i32_150 v216
  let v220 : BitVec 32 := Scalar.select v219 c3_i32_152 v218
  let v222 : BitVec 32 := Scalar.select v221 c3_i32_154 v220
  let v224 : BitVec 32 := Scalar.select v223 c3_i32_156 v222
  let v226 : BitVec 32 := Scalar.select v225 c2_i32_158 v224
  let v228 : BitVec 32 := Scalar.select v227 c2_i32_160 v226
  let v230 : BitVec 32 := Scalar.select v229 c2_i32_162 v228
  let v232 : BitVec 32 := Scalar.select v231 c1_i32_164 v230
  let v234 : BitVec 32 := Scalar.select v233 c1_i32_166 v232
  let v236 : BitVec 32 := Scalar.select v235 c1_i32_168 v234
  let v238 : BitVec 32 := Scalar.select v237 c0_i32_170 v236
  let v240 : BitVec 32 := Scalar.select v239 c0_i32_172 v238
  let v242 : BitVec 32 := Scalar.select v241 c0_i32_174 v240
  let v274 : BitVec 32 := Scalar.muli c2_i32_207 v242
  let v275 : BitVec 32 := Scalar.addi v273 v274
  let c2_i32_208 : BitVec 32 := 2#32
  let c0_i32_209 : BitVec 32 := 0#32
  let v276 : BitVec 1 := Scalar.cmpi .eq c2_i32_208 c0_i32_209
  let c1_i32_210 : BitVec 32 := 1#32
  let v277 : BitVec 32 := Scalar.select v276 c1_i32_210 c2_i32_208
  let v278 : BitVec 32 := Scalar.remsi v242 v277
  let c0_i32_212 : BitVec 32 := 0#32
  let v280 : BitVec 1 := Scalar.cmpi .slt v278 c0_i32_212
  let c0_i32_213 : BitVec 32 := 0#32
  let v281 : BitVec 1 := Scalar.cmpi .slt v277 c0_i32_213
  let v282 : BitVec 1 := Scalar.xori v280 v281
  let c0_i32_211 : BitVec 32 := 0#32
  let v279 : BitVec 1 := Scalar.cmpi .ne v278 c0_i32_211
  let v283 : BitVec 1 := Scalar.andi v282 v279
  let v284 : BitVec 32 := Scalar.addi v278 v277
  let v285 : BitVec 32 := Scalar.select v283 v284 v278
  let c0_i32_214 : BitVec 32 := 0#32
  let v286 : BitVec 1 := Scalar.cmpi .eq v285 c0_i32_214
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_215 : BitVec 32 := 1#32
  let v287 : BitVec 32 := Scalar.subi c1_i32_215 v79
  let v288 : BitVec 32 := Scalar.select v286 v79 v287
  let v289 : BitVec 32 := Scalar.addi v275 v288
  let c1_i32_1892 : BitVec 32 := 1#32
  let v2152 : BitVec 32 := Scalar.muli v289 c1_i32_1892
  let v2153 : BitVec 32 := Scalar.addi c0_i32_1893 v2152
  v2153.toNat
def k0_dev45 (d0 : Dev nD) : Nat :=
  let c0_i32_1902 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_57 : BitVec 32 := 1#32
  let v112 : BitVec 32 := Scalar.xori v2 c1_i32_57
  let c1_i32_1901 : BitVec 32 := 1#32
  let v2164 : BitVec 32 := Scalar.muli v112 c1_i32_1901
  let v2165 : BitVec 32 := Scalar.addi c0_i32_1902 v2164
  v2165.toNat
def k0_dev46 (d0 : Dev nD) : Nat :=
  let c0_i32_1922 : BitVec 32 := 0#32
  let c8_i32_126 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v80 : BitVec 32 := Scalar.muli c4_i32 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v81 : BitVec 32 := Scalar.addi v80 v46
  let c15_i32_55 : BitVec 32 := 15#32
  let v110 : BitVec 1 := Scalar.cmpi .eq v81 c15_i32_55
  let c6_i32_56 : BitVec 32 := 6#32
  let c14_i32_53 : BitVec 32 := 14#32
  let v108 : BitVec 1 := Scalar.cmpi .eq v81 c14_i32_53
  let c7_i32_54 : BitVec 32 := 7#32
  let c13_i32_51 : BitVec 32 := 13#32
  let v106 : BitVec 1 := Scalar.cmpi .eq v81 c13_i32_51
  let c12_i32_52 : BitVec 32 := 12#32
  let c12_i32 : BitVec 32 := 12#32
  let v104 : BitVec 1 := Scalar.cmpi .eq v81 c12_i32
  let c13_i32 : BitVec 32 := 13#32
  let c11_i32_49 : BitVec 32 := 11#32
  let v102 : BitVec 1 := Scalar.cmpi .eq v81 c11_i32_49
  let c5_i32_50 : BitVec 32 := 5#32
  let c10_i32_47 : BitVec 32 := 10#32
  let v100 : BitVec 1 := Scalar.cmpi .eq v81 c10_i32_47
  let c8_i32_48 : BitVec 32 := 8#32
  let c9_i32_46 : BitVec 32 := 9#32
  let v98 : BitVec 1 := Scalar.cmpi .eq v81 c9_i32_46
  let c11_i32 : BitVec 32 := 11#32
  let c8_i32_45 : BitVec 32 := 8#32
  let v96 : BitVec 1 := Scalar.cmpi .eq v81 c8_i32_45
  let c14_i32 : BitVec 32 := 14#32
  let c7_i32 : BitVec 32 := 7#32
  let v94 : BitVec 1 := Scalar.cmpi .eq v81 c7_i32
  let c4_i32_44 : BitVec 32 := 4#32
  let c6_i32 : BitVec 32 := 6#32
  let v92 : BitVec 1 := Scalar.cmpi .eq v81 c6_i32
  let c9_i32 : BitVec 32 := 9#32
  let c5_i32 : BitVec 32 := 5#32
  let v90 : BitVec 1 := Scalar.cmpi .eq v81 c5_i32
  let c10_i32 : BitVec 32 := 10#32
  let c4_i32_43 : BitVec 32 := 4#32
  let v88 : BitVec 1 := Scalar.cmpi .eq v81 c4_i32_43
  let c15_i32 : BitVec 32 := 15#32
  let c3_i32 : BitVec 32 := 3#32
  let v86 : BitVec 1 := Scalar.cmpi .eq v81 c3_i32
  let c3_i32_42 : BitVec 32 := 3#32
  let c2_i32_40 : BitVec 32 := 2#32
  let v84 : BitVec 1 := Scalar.cmpi .eq v81 c2_i32_40
  let c2_i32_41 : BitVec 32 := 2#32
  let c1_i32_37 : BitVec 32 := 1#32
  let v82 : BitVec 1 := Scalar.cmpi .eq v81 c1_i32_37
  let c1_i32_38 : BitVec 32 := 1#32
  let c0_i32_39 : BitVec 32 := 0#32
  let v83 : BitVec 32 := Scalar.select v82 c1_i32_38 c0_i32_39
  let v85 : BitVec 32 := Scalar.select v84 c2_i32_41 v83
  let v87 : BitVec 32 := Scalar.select v86 c3_i32_42 v85
  let v89 : BitVec 32 := Scalar.select v88 c15_i32 v87
  let v91 : BitVec 32 := Scalar.select v90 c10_i32 v89
  let v93 : BitVec 32 := Scalar.select v92 c9_i32 v91
  let v95 : BitVec 32 := Scalar.select v94 c4_i32_44 v93
  let v97 : BitVec 32 := Scalar.select v96 c14_i32 v95
  let v99 : BitVec 32 := Scalar.select v98 c11_i32 v97
  let v101 : BitVec 32 := Scalar.select v100 c8_i32_48 v99
  let v103 : BitVec 32 := Scalar.select v102 c5_i32_50 v101
  let v105 : BitVec 32 := Scalar.select v104 c13_i32 v103
  let v107 : BitVec 32 := Scalar.select v106 c12_i32_52 v105
  let v109 : BitVec 32 := Scalar.select v108 c7_i32_54 v107
  let v111 : BitVec 32 := Scalar.select v110 c6_i32_56 v109
  let c1_i32_58 : BitVec 32 := 1#32
  let v113 : BitVec 32 := Scalar.addi v111 c1_i32_58
  let c16_i32 : BitVec 32 := 16#32
  let c0_i32_59 : BitVec 32 := 0#32
  let v114 : BitVec 1 := Scalar.cmpi .eq c16_i32 c0_i32_59
  let c1_i32_60 : BitVec 32 := 1#32
  let v115 : BitVec 32 := Scalar.select v114 c1_i32_60 c16_i32
  let v116 : BitVec 32 := Scalar.remsi v113 v115
  let c0_i32_62 : BitVec 32 := 0#32
  let v118 : BitVec 1 := Scalar.cmpi .slt v116 c0_i32_62
  let c0_i32_63 : BitVec 32 := 0#32
  let v119 : BitVec 1 := Scalar.cmpi .slt v115 c0_i32_63
  let v120 : BitVec 1 := Scalar.xori v118 v119
  let c0_i32_61 : BitVec 32 := 0#32
  let v117 : BitVec 1 := Scalar.cmpi .ne v116 c0_i32_61
  let v121 : BitVec 1 := Scalar.andi v120 v117
  let v122 : BitVec 32 := Scalar.addi v116 v115
  let v123 : BitVec 32 := Scalar.select v121 v122 v116
  let c15_i32_124 : BitVec 32 := 15#32
  let v182 : BitVec 1 := Scalar.cmpi .eq v123 c15_i32_124
  let c1_i32_125 : BitVec 32 := 1#32
  let c14_i32_122 : BitVec 32 := 14#32
  let v180 : BitVec 1 := Scalar.cmpi .eq v123 c14_i32_122
  let c2_i32_123 : BitVec 32 := 2#32
  let c13_i32_120 : BitVec 32 := 13#32
  let v178 : BitVec 1 := Scalar.cmpi .eq v123 c13_i32_120
  let c3_i32_121 : BitVec 32 := 3#32
  let c12_i32_118 : BitVec 32 := 12#32
  let v176 : BitVec 1 := Scalar.cmpi .eq v123 c12_i32_118
  let c3_i32_119 : BitVec 32 := 3#32
  let c11_i32_116 : BitVec 32 := 11#32
  let v174 : BitVec 1 := Scalar.cmpi .eq v123 c11_i32_116
  let c2_i32_117 : BitVec 32 := 2#32
  let c10_i32_114 : BitVec 32 := 10#32
  let v172 : BitVec 1 := Scalar.cmpi .eq v123 c10_i32_114
  let c1_i32_115 : BitVec 32 := 1#32
  let c9_i32_112 : BitVec 32 := 9#32
  let v170 : BitVec 1 := Scalar.cmpi .eq v123 c9_i32_112
  let c1_i32_113 : BitVec 32 := 1#32
  let c8_i32_110 : BitVec 32 := 8#32
  let v168 : BitVec 1 := Scalar.cmpi .eq v123 c8_i32_110
  let c2_i32_111 : BitVec 32 := 2#32
  let c7_i32_108 : BitVec 32 := 7#32
  let v166 : BitVec 1 := Scalar.cmpi .eq v123 c7_i32_108
  let c3_i32_109 : BitVec 32 := 3#32
  let c6_i32_106 : BitVec 32 := 6#32
  let v164 : BitVec 1 := Scalar.cmpi .eq v123 c6_i32_106
  let c3_i32_107 : BitVec 32 := 3#32
  let c5_i32_104 : BitVec 32 := 5#32
  let v162 : BitVec 1 := Scalar.cmpi .eq v123 c5_i32_104
  let c2_i32_105 : BitVec 32 := 2#32
  let c4_i32_102 : BitVec 32 := 4#32
  let v160 : BitVec 1 := Scalar.cmpi .eq v123 c4_i32_102
  let c1_i32_103 : BitVec 32 := 1#32
  let c3_i32_100 : BitVec 32 := 3#32
  let v158 : BitVec 1 := Scalar.cmpi .eq v123 c3_i32_100
  let c0_i32_101 : BitVec 32 := 0#32
  let c2_i32_98 : BitVec 32 := 2#32
  let v156 : BitVec 1 := Scalar.cmpi .eq v123 c2_i32_98
  let c0_i32_99 : BitVec 32 := 0#32
  let c1_i32_95 : BitVec 32 := 1#32
  let v154 : BitVec 1 := Scalar.cmpi .eq v123 c1_i32_95
  let c0_i32_96 : BitVec 32 := 0#32
  let c0_i32_97 : BitVec 32 := 0#32
  let v155 : BitVec 32 := Scalar.select v154 c0_i32_96 c0_i32_97
  let v157 : BitVec 32 := Scalar.select v156 c0_i32_99 v155
  let v159 : BitVec 32 := Scalar.select v158 c0_i32_101 v157
  let v161 : BitVec 32 := Scalar.select v160 c1_i32_103 v159
  let v163 : BitVec 32 := Scalar.select v162 c2_i32_105 v161
  let v165 : BitVec 32 := Scalar.select v164 c3_i32_107 v163
  let v167 : BitVec 32 := Scalar.select v166 c3_i32_109 v165
  let v169 : BitVec 32 := Scalar.select v168 c2_i32_111 v167
  let v171 : BitVec 32 := Scalar.select v170 c1_i32_113 v169
  let v173 : BitVec 32 := Scalar.select v172 c1_i32_115 v171
  let v175 : BitVec 32 := Scalar.select v174 c2_i32_117 v173
  let v177 : BitVec 32 := Scalar.select v176 c3_i32_119 v175
  let v179 : BitVec 32 := Scalar.select v178 c3_i32_121 v177
  let v181 : BitVec 32 := Scalar.select v180 c2_i32_123 v179
  let v183 : BitVec 32 := Scalar.select v182 c1_i32_125 v181
  let v184 : BitVec 32 := Scalar.muli c8_i32_126 v183
  let c2_i32_127 : BitVec 32 := 2#32
  let c15_i32_93 : BitVec 32 := 15#32
  let v152 : BitVec 1 := Scalar.cmpi .eq v123 c15_i32_93
  let c0_i32_94 : BitVec 32 := 0#32
  let c14_i32_91 : BitVec 32 := 14#32
  let v150 : BitVec 1 := Scalar.cmpi .eq v123 c14_i32_91
  let c0_i32_92 : BitVec 32 := 0#32
  let c13_i32_89 : BitVec 32 := 13#32
  let v148 : BitVec 1 := Scalar.cmpi .eq v123 c13_i32_89
  let c0_i32_90 : BitVec 32 := 0#32
  let c12_i32_87 : BitVec 32 := 12#32
  let v146 : BitVec 1 := Scalar.cmpi .eq v123 c12_i32_87
  let c1_i32_88 : BitVec 32 := 1#32
  let c11_i32_85 : BitVec 32 := 11#32
  let v144 : BitVec 1 := Scalar.cmpi .eq v123 c11_i32_85
  let c1_i32_86 : BitVec 32 := 1#32
  let c10_i32_83 : BitVec 32 := 10#32
  let v142 : BitVec 1 := Scalar.cmpi .eq v123 c10_i32_83
  let c1_i32_84 : BitVec 32 := 1#32
  let c9_i32_81 : BitVec 32 := 9#32
  let v140 : BitVec 1 := Scalar.cmpi .eq v123 c9_i32_81
  let c2_i32_82 : BitVec 32 := 2#32
  let c8_i32_79 : BitVec 32 := 8#32
  let v138 : BitVec 1 := Scalar.cmpi .eq v123 c8_i32_79
  let c2_i32_80 : BitVec 32 := 2#32
  let c7_i32_77 : BitVec 32 := 7#32
  let v136 : BitVec 1 := Scalar.cmpi .eq v123 c7_i32_77
  let c2_i32_78 : BitVec 32 := 2#32
  let c6_i32_75 : BitVec 32 := 6#32
  let v134 : BitVec 1 := Scalar.cmpi .eq v123 c6_i32_75
  let c3_i32_76 : BitVec 32 := 3#32
  let c5_i32_73 : BitVec 32 := 5#32
  let v132 : BitVec 1 := Scalar.cmpi .eq v123 c5_i32_73
  let c3_i32_74 : BitVec 32 := 3#32
  let c4_i32_71 : BitVec 32 := 4#32
  let v130 : BitVec 1 := Scalar.cmpi .eq v123 c4_i32_71
  let c3_i32_72 : BitVec 32 := 3#32
  let c3_i32_69 : BitVec 32 := 3#32
  let v128 : BitVec 1 := Scalar.cmpi .eq v123 c3_i32_69
  let c3_i32_70 : BitVec 32 := 3#32
  let c2_i32_67 : BitVec 32 := 2#32
  let v126 : BitVec 1 := Scalar.cmpi .eq v123 c2_i32_67
  let c2_i32_68 : BitVec 32 := 2#32
  let c1_i32_64 : BitVec 32 := 1#32
  let v124 : BitVec 1 := Scalar.cmpi .eq v123 c1_i32_64
  let c1_i32_65 : BitVec 32 := 1#32
  let c0_i32_66 : BitVec 32 := 0#32
  let v125 : BitVec 32 := Scalar.select v124 c1_i32_65 c0_i32_66
  let v127 : BitVec 32 := Scalar.select v126 c2_i32_68 v125
  let v129 : BitVec 32 := Scalar.select v128 c3_i32_70 v127
  let v131 : BitVec 32 := Scalar.select v130 c3_i32_72 v129
  let v133 : BitVec 32 := Scalar.select v132 c3_i32_74 v131
  let v135 : BitVec 32 := Scalar.select v134 c3_i32_76 v133
  let v137 : BitVec 32 := Scalar.select v136 c2_i32_78 v135
  let v139 : BitVec 32 := Scalar.select v138 c2_i32_80 v137
  let v141 : BitVec 32 := Scalar.select v140 c2_i32_82 v139
  let v143 : BitVec 32 := Scalar.select v142 c1_i32_84 v141
  let v145 : BitVec 32 := Scalar.select v144 c1_i32_86 v143
  let v147 : BitVec 32 := Scalar.select v146 c1_i32_88 v145
  let v149 : BitVec 32 := Scalar.select v148 c0_i32_90 v147
  let v151 : BitVec 32 := Scalar.select v150 c0_i32_92 v149
  let v153 : BitVec 32 := Scalar.select v152 c0_i32_94 v151
  let v185 : BitVec 32 := Scalar.muli c2_i32_127 v153
  let v186 : BitVec 32 := Scalar.addi v184 v185
  let c2_i32_128 : BitVec 32 := 2#32
  let c0_i32_129 : BitVec 32 := 0#32
  let v187 : BitVec 1 := Scalar.cmpi .eq c2_i32_128 c0_i32_129
  let c1_i32_130 : BitVec 32 := 1#32
  let v188 : BitVec 32 := Scalar.select v187 c1_i32_130 c2_i32_128
  let v189 : BitVec 32 := Scalar.remsi v153 v188
  let c0_i32_132 : BitVec 32 := 0#32
  let v191 : BitVec 1 := Scalar.cmpi .slt v189 c0_i32_132
  let c0_i32_133 : BitVec 32 := 0#32
  let v192 : BitVec 1 := Scalar.cmpi .slt v188 c0_i32_133
  let v193 : BitVec 1 := Scalar.xori v191 v192
  let c0_i32_131 : BitVec 32 := 0#32
  let v190 : BitVec 1 := Scalar.cmpi .ne v189 c0_i32_131
  let v194 : BitVec 1 := Scalar.andi v193 v190
  let v195 : BitVec 32 := Scalar.addi v189 v188
  let v196 : BitVec 32 := Scalar.select v194 v195 v189
  let c0_i32_134 : BitVec 32 := 0#32
  let v197 : BitVec 1 := Scalar.cmpi .eq v196 c0_i32_134
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_135 : BitVec 32 := 1#32
  let v198 : BitVec 32 := Scalar.subi c1_i32_135 v79
  let v199 : BitVec 32 := Scalar.select v197 v79 v198
  let v200 : BitVec 32 := Scalar.addi v186 v199
  let c1_i32_1921 : BitVec 32 := 1#32
  let v2186 : BitVec 32 := Scalar.muli v200 c1_i32_1921
  let v2187 : BitVec 32 := Scalar.addi c0_i32_1922 v2186
  v2187.toNat
def k0_dev47 (d0 : Dev nD) : Nat :=
  let c0_i32_1931 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_57 : BitVec 32 := 1#32
  let v112 : BitVec 32 := Scalar.xori v2 c1_i32_57
  let c1_i32_1930 : BitVec 32 := 1#32
  let v2198 : BitVec 32 := Scalar.muli v112 c1_i32_1930
  let v2199 : BitVec 32 := Scalar.addi c0_i32_1931 v2198
  v2199.toNat
def k0_dev48 (d0 : Dev nD) : Nat :=
  let c0_i32_1951 : BitVec 32 := 0#32
  let c8_i32_206 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v80 : BitVec 32 := Scalar.muli c4_i32 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v81 : BitVec 32 := Scalar.addi v80 v46
  let c15_i32_55 : BitVec 32 := 15#32
  let v110 : BitVec 1 := Scalar.cmpi .eq v81 c15_i32_55
  let c6_i32_56 : BitVec 32 := 6#32
  let c14_i32_53 : BitVec 32 := 14#32
  let v108 : BitVec 1 := Scalar.cmpi .eq v81 c14_i32_53
  let c7_i32_54 : BitVec 32 := 7#32
  let c13_i32_51 : BitVec 32 := 13#32
  let v106 : BitVec 1 := Scalar.cmpi .eq v81 c13_i32_51
  let c12_i32_52 : BitVec 32 := 12#32
  let c12_i32 : BitVec 32 := 12#32
  let v104 : BitVec 1 := Scalar.cmpi .eq v81 c12_i32
  let c13_i32 : BitVec 32 := 13#32
  let c11_i32_49 : BitVec 32 := 11#32
  let v102 : BitVec 1 := Scalar.cmpi .eq v81 c11_i32_49
  let c5_i32_50 : BitVec 32 := 5#32
  let c10_i32_47 : BitVec 32 := 10#32
  let v100 : BitVec 1 := Scalar.cmpi .eq v81 c10_i32_47
  let c8_i32_48 : BitVec 32 := 8#32
  let c9_i32_46 : BitVec 32 := 9#32
  let v98 : BitVec 1 := Scalar.cmpi .eq v81 c9_i32_46
  let c11_i32 : BitVec 32 := 11#32
  let c8_i32_45 : BitVec 32 := 8#32
  let v96 : BitVec 1 := Scalar.cmpi .eq v81 c8_i32_45
  let c14_i32 : BitVec 32 := 14#32
  let c7_i32 : BitVec 32 := 7#32
  let v94 : BitVec 1 := Scalar.cmpi .eq v81 c7_i32
  let c4_i32_44 : BitVec 32 := 4#32
  let c6_i32 : BitVec 32 := 6#32
  let v92 : BitVec 1 := Scalar.cmpi .eq v81 c6_i32
  let c9_i32 : BitVec 32 := 9#32
  let c5_i32 : BitVec 32 := 5#32
  let v90 : BitVec 1 := Scalar.cmpi .eq v81 c5_i32
  let c10_i32 : BitVec 32 := 10#32
  let c4_i32_43 : BitVec 32 := 4#32
  let v88 : BitVec 1 := Scalar.cmpi .eq v81 c4_i32_43
  let c15_i32 : BitVec 32 := 15#32
  let c3_i32 : BitVec 32 := 3#32
  let v86 : BitVec 1 := Scalar.cmpi .eq v81 c3_i32
  let c3_i32_42 : BitVec 32 := 3#32
  let c2_i32_40 : BitVec 32 := 2#32
  let v84 : BitVec 1 := Scalar.cmpi .eq v81 c2_i32_40
  let c2_i32_41 : BitVec 32 := 2#32
  let c1_i32_37 : BitVec 32 := 1#32
  let v82 : BitVec 1 := Scalar.cmpi .eq v81 c1_i32_37
  let c1_i32_38 : BitVec 32 := 1#32
  let c0_i32_39 : BitVec 32 := 0#32
  let v83 : BitVec 32 := Scalar.select v82 c1_i32_38 c0_i32_39
  let v85 : BitVec 32 := Scalar.select v84 c2_i32_41 v83
  let v87 : BitVec 32 := Scalar.select v86 c3_i32_42 v85
  let v89 : BitVec 32 := Scalar.select v88 c15_i32 v87
  let v91 : BitVec 32 := Scalar.select v90 c10_i32 v89
  let v93 : BitVec 32 := Scalar.select v92 c9_i32 v91
  let v95 : BitVec 32 := Scalar.select v94 c4_i32_44 v93
  let v97 : BitVec 32 := Scalar.select v96 c14_i32 v95
  let v99 : BitVec 32 := Scalar.select v98 c11_i32 v97
  let v101 : BitVec 32 := Scalar.select v100 c8_i32_48 v99
  let v103 : BitVec 32 := Scalar.select v102 c5_i32_50 v101
  let v105 : BitVec 32 := Scalar.select v104 c13_i32 v103
  let v107 : BitVec 32 := Scalar.select v106 c12_i32_52 v105
  let v109 : BitVec 32 := Scalar.select v108 c7_i32_54 v107
  let v111 : BitVec 32 := Scalar.select v110 c6_i32_56 v109
  let c16_i32_136 : BitVec 32 := 16#32
  let v201 : BitVec 32 := Scalar.addi v111 c16_i32_136
  let c1_i32_137 : BitVec 32 := 1#32
  let v202 : BitVec 32 := Scalar.subi v201 c1_i32_137
  let c16_i32_138 : BitVec 32 := 16#32
  let c0_i32_139 : BitVec 32 := 0#32
  let v203 : BitVec 1 := Scalar.cmpi .eq c16_i32_138 c0_i32_139
  let c1_i32_140 : BitVec 32 := 1#32
  let v204 : BitVec 32 := Scalar.select v203 c1_i32_140 c16_i32_138
  let v205 : BitVec 32 := Scalar.remsi v202 v204
  let c0_i32_142 : BitVec 32 := 0#32
  let v207 : BitVec 1 := Scalar.cmpi .slt v205 c0_i32_142
  let c0_i32_143 : BitVec 32 := 0#32
  let v208 : BitVec 1 := Scalar.cmpi .slt v204 c0_i32_143
  let v209 : BitVec 1 := Scalar.xori v207 v208
  let c0_i32_141 : BitVec 32 := 0#32
  let v206 : BitVec 1 := Scalar.cmpi .ne v205 c0_i32_141
  let v210 : BitVec 1 := Scalar.andi v209 v206
  let v211 : BitVec 32 := Scalar.addi v205 v204
  let v212 : BitVec 32 := Scalar.select v210 v211 v205
  let c15_i32_204 : BitVec 32 := 15#32
  let v271 : BitVec 1 := Scalar.cmpi .eq v212 c15_i32_204
  let c1_i32_205 : BitVec 32 := 1#32
  let c14_i32_202 : BitVec 32 := 14#32
  let v269 : BitVec 1 := Scalar.cmpi .eq v212 c14_i32_202
  let c2_i32_203 : BitVec 32 := 2#32
  let c13_i32_200 : BitVec 32 := 13#32
  let v267 : BitVec 1 := Scalar.cmpi .eq v212 c13_i32_200
  let c3_i32_201 : BitVec 32 := 3#32
  let c12_i32_198 : BitVec 32 := 12#32
  let v265 : BitVec 1 := Scalar.cmpi .eq v212 c12_i32_198
  let c3_i32_199 : BitVec 32 := 3#32
  let c11_i32_196 : BitVec 32 := 11#32
  let v263 : BitVec 1 := Scalar.cmpi .eq v212 c11_i32_196
  let c2_i32_197 : BitVec 32 := 2#32
  let c10_i32_194 : BitVec 32 := 10#32
  let v261 : BitVec 1 := Scalar.cmpi .eq v212 c10_i32_194
  let c1_i32_195 : BitVec 32 := 1#32
  let c9_i32_192 : BitVec 32 := 9#32
  let v259 : BitVec 1 := Scalar.cmpi .eq v212 c9_i32_192
  let c1_i32_193 : BitVec 32 := 1#32
  let c8_i32_190 : BitVec 32 := 8#32
  let v257 : BitVec 1 := Scalar.cmpi .eq v212 c8_i32_190
  let c2_i32_191 : BitVec 32 := 2#32
  let c7_i32_188 : BitVec 32 := 7#32
  let v255 : BitVec 1 := Scalar.cmpi .eq v212 c7_i32_188
  let c3_i32_189 : BitVec 32 := 3#32
  let c6_i32_186 : BitVec 32 := 6#32
  let v253 : BitVec 1 := Scalar.cmpi .eq v212 c6_i32_186
  let c3_i32_187 : BitVec 32 := 3#32
  let c5_i32_184 : BitVec 32 := 5#32
  let v251 : BitVec 1 := Scalar.cmpi .eq v212 c5_i32_184
  let c2_i32_185 : BitVec 32 := 2#32
  let c4_i32_182 : BitVec 32 := 4#32
  let v249 : BitVec 1 := Scalar.cmpi .eq v212 c4_i32_182
  let c1_i32_183 : BitVec 32 := 1#32
  let c3_i32_180 : BitVec 32 := 3#32
  let v247 : BitVec 1 := Scalar.cmpi .eq v212 c3_i32_180
  let c0_i32_181 : BitVec 32 := 0#32
  let c2_i32_178 : BitVec 32 := 2#32
  let v245 : BitVec 1 := Scalar.cmpi .eq v212 c2_i32_178
  let c0_i32_179 : BitVec 32 := 0#32
  let c1_i32_175 : BitVec 32 := 1#32
  let v243 : BitVec 1 := Scalar.cmpi .eq v212 c1_i32_175
  let c0_i32_176 : BitVec 32 := 0#32
  let c0_i32_177 : BitVec 32 := 0#32
  let v244 : BitVec 32 := Scalar.select v243 c0_i32_176 c0_i32_177
  let v246 : BitVec 32 := Scalar.select v245 c0_i32_179 v244
  let v248 : BitVec 32 := Scalar.select v247 c0_i32_181 v246
  let v250 : BitVec 32 := Scalar.select v249 c1_i32_183 v248
  let v252 : BitVec 32 := Scalar.select v251 c2_i32_185 v250
  let v254 : BitVec 32 := Scalar.select v253 c3_i32_187 v252
  let v256 : BitVec 32 := Scalar.select v255 c3_i32_189 v254
  let v258 : BitVec 32 := Scalar.select v257 c2_i32_191 v256
  let v260 : BitVec 32 := Scalar.select v259 c1_i32_193 v258
  let v262 : BitVec 32 := Scalar.select v261 c1_i32_195 v260
  let v264 : BitVec 32 := Scalar.select v263 c2_i32_197 v262
  let v266 : BitVec 32 := Scalar.select v265 c3_i32_199 v264
  let v268 : BitVec 32 := Scalar.select v267 c3_i32_201 v266
  let v270 : BitVec 32 := Scalar.select v269 c2_i32_203 v268
  let v272 : BitVec 32 := Scalar.select v271 c1_i32_205 v270
  let v273 : BitVec 32 := Scalar.muli c8_i32_206 v272
  let c2_i32_207 : BitVec 32 := 2#32
  let c15_i32_173 : BitVec 32 := 15#32
  let v241 : BitVec 1 := Scalar.cmpi .eq v212 c15_i32_173
  let c0_i32_174 : BitVec 32 := 0#32
  let c14_i32_171 : BitVec 32 := 14#32
  let v239 : BitVec 1 := Scalar.cmpi .eq v212 c14_i32_171
  let c0_i32_172 : BitVec 32 := 0#32
  let c13_i32_169 : BitVec 32 := 13#32
  let v237 : BitVec 1 := Scalar.cmpi .eq v212 c13_i32_169
  let c0_i32_170 : BitVec 32 := 0#32
  let c12_i32_167 : BitVec 32 := 12#32
  let v235 : BitVec 1 := Scalar.cmpi .eq v212 c12_i32_167
  let c1_i32_168 : BitVec 32 := 1#32
  let c11_i32_165 : BitVec 32 := 11#32
  let v233 : BitVec 1 := Scalar.cmpi .eq v212 c11_i32_165
  let c1_i32_166 : BitVec 32 := 1#32
  let c10_i32_163 : BitVec 32 := 10#32
  let v231 : BitVec 1 := Scalar.cmpi .eq v212 c10_i32_163
  let c1_i32_164 : BitVec 32 := 1#32
  let c9_i32_161 : BitVec 32 := 9#32
  let v229 : BitVec 1 := Scalar.cmpi .eq v212 c9_i32_161
  let c2_i32_162 : BitVec 32 := 2#32
  let c8_i32_159 : BitVec 32 := 8#32
  let v227 : BitVec 1 := Scalar.cmpi .eq v212 c8_i32_159
  let c2_i32_160 : BitVec 32 := 2#32
  let c7_i32_157 : BitVec 32 := 7#32
  let v225 : BitVec 1 := Scalar.cmpi .eq v212 c7_i32_157
  let c2_i32_158 : BitVec 32 := 2#32
  let c6_i32_155 : BitVec 32 := 6#32
  let v223 : BitVec 1 := Scalar.cmpi .eq v212 c6_i32_155
  let c3_i32_156 : BitVec 32 := 3#32
  let c5_i32_153 : BitVec 32 := 5#32
  let v221 : BitVec 1 := Scalar.cmpi .eq v212 c5_i32_153
  let c3_i32_154 : BitVec 32 := 3#32
  let c4_i32_151 : BitVec 32 := 4#32
  let v219 : BitVec 1 := Scalar.cmpi .eq v212 c4_i32_151
  let c3_i32_152 : BitVec 32 := 3#32
  let c3_i32_149 : BitVec 32 := 3#32
  let v217 : BitVec 1 := Scalar.cmpi .eq v212 c3_i32_149
  let c3_i32_150 : BitVec 32 := 3#32
  let c2_i32_147 : BitVec 32 := 2#32
  let v215 : BitVec 1 := Scalar.cmpi .eq v212 c2_i32_147
  let c2_i32_148 : BitVec 32 := 2#32
  let c1_i32_144 : BitVec 32 := 1#32
  let v213 : BitVec 1 := Scalar.cmpi .eq v212 c1_i32_144
  let c1_i32_145 : BitVec 32 := 1#32
  let c0_i32_146 : BitVec 32 := 0#32
  let v214 : BitVec 32 := Scalar.select v213 c1_i32_145 c0_i32_146
  let v216 : BitVec 32 := Scalar.select v215 c2_i32_148 v214
  let v218 : BitVec 32 := Scalar.select v217 c3_i32_150 v216
  let v220 : BitVec 32 := Scalar.select v219 c3_i32_152 v218
  let v222 : BitVec 32 := Scalar.select v221 c3_i32_154 v220
  let v224 : BitVec 32 := Scalar.select v223 c3_i32_156 v222
  let v226 : BitVec 32 := Scalar.select v225 c2_i32_158 v224
  let v228 : BitVec 32 := Scalar.select v227 c2_i32_160 v226
  let v230 : BitVec 32 := Scalar.select v229 c2_i32_162 v228
  let v232 : BitVec 32 := Scalar.select v231 c1_i32_164 v230
  let v234 : BitVec 32 := Scalar.select v233 c1_i32_166 v232
  let v236 : BitVec 32 := Scalar.select v235 c1_i32_168 v234
  let v238 : BitVec 32 := Scalar.select v237 c0_i32_170 v236
  let v240 : BitVec 32 := Scalar.select v239 c0_i32_172 v238
  let v242 : BitVec 32 := Scalar.select v241 c0_i32_174 v240
  let v274 : BitVec 32 := Scalar.muli c2_i32_207 v242
  let v275 : BitVec 32 := Scalar.addi v273 v274
  let c2_i32_208 : BitVec 32 := 2#32
  let c0_i32_209 : BitVec 32 := 0#32
  let v276 : BitVec 1 := Scalar.cmpi .eq c2_i32_208 c0_i32_209
  let c1_i32_210 : BitVec 32 := 1#32
  let v277 : BitVec 32 := Scalar.select v276 c1_i32_210 c2_i32_208
  let v278 : BitVec 32 := Scalar.remsi v242 v277
  let c0_i32_212 : BitVec 32 := 0#32
  let v280 : BitVec 1 := Scalar.cmpi .slt v278 c0_i32_212
  let c0_i32_213 : BitVec 32 := 0#32
  let v281 : BitVec 1 := Scalar.cmpi .slt v277 c0_i32_213
  let v282 : BitVec 1 := Scalar.xori v280 v281
  let c0_i32_211 : BitVec 32 := 0#32
  let v279 : BitVec 1 := Scalar.cmpi .ne v278 c0_i32_211
  let v283 : BitVec 1 := Scalar.andi v282 v279
  let v284 : BitVec 32 := Scalar.addi v278 v277
  let v285 : BitVec 32 := Scalar.select v283 v284 v278
  let c0_i32_214 : BitVec 32 := 0#32
  let v286 : BitVec 1 := Scalar.cmpi .eq v285 c0_i32_214
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_215 : BitVec 32 := 1#32
  let v287 : BitVec 32 := Scalar.subi c1_i32_215 v79
  let v288 : BitVec 32 := Scalar.select v286 v79 v287
  let v289 : BitVec 32 := Scalar.addi v275 v288
  let c1_i32_1950 : BitVec 32 := 1#32
  let v2220 : BitVec 32 := Scalar.muli v289 c1_i32_1950
  let v2221 : BitVec 32 := Scalar.addi c0_i32_1951 v2220
  v2221.toNat
def k0_dev49 (d0 : Dev nD) : Nat :=
  let c0_i32_1960 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_57 : BitVec 32 := 1#32
  let v112 : BitVec 32 := Scalar.xori v2 c1_i32_57
  let c1_i32_1959 : BitVec 32 := 1#32
  let v2232 : BitVec 32 := Scalar.muli v112 c1_i32_1959
  let v2233 : BitVec 32 := Scalar.addi c0_i32_1960 v2232
  v2233.toNat
def k0_dev50 (d0 : Dev nD) : Nat :=
  let c0_i32_1980 : BitVec 32 := 0#32
  let c8_i32_126 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v80 : BitVec 32 := Scalar.muli c4_i32 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v81 : BitVec 32 := Scalar.addi v80 v46
  let c15_i32_55 : BitVec 32 := 15#32
  let v110 : BitVec 1 := Scalar.cmpi .eq v81 c15_i32_55
  let c6_i32_56 : BitVec 32 := 6#32
  let c14_i32_53 : BitVec 32 := 14#32
  let v108 : BitVec 1 := Scalar.cmpi .eq v81 c14_i32_53
  let c7_i32_54 : BitVec 32 := 7#32
  let c13_i32_51 : BitVec 32 := 13#32
  let v106 : BitVec 1 := Scalar.cmpi .eq v81 c13_i32_51
  let c12_i32_52 : BitVec 32 := 12#32
  let c12_i32 : BitVec 32 := 12#32
  let v104 : BitVec 1 := Scalar.cmpi .eq v81 c12_i32
  let c13_i32 : BitVec 32 := 13#32
  let c11_i32_49 : BitVec 32 := 11#32
  let v102 : BitVec 1 := Scalar.cmpi .eq v81 c11_i32_49
  let c5_i32_50 : BitVec 32 := 5#32
  let c10_i32_47 : BitVec 32 := 10#32
  let v100 : BitVec 1 := Scalar.cmpi .eq v81 c10_i32_47
  let c8_i32_48 : BitVec 32 := 8#32
  let c9_i32_46 : BitVec 32 := 9#32
  let v98 : BitVec 1 := Scalar.cmpi .eq v81 c9_i32_46
  let c11_i32 : BitVec 32 := 11#32
  let c8_i32_45 : BitVec 32 := 8#32
  let v96 : BitVec 1 := Scalar.cmpi .eq v81 c8_i32_45
  let c14_i32 : BitVec 32 := 14#32
  let c7_i32 : BitVec 32 := 7#32
  let v94 : BitVec 1 := Scalar.cmpi .eq v81 c7_i32
  let c4_i32_44 : BitVec 32 := 4#32
  let c6_i32 : BitVec 32 := 6#32
  let v92 : BitVec 1 := Scalar.cmpi .eq v81 c6_i32
  let c9_i32 : BitVec 32 := 9#32
  let c5_i32 : BitVec 32 := 5#32
  let v90 : BitVec 1 := Scalar.cmpi .eq v81 c5_i32
  let c10_i32 : BitVec 32 := 10#32
  let c4_i32_43 : BitVec 32 := 4#32
  let v88 : BitVec 1 := Scalar.cmpi .eq v81 c4_i32_43
  let c15_i32 : BitVec 32 := 15#32
  let c3_i32 : BitVec 32 := 3#32
  let v86 : BitVec 1 := Scalar.cmpi .eq v81 c3_i32
  let c3_i32_42 : BitVec 32 := 3#32
  let c2_i32_40 : BitVec 32 := 2#32
  let v84 : BitVec 1 := Scalar.cmpi .eq v81 c2_i32_40
  let c2_i32_41 : BitVec 32 := 2#32
  let c1_i32_37 : BitVec 32 := 1#32
  let v82 : BitVec 1 := Scalar.cmpi .eq v81 c1_i32_37
  let c1_i32_38 : BitVec 32 := 1#32
  let c0_i32_39 : BitVec 32 := 0#32
  let v83 : BitVec 32 := Scalar.select v82 c1_i32_38 c0_i32_39
  let v85 : BitVec 32 := Scalar.select v84 c2_i32_41 v83
  let v87 : BitVec 32 := Scalar.select v86 c3_i32_42 v85
  let v89 : BitVec 32 := Scalar.select v88 c15_i32 v87
  let v91 : BitVec 32 := Scalar.select v90 c10_i32 v89
  let v93 : BitVec 32 := Scalar.select v92 c9_i32 v91
  let v95 : BitVec 32 := Scalar.select v94 c4_i32_44 v93
  let v97 : BitVec 32 := Scalar.select v96 c14_i32 v95
  let v99 : BitVec 32 := Scalar.select v98 c11_i32 v97
  let v101 : BitVec 32 := Scalar.select v100 c8_i32_48 v99
  let v103 : BitVec 32 := Scalar.select v102 c5_i32_50 v101
  let v105 : BitVec 32 := Scalar.select v104 c13_i32 v103
  let v107 : BitVec 32 := Scalar.select v106 c12_i32_52 v105
  let v109 : BitVec 32 := Scalar.select v108 c7_i32_54 v107
  let v111 : BitVec 32 := Scalar.select v110 c6_i32_56 v109
  let c1_i32_58 : BitVec 32 := 1#32
  let v113 : BitVec 32 := Scalar.addi v111 c1_i32_58
  let c16_i32 : BitVec 32 := 16#32
  let c0_i32_59 : BitVec 32 := 0#32
  let v114 : BitVec 1 := Scalar.cmpi .eq c16_i32 c0_i32_59
  let c1_i32_60 : BitVec 32 := 1#32
  let v115 : BitVec 32 := Scalar.select v114 c1_i32_60 c16_i32
  let v116 : BitVec 32 := Scalar.remsi v113 v115
  let c0_i32_62 : BitVec 32 := 0#32
  let v118 : BitVec 1 := Scalar.cmpi .slt v116 c0_i32_62
  let c0_i32_63 : BitVec 32 := 0#32
  let v119 : BitVec 1 := Scalar.cmpi .slt v115 c0_i32_63
  let v120 : BitVec 1 := Scalar.xori v118 v119
  let c0_i32_61 : BitVec 32 := 0#32
  let v117 : BitVec 1 := Scalar.cmpi .ne v116 c0_i32_61
  let v121 : BitVec 1 := Scalar.andi v120 v117
  let v122 : BitVec 32 := Scalar.addi v116 v115
  let v123 : BitVec 32 := Scalar.select v121 v122 v116
  let c15_i32_124 : BitVec 32 := 15#32
  let v182 : BitVec 1 := Scalar.cmpi .eq v123 c15_i32_124
  let c1_i32_125 : BitVec 32 := 1#32
  let c14_i32_122 : BitVec 32 := 14#32
  let v180 : BitVec 1 := Scalar.cmpi .eq v123 c14_i32_122
  let c2_i32_123 : BitVec 32 := 2#32
  let c13_i32_120 : BitVec 32 := 13#32
  let v178 : BitVec 1 := Scalar.cmpi .eq v123 c13_i32_120
  let c3_i32_121 : BitVec 32 := 3#32
  let c12_i32_118 : BitVec 32 := 12#32
  let v176 : BitVec 1 := Scalar.cmpi .eq v123 c12_i32_118
  let c3_i32_119 : BitVec 32 := 3#32
  let c11_i32_116 : BitVec 32 := 11#32
  let v174 : BitVec 1 := Scalar.cmpi .eq v123 c11_i32_116
  let c2_i32_117 : BitVec 32 := 2#32
  let c10_i32_114 : BitVec 32 := 10#32
  let v172 : BitVec 1 := Scalar.cmpi .eq v123 c10_i32_114
  let c1_i32_115 : BitVec 32 := 1#32
  let c9_i32_112 : BitVec 32 := 9#32
  let v170 : BitVec 1 := Scalar.cmpi .eq v123 c9_i32_112
  let c1_i32_113 : BitVec 32 := 1#32
  let c8_i32_110 : BitVec 32 := 8#32
  let v168 : BitVec 1 := Scalar.cmpi .eq v123 c8_i32_110
  let c2_i32_111 : BitVec 32 := 2#32
  let c7_i32_108 : BitVec 32 := 7#32
  let v166 : BitVec 1 := Scalar.cmpi .eq v123 c7_i32_108
  let c3_i32_109 : BitVec 32 := 3#32
  let c6_i32_106 : BitVec 32 := 6#32
  let v164 : BitVec 1 := Scalar.cmpi .eq v123 c6_i32_106
  let c3_i32_107 : BitVec 32 := 3#32
  let c5_i32_104 : BitVec 32 := 5#32
  let v162 : BitVec 1 := Scalar.cmpi .eq v123 c5_i32_104
  let c2_i32_105 : BitVec 32 := 2#32
  let c4_i32_102 : BitVec 32 := 4#32
  let v160 : BitVec 1 := Scalar.cmpi .eq v123 c4_i32_102
  let c1_i32_103 : BitVec 32 := 1#32
  let c3_i32_100 : BitVec 32 := 3#32
  let v158 : BitVec 1 := Scalar.cmpi .eq v123 c3_i32_100
  let c0_i32_101 : BitVec 32 := 0#32
  let c2_i32_98 : BitVec 32 := 2#32
  let v156 : BitVec 1 := Scalar.cmpi .eq v123 c2_i32_98
  let c0_i32_99 : BitVec 32 := 0#32
  let c1_i32_95 : BitVec 32 := 1#32
  let v154 : BitVec 1 := Scalar.cmpi .eq v123 c1_i32_95
  let c0_i32_96 : BitVec 32 := 0#32
  let c0_i32_97 : BitVec 32 := 0#32
  let v155 : BitVec 32 := Scalar.select v154 c0_i32_96 c0_i32_97
  let v157 : BitVec 32 := Scalar.select v156 c0_i32_99 v155
  let v159 : BitVec 32 := Scalar.select v158 c0_i32_101 v157
  let v161 : BitVec 32 := Scalar.select v160 c1_i32_103 v159
  let v163 : BitVec 32 := Scalar.select v162 c2_i32_105 v161
  let v165 : BitVec 32 := Scalar.select v164 c3_i32_107 v163
  let v167 : BitVec 32 := Scalar.select v166 c3_i32_109 v165
  let v169 : BitVec 32 := Scalar.select v168 c2_i32_111 v167
  let v171 : BitVec 32 := Scalar.select v170 c1_i32_113 v169
  let v173 : BitVec 32 := Scalar.select v172 c1_i32_115 v171
  let v175 : BitVec 32 := Scalar.select v174 c2_i32_117 v173
  let v177 : BitVec 32 := Scalar.select v176 c3_i32_119 v175
  let v179 : BitVec 32 := Scalar.select v178 c3_i32_121 v177
  let v181 : BitVec 32 := Scalar.select v180 c2_i32_123 v179
  let v183 : BitVec 32 := Scalar.select v182 c1_i32_125 v181
  let v184 : BitVec 32 := Scalar.muli c8_i32_126 v183
  let c2_i32_127 : BitVec 32 := 2#32
  let c15_i32_93 : BitVec 32 := 15#32
  let v152 : BitVec 1 := Scalar.cmpi .eq v123 c15_i32_93
  let c0_i32_94 : BitVec 32 := 0#32
  let c14_i32_91 : BitVec 32 := 14#32
  let v150 : BitVec 1 := Scalar.cmpi .eq v123 c14_i32_91
  let c0_i32_92 : BitVec 32 := 0#32
  let c13_i32_89 : BitVec 32 := 13#32
  let v148 : BitVec 1 := Scalar.cmpi .eq v123 c13_i32_89
  let c0_i32_90 : BitVec 32 := 0#32
  let c12_i32_87 : BitVec 32 := 12#32
  let v146 : BitVec 1 := Scalar.cmpi .eq v123 c12_i32_87
  let c1_i32_88 : BitVec 32 := 1#32
  let c11_i32_85 : BitVec 32 := 11#32
  let v144 : BitVec 1 := Scalar.cmpi .eq v123 c11_i32_85
  let c1_i32_86 : BitVec 32 := 1#32
  let c10_i32_83 : BitVec 32 := 10#32
  let v142 : BitVec 1 := Scalar.cmpi .eq v123 c10_i32_83
  let c1_i32_84 : BitVec 32 := 1#32
  let c9_i32_81 : BitVec 32 := 9#32
  let v140 : BitVec 1 := Scalar.cmpi .eq v123 c9_i32_81
  let c2_i32_82 : BitVec 32 := 2#32
  let c8_i32_79 : BitVec 32 := 8#32
  let v138 : BitVec 1 := Scalar.cmpi .eq v123 c8_i32_79
  let c2_i32_80 : BitVec 32 := 2#32
  let c7_i32_77 : BitVec 32 := 7#32
  let v136 : BitVec 1 := Scalar.cmpi .eq v123 c7_i32_77
  let c2_i32_78 : BitVec 32 := 2#32
  let c6_i32_75 : BitVec 32 := 6#32
  let v134 : BitVec 1 := Scalar.cmpi .eq v123 c6_i32_75
  let c3_i32_76 : BitVec 32 := 3#32
  let c5_i32_73 : BitVec 32 := 5#32
  let v132 : BitVec 1 := Scalar.cmpi .eq v123 c5_i32_73
  let c3_i32_74 : BitVec 32 := 3#32
  let c4_i32_71 : BitVec 32 := 4#32
  let v130 : BitVec 1 := Scalar.cmpi .eq v123 c4_i32_71
  let c3_i32_72 : BitVec 32 := 3#32
  let c3_i32_69 : BitVec 32 := 3#32
  let v128 : BitVec 1 := Scalar.cmpi .eq v123 c3_i32_69
  let c3_i32_70 : BitVec 32 := 3#32
  let c2_i32_67 : BitVec 32 := 2#32
  let v126 : BitVec 1 := Scalar.cmpi .eq v123 c2_i32_67
  let c2_i32_68 : BitVec 32 := 2#32
  let c1_i32_64 : BitVec 32 := 1#32
  let v124 : BitVec 1 := Scalar.cmpi .eq v123 c1_i32_64
  let c1_i32_65 : BitVec 32 := 1#32
  let c0_i32_66 : BitVec 32 := 0#32
  let v125 : BitVec 32 := Scalar.select v124 c1_i32_65 c0_i32_66
  let v127 : BitVec 32 := Scalar.select v126 c2_i32_68 v125
  let v129 : BitVec 32 := Scalar.select v128 c3_i32_70 v127
  let v131 : BitVec 32 := Scalar.select v130 c3_i32_72 v129
  let v133 : BitVec 32 := Scalar.select v132 c3_i32_74 v131
  let v135 : BitVec 32 := Scalar.select v134 c3_i32_76 v133
  let v137 : BitVec 32 := Scalar.select v136 c2_i32_78 v135
  let v139 : BitVec 32 := Scalar.select v138 c2_i32_80 v137
  let v141 : BitVec 32 := Scalar.select v140 c2_i32_82 v139
  let v143 : BitVec 32 := Scalar.select v142 c1_i32_84 v141
  let v145 : BitVec 32 := Scalar.select v144 c1_i32_86 v143
  let v147 : BitVec 32 := Scalar.select v146 c1_i32_88 v145
  let v149 : BitVec 32 := Scalar.select v148 c0_i32_90 v147
  let v151 : BitVec 32 := Scalar.select v150 c0_i32_92 v149
  let v153 : BitVec 32 := Scalar.select v152 c0_i32_94 v151
  let v185 : BitVec 32 := Scalar.muli c2_i32_127 v153
  let v186 : BitVec 32 := Scalar.addi v184 v185
  let c2_i32_128 : BitVec 32 := 2#32
  let c0_i32_129 : BitVec 32 := 0#32
  let v187 : BitVec 1 := Scalar.cmpi .eq c2_i32_128 c0_i32_129
  let c1_i32_130 : BitVec 32 := 1#32
  let v188 : BitVec 32 := Scalar.select v187 c1_i32_130 c2_i32_128
  let v189 : BitVec 32 := Scalar.remsi v153 v188
  let c0_i32_132 : BitVec 32 := 0#32
  let v191 : BitVec 1 := Scalar.cmpi .slt v189 c0_i32_132
  let c0_i32_133 : BitVec 32 := 0#32
  let v192 : BitVec 1 := Scalar.cmpi .slt v188 c0_i32_133
  let v193 : BitVec 1 := Scalar.xori v191 v192
  let c0_i32_131 : BitVec 32 := 0#32
  let v190 : BitVec 1 := Scalar.cmpi .ne v189 c0_i32_131
  let v194 : BitVec 1 := Scalar.andi v193 v190
  let v195 : BitVec 32 := Scalar.addi v189 v188
  let v196 : BitVec 32 := Scalar.select v194 v195 v189
  let c0_i32_134 : BitVec 32 := 0#32
  let v197 : BitVec 1 := Scalar.cmpi .eq v196 c0_i32_134
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_135 : BitVec 32 := 1#32
  let v198 : BitVec 32 := Scalar.subi c1_i32_135 v79
  let v199 : BitVec 32 := Scalar.select v197 v79 v198
  let v200 : BitVec 32 := Scalar.addi v186 v199
  let c1_i32_1979 : BitVec 32 := 1#32
  let v2254 : BitVec 32 := Scalar.muli v200 c1_i32_1979
  let v2255 : BitVec 32 := Scalar.addi c0_i32_1980 v2254
  v2255.toNat
def k0_dev51 (d0 : Dev nD) : Nat :=
  let c0_i32_1989 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_57 : BitVec 32 := 1#32
  let v112 : BitVec 32 := Scalar.xori v2 c1_i32_57
  let c1_i32_1988 : BitVec 32 := 1#32
  let v2266 : BitVec 32 := Scalar.muli v112 c1_i32_1988
  let v2267 : BitVec 32 := Scalar.addi c0_i32_1989 v2266
  v2267.toNat
def k0_dev52 (d0 : Dev nD) : Nat :=
  let c0_i32_2009 : BitVec 32 := 0#32
  let c8_i32_206 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v80 : BitVec 32 := Scalar.muli c4_i32 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v81 : BitVec 32 := Scalar.addi v80 v46
  let c15_i32_55 : BitVec 32 := 15#32
  let v110 : BitVec 1 := Scalar.cmpi .eq v81 c15_i32_55
  let c6_i32_56 : BitVec 32 := 6#32
  let c14_i32_53 : BitVec 32 := 14#32
  let v108 : BitVec 1 := Scalar.cmpi .eq v81 c14_i32_53
  let c7_i32_54 : BitVec 32 := 7#32
  let c13_i32_51 : BitVec 32 := 13#32
  let v106 : BitVec 1 := Scalar.cmpi .eq v81 c13_i32_51
  let c12_i32_52 : BitVec 32 := 12#32
  let c12_i32 : BitVec 32 := 12#32
  let v104 : BitVec 1 := Scalar.cmpi .eq v81 c12_i32
  let c13_i32 : BitVec 32 := 13#32
  let c11_i32_49 : BitVec 32 := 11#32
  let v102 : BitVec 1 := Scalar.cmpi .eq v81 c11_i32_49
  let c5_i32_50 : BitVec 32 := 5#32
  let c10_i32_47 : BitVec 32 := 10#32
  let v100 : BitVec 1 := Scalar.cmpi .eq v81 c10_i32_47
  let c8_i32_48 : BitVec 32 := 8#32
  let c9_i32_46 : BitVec 32 := 9#32
  let v98 : BitVec 1 := Scalar.cmpi .eq v81 c9_i32_46
  let c11_i32 : BitVec 32 := 11#32
  let c8_i32_45 : BitVec 32 := 8#32
  let v96 : BitVec 1 := Scalar.cmpi .eq v81 c8_i32_45
  let c14_i32 : BitVec 32 := 14#32
  let c7_i32 : BitVec 32 := 7#32
  let v94 : BitVec 1 := Scalar.cmpi .eq v81 c7_i32
  let c4_i32_44 : BitVec 32 := 4#32
  let c6_i32 : BitVec 32 := 6#32
  let v92 : BitVec 1 := Scalar.cmpi .eq v81 c6_i32
  let c9_i32 : BitVec 32 := 9#32
  let c5_i32 : BitVec 32 := 5#32
  let v90 : BitVec 1 := Scalar.cmpi .eq v81 c5_i32
  let c10_i32 : BitVec 32 := 10#32
  let c4_i32_43 : BitVec 32 := 4#32
  let v88 : BitVec 1 := Scalar.cmpi .eq v81 c4_i32_43
  let c15_i32 : BitVec 32 := 15#32
  let c3_i32 : BitVec 32 := 3#32
  let v86 : BitVec 1 := Scalar.cmpi .eq v81 c3_i32
  let c3_i32_42 : BitVec 32 := 3#32
  let c2_i32_40 : BitVec 32 := 2#32
  let v84 : BitVec 1 := Scalar.cmpi .eq v81 c2_i32_40
  let c2_i32_41 : BitVec 32 := 2#32
  let c1_i32_37 : BitVec 32 := 1#32
  let v82 : BitVec 1 := Scalar.cmpi .eq v81 c1_i32_37
  let c1_i32_38 : BitVec 32 := 1#32
  let c0_i32_39 : BitVec 32 := 0#32
  let v83 : BitVec 32 := Scalar.select v82 c1_i32_38 c0_i32_39
  let v85 : BitVec 32 := Scalar.select v84 c2_i32_41 v83
  let v87 : BitVec 32 := Scalar.select v86 c3_i32_42 v85
  let v89 : BitVec 32 := Scalar.select v88 c15_i32 v87
  let v91 : BitVec 32 := Scalar.select v90 c10_i32 v89
  let v93 : BitVec 32 := Scalar.select v92 c9_i32 v91
  let v95 : BitVec 32 := Scalar.select v94 c4_i32_44 v93
  let v97 : BitVec 32 := Scalar.select v96 c14_i32 v95
  let v99 : BitVec 32 := Scalar.select v98 c11_i32 v97
  let v101 : BitVec 32 := Scalar.select v100 c8_i32_48 v99
  let v103 : BitVec 32 := Scalar.select v102 c5_i32_50 v101
  let v105 : BitVec 32 := Scalar.select v104 c13_i32 v103
  let v107 : BitVec 32 := Scalar.select v106 c12_i32_52 v105
  let v109 : BitVec 32 := Scalar.select v108 c7_i32_54 v107
  let v111 : BitVec 32 := Scalar.select v110 c6_i32_56 v109
  let c16_i32_136 : BitVec 32 := 16#32
  let v201 : BitVec 32 := Scalar.addi v111 c16_i32_136
  let c1_i32_137 : BitVec 32 := 1#32
  let v202 : BitVec 32 := Scalar.subi v201 c1_i32_137
  let c16_i32_138 : BitVec 32 := 16#32
  let c0_i32_139 : BitVec 32 := 0#32
  let v203 : BitVec 1 := Scalar.cmpi .eq c16_i32_138 c0_i32_139
  let c1_i32_140 : BitVec 32 := 1#32
  let v204 : BitVec 32 := Scalar.select v203 c1_i32_140 c16_i32_138
  let v205 : BitVec 32 := Scalar.remsi v202 v204
  let c0_i32_142 : BitVec 32 := 0#32
  let v207 : BitVec 1 := Scalar.cmpi .slt v205 c0_i32_142
  let c0_i32_143 : BitVec 32 := 0#32
  let v208 : BitVec 1 := Scalar.cmpi .slt v204 c0_i32_143
  let v209 : BitVec 1 := Scalar.xori v207 v208
  let c0_i32_141 : BitVec 32 := 0#32
  let v206 : BitVec 1 := Scalar.cmpi .ne v205 c0_i32_141
  let v210 : BitVec 1 := Scalar.andi v209 v206
  let v211 : BitVec 32 := Scalar.addi v205 v204
  let v212 : BitVec 32 := Scalar.select v210 v211 v205
  let c15_i32_204 : BitVec 32 := 15#32
  let v271 : BitVec 1 := Scalar.cmpi .eq v212 c15_i32_204
  let c1_i32_205 : BitVec 32 := 1#32
  let c14_i32_202 : BitVec 32 := 14#32
  let v269 : BitVec 1 := Scalar.cmpi .eq v212 c14_i32_202
  let c2_i32_203 : BitVec 32 := 2#32
  let c13_i32_200 : BitVec 32 := 13#32
  let v267 : BitVec 1 := Scalar.cmpi .eq v212 c13_i32_200
  let c3_i32_201 : BitVec 32 := 3#32
  let c12_i32_198 : BitVec 32 := 12#32
  let v265 : BitVec 1 := Scalar.cmpi .eq v212 c12_i32_198
  let c3_i32_199 : BitVec 32 := 3#32
  let c11_i32_196 : BitVec 32 := 11#32
  let v263 : BitVec 1 := Scalar.cmpi .eq v212 c11_i32_196
  let c2_i32_197 : BitVec 32 := 2#32
  let c10_i32_194 : BitVec 32 := 10#32
  let v261 : BitVec 1 := Scalar.cmpi .eq v212 c10_i32_194
  let c1_i32_195 : BitVec 32 := 1#32
  let c9_i32_192 : BitVec 32 := 9#32
  let v259 : BitVec 1 := Scalar.cmpi .eq v212 c9_i32_192
  let c1_i32_193 : BitVec 32 := 1#32
  let c8_i32_190 : BitVec 32 := 8#32
  let v257 : BitVec 1 := Scalar.cmpi .eq v212 c8_i32_190
  let c2_i32_191 : BitVec 32 := 2#32
  let c7_i32_188 : BitVec 32 := 7#32
  let v255 : BitVec 1 := Scalar.cmpi .eq v212 c7_i32_188
  let c3_i32_189 : BitVec 32 := 3#32
  let c6_i32_186 : BitVec 32 := 6#32
  let v253 : BitVec 1 := Scalar.cmpi .eq v212 c6_i32_186
  let c3_i32_187 : BitVec 32 := 3#32
  let c5_i32_184 : BitVec 32 := 5#32
  let v251 : BitVec 1 := Scalar.cmpi .eq v212 c5_i32_184
  let c2_i32_185 : BitVec 32 := 2#32
  let c4_i32_182 : BitVec 32 := 4#32
  let v249 : BitVec 1 := Scalar.cmpi .eq v212 c4_i32_182
  let c1_i32_183 : BitVec 32 := 1#32
  let c3_i32_180 : BitVec 32 := 3#32
  let v247 : BitVec 1 := Scalar.cmpi .eq v212 c3_i32_180
  let c0_i32_181 : BitVec 32 := 0#32
  let c2_i32_178 : BitVec 32 := 2#32
  let v245 : BitVec 1 := Scalar.cmpi .eq v212 c2_i32_178
  let c0_i32_179 : BitVec 32 := 0#32
  let c1_i32_175 : BitVec 32 := 1#32
  let v243 : BitVec 1 := Scalar.cmpi .eq v212 c1_i32_175
  let c0_i32_176 : BitVec 32 := 0#32
  let c0_i32_177 : BitVec 32 := 0#32
  let v244 : BitVec 32 := Scalar.select v243 c0_i32_176 c0_i32_177
  let v246 : BitVec 32 := Scalar.select v245 c0_i32_179 v244
  let v248 : BitVec 32 := Scalar.select v247 c0_i32_181 v246
  let v250 : BitVec 32 := Scalar.select v249 c1_i32_183 v248
  let v252 : BitVec 32 := Scalar.select v251 c2_i32_185 v250
  let v254 : BitVec 32 := Scalar.select v253 c3_i32_187 v252
  let v256 : BitVec 32 := Scalar.select v255 c3_i32_189 v254
  let v258 : BitVec 32 := Scalar.select v257 c2_i32_191 v256
  let v260 : BitVec 32 := Scalar.select v259 c1_i32_193 v258
  let v262 : BitVec 32 := Scalar.select v261 c1_i32_195 v260
  let v264 : BitVec 32 := Scalar.select v263 c2_i32_197 v262
  let v266 : BitVec 32 := Scalar.select v265 c3_i32_199 v264
  let v268 : BitVec 32 := Scalar.select v267 c3_i32_201 v266
  let v270 : BitVec 32 := Scalar.select v269 c2_i32_203 v268
  let v272 : BitVec 32 := Scalar.select v271 c1_i32_205 v270
  let v273 : BitVec 32 := Scalar.muli c8_i32_206 v272
  let c2_i32_207 : BitVec 32 := 2#32
  let c15_i32_173 : BitVec 32 := 15#32
  let v241 : BitVec 1 := Scalar.cmpi .eq v212 c15_i32_173
  let c0_i32_174 : BitVec 32 := 0#32
  let c14_i32_171 : BitVec 32 := 14#32
  let v239 : BitVec 1 := Scalar.cmpi .eq v212 c14_i32_171
  let c0_i32_172 : BitVec 32 := 0#32
  let c13_i32_169 : BitVec 32 := 13#32
  let v237 : BitVec 1 := Scalar.cmpi .eq v212 c13_i32_169
  let c0_i32_170 : BitVec 32 := 0#32
  let c12_i32_167 : BitVec 32 := 12#32
  let v235 : BitVec 1 := Scalar.cmpi .eq v212 c12_i32_167
  let c1_i32_168 : BitVec 32 := 1#32
  let c11_i32_165 : BitVec 32 := 11#32
  let v233 : BitVec 1 := Scalar.cmpi .eq v212 c11_i32_165
  let c1_i32_166 : BitVec 32 := 1#32
  let c10_i32_163 : BitVec 32 := 10#32
  let v231 : BitVec 1 := Scalar.cmpi .eq v212 c10_i32_163
  let c1_i32_164 : BitVec 32 := 1#32
  let c9_i32_161 : BitVec 32 := 9#32
  let v229 : BitVec 1 := Scalar.cmpi .eq v212 c9_i32_161
  let c2_i32_162 : BitVec 32 := 2#32
  let c8_i32_159 : BitVec 32 := 8#32
  let v227 : BitVec 1 := Scalar.cmpi .eq v212 c8_i32_159
  let c2_i32_160 : BitVec 32 := 2#32
  let c7_i32_157 : BitVec 32 := 7#32
  let v225 : BitVec 1 := Scalar.cmpi .eq v212 c7_i32_157
  let c2_i32_158 : BitVec 32 := 2#32
  let c6_i32_155 : BitVec 32 := 6#32
  let v223 : BitVec 1 := Scalar.cmpi .eq v212 c6_i32_155
  let c3_i32_156 : BitVec 32 := 3#32
  let c5_i32_153 : BitVec 32 := 5#32
  let v221 : BitVec 1 := Scalar.cmpi .eq v212 c5_i32_153
  let c3_i32_154 : BitVec 32 := 3#32
  let c4_i32_151 : BitVec 32 := 4#32
  let v219 : BitVec 1 := Scalar.cmpi .eq v212 c4_i32_151
  let c3_i32_152 : BitVec 32 := 3#32
  let c3_i32_149 : BitVec 32 := 3#32
  let v217 : BitVec 1 := Scalar.cmpi .eq v212 c3_i32_149
  let c3_i32_150 : BitVec 32 := 3#32
  let c2_i32_147 : BitVec 32 := 2#32
  let v215 : BitVec 1 := Scalar.cmpi .eq v212 c2_i32_147
  let c2_i32_148 : BitVec 32 := 2#32
  let c1_i32_144 : BitVec 32 := 1#32
  let v213 : BitVec 1 := Scalar.cmpi .eq v212 c1_i32_144
  let c1_i32_145 : BitVec 32 := 1#32
  let c0_i32_146 : BitVec 32 := 0#32
  let v214 : BitVec 32 := Scalar.select v213 c1_i32_145 c0_i32_146
  let v216 : BitVec 32 := Scalar.select v215 c2_i32_148 v214
  let v218 : BitVec 32 := Scalar.select v217 c3_i32_150 v216
  let v220 : BitVec 32 := Scalar.select v219 c3_i32_152 v218
  let v222 : BitVec 32 := Scalar.select v221 c3_i32_154 v220
  let v224 : BitVec 32 := Scalar.select v223 c3_i32_156 v222
  let v226 : BitVec 32 := Scalar.select v225 c2_i32_158 v224
  let v228 : BitVec 32 := Scalar.select v227 c2_i32_160 v226
  let v230 : BitVec 32 := Scalar.select v229 c2_i32_162 v228
  let v232 : BitVec 32 := Scalar.select v231 c1_i32_164 v230
  let v234 : BitVec 32 := Scalar.select v233 c1_i32_166 v232
  let v236 : BitVec 32 := Scalar.select v235 c1_i32_168 v234
  let v238 : BitVec 32 := Scalar.select v237 c0_i32_170 v236
  let v240 : BitVec 32 := Scalar.select v239 c0_i32_172 v238
  let v242 : BitVec 32 := Scalar.select v241 c0_i32_174 v240
  let v274 : BitVec 32 := Scalar.muli c2_i32_207 v242
  let v275 : BitVec 32 := Scalar.addi v273 v274
  let c2_i32_208 : BitVec 32 := 2#32
  let c0_i32_209 : BitVec 32 := 0#32
  let v276 : BitVec 1 := Scalar.cmpi .eq c2_i32_208 c0_i32_209
  let c1_i32_210 : BitVec 32 := 1#32
  let v277 : BitVec 32 := Scalar.select v276 c1_i32_210 c2_i32_208
  let v278 : BitVec 32 := Scalar.remsi v242 v277
  let c0_i32_212 : BitVec 32 := 0#32
  let v280 : BitVec 1 := Scalar.cmpi .slt v278 c0_i32_212
  let c0_i32_213 : BitVec 32 := 0#32
  let v281 : BitVec 1 := Scalar.cmpi .slt v277 c0_i32_213
  let v282 : BitVec 1 := Scalar.xori v280 v281
  let c0_i32_211 : BitVec 32 := 0#32
  let v279 : BitVec 1 := Scalar.cmpi .ne v278 c0_i32_211
  let v283 : BitVec 1 := Scalar.andi v282 v279
  let v284 : BitVec 32 := Scalar.addi v278 v277
  let v285 : BitVec 32 := Scalar.select v283 v284 v278
  let c0_i32_214 : BitVec 32 := 0#32
  let v286 : BitVec 1 := Scalar.cmpi .eq v285 c0_i32_214
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_215 : BitVec 32 := 1#32
  let v287 : BitVec 32 := Scalar.subi c1_i32_215 v79
  let v288 : BitVec 32 := Scalar.select v286 v79 v287
  let v289 : BitVec 32 := Scalar.addi v275 v288
  let c1_i32_2008 : BitVec 32 := 1#32
  let v2288 : BitVec 32 := Scalar.muli v289 c1_i32_2008
  let v2289 : BitVec 32 := Scalar.addi c0_i32_2009 v2288
  v2289.toNat
def k0_dev53 (d0 : Dev nD) : Nat :=
  let c0_i32_2018 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_57 : BitVec 32 := 1#32
  let v112 : BitVec 32 := Scalar.xori v2 c1_i32_57
  let c1_i32_2017 : BitVec 32 := 1#32
  let v2300 : BitVec 32 := Scalar.muli v112 c1_i32_2017
  let v2301 : BitVec 32 := Scalar.addi c0_i32_2018 v2300
  v2301.toNat
def k0_dev54 (d0 : Dev nD) : Nat :=
  let c0_i32_2038 : BitVec 32 := 0#32
  let c8_i32_126 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v80 : BitVec 32 := Scalar.muli c4_i32 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v81 : BitVec 32 := Scalar.addi v80 v46
  let c15_i32_55 : BitVec 32 := 15#32
  let v110 : BitVec 1 := Scalar.cmpi .eq v81 c15_i32_55
  let c6_i32_56 : BitVec 32 := 6#32
  let c14_i32_53 : BitVec 32 := 14#32
  let v108 : BitVec 1 := Scalar.cmpi .eq v81 c14_i32_53
  let c7_i32_54 : BitVec 32 := 7#32
  let c13_i32_51 : BitVec 32 := 13#32
  let v106 : BitVec 1 := Scalar.cmpi .eq v81 c13_i32_51
  let c12_i32_52 : BitVec 32 := 12#32
  let c12_i32 : BitVec 32 := 12#32
  let v104 : BitVec 1 := Scalar.cmpi .eq v81 c12_i32
  let c13_i32 : BitVec 32 := 13#32
  let c11_i32_49 : BitVec 32 := 11#32
  let v102 : BitVec 1 := Scalar.cmpi .eq v81 c11_i32_49
  let c5_i32_50 : BitVec 32 := 5#32
  let c10_i32_47 : BitVec 32 := 10#32
  let v100 : BitVec 1 := Scalar.cmpi .eq v81 c10_i32_47
  let c8_i32_48 : BitVec 32 := 8#32
  let c9_i32_46 : BitVec 32 := 9#32
  let v98 : BitVec 1 := Scalar.cmpi .eq v81 c9_i32_46
  let c11_i32 : BitVec 32 := 11#32
  let c8_i32_45 : BitVec 32 := 8#32
  let v96 : BitVec 1 := Scalar.cmpi .eq v81 c8_i32_45
  let c14_i32 : BitVec 32 := 14#32
  let c7_i32 : BitVec 32 := 7#32
  let v94 : BitVec 1 := Scalar.cmpi .eq v81 c7_i32
  let c4_i32_44 : BitVec 32 := 4#32
  let c6_i32 : BitVec 32 := 6#32
  let v92 : BitVec 1 := Scalar.cmpi .eq v81 c6_i32
  let c9_i32 : BitVec 32 := 9#32
  let c5_i32 : BitVec 32 := 5#32
  let v90 : BitVec 1 := Scalar.cmpi .eq v81 c5_i32
  let c10_i32 : BitVec 32 := 10#32
  let c4_i32_43 : BitVec 32 := 4#32
  let v88 : BitVec 1 := Scalar.cmpi .eq v81 c4_i32_43
  let c15_i32 : BitVec 32 := 15#32
  let c3_i32 : BitVec 32 := 3#32
  let v86 : BitVec 1 := Scalar.cmpi .eq v81 c3_i32
  let c3_i32_42 : BitVec 32 := 3#32
  let c2_i32_40 : BitVec 32 := 2#32
  let v84 : BitVec 1 := Scalar.cmpi .eq v81 c2_i32_40
  let c2_i32_41 : BitVec 32 := 2#32
  let c1_i32_37 : BitVec 32 := 1#32
  let v82 : BitVec 1 := Scalar.cmpi .eq v81 c1_i32_37
  let c1_i32_38 : BitVec 32 := 1#32
  let c0_i32_39 : BitVec 32 := 0#32
  let v83 : BitVec 32 := Scalar.select v82 c1_i32_38 c0_i32_39
  let v85 : BitVec 32 := Scalar.select v84 c2_i32_41 v83
  let v87 : BitVec 32 := Scalar.select v86 c3_i32_42 v85
  let v89 : BitVec 32 := Scalar.select v88 c15_i32 v87
  let v91 : BitVec 32 := Scalar.select v90 c10_i32 v89
  let v93 : BitVec 32 := Scalar.select v92 c9_i32 v91
  let v95 : BitVec 32 := Scalar.select v94 c4_i32_44 v93
  let v97 : BitVec 32 := Scalar.select v96 c14_i32 v95
  let v99 : BitVec 32 := Scalar.select v98 c11_i32 v97
  let v101 : BitVec 32 := Scalar.select v100 c8_i32_48 v99
  let v103 : BitVec 32 := Scalar.select v102 c5_i32_50 v101
  let v105 : BitVec 32 := Scalar.select v104 c13_i32 v103
  let v107 : BitVec 32 := Scalar.select v106 c12_i32_52 v105
  let v109 : BitVec 32 := Scalar.select v108 c7_i32_54 v107
  let v111 : BitVec 32 := Scalar.select v110 c6_i32_56 v109
  let c1_i32_58 : BitVec 32 := 1#32
  let v113 : BitVec 32 := Scalar.addi v111 c1_i32_58
  let c16_i32 : BitVec 32 := 16#32
  let c0_i32_59 : BitVec 32 := 0#32
  let v114 : BitVec 1 := Scalar.cmpi .eq c16_i32 c0_i32_59
  let c1_i32_60 : BitVec 32 := 1#32
  let v115 : BitVec 32 := Scalar.select v114 c1_i32_60 c16_i32
  let v116 : BitVec 32 := Scalar.remsi v113 v115
  let c0_i32_62 : BitVec 32 := 0#32
  let v118 : BitVec 1 := Scalar.cmpi .slt v116 c0_i32_62
  let c0_i32_63 : BitVec 32 := 0#32
  let v119 : BitVec 1 := Scalar.cmpi .slt v115 c0_i32_63
  let v120 : BitVec 1 := Scalar.xori v118 v119
  let c0_i32_61 : BitVec 32 := 0#32
  let v117 : BitVec 1 := Scalar.cmpi .ne v116 c0_i32_61
  let v121 : BitVec 1 := Scalar.andi v120 v117
  let v122 : BitVec 32 := Scalar.addi v116 v115
  let v123 : BitVec 32 := Scalar.select v121 v122 v116
  let c15_i32_124 : BitVec 32 := 15#32
  let v182 : BitVec 1 := Scalar.cmpi .eq v123 c15_i32_124
  let c1_i32_125 : BitVec 32 := 1#32
  let c14_i32_122 : BitVec 32 := 14#32
  let v180 : BitVec 1 := Scalar.cmpi .eq v123 c14_i32_122
  let c2_i32_123 : BitVec 32 := 2#32
  let c13_i32_120 : BitVec 32 := 13#32
  let v178 : BitVec 1 := Scalar.cmpi .eq v123 c13_i32_120
  let c3_i32_121 : BitVec 32 := 3#32
  let c12_i32_118 : BitVec 32 := 12#32
  let v176 : BitVec 1 := Scalar.cmpi .eq v123 c12_i32_118
  let c3_i32_119 : BitVec 32 := 3#32
  let c11_i32_116 : BitVec 32 := 11#32
  let v174 : BitVec 1 := Scalar.cmpi .eq v123 c11_i32_116
  let c2_i32_117 : BitVec 32 := 2#32
  let c10_i32_114 : BitVec 32 := 10#32
  let v172 : BitVec 1 := Scalar.cmpi .eq v123 c10_i32_114
  let c1_i32_115 : BitVec 32 := 1#32
  let c9_i32_112 : BitVec 32 := 9#32
  let v170 : BitVec 1 := Scalar.cmpi .eq v123 c9_i32_112
  let c1_i32_113 : BitVec 32 := 1#32
  let c8_i32_110 : BitVec 32 := 8#32
  let v168 : BitVec 1 := Scalar.cmpi .eq v123 c8_i32_110
  let c2_i32_111 : BitVec 32 := 2#32
  let c7_i32_108 : BitVec 32 := 7#32
  let v166 : BitVec 1 := Scalar.cmpi .eq v123 c7_i32_108
  let c3_i32_109 : BitVec 32 := 3#32
  let c6_i32_106 : BitVec 32 := 6#32
  let v164 : BitVec 1 := Scalar.cmpi .eq v123 c6_i32_106
  let c3_i32_107 : BitVec 32 := 3#32
  let c5_i32_104 : BitVec 32 := 5#32
  let v162 : BitVec 1 := Scalar.cmpi .eq v123 c5_i32_104
  let c2_i32_105 : BitVec 32 := 2#32
  let c4_i32_102 : BitVec 32 := 4#32
  let v160 : BitVec 1 := Scalar.cmpi .eq v123 c4_i32_102
  let c1_i32_103 : BitVec 32 := 1#32
  let c3_i32_100 : BitVec 32 := 3#32
  let v158 : BitVec 1 := Scalar.cmpi .eq v123 c3_i32_100
  let c0_i32_101 : BitVec 32 := 0#32
  let c2_i32_98 : BitVec 32 := 2#32
  let v156 : BitVec 1 := Scalar.cmpi .eq v123 c2_i32_98
  let c0_i32_99 : BitVec 32 := 0#32
  let c1_i32_95 : BitVec 32 := 1#32
  let v154 : BitVec 1 := Scalar.cmpi .eq v123 c1_i32_95
  let c0_i32_96 : BitVec 32 := 0#32
  let c0_i32_97 : BitVec 32 := 0#32
  let v155 : BitVec 32 := Scalar.select v154 c0_i32_96 c0_i32_97
  let v157 : BitVec 32 := Scalar.select v156 c0_i32_99 v155
  let v159 : BitVec 32 := Scalar.select v158 c0_i32_101 v157
  let v161 : BitVec 32 := Scalar.select v160 c1_i32_103 v159
  let v163 : BitVec 32 := Scalar.select v162 c2_i32_105 v161
  let v165 : BitVec 32 := Scalar.select v164 c3_i32_107 v163
  let v167 : BitVec 32 := Scalar.select v166 c3_i32_109 v165
  let v169 : BitVec 32 := Scalar.select v168 c2_i32_111 v167
  let v171 : BitVec 32 := Scalar.select v170 c1_i32_113 v169
  let v173 : BitVec 32 := Scalar.select v172 c1_i32_115 v171
  let v175 : BitVec 32 := Scalar.select v174 c2_i32_117 v173
  let v177 : BitVec 32 := Scalar.select v176 c3_i32_119 v175
  let v179 : BitVec 32 := Scalar.select v178 c3_i32_121 v177
  let v181 : BitVec 32 := Scalar.select v180 c2_i32_123 v179
  let v183 : BitVec 32 := Scalar.select v182 c1_i32_125 v181
  let v184 : BitVec 32 := Scalar.muli c8_i32_126 v183
  let c2_i32_127 : BitVec 32 := 2#32
  let c15_i32_93 : BitVec 32 := 15#32
  let v152 : BitVec 1 := Scalar.cmpi .eq v123 c15_i32_93
  let c0_i32_94 : BitVec 32 := 0#32
  let c14_i32_91 : BitVec 32 := 14#32
  let v150 : BitVec 1 := Scalar.cmpi .eq v123 c14_i32_91
  let c0_i32_92 : BitVec 32 := 0#32
  let c13_i32_89 : BitVec 32 := 13#32
  let v148 : BitVec 1 := Scalar.cmpi .eq v123 c13_i32_89
  let c0_i32_90 : BitVec 32 := 0#32
  let c12_i32_87 : BitVec 32 := 12#32
  let v146 : BitVec 1 := Scalar.cmpi .eq v123 c12_i32_87
  let c1_i32_88 : BitVec 32 := 1#32
  let c11_i32_85 : BitVec 32 := 11#32
  let v144 : BitVec 1 := Scalar.cmpi .eq v123 c11_i32_85
  let c1_i32_86 : BitVec 32 := 1#32
  let c10_i32_83 : BitVec 32 := 10#32
  let v142 : BitVec 1 := Scalar.cmpi .eq v123 c10_i32_83
  let c1_i32_84 : BitVec 32 := 1#32
  let c9_i32_81 : BitVec 32 := 9#32
  let v140 : BitVec 1 := Scalar.cmpi .eq v123 c9_i32_81
  let c2_i32_82 : BitVec 32 := 2#32
  let c8_i32_79 : BitVec 32 := 8#32
  let v138 : BitVec 1 := Scalar.cmpi .eq v123 c8_i32_79
  let c2_i32_80 : BitVec 32 := 2#32
  let c7_i32_77 : BitVec 32 := 7#32
  let v136 : BitVec 1 := Scalar.cmpi .eq v123 c7_i32_77
  let c2_i32_78 : BitVec 32 := 2#32
  let c6_i32_75 : BitVec 32 := 6#32
  let v134 : BitVec 1 := Scalar.cmpi .eq v123 c6_i32_75
  let c3_i32_76 : BitVec 32 := 3#32
  let c5_i32_73 : BitVec 32 := 5#32
  let v132 : BitVec 1 := Scalar.cmpi .eq v123 c5_i32_73
  let c3_i32_74 : BitVec 32 := 3#32
  let c4_i32_71 : BitVec 32 := 4#32
  let v130 : BitVec 1 := Scalar.cmpi .eq v123 c4_i32_71
  let c3_i32_72 : BitVec 32 := 3#32
  let c3_i32_69 : BitVec 32 := 3#32
  let v128 : BitVec 1 := Scalar.cmpi .eq v123 c3_i32_69
  let c3_i32_70 : BitVec 32 := 3#32
  let c2_i32_67 : BitVec 32 := 2#32
  let v126 : BitVec 1 := Scalar.cmpi .eq v123 c2_i32_67
  let c2_i32_68 : BitVec 32 := 2#32
  let c1_i32_64 : BitVec 32 := 1#32
  let v124 : BitVec 1 := Scalar.cmpi .eq v123 c1_i32_64
  let c1_i32_65 : BitVec 32 := 1#32
  let c0_i32_66 : BitVec 32 := 0#32
  let v125 : BitVec 32 := Scalar.select v124 c1_i32_65 c0_i32_66
  let v127 : BitVec 32 := Scalar.select v126 c2_i32_68 v125
  let v129 : BitVec 32 := Scalar.select v128 c3_i32_70 v127
  let v131 : BitVec 32 := Scalar.select v130 c3_i32_72 v129
  let v133 : BitVec 32 := Scalar.select v132 c3_i32_74 v131
  let v135 : BitVec 32 := Scalar.select v134 c3_i32_76 v133
  let v137 : BitVec 32 := Scalar.select v136 c2_i32_78 v135
  let v139 : BitVec 32 := Scalar.select v138 c2_i32_80 v137
  let v141 : BitVec 32 := Scalar.select v140 c2_i32_82 v139
  let v143 : BitVec 32 := Scalar.select v142 c1_i32_84 v141
  let v145 : BitVec 32 := Scalar.select v144 c1_i32_86 v143
  let v147 : BitVec 32 := Scalar.select v146 c1_i32_88 v145
  let v149 : BitVec 32 := Scalar.select v148 c0_i32_90 v147
  let v151 : BitVec 32 := Scalar.select v150 c0_i32_92 v149
  let v153 : BitVec 32 := Scalar.select v152 c0_i32_94 v151
  let v185 : BitVec 32 := Scalar.muli c2_i32_127 v153
  let v186 : BitVec 32 := Scalar.addi v184 v185
  let c2_i32_128 : BitVec 32 := 2#32
  let c0_i32_129 : BitVec 32 := 0#32
  let v187 : BitVec 1 := Scalar.cmpi .eq c2_i32_128 c0_i32_129
  let c1_i32_130 : BitVec 32 := 1#32
  let v188 : BitVec 32 := Scalar.select v187 c1_i32_130 c2_i32_128
  let v189 : BitVec 32 := Scalar.remsi v153 v188
  let c0_i32_132 : BitVec 32 := 0#32
  let v191 : BitVec 1 := Scalar.cmpi .slt v189 c0_i32_132
  let c0_i32_133 : BitVec 32 := 0#32
  let v192 : BitVec 1 := Scalar.cmpi .slt v188 c0_i32_133
  let v193 : BitVec 1 := Scalar.xori v191 v192
  let c0_i32_131 : BitVec 32 := 0#32
  let v190 : BitVec 1 := Scalar.cmpi .ne v189 c0_i32_131
  let v194 : BitVec 1 := Scalar.andi v193 v190
  let v195 : BitVec 32 := Scalar.addi v189 v188
  let v196 : BitVec 32 := Scalar.select v194 v195 v189
  let c0_i32_134 : BitVec 32 := 0#32
  let v197 : BitVec 1 := Scalar.cmpi .eq v196 c0_i32_134
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_135 : BitVec 32 := 1#32
  let v198 : BitVec 32 := Scalar.subi c1_i32_135 v79
  let v199 : BitVec 32 := Scalar.select v197 v79 v198
  let v200 : BitVec 32 := Scalar.addi v186 v199
  let c1_i32_2037 : BitVec 32 := 1#32
  let v2322 : BitVec 32 := Scalar.muli v200 c1_i32_2037
  let v2323 : BitVec 32 := Scalar.addi c0_i32_2038 v2322
  v2323.toNat
def k0_dev55 (d0 : Dev nD) : Nat :=
  let c0_i32_2047 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_57 : BitVec 32 := 1#32
  let v112 : BitVec 32 := Scalar.xori v2 c1_i32_57
  let c1_i32_2046 : BitVec 32 := 1#32
  let v2334 : BitVec 32 := Scalar.muli v112 c1_i32_2046
  let v2335 : BitVec 32 := Scalar.addi c0_i32_2047 v2334
  v2335.toNat
def k0_dev56 (d0 : Dev nD) : Nat :=
  let c0_i32_2067 : BitVec 32 := 0#32
  let c8_i32_206 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v80 : BitVec 32 := Scalar.muli c4_i32 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v81 : BitVec 32 := Scalar.addi v80 v46
  let c15_i32_55 : BitVec 32 := 15#32
  let v110 : BitVec 1 := Scalar.cmpi .eq v81 c15_i32_55
  let c6_i32_56 : BitVec 32 := 6#32
  let c14_i32_53 : BitVec 32 := 14#32
  let v108 : BitVec 1 := Scalar.cmpi .eq v81 c14_i32_53
  let c7_i32_54 : BitVec 32 := 7#32
  let c13_i32_51 : BitVec 32 := 13#32
  let v106 : BitVec 1 := Scalar.cmpi .eq v81 c13_i32_51
  let c12_i32_52 : BitVec 32 := 12#32
  let c12_i32 : BitVec 32 := 12#32
  let v104 : BitVec 1 := Scalar.cmpi .eq v81 c12_i32
  let c13_i32 : BitVec 32 := 13#32
  let c11_i32_49 : BitVec 32 := 11#32
  let v102 : BitVec 1 := Scalar.cmpi .eq v81 c11_i32_49
  let c5_i32_50 : BitVec 32 := 5#32
  let c10_i32_47 : BitVec 32 := 10#32
  let v100 : BitVec 1 := Scalar.cmpi .eq v81 c10_i32_47
  let c8_i32_48 : BitVec 32 := 8#32
  let c9_i32_46 : BitVec 32 := 9#32
  let v98 : BitVec 1 := Scalar.cmpi .eq v81 c9_i32_46
  let c11_i32 : BitVec 32 := 11#32
  let c8_i32_45 : BitVec 32 := 8#32
  let v96 : BitVec 1 := Scalar.cmpi .eq v81 c8_i32_45
  let c14_i32 : BitVec 32 := 14#32
  let c7_i32 : BitVec 32 := 7#32
  let v94 : BitVec 1 := Scalar.cmpi .eq v81 c7_i32
  let c4_i32_44 : BitVec 32 := 4#32
  let c6_i32 : BitVec 32 := 6#32
  let v92 : BitVec 1 := Scalar.cmpi .eq v81 c6_i32
  let c9_i32 : BitVec 32 := 9#32
  let c5_i32 : BitVec 32 := 5#32
  let v90 : BitVec 1 := Scalar.cmpi .eq v81 c5_i32
  let c10_i32 : BitVec 32 := 10#32
  let c4_i32_43 : BitVec 32 := 4#32
  let v88 : BitVec 1 := Scalar.cmpi .eq v81 c4_i32_43
  let c15_i32 : BitVec 32 := 15#32
  let c3_i32 : BitVec 32 := 3#32
  let v86 : BitVec 1 := Scalar.cmpi .eq v81 c3_i32
  let c3_i32_42 : BitVec 32 := 3#32
  let c2_i32_40 : BitVec 32 := 2#32
  let v84 : BitVec 1 := Scalar.cmpi .eq v81 c2_i32_40
  let c2_i32_41 : BitVec 32 := 2#32
  let c1_i32_37 : BitVec 32 := 1#32
  let v82 : BitVec 1 := Scalar.cmpi .eq v81 c1_i32_37
  let c1_i32_38 : BitVec 32 := 1#32
  let c0_i32_39 : BitVec 32 := 0#32
  let v83 : BitVec 32 := Scalar.select v82 c1_i32_38 c0_i32_39
  let v85 : BitVec 32 := Scalar.select v84 c2_i32_41 v83
  let v87 : BitVec 32 := Scalar.select v86 c3_i32_42 v85
  let v89 : BitVec 32 := Scalar.select v88 c15_i32 v87
  let v91 : BitVec 32 := Scalar.select v90 c10_i32 v89
  let v93 : BitVec 32 := Scalar.select v92 c9_i32 v91
  let v95 : BitVec 32 := Scalar.select v94 c4_i32_44 v93
  let v97 : BitVec 32 := Scalar.select v96 c14_i32 v95
  let v99 : BitVec 32 := Scalar.select v98 c11_i32 v97
  let v101 : BitVec 32 := Scalar.select v100 c8_i32_48 v99
  let v103 : BitVec 32 := Scalar.select v102 c5_i32_50 v101
  let v105 : BitVec 32 := Scalar.select v104 c13_i32 v103
  let v107 : BitVec 32 := Scalar.select v106 c12_i32_52 v105
  let v109 : BitVec 32 := Scalar.select v108 c7_i32_54 v107
  let v111 : BitVec 32 := Scalar.select v110 c6_i32_56 v109
  let c16_i32_136 : BitVec 32 := 16#32
  let v201 : BitVec 32 := Scalar.addi v111 c16_i32_136
  let c1_i32_137 : BitVec 32 := 1#32
  let v202 : BitVec 32 := Scalar.subi v201 c1_i32_137
  let c16_i32_138 : BitVec 32 := 16#32
  let c0_i32_139 : BitVec 32 := 0#32
  let v203 : BitVec 1 := Scalar.cmpi .eq c16_i32_138 c0_i32_139
  let c1_i32_140 : BitVec 32 := 1#32
  let v204 : BitVec 32 := Scalar.select v203 c1_i32_140 c16_i32_138
  let v205 : BitVec 32 := Scalar.remsi v202 v204
  let c0_i32_142 : BitVec 32 := 0#32
  let v207 : BitVec 1 := Scalar.cmpi .slt v205 c0_i32_142
  let c0_i32_143 : BitVec 32 := 0#32
  let v208 : BitVec 1 := Scalar.cmpi .slt v204 c0_i32_143
  let v209 : BitVec 1 := Scalar.xori v207 v208
  let c0_i32_141 : BitVec 32 := 0#32
  let v206 : BitVec 1 := Scalar.cmpi .ne v205 c0_i32_141
  let v210 : BitVec 1 := Scalar.andi v209 v206
  let v211 : BitVec 32 := Scalar.addi v205 v204
  let v212 : BitVec 32 := Scalar.select v210 v211 v205
  let c15_i32_204 : BitVec 32 := 15#32
  let v271 : BitVec 1 := Scalar.cmpi .eq v212 c15_i32_204
  let c1_i32_205 : BitVec 32 := 1#32
  let c14_i32_202 : BitVec 32 := 14#32
  let v269 : BitVec 1 := Scalar.cmpi .eq v212 c14_i32_202
  let c2_i32_203 : BitVec 32 := 2#32
  let c13_i32_200 : BitVec 32 := 13#32
  let v267 : BitVec 1 := Scalar.cmpi .eq v212 c13_i32_200
  let c3_i32_201 : BitVec 32 := 3#32
  let c12_i32_198 : BitVec 32 := 12#32
  let v265 : BitVec 1 := Scalar.cmpi .eq v212 c12_i32_198
  let c3_i32_199 : BitVec 32 := 3#32
  let c11_i32_196 : BitVec 32 := 11#32
  let v263 : BitVec 1 := Scalar.cmpi .eq v212 c11_i32_196
  let c2_i32_197 : BitVec 32 := 2#32
  let c10_i32_194 : BitVec 32 := 10#32
  let v261 : BitVec 1 := Scalar.cmpi .eq v212 c10_i32_194
  let c1_i32_195 : BitVec 32 := 1#32
  let c9_i32_192 : BitVec 32 := 9#32
  let v259 : BitVec 1 := Scalar.cmpi .eq v212 c9_i32_192
  let c1_i32_193 : BitVec 32 := 1#32
  let c8_i32_190 : BitVec 32 := 8#32
  let v257 : BitVec 1 := Scalar.cmpi .eq v212 c8_i32_190
  let c2_i32_191 : BitVec 32 := 2#32
  let c7_i32_188 : BitVec 32 := 7#32
  let v255 : BitVec 1 := Scalar.cmpi .eq v212 c7_i32_188
  let c3_i32_189 : BitVec 32 := 3#32
  let c6_i32_186 : BitVec 32 := 6#32
  let v253 : BitVec 1 := Scalar.cmpi .eq v212 c6_i32_186
  let c3_i32_187 : BitVec 32 := 3#32
  let c5_i32_184 : BitVec 32 := 5#32
  let v251 : BitVec 1 := Scalar.cmpi .eq v212 c5_i32_184
  let c2_i32_185 : BitVec 32 := 2#32
  let c4_i32_182 : BitVec 32 := 4#32
  let v249 : BitVec 1 := Scalar.cmpi .eq v212 c4_i32_182
  let c1_i32_183 : BitVec 32 := 1#32
  let c3_i32_180 : BitVec 32 := 3#32
  let v247 : BitVec 1 := Scalar.cmpi .eq v212 c3_i32_180
  let c0_i32_181 : BitVec 32 := 0#32
  let c2_i32_178 : BitVec 32 := 2#32
  let v245 : BitVec 1 := Scalar.cmpi .eq v212 c2_i32_178
  let c0_i32_179 : BitVec 32 := 0#32
  let c1_i32_175 : BitVec 32 := 1#32
  let v243 : BitVec 1 := Scalar.cmpi .eq v212 c1_i32_175
  let c0_i32_176 : BitVec 32 := 0#32
  let c0_i32_177 : BitVec 32 := 0#32
  let v244 : BitVec 32 := Scalar.select v243 c0_i32_176 c0_i32_177
  let v246 : BitVec 32 := Scalar.select v245 c0_i32_179 v244
  let v248 : BitVec 32 := Scalar.select v247 c0_i32_181 v246
  let v250 : BitVec 32 := Scalar.select v249 c1_i32_183 v248
  let v252 : BitVec 32 := Scalar.select v251 c2_i32_185 v250
  let v254 : BitVec 32 := Scalar.select v253 c3_i32_187 v252
  let v256 : BitVec 32 := Scalar.select v255 c3_i32_189 v254
  let v258 : BitVec 32 := Scalar.select v257 c2_i32_191 v256
  let v260 : BitVec 32 := Scalar.select v259 c1_i32_193 v258
  let v262 : BitVec 32 := Scalar.select v261 c1_i32_195 v260
  let v264 : BitVec 32 := Scalar.select v263 c2_i32_197 v262
  let v266 : BitVec 32 := Scalar.select v265 c3_i32_199 v264
  let v268 : BitVec 32 := Scalar.select v267 c3_i32_201 v266
  let v270 : BitVec 32 := Scalar.select v269 c2_i32_203 v268
  let v272 : BitVec 32 := Scalar.select v271 c1_i32_205 v270
  let v273 : BitVec 32 := Scalar.muli c8_i32_206 v272
  let c2_i32_207 : BitVec 32 := 2#32
  let c15_i32_173 : BitVec 32 := 15#32
  let v241 : BitVec 1 := Scalar.cmpi .eq v212 c15_i32_173
  let c0_i32_174 : BitVec 32 := 0#32
  let c14_i32_171 : BitVec 32 := 14#32
  let v239 : BitVec 1 := Scalar.cmpi .eq v212 c14_i32_171
  let c0_i32_172 : BitVec 32 := 0#32
  let c13_i32_169 : BitVec 32 := 13#32
  let v237 : BitVec 1 := Scalar.cmpi .eq v212 c13_i32_169
  let c0_i32_170 : BitVec 32 := 0#32
  let c12_i32_167 : BitVec 32 := 12#32
  let v235 : BitVec 1 := Scalar.cmpi .eq v212 c12_i32_167
  let c1_i32_168 : BitVec 32 := 1#32
  let c11_i32_165 : BitVec 32 := 11#32
  let v233 : BitVec 1 := Scalar.cmpi .eq v212 c11_i32_165
  let c1_i32_166 : BitVec 32 := 1#32
  let c10_i32_163 : BitVec 32 := 10#32
  let v231 : BitVec 1 := Scalar.cmpi .eq v212 c10_i32_163
  let c1_i32_164 : BitVec 32 := 1#32
  let c9_i32_161 : BitVec 32 := 9#32
  let v229 : BitVec 1 := Scalar.cmpi .eq v212 c9_i32_161
  let c2_i32_162 : BitVec 32 := 2#32
  let c8_i32_159 : BitVec 32 := 8#32
  let v227 : BitVec 1 := Scalar.cmpi .eq v212 c8_i32_159
  let c2_i32_160 : BitVec 32 := 2#32
  let c7_i32_157 : BitVec 32 := 7#32
  let v225 : BitVec 1 := Scalar.cmpi .eq v212 c7_i32_157
  let c2_i32_158 : BitVec 32 := 2#32
  let c6_i32_155 : BitVec 32 := 6#32
  let v223 : BitVec 1 := Scalar.cmpi .eq v212 c6_i32_155
  let c3_i32_156 : BitVec 32 := 3#32
  let c5_i32_153 : BitVec 32 := 5#32
  let v221 : BitVec 1 := Scalar.cmpi .eq v212 c5_i32_153
  let c3_i32_154 : BitVec 32 := 3#32
  let c4_i32_151 : BitVec 32 := 4#32
  let v219 : BitVec 1 := Scalar.cmpi .eq v212 c4_i32_151
  let c3_i32_152 : BitVec 32 := 3#32
  let c3_i32_149 : BitVec 32 := 3#32
  let v217 : BitVec 1 := Scalar.cmpi .eq v212 c3_i32_149
  let c3_i32_150 : BitVec 32 := 3#32
  let c2_i32_147 : BitVec 32 := 2#32
  let v215 : BitVec 1 := Scalar.cmpi .eq v212 c2_i32_147
  let c2_i32_148 : BitVec 32 := 2#32
  let c1_i32_144 : BitVec 32 := 1#32
  let v213 : BitVec 1 := Scalar.cmpi .eq v212 c1_i32_144
  let c1_i32_145 : BitVec 32 := 1#32
  let c0_i32_146 : BitVec 32 := 0#32
  let v214 : BitVec 32 := Scalar.select v213 c1_i32_145 c0_i32_146
  let v216 : BitVec 32 := Scalar.select v215 c2_i32_148 v214
  let v218 : BitVec 32 := Scalar.select v217 c3_i32_150 v216
  let v220 : BitVec 32 := Scalar.select v219 c3_i32_152 v218
  let v222 : BitVec 32 := Scalar.select v221 c3_i32_154 v220
  let v224 : BitVec 32 := Scalar.select v223 c3_i32_156 v222
  let v226 : BitVec 32 := Scalar.select v225 c2_i32_158 v224
  let v228 : BitVec 32 := Scalar.select v227 c2_i32_160 v226
  let v230 : BitVec 32 := Scalar.select v229 c2_i32_162 v228
  let v232 : BitVec 32 := Scalar.select v231 c1_i32_164 v230
  let v234 : BitVec 32 := Scalar.select v233 c1_i32_166 v232
  let v236 : BitVec 32 := Scalar.select v235 c1_i32_168 v234
  let v238 : BitVec 32 := Scalar.select v237 c0_i32_170 v236
  let v240 : BitVec 32 := Scalar.select v239 c0_i32_172 v238
  let v242 : BitVec 32 := Scalar.select v241 c0_i32_174 v240
  let v274 : BitVec 32 := Scalar.muli c2_i32_207 v242
  let v275 : BitVec 32 := Scalar.addi v273 v274
  let c2_i32_208 : BitVec 32 := 2#32
  let c0_i32_209 : BitVec 32 := 0#32
  let v276 : BitVec 1 := Scalar.cmpi .eq c2_i32_208 c0_i32_209
  let c1_i32_210 : BitVec 32 := 1#32
  let v277 : BitVec 32 := Scalar.select v276 c1_i32_210 c2_i32_208
  let v278 : BitVec 32 := Scalar.remsi v242 v277
  let c0_i32_212 : BitVec 32 := 0#32
  let v280 : BitVec 1 := Scalar.cmpi .slt v278 c0_i32_212
  let c0_i32_213 : BitVec 32 := 0#32
  let v281 : BitVec 1 := Scalar.cmpi .slt v277 c0_i32_213
  let v282 : BitVec 1 := Scalar.xori v280 v281
  let c0_i32_211 : BitVec 32 := 0#32
  let v279 : BitVec 1 := Scalar.cmpi .ne v278 c0_i32_211
  let v283 : BitVec 1 := Scalar.andi v282 v279
  let v284 : BitVec 32 := Scalar.addi v278 v277
  let v285 : BitVec 32 := Scalar.select v283 v284 v278
  let c0_i32_214 : BitVec 32 := 0#32
  let v286 : BitVec 1 := Scalar.cmpi .eq v285 c0_i32_214
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_215 : BitVec 32 := 1#32
  let v287 : BitVec 32 := Scalar.subi c1_i32_215 v79
  let v288 : BitVec 32 := Scalar.select v286 v79 v287
  let v289 : BitVec 32 := Scalar.addi v275 v288
  let c1_i32_2066 : BitVec 32 := 1#32
  let v2356 : BitVec 32 := Scalar.muli v289 c1_i32_2066
  let v2357 : BitVec 32 := Scalar.addi c0_i32_2067 v2356
  v2357.toNat
def k0_dev57 (d0 : Dev nD) : Nat :=
  let c0_i32_2076 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_57 : BitVec 32 := 1#32
  let v112 : BitVec 32 := Scalar.xori v2 c1_i32_57
  let c1_i32_2075 : BitVec 32 := 1#32
  let v2368 : BitVec 32 := Scalar.muli v112 c1_i32_2075
  let v2369 : BitVec 32 := Scalar.addi c0_i32_2076 v2368
  v2369.toNat
def k0_dev58 (d0 : Dev nD) : Nat :=
  let c0_i32_2096 : BitVec 32 := 0#32
  let c8_i32_126 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v80 : BitVec 32 := Scalar.muli c4_i32 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v81 : BitVec 32 := Scalar.addi v80 v46
  let c15_i32_55 : BitVec 32 := 15#32
  let v110 : BitVec 1 := Scalar.cmpi .eq v81 c15_i32_55
  let c6_i32_56 : BitVec 32 := 6#32
  let c14_i32_53 : BitVec 32 := 14#32
  let v108 : BitVec 1 := Scalar.cmpi .eq v81 c14_i32_53
  let c7_i32_54 : BitVec 32 := 7#32
  let c13_i32_51 : BitVec 32 := 13#32
  let v106 : BitVec 1 := Scalar.cmpi .eq v81 c13_i32_51
  let c12_i32_52 : BitVec 32 := 12#32
  let c12_i32 : BitVec 32 := 12#32
  let v104 : BitVec 1 := Scalar.cmpi .eq v81 c12_i32
  let c13_i32 : BitVec 32 := 13#32
  let c11_i32_49 : BitVec 32 := 11#32
  let v102 : BitVec 1 := Scalar.cmpi .eq v81 c11_i32_49
  let c5_i32_50 : BitVec 32 := 5#32
  let c10_i32_47 : BitVec 32 := 10#32
  let v100 : BitVec 1 := Scalar.cmpi .eq v81 c10_i32_47
  let c8_i32_48 : BitVec 32 := 8#32
  let c9_i32_46 : BitVec 32 := 9#32
  let v98 : BitVec 1 := Scalar.cmpi .eq v81 c9_i32_46
  let c11_i32 : BitVec 32 := 11#32
  let c8_i32_45 : BitVec 32 := 8#32
  let v96 : BitVec 1 := Scalar.cmpi .eq v81 c8_i32_45
  let c14_i32 : BitVec 32 := 14#32
  let c7_i32 : BitVec 32 := 7#32
  let v94 : BitVec 1 := Scalar.cmpi .eq v81 c7_i32
  let c4_i32_44 : BitVec 32 := 4#32
  let c6_i32 : BitVec 32 := 6#32
  let v92 : BitVec 1 := Scalar.cmpi .eq v81 c6_i32
  let c9_i32 : BitVec 32 := 9#32
  let c5_i32 : BitVec 32 := 5#32
  let v90 : BitVec 1 := Scalar.cmpi .eq v81 c5_i32
  let c10_i32 : BitVec 32 := 10#32
  let c4_i32_43 : BitVec 32 := 4#32
  let v88 : BitVec 1 := Scalar.cmpi .eq v81 c4_i32_43
  let c15_i32 : BitVec 32 := 15#32
  let c3_i32 : BitVec 32 := 3#32
  let v86 : BitVec 1 := Scalar.cmpi .eq v81 c3_i32
  let c3_i32_42 : BitVec 32 := 3#32
  let c2_i32_40 : BitVec 32 := 2#32
  let v84 : BitVec 1 := Scalar.cmpi .eq v81 c2_i32_40
  let c2_i32_41 : BitVec 32 := 2#32
  let c1_i32_37 : BitVec 32 := 1#32
  let v82 : BitVec 1 := Scalar.cmpi .eq v81 c1_i32_37
  let c1_i32_38 : BitVec 32 := 1#32
  let c0_i32_39 : BitVec 32 := 0#32
  let v83 : BitVec 32 := Scalar.select v82 c1_i32_38 c0_i32_39
  let v85 : BitVec 32 := Scalar.select v84 c2_i32_41 v83
  let v87 : BitVec 32 := Scalar.select v86 c3_i32_42 v85
  let v89 : BitVec 32 := Scalar.select v88 c15_i32 v87
  let v91 : BitVec 32 := Scalar.select v90 c10_i32 v89
  let v93 : BitVec 32 := Scalar.select v92 c9_i32 v91
  let v95 : BitVec 32 := Scalar.select v94 c4_i32_44 v93
  let v97 : BitVec 32 := Scalar.select v96 c14_i32 v95
  let v99 : BitVec 32 := Scalar.select v98 c11_i32 v97
  let v101 : BitVec 32 := Scalar.select v100 c8_i32_48 v99
  let v103 : BitVec 32 := Scalar.select v102 c5_i32_50 v101
  let v105 : BitVec 32 := Scalar.select v104 c13_i32 v103
  let v107 : BitVec 32 := Scalar.select v106 c12_i32_52 v105
  let v109 : BitVec 32 := Scalar.select v108 c7_i32_54 v107
  let v111 : BitVec 32 := Scalar.select v110 c6_i32_56 v109
  let c1_i32_58 : BitVec 32 := 1#32
  let v113 : BitVec 32 := Scalar.addi v111 c1_i32_58
  let c16_i32 : BitVec 32 := 16#32
  let c0_i32_59 : BitVec 32 := 0#32
  let v114 : BitVec 1 := Scalar.cmpi .eq c16_i32 c0_i32_59
  let c1_i32_60 : BitVec 32 := 1#32
  let v115 : BitVec 32 := Scalar.select v114 c1_i32_60 c16_i32
  let v116 : BitVec 32 := Scalar.remsi v113 v115
  let c0_i32_62 : BitVec 32 := 0#32
  let v118 : BitVec 1 := Scalar.cmpi .slt v116 c0_i32_62
  let c0_i32_63 : BitVec 32 := 0#32
  let v119 : BitVec 1 := Scalar.cmpi .slt v115 c0_i32_63
  let v120 : BitVec 1 := Scalar.xori v118 v119
  let c0_i32_61 : BitVec 32 := 0#32
  let v117 : BitVec 1 := Scalar.cmpi .ne v116 c0_i32_61
  let v121 : BitVec 1 := Scalar.andi v120 v117
  let v122 : BitVec 32 := Scalar.addi v116 v115
  let v123 : BitVec 32 := Scalar.select v121 v122 v116
  let c15_i32_124 : BitVec 32 := 15#32
  let v182 : BitVec 1 := Scalar.cmpi .eq v123 c15_i32_124
  let c1_i32_125 : BitVec 32 := 1#32
  let c14_i32_122 : BitVec 32 := 14#32
  let v180 : BitVec 1 := Scalar.cmpi .eq v123 c14_i32_122
  let c2_i32_123 : BitVec 32 := 2#32
  let c13_i32_120 : BitVec 32 := 13#32
  let v178 : BitVec 1 := Scalar.cmpi .eq v123 c13_i32_120
  let c3_i32_121 : BitVec 32 := 3#32
  let c12_i32_118 : BitVec 32 := 12#32
  let v176 : BitVec 1 := Scalar.cmpi .eq v123 c12_i32_118
  let c3_i32_119 : BitVec 32 := 3#32
  let c11_i32_116 : BitVec 32 := 11#32
  let v174 : BitVec 1 := Scalar.cmpi .eq v123 c11_i32_116
  let c2_i32_117 : BitVec 32 := 2#32
  let c10_i32_114 : BitVec 32 := 10#32
  let v172 : BitVec 1 := Scalar.cmpi .eq v123 c10_i32_114
  let c1_i32_115 : BitVec 32 := 1#32
  let c9_i32_112 : BitVec 32 := 9#32
  let v170 : BitVec 1 := Scalar.cmpi .eq v123 c9_i32_112
  let c1_i32_113 : BitVec 32 := 1#32
  let c8_i32_110 : BitVec 32 := 8#32
  let v168 : BitVec 1 := Scalar.cmpi .eq v123 c8_i32_110
  let c2_i32_111 : BitVec 32 := 2#32
  let c7_i32_108 : BitVec 32 := 7#32
  let v166 : BitVec 1 := Scalar.cmpi .eq v123 c7_i32_108
  let c3_i32_109 : BitVec 32 := 3#32
  let c6_i32_106 : BitVec 32 := 6#32
  let v164 : BitVec 1 := Scalar.cmpi .eq v123 c6_i32_106
  let c3_i32_107 : BitVec 32 := 3#32
  let c5_i32_104 : BitVec 32 := 5#32
  let v162 : BitVec 1 := Scalar.cmpi .eq v123 c5_i32_104
  let c2_i32_105 : BitVec 32 := 2#32
  let c4_i32_102 : BitVec 32 := 4#32
  let v160 : BitVec 1 := Scalar.cmpi .eq v123 c4_i32_102
  let c1_i32_103 : BitVec 32 := 1#32
  let c3_i32_100 : BitVec 32 := 3#32
  let v158 : BitVec 1 := Scalar.cmpi .eq v123 c3_i32_100
  let c0_i32_101 : BitVec 32 := 0#32
  let c2_i32_98 : BitVec 32 := 2#32
  let v156 : BitVec 1 := Scalar.cmpi .eq v123 c2_i32_98
  let c0_i32_99 : BitVec 32 := 0#32
  let c1_i32_95 : BitVec 32 := 1#32
  let v154 : BitVec 1 := Scalar.cmpi .eq v123 c1_i32_95
  let c0_i32_96 : BitVec 32 := 0#32
  let c0_i32_97 : BitVec 32 := 0#32
  let v155 : BitVec 32 := Scalar.select v154 c0_i32_96 c0_i32_97
  let v157 : BitVec 32 := Scalar.select v156 c0_i32_99 v155
  let v159 : BitVec 32 := Scalar.select v158 c0_i32_101 v157
  let v161 : BitVec 32 := Scalar.select v160 c1_i32_103 v159
  let v163 : BitVec 32 := Scalar.select v162 c2_i32_105 v161
  let v165 : BitVec 32 := Scalar.select v164 c3_i32_107 v163
  let v167 : BitVec 32 := Scalar.select v166 c3_i32_109 v165
  let v169 : BitVec 32 := Scalar.select v168 c2_i32_111 v167
  let v171 : BitVec 32 := Scalar.select v170 c1_i32_113 v169
  let v173 : BitVec 32 := Scalar.select v172 c1_i32_115 v171
  let v175 : BitVec 32 := Scalar.select v174 c2_i32_117 v173
  let v177 : BitVec 32 := Scalar.select v176 c3_i32_119 v175
  let v179 : BitVec 32 := Scalar.select v178 c3_i32_121 v177
  let v181 : BitVec 32 := Scalar.select v180 c2_i32_123 v179
  let v183 : BitVec 32 := Scalar.select v182 c1_i32_125 v181
  let v184 : BitVec 32 := Scalar.muli c8_i32_126 v183
  let c2_i32_127 : BitVec 32 := 2#32
  let c15_i32_93 : BitVec 32 := 15#32
  let v152 : BitVec 1 := Scalar.cmpi .eq v123 c15_i32_93
  let c0_i32_94 : BitVec 32 := 0#32
  let c14_i32_91 : BitVec 32 := 14#32
  let v150 : BitVec 1 := Scalar.cmpi .eq v123 c14_i32_91
  let c0_i32_92 : BitVec 32 := 0#32
  let c13_i32_89 : BitVec 32 := 13#32
  let v148 : BitVec 1 := Scalar.cmpi .eq v123 c13_i32_89
  let c0_i32_90 : BitVec 32 := 0#32
  let c12_i32_87 : BitVec 32 := 12#32
  let v146 : BitVec 1 := Scalar.cmpi .eq v123 c12_i32_87
  let c1_i32_88 : BitVec 32 := 1#32
  let c11_i32_85 : BitVec 32 := 11#32
  let v144 : BitVec 1 := Scalar.cmpi .eq v123 c11_i32_85
  let c1_i32_86 : BitVec 32 := 1#32
  let c10_i32_83 : BitVec 32 := 10#32
  let v142 : BitVec 1 := Scalar.cmpi .eq v123 c10_i32_83
  let c1_i32_84 : BitVec 32 := 1#32
  let c9_i32_81 : BitVec 32 := 9#32
  let v140 : BitVec 1 := Scalar.cmpi .eq v123 c9_i32_81
  let c2_i32_82 : BitVec 32 := 2#32
  let c8_i32_79 : BitVec 32 := 8#32
  let v138 : BitVec 1 := Scalar.cmpi .eq v123 c8_i32_79
  let c2_i32_80 : BitVec 32 := 2#32
  let c7_i32_77 : BitVec 32 := 7#32
  let v136 : BitVec 1 := Scalar.cmpi .eq v123 c7_i32_77
  let c2_i32_78 : BitVec 32 := 2#32
  let c6_i32_75 : BitVec 32 := 6#32
  let v134 : BitVec 1 := Scalar.cmpi .eq v123 c6_i32_75
  let c3_i32_76 : BitVec 32 := 3#32
  let c5_i32_73 : BitVec 32 := 5#32
  let v132 : BitVec 1 := Scalar.cmpi .eq v123 c5_i32_73
  let c3_i32_74 : BitVec 32 := 3#32
  let c4_i32_71 : BitVec 32 := 4#32
  let v130 : BitVec 1 := Scalar.cmpi .eq v123 c4_i32_71
  let c3_i32_72 : BitVec 32 := 3#32
  let c3_i32_69 : BitVec 32 := 3#32
  let v128 : BitVec 1 := Scalar.cmpi .eq v123 c3_i32_69
  let c3_i32_70 : BitVec 32 := 3#32
  let c2_i32_67 : BitVec 32 := 2#32
  let v126 : BitVec 1 := Scalar.cmpi .eq v123 c2_i32_67
  let c2_i32_68 : BitVec 32 := 2#32
  let c1_i32_64 : BitVec 32 := 1#32
  let v124 : BitVec 1 := Scalar.cmpi .eq v123 c1_i32_64
  let c1_i32_65 : BitVec 32 := 1#32
  let c0_i32_66 : BitVec 32 := 0#32
  let v125 : BitVec 32 := Scalar.select v124 c1_i32_65 c0_i32_66
  let v127 : BitVec 32 := Scalar.select v126 c2_i32_68 v125
  let v129 : BitVec 32 := Scalar.select v128 c3_i32_70 v127
  let v131 : BitVec 32 := Scalar.select v130 c3_i32_72 v129
  let v133 : BitVec 32 := Scalar.select v132 c3_i32_74 v131
  let v135 : BitVec 32 := Scalar.select v134 c3_i32_76 v133
  let v137 : BitVec 32 := Scalar.select v136 c2_i32_78 v135
  let v139 : BitVec 32 := Scalar.select v138 c2_i32_80 v137
  let v141 : BitVec 32 := Scalar.select v140 c2_i32_82 v139
  let v143 : BitVec 32 := Scalar.select v142 c1_i32_84 v141
  let v145 : BitVec 32 := Scalar.select v144 c1_i32_86 v143
  let v147 : BitVec 32 := Scalar.select v146 c1_i32_88 v145
  let v149 : BitVec 32 := Scalar.select v148 c0_i32_90 v147
  let v151 : BitVec 32 := Scalar.select v150 c0_i32_92 v149
  let v153 : BitVec 32 := Scalar.select v152 c0_i32_94 v151
  let v185 : BitVec 32 := Scalar.muli c2_i32_127 v153
  let v186 : BitVec 32 := Scalar.addi v184 v185
  let c2_i32_128 : BitVec 32 := 2#32
  let c0_i32_129 : BitVec 32 := 0#32
  let v187 : BitVec 1 := Scalar.cmpi .eq c2_i32_128 c0_i32_129
  let c1_i32_130 : BitVec 32 := 1#32
  let v188 : BitVec 32 := Scalar.select v187 c1_i32_130 c2_i32_128
  let v189 : BitVec 32 := Scalar.remsi v153 v188
  let c0_i32_132 : BitVec 32 := 0#32
  let v191 : BitVec 1 := Scalar.cmpi .slt v189 c0_i32_132
  let c0_i32_133 : BitVec 32 := 0#32
  let v192 : BitVec 1 := Scalar.cmpi .slt v188 c0_i32_133
  let v193 : BitVec 1 := Scalar.xori v191 v192
  let c0_i32_131 : BitVec 32 := 0#32
  let v190 : BitVec 1 := Scalar.cmpi .ne v189 c0_i32_131
  let v194 : BitVec 1 := Scalar.andi v193 v190
  let v195 : BitVec 32 := Scalar.addi v189 v188
  let v196 : BitVec 32 := Scalar.select v194 v195 v189
  let c0_i32_134 : BitVec 32 := 0#32
  let v197 : BitVec 1 := Scalar.cmpi .eq v196 c0_i32_134
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_135 : BitVec 32 := 1#32
  let v198 : BitVec 32 := Scalar.subi c1_i32_135 v79
  let v199 : BitVec 32 := Scalar.select v197 v79 v198
  let v200 : BitVec 32 := Scalar.addi v186 v199
  let c1_i32_2095 : BitVec 32 := 1#32
  let v2390 : BitVec 32 := Scalar.muli v200 c1_i32_2095
  let v2391 : BitVec 32 := Scalar.addi c0_i32_2096 v2390
  v2391.toNat
def k0_dev59 (d0 : Dev nD) : Nat :=
  let c0_i32_2105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_57 : BitVec 32 := 1#32
  let v112 : BitVec 32 := Scalar.xori v2 c1_i32_57
  let c1_i32_2104 : BitVec 32 := 1#32
  let v2402 : BitVec 32 := Scalar.muli v112 c1_i32_2104
  let v2403 : BitVec 32 := Scalar.addi c0_i32_2105 v2402
  v2403.toNat
def k0_dev60 (d0 : Dev nD) : Nat :=
  let c0_i32_2125 : BitVec 32 := 0#32
  let c8_i32_126 : BitVec 32 := 8#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v80 : BitVec 32 := Scalar.muli c4_i32 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v81 : BitVec 32 := Scalar.addi v80 v46
  let c15_i32_55 : BitVec 32 := 15#32
  let v110 : BitVec 1 := Scalar.cmpi .eq v81 c15_i32_55
  let c6_i32_56 : BitVec 32 := 6#32
  let c14_i32_53 : BitVec 32 := 14#32
  let v108 : BitVec 1 := Scalar.cmpi .eq v81 c14_i32_53
  let c7_i32_54 : BitVec 32 := 7#32
  let c13_i32_51 : BitVec 32 := 13#32
  let v106 : BitVec 1 := Scalar.cmpi .eq v81 c13_i32_51
  let c12_i32_52 : BitVec 32 := 12#32
  let c12_i32 : BitVec 32 := 12#32
  let v104 : BitVec 1 := Scalar.cmpi .eq v81 c12_i32
  let c13_i32 : BitVec 32 := 13#32
  let c11_i32_49 : BitVec 32 := 11#32
  let v102 : BitVec 1 := Scalar.cmpi .eq v81 c11_i32_49
  let c5_i32_50 : BitVec 32 := 5#32
  let c10_i32_47 : BitVec 32 := 10#32
  let v100 : BitVec 1 := Scalar.cmpi .eq v81 c10_i32_47
  let c8_i32_48 : BitVec 32 := 8#32
  let c9_i32_46 : BitVec 32 := 9#32
  let v98 : BitVec 1 := Scalar.cmpi .eq v81 c9_i32_46
  let c11_i32 : BitVec 32 := 11#32
  let c8_i32_45 : BitVec 32 := 8#32
  let v96 : BitVec 1 := Scalar.cmpi .eq v81 c8_i32_45
  let c14_i32 : BitVec 32 := 14#32
  let c7_i32 : BitVec 32 := 7#32
  let v94 : BitVec 1 := Scalar.cmpi .eq v81 c7_i32
  let c4_i32_44 : BitVec 32 := 4#32
  let c6_i32 : BitVec 32 := 6#32
  let v92 : BitVec 1 := Scalar.cmpi .eq v81 c6_i32
  let c9_i32 : BitVec 32 := 9#32
  let c5_i32 : BitVec 32 := 5#32
  let v90 : BitVec 1 := Scalar.cmpi .eq v81 c5_i32
  let c10_i32 : BitVec 32 := 10#32
  let c4_i32_43 : BitVec 32 := 4#32
  let v88 : BitVec 1 := Scalar.cmpi .eq v81 c4_i32_43
  let c15_i32 : BitVec 32 := 15#32
  let c3_i32 : BitVec 32 := 3#32
  let v86 : BitVec 1 := Scalar.cmpi .eq v81 c3_i32
  let c3_i32_42 : BitVec 32 := 3#32
  let c2_i32_40 : BitVec 32 := 2#32
  let v84 : BitVec 1 := Scalar.cmpi .eq v81 c2_i32_40
  let c2_i32_41 : BitVec 32 := 2#32
  let c1_i32_37 : BitVec 32 := 1#32
  let v82 : BitVec 1 := Scalar.cmpi .eq v81 c1_i32_37
  let c1_i32_38 : BitVec 32 := 1#32
  let c0_i32_39 : BitVec 32 := 0#32
  let v83 : BitVec 32 := Scalar.select v82 c1_i32_38 c0_i32_39
  let v85 : BitVec 32 := Scalar.select v84 c2_i32_41 v83
  let v87 : BitVec 32 := Scalar.select v86 c3_i32_42 v85
  let v89 : BitVec 32 := Scalar.select v88 c15_i32 v87
  let v91 : BitVec 32 := Scalar.select v90 c10_i32 v89
  let v93 : BitVec 32 := Scalar.select v92 c9_i32 v91
  let v95 : BitVec 32 := Scalar.select v94 c4_i32_44 v93
  let v97 : BitVec 32 := Scalar.select v96 c14_i32 v95
  let v99 : BitVec 32 := Scalar.select v98 c11_i32 v97
  let v101 : BitVec 32 := Scalar.select v100 c8_i32_48 v99
  let v103 : BitVec 32 := Scalar.select v102 c5_i32_50 v101
  let v105 : BitVec 32 := Scalar.select v104 c13_i32 v103
  let v107 : BitVec 32 := Scalar.select v106 c12_i32_52 v105
  let v109 : BitVec 32 := Scalar.select v108 c7_i32_54 v107
  let v111 : BitVec 32 := Scalar.select v110 c6_i32_56 v109
  let c1_i32_58 : BitVec 32 := 1#32
  let v113 : BitVec 32 := Scalar.addi v111 c1_i32_58
  let c16_i32 : BitVec 32 := 16#32
  let c0_i32_59 : BitVec 32 := 0#32
  let v114 : BitVec 1 := Scalar.cmpi .eq c16_i32 c0_i32_59
  let c1_i32_60 : BitVec 32 := 1#32
  let v115 : BitVec 32 := Scalar.select v114 c1_i32_60 c16_i32
  let v116 : BitVec 32 := Scalar.remsi v113 v115
  let c0_i32_62 : BitVec 32 := 0#32
  let v118 : BitVec 1 := Scalar.cmpi .slt v116 c0_i32_62
  let c0_i32_63 : BitVec 32 := 0#32
  let v119 : BitVec 1 := Scalar.cmpi .slt v115 c0_i32_63
  let v120 : BitVec 1 := Scalar.xori v118 v119
  let c0_i32_61 : BitVec 32 := 0#32
  let v117 : BitVec 1 := Scalar.cmpi .ne v116 c0_i32_61
  let v121 : BitVec 1 := Scalar.andi v120 v117
  let v122 : BitVec 32 := Scalar.addi v116 v115
  let v123 : BitVec 32 := Scalar.select v121 v122 v116
  let c15_i32_124 : BitVec 32 := 15#32
  let v182 : BitVec 1 := Scalar.cmpi .eq v123 c15_i32_124
  let c1_i32_125 : BitVec 32 := 1#32
  let c14_i32_122 : BitVec 32 := 14#32
  let v180 : BitVec 1 := Scalar.cmpi .eq v123 c14_i32_122
  let c2_i32_123 : BitVec 32 := 2#32
  let c13_i32_120 : BitVec 32 := 13#32
  let v178 : BitVec 1 := Scalar.cmpi .eq v123 c13_i32_120
  let c3_i32_121 : BitVec 32 := 3#32
  let c12_i32_118 : BitVec 32 := 12#32
  let v176 : BitVec 1 := Scalar.cmpi .eq v123 c12_i32_118
  let c3_i32_119 : BitVec 32 := 3#32
  let c11_i32_116 : BitVec 32 := 11#32
  let v174 : BitVec 1 := Scalar.cmpi .eq v123 c11_i32_116
  let c2_i32_117 : BitVec 32 := 2#32
  let c10_i32_114 : BitVec 32 := 10#32
  let v172 : BitVec 1 := Scalar.cmpi .eq v123 c10_i32_114
  let c1_i32_115 : BitVec 32 := 1#32
  let c9_i32_112 : BitVec 32 := 9#32
  let v170 : BitVec 1 := Scalar.cmpi .eq v123 c9_i32_112
  let c1_i32_113 : BitVec 32 := 1#32
  let c8_i32_110 : BitVec 32 := 8#32
  let v168 : BitVec 1 := Scalar.cmpi .eq v123 c8_i32_110
  let c2_i32_111 : BitVec 32 := 2#32
  let c7_i32_108 : BitVec 32 := 7#32
  let v166 : BitVec 1 := Scalar.cmpi .eq v123 c7_i32_108
  let c3_i32_109 : BitVec 32 := 3#32
  let c6_i32_106 : BitVec 32 := 6#32
  let v164 : BitVec 1 := Scalar.cmpi .eq v123 c6_i32_106
  let c3_i32_107 : BitVec 32 := 3#32
  let c5_i32_104 : BitVec 32 := 5#32
  let v162 : BitVec 1 := Scalar.cmpi .eq v123 c5_i32_104
  let c2_i32_105 : BitVec 32 := 2#32
  let c4_i32_102 : BitVec 32 := 4#32
  let v160 : BitVec 1 := Scalar.cmpi .eq v123 c4_i32_102
  let c1_i32_103 : BitVec 32 := 1#32
  let c3_i32_100 : BitVec 32 := 3#32
  let v158 : BitVec 1 := Scalar.cmpi .eq v123 c3_i32_100
  let c0_i32_101 : BitVec 32 := 0#32
  let c2_i32_98 : BitVec 32 := 2#32
  let v156 : BitVec 1 := Scalar.cmpi .eq v123 c2_i32_98
  let c0_i32_99 : BitVec 32 := 0#32
  let c1_i32_95 : BitVec 32 := 1#32
  let v154 : BitVec 1 := Scalar.cmpi .eq v123 c1_i32_95
  let c0_i32_96 : BitVec 32 := 0#32
  let c0_i32_97 : BitVec 32 := 0#32
  let v155 : BitVec 32 := Scalar.select v154 c0_i32_96 c0_i32_97
  let v157 : BitVec 32 := Scalar.select v156 c0_i32_99 v155
  let v159 : BitVec 32 := Scalar.select v158 c0_i32_101 v157
  let v161 : BitVec 32 := Scalar.select v160 c1_i32_103 v159
  let v163 : BitVec 32 := Scalar.select v162 c2_i32_105 v161
  let v165 : BitVec 32 := Scalar.select v164 c3_i32_107 v163
  let v167 : BitVec 32 := Scalar.select v166 c3_i32_109 v165
  let v169 : BitVec 32 := Scalar.select v168 c2_i32_111 v167
  let v171 : BitVec 32 := Scalar.select v170 c1_i32_113 v169
  let v173 : BitVec 32 := Scalar.select v172 c1_i32_115 v171
  let v175 : BitVec 32 := Scalar.select v174 c2_i32_117 v173
  let v177 : BitVec 32 := Scalar.select v176 c3_i32_119 v175
  let v179 : BitVec 32 := Scalar.select v178 c3_i32_121 v177
  let v181 : BitVec 32 := Scalar.select v180 c2_i32_123 v179
  let v183 : BitVec 32 := Scalar.select v182 c1_i32_125 v181
  let v184 : BitVec 32 := Scalar.muli c8_i32_126 v183
  let c2_i32_127 : BitVec 32 := 2#32
  let c15_i32_93 : BitVec 32 := 15#32
  let v152 : BitVec 1 := Scalar.cmpi .eq v123 c15_i32_93
  let c0_i32_94 : BitVec 32 := 0#32
  let c14_i32_91 : BitVec 32 := 14#32
  let v150 : BitVec 1 := Scalar.cmpi .eq v123 c14_i32_91
  let c0_i32_92 : BitVec 32 := 0#32
  let c13_i32_89 : BitVec 32 := 13#32
  let v148 : BitVec 1 := Scalar.cmpi .eq v123 c13_i32_89
  let c0_i32_90 : BitVec 32 := 0#32
  let c12_i32_87 : BitVec 32 := 12#32
  let v146 : BitVec 1 := Scalar.cmpi .eq v123 c12_i32_87
  let c1_i32_88 : BitVec 32 := 1#32
  let c11_i32_85 : BitVec 32 := 11#32
  let v144 : BitVec 1 := Scalar.cmpi .eq v123 c11_i32_85
  let c1_i32_86 : BitVec 32 := 1#32
  let c10_i32_83 : BitVec 32 := 10#32
  let v142 : BitVec 1 := Scalar.cmpi .eq v123 c10_i32_83
  let c1_i32_84 : BitVec 32 := 1#32
  let c9_i32_81 : BitVec 32 := 9#32
  let v140 : BitVec 1 := Scalar.cmpi .eq v123 c9_i32_81
  let c2_i32_82 : BitVec 32 := 2#32
  let c8_i32_79 : BitVec 32 := 8#32
  let v138 : BitVec 1 := Scalar.cmpi .eq v123 c8_i32_79
  let c2_i32_80 : BitVec 32 := 2#32
  let c7_i32_77 : BitVec 32 := 7#32
  let v136 : BitVec 1 := Scalar.cmpi .eq v123 c7_i32_77
  let c2_i32_78 : BitVec 32 := 2#32
  let c6_i32_75 : BitVec 32 := 6#32
  let v134 : BitVec 1 := Scalar.cmpi .eq v123 c6_i32_75
  let c3_i32_76 : BitVec 32 := 3#32
  let c5_i32_73 : BitVec 32 := 5#32
  let v132 : BitVec 1 := Scalar.cmpi .eq v123 c5_i32_73
  let c3_i32_74 : BitVec 32 := 3#32
  let c4_i32_71 : BitVec 32 := 4#32
  let v130 : BitVec 1 := Scalar.cmpi .eq v123 c4_i32_71
  let c3_i32_72 : BitVec 32 := 3#32
  let c3_i32_69 : BitVec 32 := 3#32
  let v128 : BitVec 1 := Scalar.cmpi .eq v123 c3_i32_69
  let c3_i32_70 : BitVec 32 := 3#32
  let c2_i32_67 : BitVec 32 := 2#32
  let v126 : BitVec 1 := Scalar.cmpi .eq v123 c2_i32_67
  let c2_i32_68 : BitVec 32 := 2#32
  let c1_i32_64 : BitVec 32 := 1#32
  let v124 : BitVec 1 := Scalar.cmpi .eq v123 c1_i32_64
  let c1_i32_65 : BitVec 32 := 1#32
  let c0_i32_66 : BitVec 32 := 0#32
  let v125 : BitVec 32 := Scalar.select v124 c1_i32_65 c0_i32_66
  let v127 : BitVec 32 := Scalar.select v126 c2_i32_68 v125
  let v129 : BitVec 32 := Scalar.select v128 c3_i32_70 v127
  let v131 : BitVec 32 := Scalar.select v130 c3_i32_72 v129
  let v133 : BitVec 32 := Scalar.select v132 c3_i32_74 v131
  let v135 : BitVec 32 := Scalar.select v134 c3_i32_76 v133
  let v137 : BitVec 32 := Scalar.select v136 c2_i32_78 v135
  let v139 : BitVec 32 := Scalar.select v138 c2_i32_80 v137
  let v141 : BitVec 32 := Scalar.select v140 c2_i32_82 v139
  let v143 : BitVec 32 := Scalar.select v142 c1_i32_84 v141
  let v145 : BitVec 32 := Scalar.select v144 c1_i32_86 v143
  let v147 : BitVec 32 := Scalar.select v146 c1_i32_88 v145
  let v149 : BitVec 32 := Scalar.select v148 c0_i32_90 v147
  let v151 : BitVec 32 := Scalar.select v150 c0_i32_92 v149
  let v153 : BitVec 32 := Scalar.select v152 c0_i32_94 v151
  let v185 : BitVec 32 := Scalar.muli c2_i32_127 v153
  let v186 : BitVec 32 := Scalar.addi v184 v185
  let c2_i32_128 : BitVec 32 := 2#32
  let c0_i32_129 : BitVec 32 := 0#32
  let v187 : BitVec 1 := Scalar.cmpi .eq c2_i32_128 c0_i32_129
  let c1_i32_130 : BitVec 32 := 1#32
  let v188 : BitVec 32 := Scalar.select v187 c1_i32_130 c2_i32_128
  let v189 : BitVec 32 := Scalar.remsi v153 v188
  let c0_i32_132 : BitVec 32 := 0#32
  let v191 : BitVec 1 := Scalar.cmpi .slt v189 c0_i32_132
  let c0_i32_133 : BitVec 32 := 0#32
  let v192 : BitVec 1 := Scalar.cmpi .slt v188 c0_i32_133
  let v193 : BitVec 1 := Scalar.xori v191 v192
  let c0_i32_131 : BitVec 32 := 0#32
  let v190 : BitVec 1 := Scalar.cmpi .ne v189 c0_i32_131
  let v194 : BitVec 1 := Scalar.andi v193 v190
  let v195 : BitVec 32 := Scalar.addi v189 v188
  let v196 : BitVec 32 := Scalar.select v194 v195 v189
  let c0_i32_134 : BitVec 32 := 0#32
  let v197 : BitVec 1 := Scalar.cmpi .eq v196 c0_i32_134
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let c1_i32_135 : BitVec 32 := 1#32
  let v198 : BitVec 32 := Scalar.subi c1_i32_135 v79
  let v199 : BitVec 32 := Scalar.select v197 v79 v198
  let v200 : BitVec 32 := Scalar.addi v186 v199
  let c1_i32_2124 : BitVec 32 := 1#32
  let v2424 : BitVec 32 := Scalar.muli v200 c1_i32_2124
  let v2425 : BitVec 32 := Scalar.addi c0_i32_2125 v2424
  v2425.toNat
def k0_dev61 (d0 : Dev nD) : Nat :=
  let c0_i32_2134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_57 : BitVec 32 := 1#32
  let v112 : BitVec 32 := Scalar.xori v2 c1_i32_57
  let c1_i32_2133 : BitVec 32 := 1#32
  let v2436 : BitVec 32 := Scalar.muli v112 c1_i32_2133
  let v2437 : BitVec 32 := Scalar.addi c0_i32_2134 v2436
  v2437.toNat
def k0_dev62 (d0 : Dev nD) : Nat :=
  let c0_i32_2154 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_57 : BitVec 32 := 1#32
  let v112 : BitVec 32 := Scalar.xori v2 c1_i32_57
  let c1_i32_2153 : BitVec 32 := 1#32
  let v2458 : BitVec 32 := Scalar.muli v112 c1_i32_2153
  let v2459 : BitVec 32 := Scalar.addi c0_i32_2154 v2458
  v2459.toNat
def k0_dev63 (d0 : Dev nD) : Nat :=
  let c0_i32_2174 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_57 : BitVec 32 := 1#32
  let v112 : BitVec 32 := Scalar.xori v2 c1_i32_57
  let c1_i32_2173 : BitVec 32 := 1#32
  let v2480 : BitVec 32 := Scalar.muli v112 c1_i32_2173
  let v2481 : BitVec 32 := Scalar.addi c0_i32_2174 v2480
  v2481.toNat
def k0_dev64 (d0 : Dev nD) : Nat :=
  let c0_i32_2194 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_57 : BitVec 32 := 1#32
  let v112 : BitVec 32 := Scalar.xori v2 c1_i32_57
  let c1_i32_2193 : BitVec 32 := 1#32
  let v2502 : BitVec 32 := Scalar.muli v112 c1_i32_2193
  let v2503 : BitVec 32 := Scalar.addi c0_i32_2194 v2502
  v2503.toNat
def k0_dev65 (d0 : Dev nD) : Nat :=
  let c0_i32_2214 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_57 : BitVec 32 := 1#32
  let v112 : BitVec 32 := Scalar.xori v2 c1_i32_57
  let c1_i32_2213 : BitVec 32 := 1#32
  let v2524 : BitVec 32 := Scalar.muli v112 c1_i32_2213
  let v2525 : BitVec 32 := Scalar.addi c0_i32_2214 v2524
  v2525.toNat
def k0_off10 (d0 : Dev nD) (c0_i32_731 : BitVec 32) (c0_i32_2225 : BitVec 32) : Fin 2 → Nat :=
  let c2_i32_2223 : BitVec 32 := 2#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v80 : BitVec 32 := Scalar.muli c4_i32 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v81 : BitVec 32 := Scalar.addi v80 v46
  let c15_i32_55 : BitVec 32 := 15#32
  let v110 : BitVec 1 := Scalar.cmpi .eq v81 c15_i32_55
  let c6_i32_56 : BitVec 32 := 6#32
  let c14_i32_53 : BitVec 32 := 14#32
  let v108 : BitVec 1 := Scalar.cmpi .eq v81 c14_i32_53
  let c7_i32_54 : BitVec 32 := 7#32
  let c13_i32_51 : BitVec 32 := 13#32
  let v106 : BitVec 1 := Scalar.cmpi .eq v81 c13_i32_51
  let c12_i32_52 : BitVec 32 := 12#32
  let c12_i32 : BitVec 32 := 12#32
  let v104 : BitVec 1 := Scalar.cmpi .eq v81 c12_i32
  let c13_i32 : BitVec 32 := 13#32
  let c11_i32_49 : BitVec 32 := 11#32
  let v102 : BitVec 1 := Scalar.cmpi .eq v81 c11_i32_49
  let c5_i32_50 : BitVec 32 := 5#32
  let c10_i32_47 : BitVec 32 := 10#32
  let v100 : BitVec 1 := Scalar.cmpi .eq v81 c10_i32_47
  let c8_i32_48 : BitVec 32 := 8#32
  let c9_i32_46 : BitVec 32 := 9#32
  let v98 : BitVec 1 := Scalar.cmpi .eq v81 c9_i32_46
  let c11_i32 : BitVec 32 := 11#32
  let c8_i32_45 : BitVec 32 := 8#32
  let v96 : BitVec 1 := Scalar.cmpi .eq v81 c8_i32_45
  let c14_i32 : BitVec 32 := 14#32
  let c7_i32 : BitVec 32 := 7#32
  let v94 : BitVec 1 := Scalar.cmpi .eq v81 c7_i32
  let c4_i32_44 : BitVec 32 := 4#32
  let c6_i32 : BitVec 32 := 6#32
  let v92 : BitVec 1 := Scalar.cmpi .eq v81 c6_i32
  let c9_i32 : BitVec 32 := 9#32
  let c5_i32 : BitVec 32 := 5#32
  let v90 : BitVec 1 := Scalar.cmpi .eq v81 c5_i32
  let c10_i32 : BitVec 32 := 10#32
  let c4_i32_43 : BitVec 32 := 4#32
  let v88 : BitVec 1 := Scalar.cmpi .eq v81 c4_i32_43
  let c15_i32 : BitVec 32 := 15#32
  let c3_i32 : BitVec 32 := 3#32
  let v86 : BitVec 1 := Scalar.cmpi .eq v81 c3_i32
  let c3_i32_42 : BitVec 32 := 3#32
  let c2_i32_40 : BitVec 32 := 2#32
  let v84 : BitVec 1 := Scalar.cmpi .eq v81 c2_i32_40
  let c2_i32_41 : BitVec 32 := 2#32
  let c1_i32_37 : BitVec 32 := 1#32
  let v82 : BitVec 1 := Scalar.cmpi .eq v81 c1_i32_37
  let c1_i32_38 : BitVec 32 := 1#32
  let c0_i32_39 : BitVec 32 := 0#32
  let v83 : BitVec 32 := Scalar.select v82 c1_i32_38 c0_i32_39
  let v85 : BitVec 32 := Scalar.select v84 c2_i32_41 v83
  let v87 : BitVec 32 := Scalar.select v86 c3_i32_42 v85
  let v89 : BitVec 32 := Scalar.select v88 c15_i32 v87
  let v91 : BitVec 32 := Scalar.select v90 c10_i32 v89
  let v93 : BitVec 32 := Scalar.select v92 c9_i32 v91
  let v95 : BitVec 32 := Scalar.select v94 c4_i32_44 v93
  let v97 : BitVec 32 := Scalar.select v96 c14_i32 v95
  let v99 : BitVec 32 := Scalar.select v98 c11_i32 v97
  let v101 : BitVec 32 := Scalar.select v100 c8_i32_48 v99
  let v103 : BitVec 32 := Scalar.select v102 c5_i32_50 v101
  let v105 : BitVec 32 := Scalar.select v104 c13_i32 v103
  let v107 : BitVec 32 := Scalar.select v106 c12_i32_52 v105
  let v109 : BitVec 32 := Scalar.select v108 c7_i32_54 v107
  let v111 : BitVec 32 := Scalar.select v110 c6_i32_56 v109
  let c16_i32_729 : BitVec 32 := 16#32
  let v842 : BitVec 32 := Scalar.addi v111 c16_i32_729
  let c1_i32_730 : BitVec 32 := 1#32
  let v843 : BitVec 32 := Scalar.subi v842 c1_i32_730
  let v844 : BitVec 32 := Scalar.subi v843 c0_i32_731
  let c16_i32_732 : BitVec 32 := 16#32
  let c0_i32_733 : BitVec 32 := 0#32
  let v845 : BitVec 1 := Scalar.cmpi .eq c16_i32_732 c0_i32_733
  let c1_i32_734 : BitVec 32 := 1#32
  let v846 : BitVec 32 := Scalar.select v845 c1_i32_734 c16_i32_732
  let v847 : BitVec 32 := Scalar.remsi v844 v846
  let c0_i32_736 : BitVec 32 := 0#32
  let v849 : BitVec 1 := Scalar.cmpi .slt v847 c0_i32_736
  let c0_i32_737 : BitVec 32 := 0#32
  let v850 : BitVec 1 := Scalar.cmpi .slt v846 c0_i32_737
  let v851 : BitVec 1 := Scalar.xori v849 v850
  let c0_i32_735 : BitVec 32 := 0#32
  let v848 : BitVec 1 := Scalar.cmpi .ne v847 c0_i32_735
  let v852 : BitVec 1 := Scalar.andi v851 v848
  let v853 : BitVec 32 := Scalar.addi v847 v846
  let v854 : BitVec 32 := Scalar.select v852 v853 v847
  let c15_i32_767 : BitVec 32 := 15#32
  let v883 : BitVec 1 := Scalar.cmpi .eq v854 c15_i32_767
  let c4_i32_768 : BitVec 32 := 4#32
  let c14_i32_765 : BitVec 32 := 14#32
  let v881 : BitVec 1 := Scalar.cmpi .eq v854 c14_i32_765
  let c8_i32_766 : BitVec 32 := 8#32
  let c13_i32_763 : BitVec 32 := 13#32
  let v879 : BitVec 1 := Scalar.cmpi .eq v854 c13_i32_763
  let c12_i32_764 : BitVec 32 := 12#32
  let c12_i32_761 : BitVec 32 := 12#32
  let v877 : BitVec 1 := Scalar.cmpi .eq v854 c12_i32_761
  let c13_i32_762 : BitVec 32 := 13#32
  let c11_i32_759 : BitVec 32 := 11#32
  let v875 : BitVec 1 := Scalar.cmpi .eq v854 c11_i32_759
  let c9_i32_760 : BitVec 32 := 9#32
  let c10_i32_757 : BitVec 32 := 10#32
  let v873 : BitVec 1 := Scalar.cmpi .eq v854 c10_i32_757
  let c5_i32_758 : BitVec 32 := 5#32
  let c9_i32_755 : BitVec 32 := 9#32
  let v871 : BitVec 1 := Scalar.cmpi .eq v854 c9_i32_755
  let c6_i32_756 : BitVec 32 := 6#32
  let c8_i32_753 : BitVec 32 := 8#32
  let v869 : BitVec 1 := Scalar.cmpi .eq v854 c8_i32_753
  let c10_i32_754 : BitVec 32 := 10#32
  let c7_i32_751 : BitVec 32 := 7#32
  let v867 : BitVec 1 := Scalar.cmpi .eq v854 c7_i32_751
  let c14_i32_752 : BitVec 32 := 14#32
  let c6_i32_749 : BitVec 32 := 6#32
  let v865 : BitVec 1 := Scalar.cmpi .eq v854 c6_i32_749
  let c15_i32_750 : BitVec 32 := 15#32
  let c5_i32_747 : BitVec 32 := 5#32
  let v863 : BitVec 1 := Scalar.cmpi .eq v854 c5_i32_747
  let c11_i32_748 : BitVec 32 := 11#32
  let c4_i32_745 : BitVec 32 := 4#32
  let v861 : BitVec 1 := Scalar.cmpi .eq v854 c4_i32_745
  let c7_i32_746 : BitVec 32 := 7#32
  let c3_i32_743 : BitVec 32 := 3#32
  let v859 : BitVec 1 := Scalar.cmpi .eq v854 c3_i32_743
  let c3_i32_744 : BitVec 32 := 3#32
  let c2_i32_741 : BitVec 32 := 2#32
  let v857 : BitVec 1 := Scalar.cmpi .eq v854 c2_i32_741
  let c2_i32_742 : BitVec 32 := 2#32
  let c1_i32_738 : BitVec 32 := 1#32
  let v855 : BitVec 1 := Scalar.cmpi .eq v854 c1_i32_738
  let c1_i32_739 : BitVec 32 := 1#32
  let c0_i32_740 : BitVec 32 := 0#32
  let v856 : BitVec 32 := Scalar.select v855 c1_i32_739 c0_i32_740
  let v858 : BitVec 32 := Scalar.select v857 c2_i32_742 v856
  let v860 : BitVec 32 := Scalar.select v859 c3_i32_744 v858
  let v862 : BitVec 32 := Scalar.select v861 c7_i32_746 v860
  let v864 : BitVec 32 := Scalar.select v863 c11_i32_748 v862
  let v866 : BitVec 32 := Scalar.select v865 c15_i32_750 v864
  let v868 : BitVec 32 := Scalar.select v867 c14_i32_752 v866
  let v870 : BitVec 32 := Scalar.select v869 c10_i32_754 v868
  let v872 : BitVec 32 := Scalar.select v871 c6_i32_756 v870
  let v874 : BitVec 32 := Scalar.select v873 c5_i32_758 v872
  let v876 : BitVec 32 := Scalar.select v875 c9_i32_760 v874
  let v878 : BitVec 32 := Scalar.select v877 c13_i32_762 v876
  let v880 : BitVec 32 := Scalar.select v879 c12_i32_764 v878
  let v882 : BitVec 32 := Scalar.select v881 c8_i32_766 v880
  let v884 : BitVec 32 := Scalar.select v883 c4_i32_768 v882
  let v2537 : BitVec 32 := Scalar.muli c2_i32_2223 v884
  let c1_i32_2222 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let v2536 : BitVec 32 := Scalar.subi c1_i32_2222 v79
  let v2538 : BitVec 32 := Scalar.addi v2537 v2536
  let c256_i32_2224 : BitVec 32 := 256#32
  let v2539 : BitVec 32 := Scalar.muli v2538 c256_i32_2224
  let v2540 : BitVec 32 := Scalar.addi v2539 c0_i32_2225
  let c0_i32_2230 : BitVec 32 := 0#32
  ![v2540.toNat, 0]
def k0_off11 (d0 : Dev nD) (c0_i32_1050 : BitVec 32) (c0_i32_2369 : BitVec 32) : Fin 2 → Nat :=
  let c2_i32_2367 : BitVec 32 := 2#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v80 : BitVec 32 := Scalar.muli c4_i32 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v81 : BitVec 32 := Scalar.addi v80 v46
  let c15_i32_55 : BitVec 32 := 15#32
  let v110 : BitVec 1 := Scalar.cmpi .eq v81 c15_i32_55
  let c6_i32_56 : BitVec 32 := 6#32
  let c14_i32_53 : BitVec 32 := 14#32
  let v108 : BitVec 1 := Scalar.cmpi .eq v81 c14_i32_53
  let c7_i32_54 : BitVec 32 := 7#32
  let c13_i32_51 : BitVec 32 := 13#32
  let v106 : BitVec 1 := Scalar.cmpi .eq v81 c13_i32_51
  let c12_i32_52 : BitVec 32 := 12#32
  let c12_i32 : BitVec 32 := 12#32
  let v104 : BitVec 1 := Scalar.cmpi .eq v81 c12_i32
  let c13_i32 : BitVec 32 := 13#32
  let c11_i32_49 : BitVec 32 := 11#32
  let v102 : BitVec 1 := Scalar.cmpi .eq v81 c11_i32_49
  let c5_i32_50 : BitVec 32 := 5#32
  let c10_i32_47 : BitVec 32 := 10#32
  let v100 : BitVec 1 := Scalar.cmpi .eq v81 c10_i32_47
  let c8_i32_48 : BitVec 32 := 8#32
  let c9_i32_46 : BitVec 32 := 9#32
  let v98 : BitVec 1 := Scalar.cmpi .eq v81 c9_i32_46
  let c11_i32 : BitVec 32 := 11#32
  let c8_i32_45 : BitVec 32 := 8#32
  let v96 : BitVec 1 := Scalar.cmpi .eq v81 c8_i32_45
  let c14_i32 : BitVec 32 := 14#32
  let c7_i32 : BitVec 32 := 7#32
  let v94 : BitVec 1 := Scalar.cmpi .eq v81 c7_i32
  let c4_i32_44 : BitVec 32 := 4#32
  let c6_i32 : BitVec 32 := 6#32
  let v92 : BitVec 1 := Scalar.cmpi .eq v81 c6_i32
  let c9_i32 : BitVec 32 := 9#32
  let c5_i32 : BitVec 32 := 5#32
  let v90 : BitVec 1 := Scalar.cmpi .eq v81 c5_i32
  let c10_i32 : BitVec 32 := 10#32
  let c4_i32_43 : BitVec 32 := 4#32
  let v88 : BitVec 1 := Scalar.cmpi .eq v81 c4_i32_43
  let c15_i32 : BitVec 32 := 15#32
  let c3_i32 : BitVec 32 := 3#32
  let v86 : BitVec 1 := Scalar.cmpi .eq v81 c3_i32
  let c3_i32_42 : BitVec 32 := 3#32
  let c2_i32_40 : BitVec 32 := 2#32
  let v84 : BitVec 1 := Scalar.cmpi .eq v81 c2_i32_40
  let c2_i32_41 : BitVec 32 := 2#32
  let c1_i32_37 : BitVec 32 := 1#32
  let v82 : BitVec 1 := Scalar.cmpi .eq v81 c1_i32_37
  let c1_i32_38 : BitVec 32 := 1#32
  let c0_i32_39 : BitVec 32 := 0#32
  let v83 : BitVec 32 := Scalar.select v82 c1_i32_38 c0_i32_39
  let v85 : BitVec 32 := Scalar.select v84 c2_i32_41 v83
  let v87 : BitVec 32 := Scalar.select v86 c3_i32_42 v85
  let v89 : BitVec 32 := Scalar.select v88 c15_i32 v87
  let v91 : BitVec 32 := Scalar.select v90 c10_i32 v89
  let v93 : BitVec 32 := Scalar.select v92 c9_i32 v91
  let v95 : BitVec 32 := Scalar.select v94 c4_i32_44 v93
  let v97 : BitVec 32 := Scalar.select v96 c14_i32 v95
  let v99 : BitVec 32 := Scalar.select v98 c11_i32 v97
  let v101 : BitVec 32 := Scalar.select v100 c8_i32_48 v99
  let v103 : BitVec 32 := Scalar.select v102 c5_i32_50 v101
  let v105 : BitVec 32 := Scalar.select v104 c13_i32 v103
  let v107 : BitVec 32 := Scalar.select v106 c12_i32_52 v105
  let v109 : BitVec 32 := Scalar.select v108 c7_i32_54 v107
  let v111 : BitVec 32 := Scalar.select v110 c6_i32_56 v109
  let c1_i32_1049 : BitVec 32 := 1#32
  let v1186 : BitVec 32 := Scalar.addi v111 c1_i32_1049
  let v1187 : BitVec 32 := Scalar.addi v1186 c0_i32_1050
  let c16_i32_1051 : BitVec 32 := 16#32
  let c0_i32_1052 : BitVec 32 := 0#32
  let v1188 : BitVec 1 := Scalar.cmpi .eq c16_i32_1051 c0_i32_1052
  let c1_i32_1053 : BitVec 32 := 1#32
  let v1189 : BitVec 32 := Scalar.select v1188 c1_i32_1053 c16_i32_1051
  let v1190 : BitVec 32 := Scalar.remsi v1187 v1189
  let c0_i32_1055 : BitVec 32 := 0#32
  let v1192 : BitVec 1 := Scalar.cmpi .slt v1190 c0_i32_1055
  let c0_i32_1056 : BitVec 32 := 0#32
  let v1193 : BitVec 1 := Scalar.cmpi .slt v1189 c0_i32_1056
  let v1194 : BitVec 1 := Scalar.xori v1192 v1193
  let c0_i32_1054 : BitVec 32 := 0#32
  let v1191 : BitVec 1 := Scalar.cmpi .ne v1190 c0_i32_1054
  let v1195 : BitVec 1 := Scalar.andi v1194 v1191
  let v1196 : BitVec 32 := Scalar.addi v1190 v1189
  let v1197 : BitVec 32 := Scalar.select v1195 v1196 v1190
  let c15_i32_1086 : BitVec 32 := 15#32
  let v1226 : BitVec 1 := Scalar.cmpi .eq v1197 c15_i32_1086
  let c4_i32_1087 : BitVec 32 := 4#32
  let c14_i32_1084 : BitVec 32 := 14#32
  let v1224 : BitVec 1 := Scalar.cmpi .eq v1197 c14_i32_1084
  let c8_i32_1085 : BitVec 32 := 8#32
  let c13_i32_1082 : BitVec 32 := 13#32
  let v1222 : BitVec 1 := Scalar.cmpi .eq v1197 c13_i32_1082
  let c12_i32_1083 : BitVec 32 := 12#32
  let c12_i32_1080 : BitVec 32 := 12#32
  let v1220 : BitVec 1 := Scalar.cmpi .eq v1197 c12_i32_1080
  let c13_i32_1081 : BitVec 32 := 13#32
  let c11_i32_1078 : BitVec 32 := 11#32
  let v1218 : BitVec 1 := Scalar.cmpi .eq v1197 c11_i32_1078
  let c9_i32_1079 : BitVec 32 := 9#32
  let c10_i32_1076 : BitVec 32 := 10#32
  let v1216 : BitVec 1 := Scalar.cmpi .eq v1197 c10_i32_1076
  let c5_i32_1077 : BitVec 32 := 5#32
  let c9_i32_1074 : BitVec 32 := 9#32
  let v1214 : BitVec 1 := Scalar.cmpi .eq v1197 c9_i32_1074
  let c6_i32_1075 : BitVec 32 := 6#32
  let c8_i32_1072 : BitVec 32 := 8#32
  let v1212 : BitVec 1 := Scalar.cmpi .eq v1197 c8_i32_1072
  let c10_i32_1073 : BitVec 32 := 10#32
  let c7_i32_1070 : BitVec 32 := 7#32
  let v1210 : BitVec 1 := Scalar.cmpi .eq v1197 c7_i32_1070
  let c14_i32_1071 : BitVec 32 := 14#32
  let c6_i32_1068 : BitVec 32 := 6#32
  let v1208 : BitVec 1 := Scalar.cmpi .eq v1197 c6_i32_1068
  let c15_i32_1069 : BitVec 32 := 15#32
  let c5_i32_1066 : BitVec 32 := 5#32
  let v1206 : BitVec 1 := Scalar.cmpi .eq v1197 c5_i32_1066
  let c11_i32_1067 : BitVec 32 := 11#32
  let c4_i32_1064 : BitVec 32 := 4#32
  let v1204 : BitVec 1 := Scalar.cmpi .eq v1197 c4_i32_1064
  let c7_i32_1065 : BitVec 32 := 7#32
  let c3_i32_1062 : BitVec 32 := 3#32
  let v1202 : BitVec 1 := Scalar.cmpi .eq v1197 c3_i32_1062
  let c3_i32_1063 : BitVec 32 := 3#32
  let c2_i32_1060 : BitVec 32 := 2#32
  let v1200 : BitVec 1 := Scalar.cmpi .eq v1197 c2_i32_1060
  let c2_i32_1061 : BitVec 32 := 2#32
  let c1_i32_1057 : BitVec 32 := 1#32
  let v1198 : BitVec 1 := Scalar.cmpi .eq v1197 c1_i32_1057
  let c1_i32_1058 : BitVec 32 := 1#32
  let c0_i32_1059 : BitVec 32 := 0#32
  let v1199 : BitVec 32 := Scalar.select v1198 c1_i32_1058 c0_i32_1059
  let v1201 : BitVec 32 := Scalar.select v1200 c2_i32_1061 v1199
  let v1203 : BitVec 32 := Scalar.select v1202 c3_i32_1063 v1201
  let v1205 : BitVec 32 := Scalar.select v1204 c7_i32_1065 v1203
  let v1207 : BitVec 32 := Scalar.select v1206 c11_i32_1067 v1205
  let v1209 : BitVec 32 := Scalar.select v1208 c15_i32_1069 v1207
  let v1211 : BitVec 32 := Scalar.select v1210 c14_i32_1071 v1209
  let v1213 : BitVec 32 := Scalar.select v1212 c10_i32_1073 v1211
  let v1215 : BitVec 32 := Scalar.select v1214 c6_i32_1075 v1213
  let v1217 : BitVec 32 := Scalar.select v1216 c5_i32_1077 v1215
  let v1219 : BitVec 32 := Scalar.select v1218 c9_i32_1079 v1217
  let v1221 : BitVec 32 := Scalar.select v1220 c13_i32_1081 v1219
  let v1223 : BitVec 32 := Scalar.select v1222 c12_i32_1083 v1221
  let v1225 : BitVec 32 := Scalar.select v1224 c8_i32_1085 v1223
  let v1227 : BitVec 32 := Scalar.select v1226 c4_i32_1087 v1225
  let v2697 : BitVec 32 := Scalar.muli c2_i32_2367 v1227
  let c1_i32_2222 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let v2536 : BitVec 32 := Scalar.subi c1_i32_2222 v79
  let v2698 : BitVec 32 := Scalar.addi v2697 v2536
  let c256_i32_2368 : BitVec 32 := 256#32
  let v2699 : BitVec 32 := Scalar.muli v2698 c256_i32_2368
  let v2700 : BitVec 32 := Scalar.addi v2699 c0_i32_2369
  let c0_i32_2374 : BitVec 32 := 0#32
  ![v2700.toNat, 0]
def k0_cond3 (d0 : Dev nD) : BitVec 1 :=
  let c2_i32_1337 : BitVec 32 := 2#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v80 : BitVec 32 := Scalar.muli c4_i32 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v81 : BitVec 32 := Scalar.addi v80 v46
  let v1500 : BitVec 32 := Scalar.muli c2_i32_1337 v81
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let v1501 : BitVec 32 := Scalar.addi v1500 v79
  let v2837 : BitVec 1 := Scalar.cmpi .eq v1501 v2
  let v2838 : BitVec 32 := Scalar.extui v2837
  let c0_i32_2495 : BitVec 32 := 0#32
  let v2839 : BitVec 1 := Scalar.cmpi .ne v2838 c0_i32_2495
  v2839

def k0_off12 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_1322 : BitVec 32 := 256#32
  let v1480 : BitVec 32 := Scalar.muli v2 c256_i32_1322
  let c0_i32_1323 : BitVec 32 := 0#32
  let v1481 : BitVec 32 := Scalar.addi v1480 c0_i32_1323
  let c0_i32_2661 : BitVec 32 := 0#32
  ![v1481.toNat, 0]
def k0_cond4 (d0 : Dev nD) : BitVec 1 :=
  let c2_i32_1337 : BitVec 32 := 2#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v80 : BitVec 32 := Scalar.muli c4_i32 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v81 : BitVec 32 := Scalar.addi v80 v46
  let v1500 : BitVec 32 := Scalar.muli c2_i32_1337 v81
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v46 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_23 : BitVec 32 := 0#32
  let v57 : BitVec 1 := Scalar.cmpi .eq v56 c0_i32_23
  let c2_i32_24 : BitVec 32 := 2#32
  let c0_i32_25 : BitVec 32 := 0#32
  let v58 : BitVec 1 := Scalar.cmpi .eq c2_i32_24 c0_i32_25
  let c1_i32_26 : BitVec 32 := 1#32
  let v59 : BitVec 32 := Scalar.select v58 c1_i32_26 c2_i32_24
  let v60 : BitVec 32 := Scalar.remsi v29 v59
  let c0_i32_28 : BitVec 32 := 0#32
  let v62 : BitVec 1 := Scalar.cmpi .slt v60 c0_i32_28
  let c0_i32_29 : BitVec 32 := 0#32
  let v63 : BitVec 1 := Scalar.cmpi .slt v59 c0_i32_29
  let v64 : BitVec 1 := Scalar.xori v62 v63
  let c0_i32_27 : BitVec 32 := 0#32
  let v61 : BitVec 1 := Scalar.cmpi .ne v60 c0_i32_27
  let v65 : BitVec 1 := Scalar.andi v64 v61
  let v66 : BitVec 32 := Scalar.addi v60 v59
  let v67 : BitVec 32 := Scalar.select v65 v66 v60
  let c1_i32_36 : BitVec 32 := 1#32
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v29 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.subi c1_i32_36 v77
  let v79 : BitVec 32 := Scalar.select v57 v67 v78
  let v1501 : BitVec 32 := Scalar.addi v1500 v79
  let v2844 : BitVec 1 := Scalar.cmpi .eq v1501 v2
  let v2845 : BitVec 32 := Scalar.extui v2844
  let c0_i32_2503 : BitVec 32 := 0#32
  let v2846 : BitVec 1 := Scalar.cmpi .ne v2845 c0_i32_2503
  v2846

def k0_off13 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_1330 : BitVec 32 := 256#32
  let v1490 : BitVec 32 := Scalar.muli v2 c256_i32_1330
  let c128_i32 : BitVec 32 := 128#32
  let v1491 : BitVec 32 := Scalar.addi v1490 c128_i32
  let c0_i32_2661 : BitVec 32 := 0#32
  ![v1491.toNat, 0]
abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x256 : Shape := ⟨2, ![8192, 256]⟩

abbrev nBuf : Space → Nat
  | .hbm => 1
  | .vmem => 0
  | .smem => 0
  | _ => 0

abbrev bufTy : (tb : Table) → Fin (tcTables nBuf tb) → BufTy
  | .hbm, ⟨0, _⟩ => ⟨S8192x256, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Facts.lean ====
/-
# The bounds the programs state, and the layout of the one call

Both programs state, as the fields of one structure, that every copy's rows lie in the buffer, that every addressed device
is on the mesh, and the like. Each is a finite check over the thirty-two devices and the hops. After them, what the launch
of the call asks of its two windows: distinct whole buffers, distinct semaphores, one grid point.
-/
module

public import proofs.«01_k».proof.Kernel
public import proofs.«01_k».proof.KernelIdeal
public import Idealize.ShloMosaic.Lib.Decide
public import Idealize.ShloMosaic.Lib.Exec
public import Idealize.ShloMosaic.Lib.Pipeline.Kit
public import Idealize.ShloMosaic.Lib.Pipeline.Regions

@[expose] public section

set_option synthInstance.maxSize 4096
-- the checks one after the other, for the memory each takes
set_option Elab.async false

noncomputable section

namespace Cert.Gather

open Idealize.ShloMosaic Idealize.ShloMosaic.TcCoe
open Idealize.SL Idealize.SL.RA Idealize.SL.BI Idealize.SL.Sem
open scoped Idealize.SL.BI
open Idealize.SL.BI.BIBase

/-! ## The stated bounds -/

set_option maxHeartbeats 4000000 in
/-- The kernel's bounds, each by evaluation; those on whole words name the bounds before them, and come second. -/
instance kernel_bounds : Cert.Kernel.Facts₀ := by
  constructor
  all_goals try first | decide | decide +kernel | exact Fin.forall_fin_one.mpr (Memref.isWhole_whole _)
  all_goals decide +kernel
instance kernel_facts : Cert.Kernel.Facts where

set_option maxHeartbeats 4000000 in
/-- The same of its ideal reading. -/
instance ideal_bounds : Cert.KernelIdeal.Facts₀ := by
  constructor
  all_goals try first | decide | decide +kernel | exact Fin.forall_fin_one.mpr (Memref.isWhole_whole _)
  all_goals decide +kernel
instance ideal_facts : Cert.KernelIdeal.Facts where

/-! ## The call's layout -/

open Cert.KernelIdeal

/-- The two windows have staging semaphores of their own, on every device. -/
theorem cellOf_inj : Function.Injective (Pipeline.cellOf (nD := nD) (τ := τ) cfgs) :=
  Pipeline.cellOf_injective_of_table cfgs (fun _ => Pipeline.specSems spec0) (fun _ => rfl) (by decide) (by decide)

/-- The arrays and the staging buffers are as a launch wants them. -/
theorem winFacts0 : Pipeline.WinFacts spec0 := by decide

theorem arr_whole0 (w : Fin 2) : (spec0 w).arr.IsWhole := by
  match w with
  | 0 => exact Memref.isWhole_whole _
  | 1 => exact Memref.isWhole_whole _
theorem stage_whole0 (w : Fin 2) (s : Fin (spec0 w).nbuf) : ((spec0 w).stage s).IsWhole := by
  match w with
  | 0 => exact Memref.isWhole_whole _
  | 1 => exact Memref.isWhole_whole _

/-- The call's only point. -/
def t0_0 : Fin grid0.N := ⟨0, by decide⟩
theorem fin_N0 (t : Fin grid0.N) : t = t0_0 :=
  Fin.ext (Nat.lt_one_iff.mp (lt_of_lt_of_eq t.isLt (by decide : grid0.N = 1)))

/-- The argument is fetched there, and the result written back. -/
theorem fetch0_0 : ∀ t : Fin cfg0.N, (cfg0.win 0).fetch t = true := (by decide +kernel : ∀ t : Fin grid0.N, win0_0.fetch t = true)
theorem flush0_1 : ∀ t : Fin cfg0.N, (cfg0.win 1).flush t = true := (by decide +kernel : ∀ t : Fin grid0.N, win0_1.flush t = true)

theorem bigSep_W0 {M : Type} [URA M] (Φ : Fin 2 → sProp M) : bigSep Finset.univ Φ = iprop(Φ (0 : Fin 2) ∗ Φ (1 : Fin 2)) :=
  bigSep_univ_eq_bigSepL [0, 1] (by decide) (by decide) Φ

/-- No scoped buffer but the two staging buffers. -/
theorem scopedRest0_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl)) = BI.emp :=
  Pipeline.scopedRest_eq_of_list spec0 c [] (by decide) (by decide)

end Cert.Gather

end
-- ==== Proof.Tables.lean ====
/-
# The exchange in numbers

Thirty-two devices, in sixteen pairs. The pairs lie on a ring of sixteen places; each device of a pair keeps one of the
two LANES of that ring. Per device the kernel makes sixty-two remote copies of half a block each, numbered here

* 0–1    the pair exchange: the device's own block to its partner;
* 2–17   hop `h` of the rightward ring, half `s`, at `2 + 2h + s`;
* 18–31  hop `h` of the leftward ring, half `s`, at `18 + 2h + s`;
* 32–47  what rightward hop `h` brought, passed to the partner, at `32 + 2h + s`;
* 48–61  what leftward hop `h` brought, passed to the partner, at `48 + 2h + s`.

A device is at the receiving end of sixty-two copies too, under the same numbers. Numbers 62 and 63 stand for the two
halves of its own block, so `0 … 63` names the sixty-four half-blocks of the gathered result on that device: `chunk c k`
is the block that number `k` holds on device `c`, its half is the parity of `k`. `dst c k` is the device that copy `k` of
device `c` goes to and `src b k` the number under which the sender holds what it sends (`b`: does the device put its own
block on its lane, or its partner's?). The facts at the end are finite checks over devices and numbers.
-/
module

public import proofs.«01_k».proof.Proof.Facts

@[expose] public section

namespace Cert.Gather

open Cert.KernelIdeal Cert.KernelIdeal.Facts₀
open Idealize.ShloMosaic

/-! ## The ring -/

/-- The pair at place `t` of the ring. -/
def pairAt (t : ℕ) : ℕ := (0x48cd956aefb73210 >>> (4 * (t % 16))) % 16
/-- The place of pair `p` on the ring. -/
def placeOf (p : ℕ) : ℕ := (0x67cd58be49af3210 >>> (4 * p)) % 16

/-- The lane a device keeps: which of the two blocks of a pair travels on it. -/
def lane (c : ℕ) : ℕ := (c + c / 2) % 2
/-- The device of the pair at place `t` that keeps lane `x`. -/
def onLane (x t : ℕ) : ℕ := 2 * pairAt t + (x + pairAt t) % 2

def partnerN (c : ℕ) : ℕ := c + 1 - 2 * (c % 2)
def rightN (c : ℕ) : ℕ := onLane (lane c) (placeOf (c / 2) + 1)
def leftN (c : ℕ) : ℕ := onLane (lane c) (placeOf (c / 2) + 15)

/-- The device copy `k` of device `c` goes to. -/
def dstN (c k : ℕ) : ℕ := if k < 2 then partnerN c else if k < 18 then rightN c else if k < 32 then leftN c else partnerN c

/-- The block that number `k` holds on device `c`. -/
def chunkN (c k : ℕ) : ℕ :=
  if k < 2 then partnerN c
  else if k < 18 then 2 * pairAt (placeOf (c / 2) + 15 - (k - 2) / 2) + lane c
  else if k < 32 then 2 * pairAt (placeOf (c / 2) + 1 + (k - 18) / 2) + lane c
  else if k < 48 then 2 * pairAt (placeOf (c / 2) + 15 - (k - 32) / 2) + (1 - lane c)
  else if k < 62 then 2 * pairAt (placeOf (c / 2) + 1 + (k - 48) / 2) + (1 - lane c)
  else c

theorem dstN_lt : ∀ (c : Fin 32) (k : Fin 62), dstN c k < 32 := by decide +kernel
theorem chunkN_lt : ∀ (c : Fin 32) (k : Fin 64), chunkN c k < 32 := by decide +kernel

def dst (c : Dev nD) (k : Fin 62) : Dev nD := ⟨dstN c k, dstN_lt c k⟩
def chunk (c : Dev nD) (k : Fin 64) : Fin 32 := ⟨chunkN c k, chunkN_lt c k⟩

/-- The devices that wait for device `c`'s entry signal, and the ones it waits for: its partner, and its neighbours on the lane. -/
def partner (c : Dev nD) : Dev nD := dst c 0
def right (c : Dev nD) : Dev nD := dst c 2
def left (c : Dev nD) : Dev nD := dst c 18

/-- Does device `c` put its own block on its lane? -/
def puts (c : Dev nD) : Bool := c.val / 2 % 2 == 0

/-- Incoming number `k` as the number of a half-block. -/
abbrev inc (k : Fin 62) : Fin 64 := ⟨k.val, Nat.lt_trans k.isLt (by decide)⟩

/-- The half-block that copy `k` reads, as the sender numbers it: the copies off the pair exchange read the own block,
    the first hop of each ring the block the device puts on its lane, a later hop what the hop before brought, a
    passing-on what its hop brought. -/
def srcN (b : Bool) (k : ℕ) : ℕ :=
  if k < 2 then 62 + k
  else if k < 4 then (if b then 60 + k else k - 2)
  else if k < 18 then k - 2
  else if k < 20 then (if b then 44 + k else k - 18)
  else if k < 32 then k - 2
  else k - 30
theorem srcN_lt : ∀ (b : Bool) (k : Fin 62), srcN b k < 64 := by decide +kernel
def src (b : Bool) (k : Fin 62) : Fin 64 := ⟨srcN b k, srcN_lt b k⟩

/-- Which of the three shares of the half-block the copy holds while it is in flight. -/
def slot (k : Fin 62) : Fin 3 := if k.val < 2 then 0 else if k.val < 18 then 1 else if k.val < 20 then 2 else if k.val < 32 then 1 else 0

/-- The first row of half-block `k` on device `c`. -/
def row (c : Dev nD) (k : Fin 64) : ℕ := 256 * chunkN c k + 128 * (k.val % 2)

/-! ## The facts -/

/-- A copy lands where its number says. -/
theorem chunk_dst : ∀ (c : Dev nD) (k : Fin 62), chunkN (dst c k) k = chunkN c (srcN (puts c) k) := by decide +kernel
theorem src_half : ∀ (b : Bool) (k : Fin 62), srcN b k % 2 = k.val % 2 := by decide +kernel
theorem row_dst (c : Dev nD) (k : Fin 62) : row (dst c k) (inc k) = row c (src (puts c) k) := by
  unfold row; rw [show chunkN (dst c k) (inc k) = chunkN (dst c k) k from rfl, chunk_dst]
  show _ + 128 * (k.val % 2) = _ + 128 * (srcN (puts c) k % 2)
  rw [src_half]; rfl

theorem row_le (c : Dev nD) (k : Fin 64) : row c k + 128 ≤ 8192 := by
  have h := chunkN_lt c k
  have h' : k.val % 2 < 2 := Nat.mod_lt _ (by decide)
  unfold row; omega

/-- The number of half-block `h` of block `d` on device `c`. -/
def numOf (c : Dev nD) (i : Fin 64) : Fin 64 := ((List.finRange 64).find? fun (k : Fin 64) => 2 * chunkN c k.val + k.val % 2 == i.val).getD 0
theorem numOf_spec : ∀ (c : Dev nD) (i : Fin 64), 2 * chunkN c (numOf c i) + (numOf c i).val % 2 = i.val := by decide +kernel
theorem num_inj : ∀ (c : Dev nD) (k : Fin 64), numOf c ⟨(2 * chunkN c k + k.val % 2) % 64, Nat.mod_lt _ (by decide)⟩ = k := by decide +kernel

/-- No two numbers of a device hold one half-block. -/
theorem row_inj (c : Dev nD) {k k' : Fin 64} (h : row c k = row c k') : k = k' := by
  have e : 2 * chunkN c k + k.val % 2 = 2 * chunkN c k' + k'.val % 2 := by unfold row at h; omega
  rw [← num_inj c k, ← num_inj c k']
  congr 2; rw [e]

/-- Every half-block has a number. -/
theorem row_surj (c : Dev nD) (n : ℕ) (h : n < 8192) : ∃ k, row c k ≤ n ∧ n < row c k + 128 := by
  refine ⟨numOf c ⟨n / 128, by omega⟩, ?_⟩
  have e := numOf_spec c ⟨n / 128, by omega⟩
  have e' : n / 128 = (⟨n / 128, by omega⟩ : Fin 64).val := rfl
  unfold row; omega

/-- Which of the three peers copy `k` goes to: 0 the partner, 1 the right neighbour, 2 the left one. -/
def side (k : Fin 62) : Fin 3 := if k.val < 2 then 0 else if k.val < 18 then 1 else if k.val < 32 then 2 else 0
/-- The peer on side `d`, and the device that has this one on its side `d`. -/
def peer (c : Dev nD) (d : Fin 3) : Dev nD := match d with | 0 => partner c | 1 => right c | 2 => left c
def peerOf (c : Dev nD) (d : Fin 3) : Dev nD := match d with | 0 => partner c | 1 => left c | 2 => right c
theorem peer_peerOf : ∀ (c : Dev nD) (d : Fin 3), peer (peerOf c d) d = c := by decide +kernel
theorem peerOf_peer : ∀ (c : Dev nD) (d : Fin 3), peerOf (peer c d) d = c := by decide +kernel
theorem dst_eq_peer : ∀ (c : Dev nD) (k : Fin 62), dst c k = peer c (side k) := by decide +kernel

theorem dst_bij (k : Fin 62) : Function.Bijective fun c => dst c k :=
  Finite.injective_iff_bijective.mp ((by decide +kernel : ∀ k : Fin 62, Function.Injective fun c => dst c k) k)

end Cert.Gather

end
-- ==== Proof.Common.lean ====
/-
# The protocol

What the kernel's semaphores mean. On every device there are 125 cells: the BARRIER cell, and for each copy number `k` a SEND
cell (the device's own copy `k` has been read) and a RECEIVE cell (the copy `k` that comes in has landed). Each is used once,
so the schedule has one round:

* the barrier cell has three duties, one unit each, paid by the three peers on entry. Duty `d` hands over the half-blocks of
  that peer's result buffer that copies to it will fill: after waiting for all three a device may write wherever it sends to;
* a send cell has one duty, paid by the landing of the device's own copy: it hands back the share of the half-block read;
* a receive cell has one duty, paid by the landing of the incoming copy: it hands over the half-block, holding the gathered array.

A half-block is cut in three shares, for one is read by as many as three copies at once. Levels: barrier 1, incoming pair
exchange 2, hop `h` of either ring `3 + h`, passings-on 100: at every wait what a device still owes lies above.
-/
module

public import proofs.«01_k».proof.Proof.Tables
public import Idealize.ShloMosaic.Lib.Pipeline.Launch
public import Idealize.ShloMosaic.Lib.Pipeline.Kit
public import Idealize.ShloMosaic.Lib.Pipeline.ValueKit.Geometry
public import Idealize.ShloMosaic.Lib.Tactic

@[expose] public section

noncomputable section

namespace Cert.Gather

open Cert.KernelIdeal Cert.KernelIdeal.Facts₀

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ)

/-! ## The cells -/

/-- The number of a copy's semaphore: `false` the sender's, `true` the receiver's. -/
def semN (r : Bool) (k : ℕ) : ℕ :=
  if k < 2 then 2 + k + (if r then 2 else 0)
  else if k < 18 then 4 + k + (if r then 16 else 0)
  else if k < 32 then 20 + k + (if r then 14 else 0)
  else if k < 48 then 34 + k + (if r then 16 else 0)
  else 50 + k + (if r then 14 else 0)
theorem semN_lt : ∀ (r : Bool) (k : Fin 62), semN r k < 126 := by decide +kernel
abbrev DIx : Type := Bool × Fin 62
def dsem (x : DIx) : DmaSem sig := ⟨semN x.1 x.2, semN_lt x.1 x.2⟩

/-- The copy whose semaphore number `q` is. -/
def decode (q : DmaSem sig) : Option DIx := (Finset.univ : Finset DIx).toList.find? fun x => dsem x == q
theorem dsem_inj : Function.Injective dsem := by
  have h : ∀ (r r' : Bool) (k k' : Fin 62), semN r k = semN r' k' → r = r' ∧ k = k' := by decide +kernel
  rintro ⟨r, k⟩ ⟨r', k'⟩ e
  obtain ⟨h₁, h₂⟩ := h r r' k k' (congrArg Fin.val e)
  rw [h₁, h₂]
theorem decode_dsem (x : DIx) : decode (dsem x) = some x := by
  unfold decode
  cases h : (Finset.univ : Finset DIx).toList.find? fun y => dsem y == dsem x with
  | none =>
    have := List.find?_eq_none.mp h x (Finset.mem_toList.mpr (Finset.mem_univ x))
    exact absurd (beq_self_eq_true _) this
  | some y =>
    have e : (dsem y == dsem x) = true := List.find?_some (p := fun y => dsem y == dsem x) h
    rw [dsem_inj (eq_of_beq e)]

/-- The runtime's barrier semaphore. -/
abbrev barS : Sem sig := (SemArray.scalar (sig.barrier 0 rfl) : Sems sig S_).sem

/-- The kernel's own semaphores, and with the barrier all that the protocol runs on. -/
abbrev osem (x : DIx) : SemLoc sig := .dma (dsem x)
abbrev CIx : Type := Option DIx
def csem (x : CIx) : SemLoc sig := match x with | none => .reg barS | some x => osem x
abbrev kcell (c : Dev nD) (x : CIx) : GSem nD τ sig := ((c : Thread nD τ), csem x)
abbrev barCell (c : Dev nD) : GSem nD τ sig := kcell c none
abbrev sendCell (c : Dev nD) (k : Fin 62) : GSem nD τ sig := kcell c (some (false, k))
abbrev recvCell (c : Dev nD) (k : Fin 62) : GSem nD τ sig := kcell c (some (true, k))

theorem csem_inj : Function.Injective csem := by
  rintro (_ | x) (_ | y) h
  · rfl
  · cases h
  · cases h
  · exact congrArg some (dsem_inj (by simpa [csem, osem] using h))

theorem kcell_inj {c c' : Dev nD} {x x' : CIx} (h : kcell c x = kcell c' x') : c = c' ∧ x = x' :=
  ⟨congrArg (fun g : GSem nD τ sig => g.1.1) h, csem_inj (congrArg Prod.snd h)⟩

/-! ## The half-blocks and their contents -/

/-- The result staging buffer, whole. -/
abbrev oM : Memref sig .tc .vmem S8192x256 .bf16 := Memref.whole cc0_stg1_0
abbrev xM : Memref sig .tc .vmem S256x256 .bf16 := Memref.whole cc0_stg0_0

/-- The 128 rows from `n` on. -/
def rowsFrom (n : ℕ) : Finset S8192x256.Idx := Finset.univ.filter fun i => n ≤ (i 0).val ∧ (i 0).val < n + 128

theorem mem_rowsFrom {n : ℕ} {i : S8192x256.Idx} : i ∈ rowsFrom n ↔ n ≤ (i 0).val ∧ (i 0).val < n + 128 := by
  unfold rowsFrom; rw [Finset.mem_filter]; exact ⟨fun h => h.2, fun h => ⟨Finset.mem_univ _, h⟩⟩

/-- A memref slice of 128 whole rows has these elements. -/
theorem slice_set (n : ℕ) (inb : ∀ a, (![n, 0] : Fin 2 → ℕ) a + S128x256.size a ≤ S8192x256.size a) :
    ((View.whole cc0_stg1_0).slice (Rect.unit (s := S8192x256) ![n, 0] S128x256.size inb)).set = rowsFrom n := by
  ext i
  refine ValueKit.mem_set_slice_whole_iff cc0_stg1_0 _ i ((Rect.mem_set_unit (s := S8192x256)).trans ?_)
  rw [mem_rowsFrom, ValueKit.forall_fin_iff_conj]
  have h1 : (i 1).val < 256 := (i 1).isLt
  show (_ ≤ _ ∧ _) ∧ (_ ≤ _ ∧ _) ↔ _
  exact ⟨fun h => h.1, fun h => ⟨h, Nat.zero_le _, by have e : (![n, 0] : Fin 2 → ℕ) 1 + S128x256.size 1 = 256 := rfl; exact lt_of_lt_of_eq h1 e.symm⟩⟩

theorem rows_disjoint (c : Dev nD) (k k' : Fin 64) (h : k ≠ k') : Disjoint (rowsFrom (row c k)) (rowsFrom (row c k')) := by
  rw [Finset.disjoint_left]
  intro i hi hi'
  rw [mem_rowsFrom] at hi hi'
  refine h (row_inj c ?_)
  have e : ∀ k : Fin 64, row c k = 128 * (2 * chunkN c k + k.val % 2) := fun k => by unfold row; omega
  rw [e] at hi hi' ⊢; rw [e k'] at *; omega

theorem rows_cover (c : Dev nD) : (Finset.univ : Finset (Fin 64)).biUnion (fun k => rowsFrom (row c k)) = Finset.univ := by
  ext i
  rw [Finset.mem_biUnion]
  obtain ⟨k, h⟩ := row_surj c (i 0).val (i 0).isLt
  exact ⟨fun _ => Finset.mem_univ i, fun _ => ⟨k, Finset.mem_univ k, mem_rowsFrom.mpr h⟩⟩

/-- Device `c`'s block, as the pipeline stages it. -/
def xstg (c : Dev nD) : (cc0_stg0_0 : Ref sig .tc).ty.Contents (Elt F) :=
  (win0_0.blk (0 : Fin 1)).view.read (Elt F) (m ((c : Thread nD τ).loc main_arg0))

/-- Where row `i` of the gathered array comes from: the device, and the place in its block. -/
def ownerOf (i : S8192x256.Idx) : Dev nD := ⟨(i 0).val / 256, by have : (i 0).val < 8192 := (i 0).isLt; show _ < 32; omega⟩
def inBlock (i : S8192x256.Idx) : S256x256.Idx
  | ⟨0, _⟩ => ⟨(i 0).val % 256, Nat.mod_lt _ (by decide)⟩
  | ⟨1, _⟩ => ⟨(i 1).val, (i 1).isLt⟩

/-- The gathered array: every device's block, in the order of the devices. -/
def gathered : (cc0_stg1_0 : Ref sig .tc).ty.Contents (Elt F) := fun i => xstg m (ownerOf i) (inBlock i)

/-- Share `q` of the half-block `k` of device `c`'s result buffer, holding `f`. -/
def regPts (q : PosShare TreeShare) (c : Dev nD) (k : Fin 64) (f : (cc0_stg1_0 : Ref sig .tc).ty.Contents (Elt F)) : sProp 𝕄 :=
  ((c : Thread nD τ).loc cc0_stg1_0) ↦[rowsFrom (row c k)]{q} f

omit [FloatOps F] in
instance regPts_storable (q) (c : Dev nD) (k) (f) : BI.Storable (upEmb : UEmb _ 𝕄) (regPts (F := F) q c k f) := by unfold regPts; infer_instance

/-- The three shares of a half-block. -/
def shr (i : Fin 3) : PosShare TreeShare := match i with | 0 => fullShare.left | 1 => fullShare.right.left | 2 => fullShare.right.right

omit [FloatOps F] in
theorem regPts_shares (c : Dev nD) (k : Fin 64) (f) :
    (regPts fullShare c k f : sProp 𝕄) ⊣⊢ iprop(regPts (shr 0) c k f ∗ regPts (shr 1) c k f ∗ regPts (shr 2) c k f) := by
  have h₁ := pointsTo_share (nD := nD) (τ := τ) (sig := sig) (Ix := Unit) (Name := ℕ) (U := UU) (Lvl := ℕ) (Val := Elt F)
    (ℓ := (c : Thread nD τ).loc cc0_stg1_0) (I := rowsFrom (row c k)) (f := f) (PosShare.mem_left_op_right fullShare)
  have h₂ := pointsTo_share (nD := nD) (τ := τ) (sig := sig) (Ix := Unit) (Name := ℕ) (U := UU) (Lvl := ℕ) (Val := Elt F)
    (ℓ := (c : Thread nD τ).loc cc0_stg1_0) (I := rowsFrom (row c k)) (f := f) (PosShare.mem_left_op_right fullShare.right)
  exact ⟨h₁.1.trans (sep_mono_right h₂.1), (sep_mono_right h₂.2).trans h₁.2⟩

/-! ## The schedule -/

/-- The credit of one copy. -/
abbrev N : ℕ := ((oM : Memref sig .tc .vmem S8192x256 .bf16).slice (Rect.unit (s := S8192x256) ![0, 0] S128x256.size (by decide)) (fun _ => rfl)).view.dmaCredit
theorem N_pos : 0 < N := View.dmaCredit_pos _ (by decide)

/-- The copies to the peer on side `d`. -/
def toSide (d : Fin 3) : Finset (Fin 62) := Finset.univ.filter fun k => side k = d

/-- What the peer on side `d` hands device `c` on entry: the half-blocks that the copies to it will fill. -/
def barPay (c : Dev nD) (d : Fin 3) : sProp 𝕄 := bigSep (toSide d) fun k => iprop(∃ f, regPts fullShare (dst c k) (inc k) f)
/-- What the landing of the incoming copy `k` hands over. -/
def recvPay (c : Dev nD) (k : Fin 62) : sProp 𝕄 := regPts fullShare c (inc k) (gathered m)
/-- What the landing of the own copy `k` hands back. -/
def sendPay (c : Dev nD) (k : Fin 62) : sProp 𝕄 := regPts (shr (slot k)) c (src (puts c) k) (gathered m)

def dmaPay (c : Dev nD) : Option DIx → sProp 𝕄
  | none => iprop(emp)
  | some (true, k) => recvPay m c k
  | some (false, k) => sendPay m c k
def cellPay (c : Dev nD) (s : SemLoc sig) (d : Fin 3) : sProp 𝕄 :=
  match s with
  | .reg _ => barPay c d
  | .dma q => dmaPay m c (decode q)
def cellDuties (s : SemLoc sig) : Finset (Fin 3) :=
  match s with
  | .reg _ => Finset.univ
  | .dma q => if (decode q).isSome then {0} else ∅
def cellAmount (s : SemLoc sig) : ℕ := match s with | .reg _ => 1 | .dma _ => N

omit [FloatOps F] in
instance barPay_storable (c : Dev nD) (d : Fin 3) : BI.Storable (upEmb : UEmb _ 𝕄) (barPay (F := F) c d) := by unfold barPay; infer_instance
instance dmaPay_storable (c : Dev nD) (x : Option DIx) : BI.Storable (upEmb : UEmb _ 𝕄) (dmaPay (F := F) m c x) := by
  rcases x with _ | ⟨_ | _, k⟩ <;> unfold dmaPay <;> (try unfold recvPay) <;> (try unfold sendPay) <;> infer_instance
instance cellPay_storable (c : Dev nD) (s) (d) : BI.Storable (upEmb : UEmb _ 𝕄) (cellPay (F := F) m c s d) := by
  cases s <;> unfold cellPay <;> infer_instance

/-- One round, round 0. -/
def sched : Rounds.Schedule (GSem nD τ sig) (Fin 3) 𝕄 where
  duties g r := if r = 0 ∧ g.1.2 = .tc then cellDuties g.2 else ∅
  unitless _ := False
  amount g _ _ := cellAmount g.2
  payload g _ d := cellPay m g.1.1 g.2 d
  amount_pos g _ _ _ := by
    show 0 < cellAmount g.2
    cases g.2
    · exact Nat.one_pos
    · exact N_pos

instance sched_payload_storable (g : GSem nD τ sig) (r : ℕ) (d : Fin 3) :
    BI.Storable (upEmb : UEmb _ 𝕄) ((sched (F := F) m).payload g r d) := by
  show BI.Storable upEmb (cellPay m g.1.1 g.2 d); infer_instance

section Sched
variable (c : Dev nD)

theorem duties_bar : (sched (F := F) m).duties (barCell c) 0 = Finset.univ := by dsimp only [sched]; exact if_pos ⟨rfl, rfl⟩
theorem duties_dma (x : DIx) : (sched (F := F) m).duties (kcell c (some x)) 0 = {0} := by
  dsimp only [sched]; refine (if_pos ⟨rfl, rfl⟩).trans ?_
  show (if (decode (dsem x)).isSome then _ else _) = _
  rw [decode_dsem]; rfl
theorem duties_later (g : GSem nD τ sig) : ∀ r, 1 ≤ r → (sched (F := F) m).duties g r = ∅ :=
  fun r hr => by dsimp only [sched]; rw [if_neg fun h => by omega]

theorem amount_bar (d : Fin 3) : (sched (F := F) m).amount (barCell c) 0 d = 1 := rfl
theorem amount_dma (x : DIx) (d : Fin 3) : (sched (F := F) m).amount (kcell c (some x)) 0 d = N := rfl

theorem expect_bar : (sched (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_dma (x : DIx) : (sched (F := F) m).expect (kcell c (some x)) 0 = N := by
  unfold Schedule.expect Schedule.amountOf; rw [duties_dma, Finset.sum_singleton, amount_dma]

theorem payload_bar (d : Fin 3) : (sched (F := F) m).payload (barCell c) 0 d = barPay c d := rfl
theorem payload_recv (k : Fin 62) (d : Fin 3) : (sched (F := F) m).payload (recvCell c k) 0 d = recvPay m c k := by
  show dmaPay m c (decode (dsem (true, k))) = _; rw [decode_dsem]; rfl
theorem payload_send (k : Fin 62) (d : Fin 3) : (sched (F := F) m).payload (sendCell c k) 0 d = sendPay m c k := by
  show dmaPay m c (decode (dsem (false, k))) = _; rw [decode_dsem]; rfl

theorem rest_recv (k : Fin 62) : bigSep ((sched (F := F) m).duties (recvCell c k) 0 \ ∅) (fun d => (sched (F := F) m).payload (recvCell c k) 0 d) = recvPay m c k := by
  rw [Finset.sdiff_empty, duties_dma, bigSep_singleton, payload_recv]
theorem rest_send (k : Fin 62) : bigSep ((sched (F := F) m).duties (sendCell c k) 0 \ ∅) (fun d => (sched (F := F) m).payload (sendCell c k) 0 d) = sendPay m c k := by
  rw [Finset.sdiff_empty, duties_dma, bigSep_singleton, payload_send]
omit [FloatOps F] in
/-- What is there for every copy, sorted by the side the copy goes to. -/
theorem by_side (Φ : Fin 62 → sProp 𝕄) : (bigSep Finset.univ fun d : Fin 3 => bigSep (toSide d) Φ) = bigSep Finset.univ Φ := by
  have e₁ : ∀ d : Fin 3, bigSep (toSide d) Φ = bigSep Finset.univ fun k : Fin 62 => if side k = d then Φ k else iprop(emp) :=
    fun d => bigSep_filter Finset.univ (fun k => side k = d) _
  rw [bigSep_congr fun d _ => e₁ d, bigSep_univ_comm]
  refine bigSep_congr fun k _ => ?_
  have e₂ := bigSep_filter Finset.univ (fun d => side k = d) (fun _ => Φ k)
  rw [Finset.filter_eq, if_pos (Finset.mem_univ _), bigSep_singleton] at e₂
  exact e₂.symm
/-- The three barrier duties together: where every copy goes. -/
theorem rest_bar : bigSep ((sched (F := F) m).duties (barCell c) 0 \ ∅) (fun d => (sched (F := F) m).payload (barCell c) 0 d)
    = bigSep Finset.univ fun k : Fin 62 => iprop(∃ f, regPts fullShare (dst c k) (inc k) f) := by
  rw [Finset.sdiff_empty, duties_bar]
  exact by_side fun k => iprop(∃ f, regPts fullShare (dst c k) (inc k) f)

end Sched

/-! ## The levels -/

/-- The level of the receive cell of copy `k`. -/
def lev (k : ℕ) : ℕ := if k < 2 then 2 else if k < 18 then 3 + (k - 2) / 2 else if k < 32 then 3 + (k - 18) / 2 else 100
def lvD : Option DIx → ℕ | some (true, k) => lev k | _ => 0
def lvS (s : SemLoc sig) : ℕ := match s with | .reg _ => 1 | .dma q => lvD (decode q)
def L (g : GSem nD τ sig) : Finset Unit := if g.1.2 = .tc then {()} else ∅
def lv (g : GSem nD τ sig) (_ : Unit) : ℕ := lvS g.2

theorem L_of_ne (g : GSem nD τ sig) (h : g.1.2 ≠ .tc) : L g = ∅ := if_neg h
theorem L_tc (c : Dev nD) (s : SemLoc sig) : L ((c : Thread nD τ), s) = {()} := if_pos rfl
theorem lv_bar (c : Dev nD) (u : Unit) : lv (barCell c) u = 1 := rfl
theorem lv_dma (c : Dev nD) (x : DIx) (u : Unit) : lv (kcell c (some x)) u = lvD (some x) := by
  show lvD (decode (dsem x)) = _; rw [decode_dsem]
theorem lev_pos : ∀ k : Fin 62, 1 < lev k := by decide +kernel

end Cert.Gather

end
-- ==== Proof.Steps.lean ====
/-
# The state of a device, and one step of it

What a device holds while it runs is a set of TOKENS, each for one copy or for one share of one half-block:

* `U k`  copy `k` not yet sent: the right to send it and the half-block it will fill;
* `F k`  copy `k` sent, its send cell not yet waited for; `D k`  waited for;
* `W k`  incoming copy `k` not yet waited for; `E k`  waited for;
* `P i k`  share `i` of half-block `k`, holding the gathered array.

A set of tokens is a natural number read in binary, so that a whole run of the kernel (`run`) is a computation on numbers: each
step takes some tokens and puts others. `Does` ties a program to a list of steps, and there is one rule for each kind of step.
-/
module

public import proofs.«01_k».proof.Proof.Common

@[expose] public section

noncomputable section

namespace Cert.Gather

open Cert.KernelIdeal Cert.KernelIdeal.Facts₀

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Sets of tokens as numbers -/

abbrev Tok : Type := Fin 8 × Fin 64
def code (x : Tok) : ℕ := 64 * x.1.val + x.2.val

theorem code_inj {x y : Tok} (h : code x = code y) : x = y := by
  unfold code at h
  have := x.2.isLt; have := y.2.isLt
  exact Prod.ext (Fin.ext (by omega)) (Fin.ext (by omega))

/-- The tokens in the set `A`. -/
def toks (A : ℕ) : Finset Tok := Finset.univ.filter fun x => A.testBit (code x)

theorem mem_toks {A : ℕ} {x : Tok} : x ∈ toks A ↔ A.testBit (code x) = true := by
  unfold toks; rw [Finset.mem_filter]; exact ⟨fun h => h.2, fun h => ⟨Finset.mem_univ x, h⟩⟩

/-- Take token `x` out of the set, if it is there; put it in, if it is not. -/
def take (x A : ℕ) : Option ℕ := if A.testBit x then some (A ^^^ (2 ^ x)) else none
def put (x A : ℕ) : Option ℕ := if A.testBit x then none else some (A ^^^ (2 ^ x))

theorem testBit_flip (A x y : ℕ) : (A ^^^ (2 ^ x)).testBit y = ((A.testBit y) ^^ decide (x = y)) := by
  rw [Nat.testBit_xor, Nat.testBit_two_pow]

theorem put_toks {x : Tok} {A A' : ℕ} (h : put (code x) A = some A') : x ∉ toks A ∧ toks A' = insert x (toks A) := by
  unfold put at h
  cases hb : A.testBit (code x) with
  | true => rw [hb] at h; cases h
  | false =>
    rw [hb] at h; cases h
    refine ⟨fun hx => (by rw [mem_toks, hb] at hx; cases hx), ?_⟩
    refine Finset.ext fun y => ?_
    rw [Finset.mem_insert, mem_toks, mem_toks, testBit_flip]
    by_cases e : x = y
    · subst e; simp [hb]
    · have e' : code x ≠ code y := fun h => e (code_inj h)
      simp [e', Ne.symm e]

theorem take_toks {x : Tok} {A A' : ℕ} (h : take (code x) A = some A') : x ∉ toks A' ∧ toks A = insert x (toks A') := by
  refine put_toks ?_
  unfold take at h
  cases hb : A.testBit (code x) with
  | false => rw [hb] at h; cases h
  | true =>
    rw [hb] at h; cases h
    unfold put
    rw [testBit_flip, hb, Nat.xor_assoc, Nat.xor_self, Nat.xor_zero]
    simp

/-! ## The steps -/

inductive Step where
  | send (k : Fin 62)
  | waitS (k : Fin 62)
  | waitR (k : Fin 62)
  /-- A wait for an incoming copy, made only by the devices with `puts` equal to `b`. -/
  | waitIf (b : Bool) (k : Fin 62)

abbrev cU (k : ℕ) : ℕ := k
abbrev cF (k : ℕ) : ℕ := 64 + k
abbrev cD (k : ℕ) : ℕ := 128 + k
abbrev cW (k : ℕ) : ℕ := 192 + k
abbrev cE (k : ℕ) : ℕ := 256 + k
abbrev cP (i k : ℕ) : ℕ := 64 * (5 + i) + k

/-- Every copy not yet sent lands at a level above `n`. -/
def above (n A : ℕ) : Bool := (List.finRange 62).all fun k => !A.testBit k || Nat.blt n (lev k)

def stepR (k : Fin 62) (A : ℕ) : Option ℕ :=
  if above (lev k) A then
    (take (cW k) A).bind fun A => (put (cE k) A).bind fun A => (put (cP 0 k) A).bind fun A => (put (cP 1 k) A).bind (put (cP 2 k))
  else none

def step (b : Bool) : Step → ℕ → Option ℕ
  | .send k, A => (take (cU k) A).bind fun A => (take (cP (slot k) (srcN b k)) A).bind (put (cF k))
  | .waitS k, A => (take (cF k) A).bind fun A => (put (cD k) A).bind (put (cP (slot k) (srcN b k)))
  | .waitR k, A => stepR k A
  | .waitIf b' k, A => if b = b' then stepR k A else some A

def run (b : Bool) : List Step → ℕ → Option ℕ
  | [], A => some A
  | s :: l, A => (step b s A).bind (run b l)

/-! ## What the tokens are -/

def onCopy (k : Fin 64) (Φ : Fin 62 → sProp 𝕄) : sProp 𝕄 := if h : k.val < 62 then Φ ⟨k.val, h⟩ else iprop(emp)

/-- Copy `k`'s right to be sent: the duties it pays, and its send cell's position. -/
def ready (c : Dev nD) (k : Fin 62) : sProp 𝕄 :=
  iprop(dutyTok ER (sendCell c k) 0 0 ∗ dutyTok ER (recvCell (dst c k) k) 0 0 ∗ atPos ER (sendCell c k) 0 ∅ 0)
def unsent (c : Dev nD) (k : Fin 62) : sProp 𝕄 :=
  iprop(ready c k ∗ ∃ f, regPts fullShare (dst c k) (inc k) f)
def flying (c : Dev nD) (k : Fin 62) : sProp 𝕄 := iprop(cred (tallyAt (sendCell c k) () N) ∗ atPos ER (sendCell c k) 0 ∅ 0)
def sent (c : Dev nD) (k : Fin 62) : sProp 𝕄 := iprop(atPos ER (sendCell c k) 1 ∅ 0)
def awaited (c : Dev nD) (k : Fin 62) : sProp 𝕄 := iprop(cred (tallyAt (recvCell c k) () N) ∗ atPos ER (recvCell c k) 0 ∅ 0)
def arrived (c : Dev nD) (k : Fin 62) : sProp 𝕄 := iprop(atPos ER (recvCell c k) 1 ∅ 0)

def tok (c : Dev nD) : Tok → sProp 𝕄
  | (0, k) => onCopy k (unsent c)
  | (1, k) => onCopy k (flying c)
  | (2, k) => onCopy k (sent c)
  | (3, k) => onCopy k (awaited c)
  | (4, k) => onCopy k (arrived c)
  | (5, k) => regPts (shr 0) c k (gathered m)
  | (6, k) => regPts (shr 1) c k (gathered m)
  | (7, k) => regPts (shr 2) c k (gathered m)

/-- What a token owes: an unsent copy its credit at the receive cell it goes to. -/
def tal (c : Dev nD) (x : Tok) : CellTallies nD τ sig Unit :=
  if h : x.1 = 0 ∧ x.2.val < 62 then tallyAt (recvCell (dst c ⟨x.2.val, h.2⟩) ⟨x.2.val, h.2⟩) () N else 0

def res (c : Dev nD) (A : ℕ) : sProp 𝕄 := bigSep (toks A) (tok m c)
def owed (c : Dev nD) (A : ℕ) : CellTallies nD τ sig Unit := ∑ x ∈ toks A, tal c x

theorem res_put {c : Dev nD} {x : Tok} {A A' : ℕ} (h : put (code x) A = some A') : (res m c A' : sProp 𝕄) = iprop(tok m c x ∗ res m c A) := by
  obtain ⟨h₁, h₂⟩ := put_toks h
  unfold res; rw [h₂, bigSep_insert h₁]; rfl
theorem res_take {c : Dev nD} {x : Tok} {A A' : ℕ} (h : take (code x) A = some A') : (res m c A : sProp 𝕄) = iprop(tok m c x ∗ res m c A') := by
  obtain ⟨h₁, h₂⟩ := take_toks h
  unfold res; rw [h₂, bigSep_insert h₁]; rfl
theorem owed_put {c : Dev nD} {x : Tok} {A A' : ℕ} (h : put (code x) A = some A') (hx : x.1 ≠ 0) : owed c A' = owed c A := by
  obtain ⟨h₁, h₂⟩ := put_toks h
  unfold owed; rw [h₂, Finset.sum_insert h₁, show tal c x = 0 from dif_neg fun h => hx h.1, zero_add]
theorem owed_take {c : Dev nD} {x : Tok} {A A' : ℕ} (h : take (code x) A = some A') (hx : x.1 ≠ 0) : owed c A' = owed c A := by
  obtain ⟨h₁, h₂⟩ := take_toks h
  unfold owed; rw [h₂, Finset.sum_insert h₁, show tal c x = 0 from dif_neg fun h => hx h.1, zero_add]
theorem owed_send {c : Dev nD} {k : Fin 62} {A A' : ℕ} (h : take (code (0, inc k)) A = some A') :
    owed c A = owed c A' + tallyAt (recvCell (dst c k) k) () N := by
  obtain ⟨h₁, h₂⟩ := take_toks h
  unfold owed; rw [h₂, Finset.sum_insert h₁, add_comm]
  congr 1
  exact dif_pos ⟨rfl, k.isLt⟩

/-- What a device owes is owed at receive cells of copies it has not sent. -/
theorem owed_pos {c : Dev nD} {A : ℕ} {g : GSem nD τ sig} {u : Unit} (h : 0 < owed c A g u) :
    ∃ k : Fin 62, A.testBit k ∧ g = recvCell (dst c k) k := by
  unfold owed at h
  rw [Finset.sum_apply, Finsupp.finset_sum_apply] at h
  obtain ⟨x, hx, hpos⟩ := Finset.exists_ne_zero_of_sum_ne_zero h.ne'
  rw [mem_toks] at hx
  unfold tal at hpos
  split at hpos
  · rename_i hk
    refine ⟨⟨x.2.val, hk.2⟩, ?_, ?_⟩
    · have e : code x = x.2.val := by
        have h0 : x.1.val = 0 := congrArg Fin.val hk.1
        unfold code; omega
      rw [← hx, e]
    · rw [tallyAt_apply] at hpos
      by_contra hn
      exact hpos (if_neg fun h' => hn h'.1)
  · exact absurd rfl hpos

/-! ## The state -/

variable (K : Dev nD × CIx → ℕ)

/-- All cells' invariants, under the names `K`, and that each has reached its round. -/
def records : sProp 𝕄 :=
  bigSep Finset.univ fun ck : Dev nD × CIx => iprop(cellInv ER (sched m) (K ck) (kcell ck.1 ck.2) ∗ reached ER (kcell ck.1 ck.2) 0)

instance records_persistent : BI.Persistent (records m K) := by unfold records; infer_instance

theorem records_at (c : Dev nD) (x : CIx) :
    (records m K : sProp 𝕄) ⊢ iprop(cellInv ER (sched m) (K (c, x)) (kcell c x) ∗ reached ER (kcell c x) 0) :=
  bigSep_elim (Finset.mem_univ (c, x))

/-- Device `c` after the entry, with the tokens `A`: besides them the records, the levels, what it owes, its block and the
    barrier cell, both untouched until the end. -/
def St (c : Dev nD) (A : ℕ) : sProp 𝕄 :=
  iprop((records m K ∗ levAts L lv) ∗ (∃ W, owes (c : Thread nD τ) (owed c A) W) ∗ res m c A
    ∗ (((c : Thread nD τ).loc cc0_stg0_0) ↦{fullShare} xstg m c) ∗ atPos ER (barCell c) 1 ∅ 0)

/-- From `P`, program `p` on device `c` ends in `Q`. -/
def Goes {α : Type} (c : Dev nD) (P : sProp 𝕄) (p : Prog (TpuEff nD τ sig (Elt F) Λ₀ .tc) α) (Q : sProp 𝕄) : Prop :=
  P ⊢ wp frame (wpE (defs₀ (F := F)) 𝒱₀ (c : Thread nD τ) none) Set.univ p fun _ => Q

/-- Program `p` makes the steps `l` on device `c`. -/
def Does {α : Type} (c : Dev nD) (l : List Step) (p : Prog (TpuEff nD τ sig (Elt F) Λ₀ .tc) α) : Prop :=
  ∀ A A', run (puts c) l A = some A' → Goes c (St m K c A) p (St m K c A')

end Cert.Gather

end
-- ==== Proof.Rules.lean ====
/-
# The rules of the steps

One rule for each kind of operation of the kernel after the entry handshake: a remote copy makes a `send` step, a wait on a
send cell a `waitS` step, a wait on a receive cell a `waitR` step, a wait that only some devices make a `waitIf` step.
-/
module

public import proofs.«01_k».proof.Proof.Steps

@[expose] public section

noncomputable section

namespace Cert.Gather

open Cert.KernelIdeal Cert.KernelIdeal.Facts₀

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
abbrev Pg (F : FTy → Type) (α : Type) : Type 1 := Prog (TpuEff nD τ sig (Elt F) Λ₀ .tc) α

variable (m : (ℓ : Loc nD τ sig) → Buf (Elt F) ℓ) (K : Dev nD × CIx → ℕ)

/-! ## Programs without an operation -/

section Pure
variable {m K} {c : Dev nD} {l : List Step} {α β γ : Type}

theorem goes_assoc {P Q : sProp 𝕄} {p : Pg F α} {k : α → Pg F β} {k' : β → Pg F γ} (h : Goes c P (p >>= fun x => k x >>= k') Q) :
    Goes c P ((p >>= k) >>= k') Q := by rw [bind_assoc]; exact h
/-- A part of the text that only computes returns some value. -/
theorem goes_value {P Q : sProp 𝕄} {p : Pg F α} {k : α → Pg F β} (hp : ∃ v, p = .ret v) (h : ∀ v, Goes c P (k v) Q) : Goes c P (p >>= k) Q := by
  obtain ⟨v, rfl⟩ := hp; exact h v
/-- The same, remembering the first component. -/
theorem goes_first {P Q : sProp 𝕄} {σ : α → Type} {a : α} {t : σ a} {k : ((a : α) ×' σ a) → Pg F β} (h : ∀ t, Goes c P (k ⟨a, t⟩) Q) :
    Goes c P (pure ⟨a, t⟩ >>= k) Q := by rw [pure_bind]; exact h t
theorem goes_device {P Q : sProp 𝕄} {k : Dev nD → Pg F β} (h : Goes c P (k c) Q) : Goes c P (Prog.lift .deviceId >>= k) Q := by
  unfold Goes at *
  simp only [Prog.lift, Prog.bind_op, Prog.bind_ret, wp_deviceId]
  exact h

theorem does_assoc {p : Pg F α} {k : α → Pg F β} {k' : β → Pg F γ} (h : Does m K c l (p >>= fun x => k x >>= k')) :
    Does m K c l ((p >>= k) >>= k') := fun A A' e => goes_assoc (h A A' e)
theorem does_value {v : α} {k : α → Pg F β} (h : ∀ v, Does m K c l (k v)) : Does m K c l (pure v >>= k) :=
  fun A A' e => goes_value ⟨v, rfl⟩ fun v => h v A A' e
theorem does_first {σ : α → Type} {a : α} {t : σ a} {k : ((a : α) ×' σ a) → Pg F β} (h : ∀ t, Does m K c l (k ⟨a, t⟩)) :
    Does m K c l (pure ⟨a, t⟩ >>= k) := fun A A' e => goes_first fun t => h t A A' e
theorem does_pure {v : α} : Does m K c [] (pure v : Pg F α) := by
  intro A A' e; cases e
  unfold Goes; rw [Prog.pure_eq_ret, wp_ret]
  iintro H; imodintro; iexact H

end Pure

/-! ## Tokens by kind -/

def pk (i : Fin 3) : Fin 8 := match i with | 0 => 5 | 1 => 6 | 2 => 7
theorem code_pk (i : Fin 3) (k : Fin 64) : code (pk i, k) = cP i k := by fin_cases i <;> rfl
theorem pk_ne (i : Fin 3) : pk i ≠ 0 := by fin_cases i <;> decide
theorem tok_pk (c : Dev nD) (i : Fin 3) (k : Fin 64) : (tok m c (pk i, k) : sProp 𝕄) = regPts (shr i) c k (gathered m) := by
  fin_cases i <;> rfl
theorem onCopy_inc (k : Fin 62) (Φ : Fin 62 → sProp 𝕄) : onCopy (inc k) Φ = Φ k := dif_pos k.isLt
theorem code_U (k : Fin 62) : code (0, inc k) = cU k := by simp [code]
theorem code_F (k : Fin 62) : code (1, inc k) = cF k := rfl
theorem code_D (k : Fin 62) : code (2, inc k) = cD k := rfl
theorem code_W (k : Fin 62) : code (3, inc k) = cW k := rfl
theorem code_E (k : Fin 62) : code (4, inc k) = cE k := rfl

variable {m} in
theorem tok_U (c : Dev nD) (k : Fin 62) : (tok m c (0, inc k) : sProp 𝕄) = unsent c k := onCopy_inc k _
variable {m} in
theorem tok_F (c : Dev nD) (k : Fin 62) : (tok m c (1, inc k) : sProp 𝕄) = flying c k := onCopy_inc k _
variable {m} in
theorem tok_D (c : Dev nD) (k : Fin 62) : (tok m c (2, inc k) : sProp 𝕄) = sent c k := onCopy_inc k _
variable {m} in
theorem tok_W (c : Dev nD) (k : Fin 62) : (tok m c (3, inc k) : sProp 𝕄) = awaited c k := onCopy_inc k _
variable {m} in
theorem tok_E (c : Dev nD) (k : Fin 62) : (tok m c (4, inc k) : sProp 𝕄) = arrived c k := onCopy_inc k _

/-! ## Sending -/

/-- Rewriting a view of a buffer with what the same view reads of `g` gives `g` there. -/
theorem write_read_self {v : View sig .tc .vmem S128x256 .bf16} (f g : v.ty.Contents (Elt F)) {i : v.ty.Idx} (h : i ∈ v.set) :
    v.write (Elt F) f (v.read (Elt F) g) Finset.univ i = g i := by
  obtain ⟨j, -, rfl⟩ := Finset.mem_map.mp h
  rw [View.write_emb_of_mem (v := v) (Val := Elt F) f _ (Finset.mem_univ j), View.read_apply, cast_cast, cast_eq]

abbrev half (n : ℕ) (inb : ∀ a, (![n, 0] : Fin 2 → ℕ) a + S128x256.size a ≤ S8192x256.size a) : Memref sig .tc .vmem S128x256 .bf16 :=
  oM.slice (Rect.unit (s := S8192x256) ![n, 0] S128x256.size inb) (fun _ => rfl)

theorem half_pts (q : PosShare TreeShare) (c : Dev nD) (k : Fin 64) (inb) (f : (cc0_stg1_0 : Ref sig .tc).ty.Contents (Elt F)) :
    (((half (row c k) inb).view.loc (c : Thread nD τ)) ↦[(half (row c k) inb).view.set]{q} f : sProp 𝕄) = regPts q c k f := by
  unfold regPts
  rw [show (half (row c k) inb).view.set = rowsFrom (row c k) from slice_set _ inb]

theorem half_amount (n : ℕ) (inb) (q : DmaSem sig) : (half n inb).view.amount (.dma q) = N := rfl
theorem half_credit (n : ℕ) (inb) : (half n inb).view.dmaCredit = N := rfl

theorem wp_send_half (c : Dev nD) (k : Fin 62) (inb inb')
    {hsc : (half (row c (src (puts c) k)) inb').view.ref.isScScratch = false}
    {hsrc : (half (row c (src (puts c) k)) inb).view.WordExact} {hdst : (half (row c (src (puts c) k)) inb').view.WordExact}
    {hsem : DmaTarget.Typed .vmem (.dma (dsem (true, k))) (.remote (Dev.tc (dst c k) : Thread nD τ) (half (row c (src (puts c) k)) inb') (.dma (dsem (false, k))) hsc)}
    {α : Type} {Q : α → sProp 𝕄} {p : PUnit → Pg F α} (O : CellTallies nD τ sig Unit) (W : Waits sig Unit) (f : (cc0_stg1_0 : Ref sig .tc).ty.Contents (Elt F)) :
    iprop(cellInv ER (sched m) (K (c, some (false, k))) (sendCell c k) ∗ cellInv ER (sched m) (K (dst c k, some (true, k))) (recvCell (dst c k) k)
        ∗ regPts (shr (slot k)) c (src (puts c) k) (gathered m) ∗ regPts fullShare (dst c k) (inc k) f
        ∗ owes (c : Thread nD τ) (O + tallyAt (recvCell (dst c k) k) () N) W
        ∗ dutyTok ER (sendCell c k) 0 0 ∗ reached ER (sendCell c k) 0
        ∗ dutyTok ER (recvCell (dst c k) k) 0 0 ∗ reached ER (recvCell (dst c k) k) 0)
      ⊢ iprop(((cred (tallyAt (sendCell c k) () N) ∗ owes (c : Thread nD τ) O W) -∗ wp frame (wpE (defs₀ (F := F)) 𝒱₀ (c : Thread nD τ) none) Set.univ (p ⟨⟩) Q)
          -∗ wp frame (wpE (defs₀ (F := F)) 𝒱₀ (c : Thread nD τ) none) Set.univ
              (.op (.enqueueDma (half (row c (src (puts c) k)) inb) (.remote (Dev.tc (dst c k) : Thread nD τ) (half (row c (src (puts c) k)) inb') (.dma (dsem (false, k))) hsc)
                (.dma (dsem (true, k))) hsrc hdst hsem) p) Q) := by
  have e := half_pts (F := F) fullShare (dst c k) (inc k)
  rw [row_dst] at e
  rw [← half_pts _ c _ inb, ← e inb']
  have hd₁ : (0 : Fin 3) ∈ (sched (F := F) m).duties (sendCell c k) 0 := by rw [duties_dma]; exact Finset.mem_singleton_self _
  have hd₂ : (0 : Fin 3) ∈ (sched (F := F) m).duties (recvCell (dst c k) k) 0 := by rw [duties_dma]; exact Finset.mem_singleton_self _
  have hr : τ.routes (c : Thread nD τ) (dst c k : Thread nD τ) = true := by routes
  have hp₁ : ((half (row c (src (puts c) k)) inb).view.loc (c : Thread nD τ) ↦[(half (row c (src (puts c) k)) inb).view.set]{shr (slot k)} gathered m : sProp 𝕄)
      ⊢ (sched (F := F) m).payload (sendCell c k) 0 0 := by rw [payload_send]; unfold sendPay; rw [half_pts]
  have hp₂ : ((half (row c (src (puts c) k)) inb').view.loc (dst c k : Thread nD τ) ↦[(half (row c (src (puts c) k)) inb').view.set]{fullShare}
      ((half (row c (src (puts c) k)) inb').view.write (Elt F) f ((half (row c (src (puts c) k)) inb).view.read (Elt F) (gathered m)) Finset.univ) : sProp 𝕄)
      ⊢ (sched (F := F) m).payload (recvCell (dst c k) k) 0 0 := by
      rw [payload_recv]; unfold recvPay; rw [← e inb']
      exact Entails.of_eq (pointsTo_congr fun i hi => write_read_self _ _ hi)
  exact Rounds.wp_send_pointsTo (c' := (dst c k : Thread nD τ)) (src := half (row c (src (puts c) k)) inb) (dst := half (row c (src (puts c) k)) inb')
    (sS := .dma (dsem (false, k))) (sem := .dma (dsem (true, k))) 𝒱₀ ER (sched m) (c : Thread nD τ) none (κ₁ := K (c, some (false, k))) (κ₂ := K (dst c k, some (true, k)))
    (r₁ := 0) (r₂ := 0) (d₁ := 0) (d₂ := 0) (fd := f) hd₁ hd₂ () () N (half_amount _ _ _) (amount_dma m c (false, k) 0) (amount_dma m (dst c k) (true, k) 0) O rfl (W := W) hp₁ hp₂ hr

theorem does_send {c : Dev nD} {l : List Step} {k : Fin 62} {n : Dev nD} {off : Fin 2 → ℕ} {inb inb'} {s₁ s₂ : DmaSem sig}
    {hsc : ((oM.slice (Rect.unit (s := S8192x256) off S128x256.size inb') (fun _ => rfl) : Memref sig .tc .vmem S128x256 .bf16)).view.ref.isScScratch = false}
    {hsrc : ((oM.slice (Rect.unit (s := S8192x256) off S128x256.size inb) (fun _ => rfl) : Memref sig .tc .vmem S128x256 .bf16)).view.WordExact}
    {hdst : ((oM.slice (Rect.unit (s := S8192x256) off S128x256.size inb') (fun _ => rfl) : Memref sig .tc .vmem S128x256 .bf16)).view.WordExact}
    {hsem : DmaTarget.Typed .vmem (.dma s₂) (.remote (Dev.tc n : Thread nD τ) (oM.slice (Rect.unit (s := S8192x256) off S128x256.size inb') (fun _ => rfl) : Memref sig .tc .vmem S128x256 .bf16) (.dma s₁) hsc)}
    {α : Type} {p : PUnit → Pg F α}
    (hn : n = dst c k) (hoff : off = ![row c (src (puts c) k), 0]) (h₁ : s₁ = dsem (false, k)) (h₂ : s₂ = dsem (true, k))
    (h : Does m K c l (p ⟨⟩)) :
    Does m K c (.send k :: l) (Prog.lift (.enqueueDma (oM.slice (Rect.unit (s := S8192x256) off S128x256.size inb) (fun _ => rfl))
      (.remote (Dev.tc n : Thread nD τ) (oM.slice (Rect.unit (s := S8192x256) off S128x256.size inb') (fun _ => rfl)) (.dma s₁) hsc) (.dma s₂) hsrc hdst hsem) >>= p) := by
  subst hn hoff h₁ h₂
  intro A A' e
  obtain ⟨A₃, e₀, e₄⟩ := Option.bind_eq_some_iff.mp e
  obtain ⟨A₁, e₁, e₀⟩ := Option.bind_eq_some_iff.mp e₀
  obtain ⟨A₂, e₂, e₃⟩ := Option.bind_eq_some_iff.mp e₀
  have f₁ := e₁
  rw [← code_U] at e₁
  rw [show cP (slot k) (srcN (puts c) k) = code (pk (slot k), src (puts c) k) from (code_pk (slot k) (src (puts c) k)).symm] at e₂
  rw [← code_F] at e₃
  have hA : owed c A₃ = owed c A₁ := (owed_put e₃ (by decide : (1 : Fin 8) ≠ 0)).trans (owed_take e₂ (pk_ne _))
  have hk := h A₃ A' e₄
  unfold Goes at *
  simp only [Prog.lift, Prog.bind_op, Prog.bind_ret]
  unfold St at *
  rw [res_put m e₃, hA, tok_F] at hk
  rw [res_take m e₁, res_take m e₂, owed_send e₁, tok_U, tok_pk]
  unfold unsent ready
  unfold flying at hk
  iintro ⟨⟨#HR, #Hlev⟩, ⟨%W, HO⟩, ⟨⟨⟨HtS, HtR, HatS⟩, ⟨%f, Hd⟩⟩, Hs, Hres⟩, Hrest⟩
  ihave H₁ := (records_at m K c (some (false, k))) $$ HR
  ihave H₂ := (records_at m K (dst c k) (some (true, k))) $$ HR
  icases H₁ with ⟨#Hc₁, #Hr₁⟩
  icases H₂ with ⟨#Hc₂, #Hr₂⟩
  iapply (wp_send_half m K c k inb inb' (owed c A₁) W f) $$ [Hs Hd HO HtS HtR]
  · isplitr; · iexact Hc₁
    isplitr; · iexact Hc₂
    isplitl [Hs]; · iexact Hs
    isplitl [Hd]; · iexact Hd
    isplitl [HO]; · iexact HO
    isplitl [HtS]; · iexact HtS
    isplitr; · iexact Hr₁
    isplitl [HtR]; · iexact HtR
    iexact Hr₂
  iintro ⟨HcS, HO⟩
  iapply hk
  isplitr
  · isplitr <;> iassumption
  isplitl [HO]; · iexists W; iexact HO
  isplitr [Hrest]
  · isplitr [Hres]
    · isplitl [HcS] <;> iassumption
    iexact Hres
  iexact Hrest

/-! ## Waiting -/

/-- A device may wait for its incoming copy `k` if every copy it still owes lands at a higher level. -/
theorem mayWait_recv {c : Dev nD} {k : Fin 62} {A : ℕ} (h : above (lev k) A = true) :
    (levAts L lv : sProp 𝕄) ⊢ MayWait (c : Thread nD τ) (.dma (dsem (true, k))) () (owed c A) :=
  MayOwe.of_cut (L := L) (lev := lv) (lev k) (fun p hp => by rw [Finset.mem_singleton.mp hp, L_tc]; exact Finset.mem_singleton_self _)
    (fun g u hg => by obtain ⟨j, -, rfl⟩ := owed_pos hg; exact Finset.mem_singleton_self _)
    (fun p hp => by rw [Finset.mem_singleton.mp hp]; exact le_of_eq (lv_dma c (true, k) ()))
    (fun g u hg => by
      obtain ⟨j, hj, rfl⟩ := owed_pos hg
      rw [lv_dma]
      have := List.all_eq_true.mp h j (List.mem_finRange j)
      rw [hj] at this
      have := Nat.blt_eq.mp (by simpa using this : Nat.blt (lev k) (lev j) = true)
      exact this)
theorem mayWait_send {c : Dev nD} {k : Fin 62} {A : ℕ} :
    (levAts L lv : sProp 𝕄) ⊢ MayWait (c : Thread nD τ) (.dma (dsem (false, k))) () (owed c A) :=
  MayOwe.of_cut (L := L) (lev := lv) 0 (fun p hp => by rw [Finset.mem_singleton.mp hp, L_tc]; exact Finset.mem_singleton_self _)
    (fun g u hg => by obtain ⟨j, -, rfl⟩ := owed_pos hg; exact Finset.mem_singleton_self _)
    (fun p hp => by rw [Finset.mem_singleton.mp hp]; exact le_of_eq (lv_dma c (false, k) ()))
    (fun g u hg => by
      obtain ⟨j, hj, rfl⟩ := owed_pos hg
      rw [lv_dma]
      exact Nat.lt_of_succ_lt (lev_pos j))

section Waits
variable {c : Dev nD} {l : List Step} {k : Fin 62} {s : DmaSem sig} {sr ds : Memref sig .tc .vmem S128x256 .bf16}
  {hsrc : sr.view.WordExact} {hdst : ds.view.WordExact}
  {α : Type} {p : PUnit → Pg F α}

theorem wp_wait_half (x : DIx) (hs : s = dsem x) (O : CellTallies nD τ sig Unit) (W : Waits sig Unit) {Q : α → sProp 𝕄} :
    iprop(cellInv ER (sched m) (K (c, some x)) (kcell c (some x)) ∗ cred (tallyAt (kcell c (some x)) () N) ∗ owes (c : Thread nD τ) O W
        ∗ MayWait (c : Thread nD τ) (.dma (dsem x)) () O ∗ atPos ER (kcell c (some x)) 0 ∅ 0)
      ⊢ iprop(((owes (c : Thread nD τ) O (insert (.dma (dsem x), ()) W) ∗ atPos ER (kcell c (some x)) 1 ∅ 0 ∗ reached ER (kcell c (some x)) 1
              ∗ bigSep ((sched (F := F) m).duties (kcell c (some x)) 0 \ ∅) (fun d => (sched (F := F) m).payload (kcell c (some x)) 0 d))
            -∗ wp frame (wpE (defs₀ (F := F)) 𝒱₀ (c : Thread nD τ) none) Set.univ (p ⟨⟩) Q)
          -∗ wp frame (wpE (defs₀ (F := F)) 𝒱₀ (c : Thread nD τ) none) Set.univ
            (.op (.waitDma2 s sr
              ds hsrc hdst) p) Q) := by
  subst hs
  exact Rounds.wp_wait_rest_token 𝒱₀ ER (sched m) (c : Thread nD τ) none (κ := K (c, some x)) (sm := .dma (dsem x)) (k' := N)
    (fun Kt => wpE_waitDma2_eq 𝒱₀ (c : Thread nD τ) none Set.univ (hsrc := hsrc) (hdst := hdst) Kt) (Set.mem_univ _) () (O := O) (W := W) (R := 0) (m := 0) (T := ∅)
    ((Nat.zero_add N).trans (expect_dma m c x).symm)

theorem goes_recv {A A' : ℕ} {Q : sProp 𝕄} (hs : s = dsem (true, k)) (e : stepR k A = some A') (h : Goes c (St m K c A') (p ⟨⟩) Q) :
    Goes c (St m K c A) (Prog.lift (.waitDma2 s sr
      ds hsrc hdst) >>= p) Q := by
  unfold stepR at e
  split at e
  · rename_i hlow
    obtain ⟨A₁, e₁, e⟩ := Option.bind_eq_some_iff.mp e
    obtain ⟨A₂, e₂, e⟩ := Option.bind_eq_some_iff.mp e
    obtain ⟨A₃, e₃, e⟩ := Option.bind_eq_some_iff.mp e
    obtain ⟨A₄, e₄, e₅⟩ := Option.bind_eq_some_iff.mp e
    rw [← code_W] at e₁
    rw [← code_E] at e₂
    rw [show cP 0 k = code (pk 0, inc k) from (code_pk 0 (inc k)).symm] at e₃
    rw [show cP 1 k = code (pk 1, inc k) from (code_pk 1 (inc k)).symm] at e₄
    rw [show cP 2 k = code (pk 2, inc k) from (code_pk 2 (inc k)).symm] at e₅
    have hA : owed c A' = owed c A := (owed_put e₅ (pk_ne 2)).trans ((owed_put e₄ (pk_ne 1)).trans ((owed_put e₃ (pk_ne 0)).trans
      ((owed_put e₂ (by decide : (4 : Fin 8) ≠ 0)).trans (owed_take e₁ (by decide : (3 : Fin 8) ≠ 0)))))
    unfold Goes at *
    simp only [Prog.lift, Prog.bind_op, Prog.bind_ret]
    unfold St at *
    rw [res_put m e₅, res_put m e₄, res_put m e₃, res_put m e₂, hA, tok_pk, tok_pk, tok_pk, tok_E] at h
    rw [res_take m e₁, tok_W]
    unfold awaited
    unfold arrived at h
    iintro ⟨⟨#HR, #Hlev⟩, ⟨%W, HO⟩, ⟨⟨Hcr, Hat⟩, Hres⟩, Hrest⟩
    ihave H₁ := (records_at m K c (some (true, k))) $$ HR
    icases H₁ with ⟨#Hc₁, -⟩
    iapply (wp_wait_half m K (true, k) hs (owed c A) W) $$ [Hcr HO Hat]
    · isplitr; · iexact Hc₁
      isplitl [Hcr]; · iexact Hcr
      isplitl [HO]; · iexact HO
      isplitr; · iapply (mayWait_recv hlow); iexact Hlev
      iexact Hat
    iintro ⟨HO, Hat, -, Hpay⟩
    ihave Hp := (Entails.of_eq (rest_recv m c k)) $$ Hpay
    unfold recvPay
    ihave Hq := (regPts_shares c (inc k) (gathered m)).1 $$ Hp
    icases Hq with ⟨H₀, H₁, H₂⟩
    iapply h
    isplitr
    · isplitr <;> iassumption
    isplitl [HO]; · iexists _; iexact HO
    isplitr [Hrest]
    · isplitl [H₂]; · iexact H₂
      isplitl [H₁]; · iexact H₁
      isplitl [H₀]; · iexact H₀
      isplitl [Hat] <;> iassumption
    iexact Hrest
  · cases e

theorem does_waitR (hs : s = dsem (true, k)) (h : Does m K c l (p ⟨⟩)) :
    Does m K c (.waitR k :: l) (Prog.lift (.waitDma2 s sr
      ds hsrc hdst) >>= p) := by
  intro A A' e
  obtain ⟨A₁, e₁, e⟩ := Option.bind_eq_some_iff.mp e
  exact goes_recv m K hs e₁ (h A₁ A' e)

theorem does_waitS (hs : s = dsem (false, k)) (h : Does m K c l (p ⟨⟩)) :
    Does m K c (.waitS k :: l) (Prog.lift (.waitDma2 s sr
      ds hsrc hdst) >>= p) := by
  intro A A' e
  obtain ⟨A₃, e₀, e₄⟩ := Option.bind_eq_some_iff.mp e
  obtain ⟨A₁, e₁, e₀⟩ := Option.bind_eq_some_iff.mp e₀
  obtain ⟨A₂, e₂, e₃⟩ := Option.bind_eq_some_iff.mp e₀
  rw [← code_F] at e₁
  rw [← code_D] at e₂
  rw [show cP (slot k) (srcN (puts c) k) = code (pk (slot k), src (puts c) k) from (code_pk (slot k) (src (puts c) k)).symm] at e₃
  have hA : owed c A₃ = owed c A := (owed_put e₃ (pk_ne _)).trans ((owed_put e₂ (by decide : (2 : Fin 8) ≠ 0)).trans (owed_take e₁ (by decide : (1 : Fin 8) ≠ 0)))
  have hk := h A₃ A' e₄
  unfold Goes at *
  simp only [Prog.lift, Prog.bind_op, Prog.bind_ret]
  unfold St at *
  rw [res_put m e₃, res_put m e₂, hA, tok_pk, tok_D] at hk
  rw [res_take m e₁, tok_F]
  unfold flying
  unfold sent at hk
  iintro ⟨⟨#HR, #Hlev⟩, ⟨%W, HO⟩, ⟨⟨Hcr, Hat⟩, Hres⟩, Hrest⟩
  ihave H₁ := (records_at m K c (some (false, k))) $$ HR
  icases H₁ with ⟨#Hc₁, -⟩
  iapply (wp_wait_half m K (false, k) hs (owed c A) W) $$ [Hcr HO Hat]
  · isplitr; · iexact Hc₁
    isplitl [Hcr]; · iexact Hcr
    isplitl [HO]; · iexact HO
    isplitr; · iapply mayWait_send; iexact Hlev
    iexact Hat
  iintro ⟨HO, Hat, -, Hpay⟩
  ihave Hp := (Entails.of_eq (rest_send m c k)) $$ Hpay
  unfold sendPay
  iapply hk
  isplitr
  · isplitr <;> iassumption
  isplitl [HO]; · iexists _; iexact HO
  isplitr [Hrest]
  · isplitl [Hp]; · iexact Hp
    isplitl [Hat] <;> iassumption
  iexact Hrest

end Waits

/-- A wait made only where `puts` is `b`. -/
theorem does_waitIf {c : Dev nD} {l : List Step} {k : Fin 62} {b : Bool} {x : BitVec 1} {dec : Decidable (x = 1#1)}
    {α β : Type} {w : x = 1#1 → Pg F α} {r : Pg F α} {p : α → Pg F β} (hx : (x == 1#1) = (puts c == b))
    (hw : ∀ h, ∃ sr ds : Memref sig .tc .vmem S128x256 .bf16, ∃ hsrc hdst,
      w h = (Prog.lift (.waitDma2 (dsem (true, k)) sr ds hsrc hdst) >>= fun _ => r))
    (h : Does m K c l (r >>= p)) :
    Does m K c (.waitIf b k :: l) ((@dite _ (x = 1#1) dec w (fun _ => r)) >>= p) := by
  intro A A' e
  obtain ⟨A₁, e₁, e⟩ := Option.bind_eq_some_iff.mp e
  change (if puts c = b then stepR k A else some A) = some A₁ at e₁
  by_cases hx' : x = 1#1
  · rw [dif_pos hx']
    have hb : puts c = b := by
      rw [beq_iff_eq.mpr hx'] at hx
      exact eq_of_beq hx.symm
    rw [if_pos hb] at e₁
    obtain ⟨sr, ds, hsrc, hdst, e₂⟩ := hw hx'
    rw [e₂]
    exact goes_assoc (goes_recv m K rfl e₁ (h A₁ A' e))
  · rw [dif_neg hx']
    have hb : ¬ puts c = b := fun hb => by
      rw [hb, beq_self_eq_true] at hx
      exact hx' (eq_of_beq hx)
    rw [if_neg hb] at e₁
    cases e₁
    exact h A A' e

end Cert.Gather

end
-- ==== Proof.Pieces.lean ====
/-
# The pieces at the start and at the end

The token sets a device starts and ends with, spelt out; and the result buffer cut into its sixty-four half-blocks: the own block,
which the device fills itself, and the half-blocks that it hands to its three peers on entry.
-/
module

public import proofs.«01_k».proof.Proof.Rules
public import Idealize.ShloMosaic.Lib.Pipeline.Value

@[expose] public section

noncomputable section

namespace Cert.Gather

open Cert.KernelIdeal Cert.KernelIdeal.Facts₀

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## The token sets -/

/-- The tokens after the entry: no copy sent, none received, the own block in place. -/
def tok₀ : ℕ := (2 ^ 62 - 1) + 2 ^ 192 * (2 ^ 62 - 1) + 3 * 2 ^ 62 * (2 ^ 320 + 2 ^ 384 + 2 ^ 448)
/-- The tokens at the end: all copies waited for on both sides, every half-block in place. -/
def tok₁ : ℕ := 2 ^ 128 * (2 ^ 62 - 1) + 2 ^ 256 * (2 ^ 62 - 1) + (2 ^ 64 - 1) * (2 ^ 320 + 2 ^ 384 + 2 ^ 448)

theorem inc_inj : Function.Injective inc := fun a b h => Fin.ext (congrArg (fun x : Fin 64 => x.val) h)
def incEmb : Fin 62 ↪ Fin 64 := ⟨inc, inc_inj⟩
def kindEmb (i : Fin 8) : Fin 62 ↪ Tok := ⟨fun k => (i, inc k), fun a b h => inc_inj (congrArg (fun x : Tok => x.2) h)⟩
theorem pk_inj : Function.Injective pk := by decide
def shareEmb : Fin 3 × Fin 64 ↪ Tok := ⟨fun x => (pk x.1, x.2), fun a b h => Prod.ext (pk_inj (congrArg (fun x : Tok => x.1) h)) (congrArg (fun x : Tok => x.2) h)⟩
/-- All shares of the half-blocks in `s`. -/
def shares (s : Finset (Fin 64)) : Finset Tok := (Finset.univ.filter fun x : Fin 3 × Fin 64 => x.2 ∈ s).map shareEmb

/-- The numbers of the own block. -/
def ownNums : Finset (Fin 64) := {62, 63}

theorem toks₀ : toks tok₀ = (Finset.univ.map (kindEmb 0) ∪ Finset.univ.map (kindEmb 3)) ∪ shares ownNums := by decide +kernel
theorem toks₁ : toks tok₁ = (Finset.univ.map (kindEmb 2) ∪ Finset.univ.map (kindEmb 4)) ∪ shares Finset.univ := by decide +kernel

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

/-- The three shares of each half-block in `s` are these half-blocks. -/
theorem bigSep_shares (s : Finset (Fin 64)) :
    (bigSep (shares s) (tok m c) : sProp 𝕄) = bigSep s fun k => regPts fullShare c k (gathered m) := by
  unfold shares
  rw [bigSep_map, bigSep_filter, bigSep_univ_prod, bigSep_univ_comm, show s = Finset.univ.filter (· ∈ s) by simp, bigSep_filter]
  refine bigSep_congr fun k _ => ?_
  by_cases h : k ∈ s
  · simp only [Finset.mem_filter, Finset.mem_univ, _root_.true_and, h, if_true]
    rw [bigSep_fin3, BI.equiv_iff.mp ⟨(regPts_shares c k (gathered m)).1, (regPts_shares c k (gathered m)).2⟩]
    show iprop(tok m c (pk 0, k) ∗ tok m c (pk 1, k) ∗ tok m c (pk 2, k)) = _
    rw [tok_pk, tok_pk, tok_pk]
  · simp only [Finset.mem_filter, Finset.mem_univ, _root_.true_and, h, if_false]
    exact bigSep_emp_const _

theorem res₀ : (res m c tok₀ : sProp 𝕄)
    = iprop((bigSep Finset.univ (unsent c) ∗ bigSep Finset.univ (awaited c)) ∗ bigSep ownNums fun k => regPts fullShare c k (gathered m)) := by
  have h₁ : Disjoint (Finset.univ.map (kindEmb 0)) (Finset.univ.map (kindEmb 3)) := by decide +kernel
  have h₂ : Disjoint (Finset.univ.map (kindEmb 0) ∪ Finset.univ.map (kindEmb 3)) (shares ownNums) := by decide +kernel
  unfold res
  rw [toks₀, bigSep_union h₂, bigSep_union h₁, bigSep_map, bigSep_map, bigSep_shares]
  exact congrArg (fun X : sProp 𝕄 => iprop(X ∗ _)) (congrArg₂ (fun X Y : sProp 𝕄 => iprop(X ∗ Y)) (bigSep_congr fun k _ => tok_U c k) (bigSep_congr fun k _ => tok_W c k))

theorem res₁ : (res m c tok₁ : sProp 𝕄)
    = iprop((bigSep Finset.univ (sent c) ∗ bigSep Finset.univ (arrived c)) ∗ bigSep Finset.univ fun k => regPts fullShare c k (gathered m)) := by
  have h₁ : Disjoint (Finset.univ.map (kindEmb 2)) (Finset.univ.map (kindEmb 4)) := by decide +kernel
  have h₂ : Disjoint (Finset.univ.map (kindEmb 2) ∪ Finset.univ.map (kindEmb 4)) (shares Finset.univ) := by decide +kernel
  unfold res
  rw [toks₁, bigSep_union h₂, bigSep_union h₁, bigSep_map, bigSep_map, bigSep_shares]
  exact congrArg (fun X : sProp 𝕄 => iprop(X ∗ _)) (congrArg₂ (fun X Y : sProp 𝕄 => iprop(X ∗ Y)) (bigSep_congr fun k _ => tok_D c k) (bigSep_congr fun k _ => tok_E c k))

/-! ## The result buffer in half-blocks -/

/-- The whole buffer is its sixty-four half-blocks. -/
theorem buffer_cut (f : (cc0_stg1_0 : Ref sig .tc).ty.Contents (Elt F)) :
    (((c : Thread nD τ).loc cc0_stg1_0) ↦{fullShare} f : sProp 𝕄) = bigSep Finset.univ fun k => regPts fullShare c k f := by
  have h := pointsTo_biUnion (nD := nD) (τ := τ) (sig := sig) (Ix := Unit) (Name := ℕ) (U := UU) (Lvl := ℕ) (Val := Elt F)
    (ℓ := (c : Thread nD τ).loc cc0_stg1_0) (q := fullShare) (f := f) Finset.univ (fun k : Fin 64 => rowsFrom (row c k))
    (fun k _ k' _ h => rows_disjoint c k k' h)
  rw [rows_cover c] at h
  exact h

/-- The rows of the own block. -/
def ownRows : Finset S8192x256.Idx := rowsFrom (row c 62) ∪ rowsFrom (row c 63)

omit [FloatOps F] in
theorem own_cut (f : (cc0_stg1_0 : Ref sig .tc).ty.Contents (Elt F)) :
    (bigSep ownNums (fun k => regPts fullShare c k f) : sProp 𝕄) = (((c : Thread nD τ).loc cc0_stg1_0) ↦[ownRows c]{fullShare} f) := by
  unfold ownNums ownRows
  rw [bigSep_insert (by decide), bigSep_singleton]
  have h := pointsTo_union (nD := nD) (τ := τ) (sig := sig) (Ix := Unit) (Name := ℕ) (U := UU) (Lvl := ℕ) (Val := Elt F)
    (ℓ := (c : Thread nD τ).loc cc0_stg1_0) (q := fullShare) (f := f) (rows_disjoint c 62 63 (by decide))
  exact (BI.equiv_iff.mp ⟨h.1, h.2⟩).symm

theorem nums_cut : (Finset.univ : Finset (Fin 64)) = Finset.univ.map incEmb ∪ ownNums := by decide +kernel
theorem nums_disjoint : Disjoint (Finset.univ.map incEmb) ownNums := by decide +kernel

/-- On entry the buffer is cut into the own block and what the three peers are handed. -/
theorem buffer_hand (f : (cc0_stg1_0 : Ref sig .tc).ty.Contents (Elt F)) :
    (((c : Thread nD τ).loc cc0_stg1_0) ↦{fullShare} f : sProp 𝕄)
      ⊢ iprop((bigSep Finset.univ fun d : Fin 3 => barPay (peerOf c d) d) ∗ (((c : Thread nD τ).loc cc0_stg1_0) ↦[ownRows c]{fullShare} f)) := by
  rw [buffer_cut, nums_cut, bigSep_union nums_disjoint, own_cut, bigSep_map, ← by_side]
  refine sep_mono_left (bigSep_mono fun d _ => ?_)
  unfold barPay
  refine bigSep_mono fun k hk => ?_
  have e : dst (peerOf c d) k = c := by
    rw [dst_eq_peer, (Finset.mem_filter.mp hk).2, peer_peerOf]
  rw [e]
  have h : (regPts fullShare c (inc k) f : sProp 𝕄) ⊢ iprop(∃ f, regPts fullShare c (inc k) f) := by
    iintro H; iexists f; iexact H
  exact h

/-! ## The own block stored -/

abbrev ownRect (off : Fin 2 → ℕ) (inb : ∀ a, off a + S256x256.size a ≤ S8192x256.size a) : Rect S8192x256 :=
  Rect.unit (s := S8192x256) off S256x256.size inb
abbrev ownView (off : Fin 2 → ℕ) (inb : ∀ a, off a + S256x256.size a ≤ S8192x256.size a) : View sig .tc .vmem S256x256 .bf16 := (oM : Memref sig .tc .vmem S8192x256 .bf16).access (ownRect off inb)

theorem row_own : ∀ c : Dev nD, row c 62 = 256 * c.val ∧ row c 63 = 256 * c.val + 128 := by decide +kernel

theorem own_set {off : Fin 2 → ℕ} (inb) (h : off = ![row c 62, 0]) : (ownView off inb).set = ownRows c := by
  subst h
  refine Finset.ext fun i => ValueKit.mem_set_slice_whole_iff cc0_stg1_0 _ i ((Rect.mem_set_unit (s := S8192x256)).trans ?_)
  unfold ownRows
  rw [Finset.mem_union, mem_rowsFrom, mem_rowsFrom, ValueKit.forall_fin_iff_conj, (row_own c).1, (row_own c).2]
  have h1 : (i 1).val < 256 := (i 1).isLt
  show (256 * c.val ≤ (i 0).val ∧ (i 0).val < 256 * c.val + 256) ∧ (0 ≤ (i 1).val ∧ (i 1).val < 0 + 256) ↔ _
  omega

/-- Storing the own block makes its rows those of the gathered array. -/
theorem own_stored {off : Fin 2 → ℕ} (inb) (h : off = ![row c 62, 0]) (f : (cc0_stg1_0 : Ref sig .tc).ty.Contents (Elt F)) {i : S8192x256.Idx}
    (hi : i ∈ ownRows c) : (ownView off inb).write (Elt F) f (xstg m c) Finset.univ i = gathered m i := by
  rw [← own_set c inb h] at hi
  subst h
  obtain ⟨j, -, rfl⟩ := Finset.mem_map.mp hi
  rw [View.write_emb_of_mem (v := ownView _ inb) (Val := Elt F) f _ (Finset.mem_univ j)]
  have e : ∀ a, (((ownView _ inb).emb j a : Fin _) : ℕ) = (![row c 62, 0] : Fin 2 → ℕ) a + (j a).val :=
    fun a => ValueKit.view_emb_slice_whole_unit_val cc0_stg1_0 _ _ inb j a
  have e0 := e 0
  have e1 := e 1
  have hj0 : (j 0).val < 256 := (j 0).isLt
  have r := (row_own c).1
  change _ = row c 62 + (j 0).val at e0
  change _ = 0 + (j 1).val at e1
  replace e0 := e0.trans (congrArg (· + (j 0).val) r)
  dsimp only at e0
  unfold gathered
  have h₁ : ownerOf ((ownView _ inb).emb j) = c := by
    refine Fin.ext ?_
    show _ / 256 = c.val
    rw [e0]; omega
  have h₂ : inBlock ((ownView _ inb).emb j) = j := by
    funext a
    match a with
    | ⟨0, _⟩ => refine Fin.ext ?_; show _ % 256 = (j 0).val; rw [e0]; omega
    | ⟨1, _⟩ => refine Fin.ext ?_; show (((ownView _ inb).emb j 1 : Fin _) : ℕ) = (j 1).val; rw [e1, Nat.zero_add]
  rw [h₁, h₂]
  rfl

end Cert.Gather

end
-- ==== Proof.Entry.lean ====
/-
# The entry

A device first tells its three peers, over their barrier cells, that they may write to it, handing each the half-blocks its copies
will fill; it waits for the same from all three; and it puts its own block in place.
-/
module

public import proofs.«01_k».proof.Proof.Pieces

@[expose] public section

noncomputable section

namespace Cert.Gather

open Cert.KernelIdeal Cert.KernelIdeal.Facts₀

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CIx → ℕ) (c : Dev nD)

/-- What a device owes when it starts: every copy it will send, and one unit to each peer's barrier cell. -/
def O₀ : CellTallies nD τ sig Unit :=
  owed c tok₀ + tallyAt (barCell (peerOf c 2)) () 1 + tallyAt (barCell (peerOf c 1)) () 1 + tallyAt (barCell (peerOf c 0)) () 1

/-- What a device starts from besides its two staging buffers and what it owes. -/
def ghost : sProp 𝕄 :=
  iprop(records m K ∗ atPos ER (barCell c) 0 ∅ 0 ∗ (bigSep Finset.univ fun d : Fin 3 => dutyTok ER (barCell (peerOf c d)) 0 d)
    ∗ bigSep Finset.univ (ready c) ∗ bigSep Finset.univ fun k : Fin 62 => atPos ER (recvCell c k) 0 ∅ 0)
/-- The credits a device starts with. -/
def credits : sProp 𝕄 :=
  iprop(cred (tallyAt (barCell c) () 3) ∗ bigSep Finset.univ fun k : Fin 62 => cred (tallyAt (recvCell c k) () N))

def Pre : sProp 𝕄 :=
  iprop(ghost m K c ∗ credits c ∗ levAts L lv ∗ (∃ W, owes (c : Thread nD τ) (O₀ c) W)
    ∗ (((c : Thread nD τ).loc cc0_stg0_0) ↦{fullShare} xstg m c) ∗ ∃ f, ((c : Thread nD τ).loc cc0_stg1_0) ↦{fullShare} f)

theorem dev1_eq : ∀ c : Dev nD, (⟨k0_dev1 c, k0_dev1_lt c⟩ : Dev nD) = peerOf c 0 := by decide +kernel
theorem dev2_eq : ∀ c : Dev nD, (⟨k0_dev2 c, k0_dev2_lt c⟩ : Dev nD) = peerOf c 1 := by decide +kernel
theorem dev3_eq : ∀ c : Dev nD, (⟨k0_dev3 c, k0_dev3_lt c⟩ : Dev nD) = peerOf c 2 := by decide +kernel
theorem off1_row : ∀ c : Dev nD, k0_off1 c 0 = row c 62 ∧ k0_off1 c 1 = 0 := by decide +kernel
theorem off1_eq : k0_off1 c = ![row c 62, 0] := funext fun a => by
  fin_cases a
  · exact (off1_row c).1
  · exact (off1_row c).2

theorem zero_off : (![0, 0] : Fin 2 → ℕ) = fun _ => 0 := funext fun a => by fin_cases a <;> rfl

theorem read_x (f : (cc0_stg0_0 : Ref sig .tc).ty.Contents (Elt F)) : (xM : Memref sig .tc .vmem S256x256 .bf16).view.readAt (Elt F)
    (Rect.unit (s := S256x256) ![0, 0] S256x256.size inb_S256x256_S256x256_0_0).toLoadRect f = f :=
  Memref.readAt_unit_zero (Elt F) cc0_stg0_0 zero_off _ f

/-- A device may wait at its barrier cell while it owes copies only. -/
theorem mayWait_bar (A : ℕ) : (levAts L lv : sProp 𝕄) ⊢ MayWait (c : Thread nD τ) (.reg barS) () (owed c A) :=
  MayOwe.of_cut (L := L) (lev := lv) 1 (fun p hp => by rw [Finset.mem_singleton.mp hp, L_tc]; exact Finset.mem_singleton_self _)
    (fun g u hg => by obtain ⟨j, -, rfl⟩ := owed_pos hg; exact Finset.mem_singleton_self _)
    (fun p hp => by rw [Finset.mem_singleton.mp hp]; exact le_of_eq (lv_bar c ()))
    (fun g u hg => by
      obtain ⟨j, hj, rfl⟩ := owed_pos hg
      rw [lv_dma]
      exact lev_pos j)

/-- The signal to the peer on side `d`. -/
theorem wp_tell (d : Fin 3) (n : Dev nD) (hn : n = peerOf c d) (O : CellTallies nD τ sig Unit) (W : Waits sig Unit)
    {α : Type} {Q : α → sProp 𝕄} {p : PUnit → Pg F α} :
    iprop(cellInv ER (sched m) (K (peerOf c d, none)) (barCell (peerOf c d)) ∗ owes (c : Thread nD τ) (O + tallyAt (barCell (peerOf c d)) () 1) W
        ∗ dutyTok ER (barCell (peerOf c d)) 0 d ∗ barPay (peerOf c d) d ∗ reached ER (barCell (peerOf c d)) 0)
      ⊢ iprop((owes (c : Thread nD τ) O W -∗ wp frame (wpE (defs₀ (F := F)) 𝒱₀ (c : Thread nD τ) none) Set.univ (p ⟨⟩) Q)
          -∗ wp frame (wpE (defs₀ (F := F)) 𝒱₀ (c : Thread nD τ) none) Set.univ (.op (.semSignal (n : Thread nD τ) barS 1) p) Q) := by
  subst hn
  have hd : d ∈ (sched (F := F) m).duties (barCell (peerOf c d)) 0 := by rw [duties_bar]; exact Finset.mem_univ _
  exact Rounds.wp_signal 𝒱₀ ER (sched m) (c : Thread nD τ) none (dst := (peerOf c d : Thread nD τ)) (κ := K (peerOf c d, none))
    (d := d) hd (amount_bar m (peerOf c d) d) () O rfl

/-- The wait for all three peers: it may write wherever it sends to. -/
theorem wp_told (A : ℕ) (W : Waits sig Unit) {α : Type} {Q : α → sProp 𝕄} {p : PUnit → Pg F α} :
    iprop(cellInv ER (sched m) (K (c, none)) (barCell c) ∗ cred (tallyAt (barCell c) () 3) ∗ owes (c : Thread nD τ) (owed c A) W
        ∗ MayWait (c : Thread nD τ) (.reg barS) () (owed c A) ∗ atPos ER (barCell c) 0 ∅ 0)
      ⊢ iprop(((owes (c : Thread nD τ) (owed c A) (insert (.reg barS, ()) W) ∗ atPos ER (barCell c) 1 ∅ 0 ∗ reached ER (barCell c) 1
              ∗ bigSep ((sched (F := F) m).duties (barCell c) 0 \ ∅) (fun d => (sched (F := F) m).payload (barCell c) 0 d))
            -∗ wp frame (wpE (defs₀ (F := F)) 𝒱₀ (c : Thread nD τ) none) Set.univ (p ⟨⟩) Q)
          -∗ wp frame (wpE (defs₀ (F := F)) 𝒱₀ (c : Thread nD τ) none) Set.univ (.op (.semWait barS 3) p) Q) :=
  Rounds.wp_wait_rest_token 𝒱₀ ER (sched m) (c : Thread nD τ) none (κ := K (c, none)) (sm := .reg barS) (k' := 3)
    (wpE_semWait_eq 𝒱₀ (c : Thread nD τ) none Set.univ) (Set.mem_univ _) () (O := owed c A) (W := W) (R := 0) (m := 0) (T := ∅)
    ((Nat.zero_add 3).trans (expect_bar m c).symm)

/-- Between the signals: the first two peers are told, the third is not yet. -/
def Told (f : (cc0_stg1_0 : Ref sig .tc).ty.Contents (Elt F)) : sProp 𝕄 :=
  iprop(records m K ∗ atPos ER (barCell c) 0 ∅ 0 ∗ dutyTok ER (barCell (peerOf c 2)) 0 2 ∗ bigSep Finset.univ (ready c)
    ∗ (bigSep Finset.univ fun k : Fin 62 => atPos ER (recvCell c k) 0 ∅ 0) ∗ credits c ∗ levAts L lv
    ∗ (∃ W, owes (c : Thread nD τ) (owed c tok₀ + tallyAt (barCell (peerOf c 2)) () 1) W)
    ∗ (((c : Thread nD τ).loc cc0_stg0_0) ↦{fullShare} xstg m c) ∗ barPay (peerOf c 2) 2
    ∗ (((c : Thread nD τ).loc cc0_stg1_0) ↦[ownRows c]{fullShare} f))

/-- The part of the text that tells the first two peers. -/
theorem goes_tell (v1 v2 v3 v4 v5 : BitVec 32) (v6 : BitVec 1) {β : Type} (k : _ → Pg F β) (Q : sProp 𝕄)
    (h : ∀ v f, Goes c (Told m K c f) (k ⟨v, SemArray.scalar (sig.barrier 0 rfl), 1#32⟩) Q) :
    Goes c (Pre m K c) (k0_part9 (Memref.whole cc0_stg0_0) (Memref.isWhole_whole _) (Memref.whole cc0_stg1_0) (Memref.isWhole_whole _)
      cc0_scratch0 cc0_scratch1 cc0_scratch2 cc0_scratch3 cc0_scratch4 cc0_scratch5 cc0_scratch6 cc0_scratch7 cc0_scratch8 cc0_scratch9
      c v1 v2 v3 v4 v5 v6 >>= k) Q := by
  unfold k0_part9
  dsimp only
  unfold Goes at *
  simp only [semSignalWord, Prog.lift, Prog.bind_op, Prog.bind_ret, Prog.pure_eq_ret]
  unfold Pre ghost O₀
  rw [bigSep_fin3]
  iintro ⟨⟨#HR, HatB, ⟨Ht0, Ht1, Ht2⟩, Hready, Hat⟩, Hcred, #Hlev, ⟨%W, HO⟩, Hx, ⟨%f, Hout⟩⟩
  ihave Hcut := (buffer_hand c f) $$ Hout
  rw [bigSep_fin3]
  icases Hcut with ⟨⟨Hp0, Hp1, Hp2⟩, Hown⟩
  ihave H := (records_at m K (peerOf c 0) none) $$ HR
  icases H with ⟨#Hi0, #Hr0⟩
  ihave H := (records_at m K (peerOf c 1) none) $$ HR
  icases H with ⟨#Hi1, #Hr1⟩
  iapply (wp_tell m K c 0 _ (dev1_eq c) _ W) $$ [HO Ht0 Hp0]
  · isplitr; · iexact Hi0
    isplitl [HO]; · iexact HO
    isplitl [Ht0]; · iexact Ht0
    isplitl [Hp0]; · iexact Hp0
    iexact Hr0
  iintro HO
  iapply (wp_tell m K c 1 _ (dev2_eq c) _ W) $$ [HO Ht1 Hp1]
  · isplitr; · iexact Hi1
    isplitl [HO]; · iexact HO
    isplitl [Ht1]; · iexact Ht1
    isplitl [Hp1]; · iexact Hp1
    iexact Hr1
  iintro HO
  iapply (h _ f)
  unfold Told
  isplitr; · iexact HR
  isplitl [HatB]; · iexact HatB
  isplitl [Ht2]; · iexact Ht2
  isplitl [Hready]; · iexact Hready
  isplitl [Hat]; · iexact Hat
  isplitl [Hcred]; · iexact Hcred
  isplitr; · iexact Hlev
  isplitl [HO]; · iexists W; iexact HO
  isplitl [Hx]; · iexact Hx
  isplitl [Hp2]; · iexact Hp2
  iexact Hown

/-- The part that tells the third, waits for all three and stores the own block. -/
theorem goes_entry (f : (cc0_stg1_0 : Ref sig .tc).ty.Contents (Elt F)) (v1 v2 v3 v4 : BitVec 32) {β : Type} (k : _ → Pg F β) (Q : sProp 𝕄)
    (h : ∀ v, Goes c (St m K c tok₀) (k v) Q) :
    Goes c (Told m K c f) (k0_part10 (Memref.whole cc0_stg0_0) (Memref.isWhole_whole _) (Memref.whole cc0_stg1_0) (Memref.isWhole_whole _)
      cc0_scratch0 cc0_scratch1 cc0_scratch2 cc0_scratch3 cc0_scratch4 cc0_scratch5 cc0_scratch6 cc0_scratch7 cc0_scratch8 cc0_scratch9
      c v1 v2 v3 (SemArray.scalar (sig.barrier 0 rfl)) v4 >>= k) Q := by
  unfold k0_part10
  dsimp only
  unfold Goes at *
  simp only [semSignalWord, semWaitWord, Prog.lift, Prog.bind_op, Prog.bind_ret, Prog.pure_eq_ret, shapeCast_self]
  unfold Told credits
  iintro ⟨#HR, HatB, Ht2, Hready, Hat, ⟨HcB, HcR⟩, #Hlev, ⟨%W, HO⟩, Hx, Hp2, Hown⟩
  ihave H := (records_at m K (peerOf c 2) none) $$ HR
  icases H with ⟨#Hi2, #Hr2⟩
  ihave H := (records_at m K c none) $$ HR
  icases H with ⟨#Hi, -⟩
  iapply (wp_tell m K c 2 _ (dev3_eq c) _ W) $$ [HO Ht2 Hp2]
  · isplitr; · iexact Hi2
    isplitl [HO]; · iexact HO
    isplitl [Ht2]; · iexact Ht2
    isplitl [Hp2]; · iexact Hp2
    iexact Hr2
  iintro HO
  iapply (wp_told m K c tok₀ W) $$ [HcB HO HatB]
  · isplitr; · iexact Hi
    isplitl [HcB]; · iexact HcB
    isplitl [HO]; · iexact HO
    isplitr; · iapply (mayWait_bar c tok₀); iexact Hlev
    iexact HatB
  iintro ⟨HO, HatB, -, Hpay⟩
  ihave Hreg := (Entails.of_eq (rest_bar m c)) $$ Hpay
  iapply (wp_load 𝒱₀ (c : Thread nD τ) none Set.univ (m := xM) (Finset.subset_univ _)) $$ Hx; iintro Hx
  iapply (wp_load_rect 𝒱₀ (c : Thread nD τ) none Set.univ (m := oM) (r := ownRect (k0_off1 c) (k0_off1_inb c)) (S := ownRows c)
    (own_set c (k0_off1_inb c) (off1_eq c)).subset) $$ Hown; iintro Hown
  iapply (wp_store 𝒱₀ (c : Thread nD τ) none Set.univ (m := oM) (r := ownRect (k0_off1 c) (k0_off1_inb c)) (Mk := Finset.univ) (S := ownRows c)
    (own_set c (k0_off1_inb c) (off1_eq c)).subset) $$ Hown; iintro Hown
  rw [read_x]
  ihave Hown := (Entails.of_eq (pointsTo_congr fun i hi => own_stored m c (k0_off1_inb c) (off1_eq c) f hi)) $$ Hown
  iapply (h _)
  unfold St
  rw [res₀, own_cut]
  isplitr
  · isplitr <;> iassumption
  isplitl [HO]; · iexists _; iexact HO
  isplitr [Hx HatB]
  · isplitr [Hown]
    · isplitl [Hready Hreg]
      · unfold unsent
        rw [bigSep_sep']
        isplitl [Hready]; · iexact Hready
        iexact Hreg
      · unfold awaited
        rw [bigSep_sep']
        isplitl [HcR] <;> iassumption
    iexact Hown
  isplitl [Hx] <;> iassumption

end Cert.Gather

end
-- ==== Proof.Program.lean ====
/-
# The program makes its steps

After the entry handshake (`goes_entry`) the kernel makes one hundred and eighty-eight steps, listed in `steps`. Followed on
numbers they take the tokens a device starts with to the tokens it ends with; followed on the text they are its operations.
-/
module

public import proofs.«01_k».proof.Proof.Entry

@[expose] public section

noncomputable section

namespace Cert.Gather

open Cert.KernelIdeal Cert.KernelIdeal.Facts₀

open Idealize.ShloMosaic
open Idealize.ShloMosaic.TcCoe
open Idealize.SL Idealize.SL.RA Idealize.SL.BI Idealize.SL.Sem

variable {F : FTy → Type} [FloatOps F]

variable (m : (ℓ : Loc nD τ sig) → Buf (Elt F) ℓ) (K : Dev nD × CIx → ℕ)

/-- The operations on copies after the handshake, in the order of the text. -/
def steps : List Step :=
  .send 0 :: .send 1 :: .waitIf false 0 :: .send 2 :: .send 18 :: .waitIf false 1 :: .send 3 :: .send 19 :: .waitR 2 ::
  .send 4 :: .send 32 :: .waitS 2 :: .waitR 18 :: .send 20 :: .send 48 :: .waitS 18 :: .waitR 3 :: .send 5 :: .send 33 ::
  .waitS 3 :: .waitR 19 :: .send 21 :: .send 49 :: .waitS 19 :: .waitR 4 :: .send 6 :: .send 34 :: .waitS 4 :: .waitR 20 ::
  .send 22 :: .send 50 :: .waitS 20 :: .waitR 5 :: .send 7 :: .send 35 :: .waitS 5 :: .waitR 21 :: .send 23 :: .send 51 ::
  .waitS 21 :: .waitR 6 :: .send 8 :: .send 36 :: .waitS 6 :: .waitR 22 :: .send 24 :: .send 52 :: .waitS 22 :: .waitR 7 ::
  .send 9 :: .send 37 :: .waitS 7 :: .waitR 23 :: .send 25 :: .send 53 :: .waitS 23 :: .waitR 8 :: .send 10 :: .send 38 ::
  .waitS 8 :: .waitR 24 :: .send 26 :: .send 54 :: .waitS 24 :: .waitR 9 :: .send 11 :: .send 39 :: .waitS 9 :: .waitR 25 ::
  .send 27 :: .send 55 :: .waitS 25 :: .waitR 10 :: .send 12 :: .send 40 :: .waitS 10 :: .waitR 26 :: .send 28 ::
  .send 56 :: .waitS 26 :: .waitR 11 :: .send 13 :: .send 41 :: .waitS 11 :: .waitR 27 :: .send 29 :: .send 57 ::
  .waitS 27 :: .waitR 12 :: .send 14 :: .send 42 :: .waitS 12 :: .waitR 28 :: .send 30 :: .send 58 :: .waitS 28 ::
  .waitR 13 :: .send 15 :: .send 43 :: .waitS 13 :: .waitR 29 :: .send 31 :: .send 59 :: .waitS 29 :: .waitR 14 ::
  .send 16 :: .send 44 :: .waitS 14 :: .waitR 15 :: .send 17 :: .send 45 :: .waitS 15 :: .waitR 16 :: .send 46 ::
  .waitS 16 :: .waitR 30 :: .send 60 :: .waitS 30 :: .waitR 17 :: .send 47 :: .waitS 17 :: .waitR 31 :: .send 61 ::
  .waitS 31 :: .waitR 32 :: .waitR 33 :: .waitR 34 :: .waitR 35 :: .waitR 36 :: .waitR 37 :: .waitR 38 :: .waitR 39 ::
  .waitR 40 :: .waitR 41 :: .waitR 42 :: .waitR 43 :: .waitR 44 :: .waitR 45 :: .waitR 46 :: .waitR 47 :: .waitR 48 ::
  .waitR 49 :: .waitR 50 :: .waitR 51 :: .waitR 52 :: .waitR 53 :: .waitR 54 :: .waitR 55 :: .waitR 56 :: .waitR 57 ::
  .waitR 58 :: .waitR 59 :: .waitR 60 :: .waitR 61 :: .waitIf true 0 :: .waitS 0 :: .waitIf true 1 :: .waitS 1 ::
  .waitS 32 :: .waitS 48 :: .waitS 33 :: .waitS 49 :: .waitS 34 :: .waitS 50 :: .waitS 35 :: .waitS 51 :: .waitS 36 ::
  .waitS 52 :: .waitS 37 :: .waitS 53 :: .waitS 38 :: .waitS 54 :: .waitS 39 :: .waitS 55 :: .waitS 40 :: .waitS 56 ::
  .waitS 41 :: .waitS 57 :: .waitS 42 :: .waitS 58 :: .waitS 43 :: .waitS 59 :: .waitS 44 :: .waitS 45 :: .waitS 46 ::
  .waitS 60 :: .waitS 47 :: .waitS 61 :: []

theorem run_steps : ∀ b, run b steps tok₀ = some tok₁ := by decide +kernel

set_option maxRecDepth 8000 in
set_option maxHeartbeats 4000000 in
/-- The whole text on device `c`, from what it starts with to the tokens of the end. -/
theorem goes_program (c : Dev nD) :
    Goes c (Pre m K c) (cc0_body (Memref.whole cc0_stg0_0) (Memref.isWhole_whole _) (Memref.whole cc0_stg1_0) (Memref.isWhole_whole _)
      cc0_scratch0 cc0_scratch1 cc0_scratch2 cc0_scratch3 cc0_scratch4 cc0_scratch5 cc0_scratch6 cc0_scratch7 cc0_scratch8 cc0_scratch9) (St m K c tok₁) := by
  unfold cc0_body k0_part98
  repeat (with_reducible refine goes_assoc ?_)
  unfold k0_part1
  repeat (with_reducible refine goes_assoc ?_)
  refine goes_device ?_
  refine goes_first fun t => ?_
  dsimp only
  iterate 7 ((with_reducible refine goes_assoc ?_); (refine goes_value ⟨_, rfl⟩ fun v => ?_); try dsimp only)
  with_reducible refine goes_assoc ?_
  refine goes_tell m K c _ _ _ _ _ _ _ _ fun v f => ?_
  dsimp only
  with_reducible refine goes_assoc ?_
  refine goes_entry m K c f _ _ _ _ _ _ fun v => ?_
  try dsimp only
  iterate 37 ((with_reducible refine goes_assoc ?_); (refine goes_value ⟨_, rfl⟩ fun v => ?_); try dsimp only)
  refine (?_ : Does m K c steps _) tok₀ tok₁ (run_steps _)
  unfold steps
  repeat first
    | with_reducible refine does_assoc ?_
    | (with_reducible refine does_send m K ?_ ?_ ?_ ?_ ?_) <;> [(revert c; decide +kernel); (revert c; decide +kernel); rfl; rfl; skip]
    | (with_reducible refine does_waitS m K ?_ ?_) <;> [rfl; skip]
    | (with_reducible refine does_waitR m K ?_ ?_) <;> [rfl; skip]
    | (with_reducible refine does_waitIf m K ?_ ?_ ?_) <;> [(revert c; decide +kernel); exact fun h => ⟨_, _, _, _, rfl⟩; skip]
    | (with_reducible refine does_first fun t => ?_); dsimp only
    | with_reducible refine does_value fun v => ?_
    | with_reducible exact does_pure
    | unfold k0_part48 | unfold k0_part49 | unfold k0_part50 | unfold k0_part51 | unfold k0_part52 | unfold k0_part53
    | unfold k0_part54 | unfold k0_part55 | unfold k0_part56 | unfold k0_part57 | unfold k0_part58 | unfold k0_part59
    | unfold k0_part60 | unfold k0_part61 | unfold k0_part62 | unfold k0_part63 | unfold k0_part64 | unfold k0_part65
    | unfold k0_part66 | unfold k0_part67 | unfold k0_part68 | unfold k0_part69 | unfold k0_part70 | unfold k0_part71
    | unfold k0_part72 | unfold k0_part73 | unfold k0_part74 | unfold k0_part75 | unfold k0_part76 | unfold k0_part77
    | unfold k0_part78 | unfold k0_part79 | unfold k0_part80 | unfold k0_part81 | unfold k0_part82 | unfold k0_part83
    | unfold k0_part84 | unfold k0_part85 | unfold k0_part86 | unfold k0_part87 | unfold k0_part88 | unfold k0_part89
    | unfold k0_part90 | unfold k0_part91 | unfold k0_part92 | unfold k0_part93 | unfold k0_part94 | unfold k0_part95
    | unfold k0_part96 | unfold k0_part97 | unfold k0_part99

end Cert.Gather

end
-- ==== Proof.Body.lean ====
/-
# The body on one device

From what a device starts with the kernel's text ends with every half-block of the result buffer holding the gathered array; all
cells of the device are then closed, their counters at zero. This is what the pipeline asks of the body at its one point.
-/
module

public import proofs.«01_k».proof.Proof.Program
public import Idealize.ShloMosaic.Lib.Pipeline.FrameBody

@[expose] public section

noncomputable section

namespace Cert.Gather

open Cert.KernelIdeal Cert.KernelIdeal.Facts₀

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CIx → ℕ) (c : Dev nD)

/-! ## Closing the cells -/

/-- A bunch of a device's cells, all past their round, closes. -/
theorem close_cells (s : Finset CIx) :
    iprop(records m K ∗ bigSep s fun x => atPos ER (kcell c x) 1 ∅ 0) ⊢ |={Set.univ}=> (bigSep s fun x => semVal (kcell c x) 0 : sProp 𝕄) := by
  have h (x : CIx) : iprop(records m K ∗ atPos ER (kcell c x) 1 ∅ 0) ⊢ |={Set.univ}=> (semVal (kcell c x) 0 : sProp 𝕄) := by
    iintro ⟨#HR, Hat⟩
    ihave H := (records_at m K c x) $$ HR
    icases H with ⟨#Hi, -⟩
    iapply (Rounds.cell_close ER (sched m) (Set.mem_univ (K (c, x))) (fun h => h) (R := 1) (duties_later m (kcell c x)))
    isplitr; · iexact Hi
    iexact Hat
  exact (bigSep_with_persistent fun x _ => h x).trans (bigSep_fupd _ _)

omit [FloatOps F] in
/-- A device's cells: the barrier cell, the send cells, the receive cells. -/
theorem cells_split (Φ : CIx → sProp 𝕄) : bigSep Finset.univ Φ
    = iprop(Φ none ∗ (bigSep Finset.univ fun k : Fin 62 => Φ (some (false, k))) ∗ bigSep Finset.univ fun k : Fin 62 => Φ (some (true, k))) := by
  have e : (Finset.univ : Finset CIx) = insert none (Finset.univ.map Function.Embedding.some) := rfl
  rw [e, bigSep_insert (by decide), bigSep_map, bigSep_univ_prod]
  have h := bigSep_univ_eq_bigSepL [false, true] (by decide) (by decide)
    (fun b : Bool => (bigSep Finset.univ fun k : Fin 62 => Φ (some (b, k)) : sProp 𝕄))
  exact congrArg (fun X : sProp 𝕄 => iprop(Φ none ∗ X)) h

/-! ## What the pipeline is told about the body -/

/-- What a device's body starts from. -/
def start : sProp 𝕄 := iprop((∃ K, ghost m K c) ∗ credits c ∗ levAts L lv)
/-- What it ends with: all its cells at zero, closed. -/
def finish : sProp 𝕄 := bigSep Finset.univ fun x : CIx => semVal (kcell c x) 0

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => gathered m
  Φ t := match t with
    | ⟨0, _⟩ => start m c
    | ⟨_ + 1, _⟩ => finish c
  q _ := fullShare
  owed t := match t with
    | ⟨0, _⟩ => O₀ c
    | ⟨_ + 1, _⟩ => 0

theorem owed_end : owed c tok₁ = 0 := by
  have h : ∀ x ∈ toks tok₁, x.1 ≠ 0 := by decide +kernel
  unfold owed
  exact Finset.sum_eq_zero fun x hx => dif_neg fun e => h x hx e.1

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre : sProp 𝕄 :=
  iprop(start m c ∗ (dats m 0 c).owesAt () (t0_0 : Fin cfg0.N).castSucc
    ∗ (∃ d, stg c cc0_stg0_0 ((dats m 0 c).before (0 : Fin 2) t0_0 d)) ∗ (∃ d, stg c cc0_stg1_0 ((dats m 0 c).before (1 : Fin 2) t0_0 d)))
def bodyPost : sProp 𝕄 :=
  iprop(finish c ∗ (dats m 0 c).owesAt () (t0_0 : Fin cfg0.N).succ ∗ stg c cc0_stg0_0 (xstg m c) ∗ stg c cc0_stg1_0 (gathered m))

/-- The state of the end, its cells closed. -/
theorem ending : (St m K c tok₁ : sProp 𝕄) ⊢ |={Set.univ}=> bodyPost m c := by
  unfold St bodyPost finish
  rw [res₁, owed_end]
  iintro ⟨⟨#HR, -⟩, ⟨%W, HO⟩, ⟨⟨HS, HV⟩, Hout⟩, Hx, HB⟩
  unfold sent arrived
  imod (close_cells m K c Finset.univ) $$ [HS HV HB] with Hz
  · isplitr; · iexact HR
    rw [cells_split]
    isplitl [HB]; · iexact HB
    isplitl [HS] <;> iassumption
  ihave Ho := (Entails.of_eq (buffer_cut c (gathered m)).symm) $$ Hout
  imodintro
  isplitl [Hz]; · iexact Hz
  unfold Dat.owesAt Pipeline.owesWithin
  rw [show (dats m 0 c).owed (t0_0 : Fin cfg0.N).succ = 0 from rfl]
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Ho

/-- The kernel's text, on the two staging buffers and its semaphores. -/
def text : Pg F PUnit :=
  cc0_body (Memref.whole cc0_stg0_0) (Memref.isWhole_whole _) (Memref.whole cc0_stg1_0) (Memref.isWhole_whole _)
    cc0_scratch0 cc0_scratch1 cc0_scratch2 cc0_scratch3 cc0_scratch4 cc0_scratch5 cc0_scratch6 cc0_scratch7 cc0_scratch8 cc0_scratch9

/-- The state a program ends in may still be updated. -/
theorem goes_update {P Q R : sProp 𝕄} {p : Pg F PUnit} (h : Goes c P p Q) (hQ : Q ⊢ |={Set.univ}=> R) : Goes c P p R := by
  unfold Goes at *
  exact h.trans ((wp_mono _ _ _ fun _ => hQ).trans (wp_fupd _ _ _ _ _))

theorem goes_text : Goes c (Pre m K c) text (bodyPost m c) := goes_update c (goes_program m K c) (ending m K c)

/-- What a device starts the body with is what its text starts from. -/
theorem beginning : (bodyPre m c : sProp 𝕄) ⊢ iprop(∃ K, Pre m K c) := by
  unfold bodyPre start
  iintro ⟨⟨⟨%K, Hg⟩, Hc, #Hlev⟩, Ho, ⟨%d0, %g0, %hg0, Hx⟩, ⟨%d1, %g1, %hg1, Hout⟩⟩
  have hx : g0 = xstg m c := by rw [hg0]; unfold Dat.before; rw [if_pos (fetch0_0 t0_0)]; rfl
  subst hx
  unfold Dat.owesAt Pipeline.owesWithin
  icases Ho with ⟨%W, %hW, HO⟩
  rw [show (dats m 0 c).owed (t0_0 : Fin cfg0.N).castSucc = O₀ c from rfl]
  iexists K
  unfold Pre
  isplitl [Hg]; · iexact Hg
  isplitl [Hc]; · iexact Hc
  isplitr; · iexact Hlev
  isplitl [HO]; · iexists W; iexact HO
  isplitl [Hx]; · iexact Hx
  iexists g1; iexact Hout

theorem goes_some {ι : Type} {P : ι → sProp 𝕄} {Q R : sProp 𝕄} {p : Pg F PUnit} (hR : R ⊢ iprop(∃ i, P i)) (h : ∀ i, Goes c (P i) p Q) : Goes c R p Q := by
  unfold Goes at *
  refine hR.trans ?_
  iintro ⟨%i, H⟩
  iapply (h i)
  iexact H

theorem sound_body : Goes c (bodyPre m c) text (bodyPost m c) := goes_some c (beginning m c) fun K => goes_text m K c

theorem row_text : defs₀ (F := F) .tc cfg0.body (cfg0.bodyArgs t0_0 (cfg0.slots t0_0)) = text := by
  unfold defs₀; rw [Defs.onTc_tc]; rfl

set_option maxRecDepth 4000 in
/-- What the pipeline asks of the body. -/
theorem body_obligation : BodyObligation (dats (F := F) m 0 c) (defs₀ (F := F)) 𝒱₀ () Set.univ := fun t => by
  obtain rfl : t = t0_0 := fin_N0 t
  have h : (bodyPre m c : sProp 𝕄) ⊢ wp frame (wpE (defs₀ (F := F)) 𝒱₀ (c : Thread nD τ) none) Set.univ text fun _ => bodyPost m c := sound_body m c
  unfold bodyPre bodyPost at h
  rw [← row_text] at h
  simp only [bigSep_W0, owns_whole_eq]
  exact triple_restated h rfl .rfl fun _ => .rfl

end Cert.Gather

end
-- ==== Proof.Launch.lean ====
/-
# The launch and the run

All cells are opened at once over the whole mesh, and the tokens of every duty are dealt to the device that pays it: a barrier duty to
the peer that signals, a receive duty to the device that sends the copy. What a device owes at launch is matched by the credits that
the owners of the cells wait with. From this every run of the kernel ends, the arrays hold what the body leaves in them, and all
counters are zero.
-/
module

public import proofs.«01_k».proof.Proof.Body
public import Idealize.ShloMosaic.Lib.Pipeline.CollectiveSegs

@[expose] public section

noncomputable section

namespace Cert.Gather

open Cert.KernelIdeal Cert.KernelIdeal.Facts₀

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores -/

theorem dsem_ge : ∀ (r : Bool) (k : Fin 62), 2 ≤ semN r k := by decide +kernel
/-- The pipeline's two staging semaphores come before the kernel's own. -/
theorem stage_lt : ∀ (w : Fin cfg0.W) (s : Fin (cfg0.win w).nbuf), ((cfg0.win w).sem s).val < 2 := by decide +kernel

theorem ownSemFacts : Pipeline.OwnSemFacts cfg0.spec osem where
  isScoped := by decide +kernel
  inj x y h := Option.some.inj (csem_inj (a₁ := some x) (a₂ := some y) h)
  disj x w s h := by
    have e : dsem x = (cfg0.win w).sem s := by injection h
    have h₁ := stage_lt w s
    have h₂ : 2 ≤ (dsem x).val := dsem_ge x.1 x.2
    rw [e] at h₂
    exact absurd h₁ (not_lt.mpr h₂)

theorem decode_stage {q : DmaSem sig} (h : q.val < 2) : decode q = none :=
  List.find?_eq_none.mpr fun x _ e => by
    have h₂ : 2 ≤ (dsem x).val := dsem_ge x.1 x.2
    rw [eq_of_beq e] at h₂
    exact absurd h (not_lt.mpr h₂)

omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
/-- A device's cells are the barrier's and the kernel's own semaphores. -/
theorem sems0_eq (c : Dev nD) : (finish c : sProp 𝕄)
    = iprop(unscopedSems0 c ∗ Pipeline.ownSems0 (Ix := Unit) (Name := ℕ) (U := UU) (Lvl := ℕ) (Val := Elt F) (τ := τ) osem c) := by
  have e : (Finset.univ : Finset CIx) = insert none (Finset.univ.map Function.Embedding.some) := rfl
  unfold finish
  rw [unscopedSems0_eq, e, bigSep_insert (by decide), bigSep_map]
  rfl

/-! ## What is minted -/

theorem cell_inj : Function.Injective fun ck : Dev nD × CIx => kcell ck.1 ck.2 :=
  fun a b h => Prod.ext (kcell_inj h).1 (kcell_inj h).2
theorem mint_inj : Function.Injective fun x : (Dev nD × CIx) × Fin 3 => ((kcell x.1.1 x.1.2, 0, x.2) : GSem nD τ sig × ℕ × Fin 3) := fun a b h =>
  Prod.ext (cell_inj (congrArg (fun x : GSem nD τ sig × ℕ × Fin 3 => x.1) h)) (congrArg (fun x : GSem nD τ sig × ℕ × Fin 3 => x.2.2) h)
def allCells : Finset (GSem nD τ sig) := Finset.univ.map ⟨_, cell_inj⟩
def allToks : Finset (GSem nD τ sig × ℕ × Fin 3) := Finset.univ.map ⟨_, mint_inj⟩

def u₀ : UU :=
  (initOf (Pipeline.cells cfgs cellOf_inj) (Pipeline.launchToks cfgs cellOf_inj), initOf allCells allToks)

/-- The tokens of a device's own cells. -/
def mint (c : Dev nD) : sProp 𝕄 := bigSep Finset.univ fun x : CIx => bigSep Finset.univ fun d : Fin 3 => dutyTok ER (kcell c x) 0 d
/-- Where a device stands at its own cells. -/
def places (c : Dev nD) : sProp 𝕄 := bigSep Finset.univ fun x : CIx => iprop(atPos ER (kcell c x) 0 ∅ 0)
def G (c : Dev nD) : sProp 𝕄 :=
  iprop((bigSep Finset.univ fun x : CIx => roundState ER (sched m) (kcell c x) 0)
    ∗ (bigSep Finset.univ fun x : CIx => reached ER (kcell c x) 0) ∗ places c ∗ mint c)
def G' (c : Dev nD) : sProp 𝕄 := iprop(∃ K, ghost m K c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun x : CIx => Φ (kcell c x) := by
    unfold allCells; rw [bigSep_map, bigSep_univ_prod]; rfl
  have hT : bigSep allToks (fun x => (dutyTok ER x.1 x.2.1 x.2.2 : sProp 𝕄)) = bigSep Finset.univ fun c : Dev nD => mint c := by
    unfold allToks; rw [bigSep_map, bigSep_univ_prod, bigSep_univ_prod]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G places; simp only [bigSep_sep']
  isplitl [Hst']; · iexact Hst'
  isplitl [Hr']; · iexact Hr'
  isplitl [Hat'] <;> iassumption

/-- A device's cells opened. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x => iprop((∃ κ : ℕ, cellInv ER (sched m) κ (kcell c x)) ∗ reached ER (kcell c x) 0))
          ∗ places c ∗ mint c) := by
  have h : iprop((finish c : sProp 𝕄) ∗ bigSep Finset.univ fun x : CIx => roundState ER (sched m) (kcell c x) 0)
      ⊢ (|={Set.univ}=> bigSep Finset.univ fun x => iprop(∃ κ : ℕ, cellInv ER (sched m) κ (kcell c x)) : sProp 𝕄) := by
    unfold finish
    rw [← bigSep_sep']
    exact (bigSep_mono fun x _ => (Rounds.body_intro ER (sched m) (kcell c x)).trans inv_alloc).trans (bigSep_fupd _ _)
  unfold G
  iintro ⟨Hos, Hus, Hst, Hr, Hat, Htok⟩
  imod h $$ [Hos Hus Hst] with Hinv
  · rw [sems0_eq]
    isplitl [Hos Hus]
    · isplitl [Hus] <;> iassumption
    iexact Hst
  imodintro
  rw [bigSep_sep']
  isplitl [Hinv Hr]
  · isplitl [Hinv] <;> iassumption
  isplitl [Hat] <;> iassumption

/-! ## Dealing the tokens -/

omit [FloatOps F] in
/-- What each device has for each `i` may go to another device, for each `i` by a bijection. -/
theorem deal {I : Type} [Fintype I] (f : Dev nD → I → Dev nD) (hf : ∀ i, Function.Bijective fun c => f c i) (Φ : Dev nD → I → sProp 𝕄) :
    (bigSep Finset.univ fun c => bigSep Finset.univ (Φ c)) = bigSep Finset.univ fun c => bigSep Finset.univ fun i => Φ (f c i) i := by
  rw [bigSep_univ_comm, bigSep_univ_comm (Φ := fun c i => Φ (f c i) i)]
  exact bigSep_congr fun i _ => bigSep_univ_equiv (Equiv.ofBijective _ (hf i)) fun c => Φ c i

theorem peerOf_bij (d : Fin 3) : Function.Bijective fun c => peerOf c d :=
  ⟨fun a b h => by rw [← peer_peerOf a d, ← peer_peerOf b d]; exact congrArg (fun c => peer c d) h, fun c => ⟨peer c d, peerOf_peer c d⟩⟩

/-- The tokens of the duties a device pays. -/
def pays (c : Dev nD) : sProp 𝕄 :=
  iprop((bigSep Finset.univ fun d : Fin 3 => dutyTok ER (barCell (peerOf c d)) 0 d) ∗ (bigSep Finset.univ fun k : Fin 62 => dutyTok ER (sendCell c k) 0 0)
    ∗ bigSep Finset.univ fun k : Fin 62 => dutyTok ER (recvCell (dst c k) k) 0 0)

omit [FloatOps F] in
theorem mint_split (c : Dev nD) : (mint c : sProp 𝕄)
    ⊢ iprop((bigSep Finset.univ fun d : Fin 3 => dutyTok ER (barCell c) 0 d) ∗ (bigSep Finset.univ fun k : Fin 62 => dutyTok ER (sendCell c k) 0 0)
      ∗ bigSep Finset.univ fun k : Fin 62 => dutyTok ER (recvCell c k) 0 0) := by
  have h (g : GSem nD τ sig) : (bigSep Finset.univ fun d : Fin 3 => dutyTok ER g 0 d : sProp 𝕄) ⊢ dutyTok ER g 0 0 := bigSep_elim (Finset.mem_univ 0)
  unfold mint
  rw [cells_split]
  exact sep_mono_right ((sep_mono_left (bigSep_mono fun k _ => h (sendCell c k))).trans (sep_mono_right (bigSep_mono fun k _ => h (recvCell c k))))

omit [FloatOps F] in
theorem mint_deal : (bigSep Finset.univ fun c : Dev nD => (mint c : sProp 𝕄)) ⊢ bigSep Finset.univ fun c : Dev nD => pays c := by
  refine BI.Entails.trans (bigSep_mono fun c _ => mint_split c) ?_
  unfold pays
  rw [bigSep_sep', bigSep_sep', bigSep_sep', bigSep_sep',
    deal peerOf peerOf_bij fun c d => (dutyTok ER (barCell c) 0 d : sProp 𝕄),
    deal dst dst_bij fun c k => (dutyTok ER (recvCell c k) 0 0 : sProp 𝕄)]
  exact BI.Entails.refl _

theorem ghost_intro (K : Dev nD × CIx → ℕ) (c : Dev nD) : iprop(records m K ∗ places c ∗ pays c) ⊢ G' m c := by
  unfold places pays G' ghost ready
  rw [cells_split, bigSep_sep', bigSep_sep']
  iintro ⟨#HR, ⟨HaB, HaS, HaV⟩, HtB, HtS, HtV⟩
  iexists K
  isplitr; · iexact HR
  isplitl [HaB]; · iexact HaB
  isplitl [HtB]; · iexact HtB
  isplitr [HaV]
  · isplitl [HtS]; · iexact HtS
    isplitl [HtV] <;> iassumption
  iexact HaV

theorem regroup :
    (bigSep Finset.univ fun c : Dev nD => iprop((bigSep Finset.univ fun x => iprop((∃ κ : ℕ, cellInv ER (sched m) κ (kcell c x)) ∗ reached ER (kcell c x) 0))
          ∗ places c ∗ mint c) : sProp 𝕄)
      ⊢ bigSep Finset.univ (G' m) := by
  rw [bigSep_sep', bigSep_sep', ← bigSep_univ_prod (fun ck : Dev nD × CIx => iprop((∃ κ : ℕ, cellInv ER (sched m) κ (kcell ck.1 ck.2)) ∗ reached ER (kcell ck.1 ck.2) 0)),
    bigSep_sep']
  iintro ⟨⟨HI, #Hr⟩, Hat, Htok⟩
  ihave HK := (BI.bigSep_exists_pi Finset.univ (fun (ck : Dev nD × CIx) (κ : ℕ) => (cellInv ER (sched m) κ (kcell ck.1 ck.2) : sProp 𝕄))) $$ HI
  icases HK with ⟨%K, #HI⟩
  ihave Htk := (mint_deal (F := F)) $$ Htok
  iapply (bigSep_with_persistent (R := records m K) fun c _ => ghost_intro m K c)
  isplitr
  · unfold records; rw [bigSep_sep']; isplitl; · iexact HI
    iexact Hr
  · rw [bigSep_sep']
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

/-- What a device owes at launch of the copies, copy by copy. -/
theorem owed_start (c : Dev nD) : owed c tok₀ = ∑ k : Fin 62, (tallyAt (recvCell (dst c k) k) () N : CellTallies nD τ sig Unit) := by
  have h₁ : Disjoint (Finset.univ.map (kindEmb 0)) (Finset.univ.map (kindEmb 3)) := by decide +kernel
  have h₂ : Disjoint (Finset.univ.map (kindEmb 0) ∪ Finset.univ.map (kindEmb 3)) (shares ownNums) := by decide +kernel
  have h₃ : ∀ x ∈ Finset.univ.map (kindEmb 3), x.1 ≠ 0 := by decide +kernel
  have h₄ : ∀ x ∈ shares ownNums, x.1 ≠ 0 := by decide +kernel
  have z (s : Finset Tok) (h : ∀ x ∈ s, x.1 ≠ 0) : ∑ x ∈ s, tal c x = 0 := Finset.sum_eq_zero fun x hx => dif_neg fun e => h x hx e.1
  unfold owed
  rw [toks₀, Finset.sum_union h₂, Finset.sum_union h₁, z _ h₃, z _ h₄, add_zero, add_zero, Finset.sum_map]
  exact Finset.sum_congr rfl fun k _ => dif_pos ⟨rfl, k.isLt⟩

omit [FloatOps F] in
/-- If every device owes the cell of semaphore `x` on the device `f` gives, and `f` is a bijection, every device has the credit for it. -/
theorem launch_to (f : Dev nD → Dev nD) (hf : Function.Bijective f) (x : CIx) (n : ℕ) (c : Dev nD) :
    (Pipeline.launchCred (fun d => (tallyAt (kcell (f d) x) () n : CellTallies nD τ sig Unit)) c : sProp 𝕄) ⊢ cred (tallyAt (kcell c x) () n) := by
  obtain ⟨d, rfl⟩ := hf.2 c
  refine (Pipeline.launchCred_elim _ (f d) (csem x)).trans (Entails.of_eq (congrArg cred ?_))
  refine congrArg (tallyOn (kcell (f d) x)) (Finsupp.ext fun u => ?_)
  cases u
  rw [Pipeline.launchCredit_owing, Finsupp.single_eq_same, Fintype.sum_eq_single d fun d' h => ?_]
  · rw [tallyAt_apply, if_pos ⟨rfl, rfl⟩]
  · rw [tallyAt_apply, if_neg fun e => h (hf.1 (kcell_inj e.1).1).symm]

omit [FloatOps F] in
theorem cred_join (g : GSem nD τ sig) (a b : ℕ) :
    iprop(cred (tallyAt g () a) ∗ cred (tallyAt g () b)) ⊢ (cred (tallyAt g () (a + b) : CellTallies nD τ sig Unit) : sProp 𝕄) :=
  (cred_add _ _).2.trans (Entails.of_eq (congrArg cred (tallyAt_add g () a b)))

theorem creds (c : Dev nD) : (Pipeline.launchCred O₀ c : sProp 𝕄) ⊢ credits c := by
  have e : O₀ = fun d => (∑ k : Fin 62, (tallyAt (recvCell (dst d k) k) () N : CellTallies nD τ sig Unit)) + tallyAt (barCell (peerOf d 2)) () 1
      + tallyAt (barCell (peerOf d 1)) () 1 + tallyAt (barCell (peerOf d 0)) () 1 := funext fun d => by unfold O₀; rw [owed_start]
  rw [e, Pipeline.launchCred_add, Pipeline.launchCred_add, Pipeline.launchCred_add, Pipeline.launchCred_sum]
  have hr : (bigSep Finset.univ fun k : Fin 62 => Pipeline.launchCred (fun d => (tallyAt (recvCell (dst d k) k) () N : CellTallies nD τ sig Unit)) c : sProp 𝕄)
      ⊢ bigSep Finset.univ fun k : Fin 62 => cred (tallyAt (recvCell c k) () N) :=
    bigSep_mono fun k _ => launch_to (fun d => dst d k) (dst_bij k) (some (true, k)) N c
  have hb (i : Fin 3) : (Pipeline.launchCred (fun d => (tallyAt (barCell (peerOf d i)) () 1 : CellTallies nD τ sig Unit)) c : sProp 𝕄)
      ⊢ cred (tallyAt (barCell c) () 1) := launch_to (fun d => peerOf d i) (peerOf_bij i) none 1 c
  unfold credits
  iintro ⟨⟨⟨HR, H2⟩, H1⟩, H0⟩
  isplitr [HR]
  · iapply (cred_join (barCell c) 1 2)
    isplitl [H0]; · iapply (hb 0); iexact H0
    iapply (cred_join (barCell c) 1 1)
    isplitl [H1]; · iapply (hb 1); iexact H1
    iapply (hb 2); iexact H2
  · iapply hr; iexact HR

/-! ## The waits of the pipeline -/

theorem O₀_pos {c : Dev nD} {g : GSem nD τ sig} {u : Unit} (h : 0 < O₀ c g u) : g.1.2 = .tc ∧ 0 < lv g u := by
  unfold O₀ at h
  simp only [Pi.add_apply, Finsupp.add_apply, tallyAt_apply] at h
  by_cases h₀ : 0 < owed c tok₀ g u
  · obtain ⟨k, -, rfl⟩ := owed_pos h₀
    exact ⟨rfl, by rw [lv_dma]; exact Nat.lt_trans Nat.one_pos (lev_pos k)⟩
  have hb (d : Fin 3) (e : g = barCell (peerOf c d)) : g.1.2 = .tc ∧ 0 < lv g u := by
    subst e; exact ⟨rfl, Nat.one_pos⟩
  by_cases e₂ : g = barCell (peerOf c 2)
  · exact hb 2 e₂
  by_cases e₁ : g = barCell (peerOf c 1)
  · exact hb 1 e₁
  by_cases e₀ : g = barCell (peerOf c 0)
  · exact hb 0 e₀
  simp only [e₂, e₁, e₀, false_and, if_false, Nat.add_zero] at h
  exact absurd h h₀

omit [FloatOps F] in
theorem mayWait_stage (c : Dev nD) {q : DmaSem sig} (hq : q.val < 2) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g u hg => ?_
    obtain ⟨h₁, h₂⟩ := O₀_pos hg
    refine ⟨by unfold L; rw [if_pos h₁]; exact Finset.mem_singleton_self _, ?_⟩
    refine lt_of_eq_of_lt ?_ h₂
    show lvD (decode q) = 0
    rw [decode_stage hq]; rfl
  · rw [MayWait_zero]; iintro -; iempintro

theorem waits (c : Dev nD) : (levAts L lv : sProp 𝕄) ⊢ Pipeline.cellsWaits cfgs (dats m) () 0 c :=
  Pipeline.cellsWaits_intro cfgs (dats m) () 0 c fun w s t =>
    mayWait_stage c (stage_lt w s) _ (by
      rcases t with ⟨_ | _, ht⟩
      · exact Or.inl rfl
      · exact Or.inr rfl)

/-! ## The sides of the region -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem region_in (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = start m c from rfl]
  iintro ⟨H, -, -⟩
  iexact H

theorem region_out (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = finish c from rfl, scopedRest0_eq, sems0_eq]
  iintro ⟨HB, HS⟩
  isplitl [HB]; · iexact HB
  isplitl [HS]; · iexact HS
  iempintro

/-! ## The run -/

/-- Every array of every device holds what the pipeline leaves in it. -/
def Done (r : PUnit × MemSt nD τ sig (Elt F)) : Prop :=
  ∀ (c : Dev nD) (w : Fin cfg0.W), r.2.mem ((cfg0.win w).arr.view.loc (c : Thread nD τ)) = (dats m 0 c).arrAt w cfg0.N

set_option maxHeartbeats 4000000 in
set_option maxRecDepth 8000 in
theorem run_main : θ_run defs (onTc (τ := τ) (main (F := F))) ⟨m, fun _ => 0, ρ⟩ (fun r => Done m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := region_in m) (hout := region_out m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Gather

end
-- ==== Proof.Value.lean ====
/-
# What the run computes

The result array of every device ends at the gathered array; and where each device's argument is its block of one whole array, the
gathered array is that whole array, which is what the reference returns.
-/
module

public import proofs.«01_k».proof.Proof.Launch
public import proofs.«01_k».proof.Defs
public import proofs.«01_k».proof.Proof.Gen.ReferenceIdeal
public import Idealize.ShloMosaic.Lib.StableHlo.Run
public import Idealize.ShloMosaic.Lib.Layout

@[expose] public section

noncomputable section

namespace Cert.Gather

open Cert.KernelIdeal Cert.KernelIdeal.Facts₀
open Idealize.ShloMosaic
open Idealize.ShloMosaic.TcCoe
open Idealize.SL.Sem
open Idealize.ShloMosaic.Pipeline (Dat)

variable {F : FTy → Type} [FloatOps F] (m : (ℓ : Loc nD τ sig) → Buf (Elt F) ℓ) (c : Dev nD)

/-! ## The arrays at the end -/

theorem in_kept : (dats m 0 c).arrAt (0 : Fin 2) cfg0.N = m ((c : Thread nD τ).loc main_arg0) := (dats m 0 c).arrAt_in (0 : Fin 2) rfl _

theorem in_start : (fun a => win0_0.index (0 : Fin 1) a * main_arg0.ty.shape.size a) = fun _ => 0 := funext fun a => by fin_cases a <;> decide
theorem out_start : (fun a => win0_1.index (0 : Fin 1) a * main_v1.ty.shape.size a) = fun _ => 0 := funext fun a => by fin_cases a <;> decide

/-- The staged block is the whole argument. -/
theorem xstg_eq : xstg m c = m ((c : Thread nD τ).loc main_arg0) :=
  Memref.read_access_unit_zero (Elt F) main_arg0 in_start (fun a => by fin_cases a <;> decide) _

theorem out_eq : (dats m 0 c).arrAt (1 : Fin 2) cfg0.N = gathered m := by
  have h : (win0_1.blk t0_0).view.read (Elt F) ((dats m 0 c).arrAt (1 : Fin 2) cfg0.N) = gathered m := by
    rw [show cfg0.N = (t0_0 : Fin cfg0.N).val + 1 from rfl, (dats m 0 c).arrAt_succ (1 : Fin 2) t0_0, if_pos (flush0_1 _)]
    exact View.read_write_univ _ _
  rw [← h]
  exact (Memref.read_access_unit_zero (Elt F) main_v1 out_start (fun a => by fin_cases a <;> decide) _).symm

/-! ## The gathered array is the whole array -/

theorem gathered_eq (X : S8192x256.Idx → Elt F .bf16)
    (h : ∀ c : Dev nD, m ((c : Thread nD τ).loc main_arg0) = Layout.block ⟨2, ![256, 256]⟩ ⟨2, ![8192, 256]⟩ 0 32 c X) : gathered m = X := by
  funext i
  show xstg m (ownerOf i) (inBlock i) = X i
  rw [xstg_eq, h]
  refine congrArg X (funext fun a => Fin.ext ?_)
  rw [Layout.Tiles.idx_val]
  fin_cases a
  · exact Nat.div_add_mod' (i 0).val 256
  · rfl

/-! ## The reference -/

/-- The reference has no operation: it returns its argument. -/
theorem ref_run (m : (ℓ : Loc Cert.ReferenceIdeal.nD Cert.ReferenceIdeal.τ Cert.ReferenceIdeal.sig) → Buf (Elt F) ℓ) (ρ : Dev Cert.ReferenceIdeal.nD → PrngReg) :
    θ_run Cert.ReferenceIdeal.defs (onTc (τ := Cert.ReferenceIdeal.τ) (Cert.ReferenceIdeal.main (F := F))) ⟨m, fun _ => 0, ρ⟩ fun r =>
      ∀ c : Dev Cert.ReferenceIdeal.nD, r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0) :=
  (θ_run Cert.ReferenceIdeal.defs _ _).mono (fun _ h c => h c Cert.ReferenceIdeal.main_arg0)
    (StableHlo.run_seq (by decide) (by decide) Cert.ReferenceIdeal.defs Cert.ReferenceIdeal.main (fun _ => []) (fun _ => rfl) (fun _ => trivial) m ρ)

/-! ## The claims -/

theorem frame_ideal : Cert.quiescent_KernelIdeal := fun m ρ _ =>
  (θ_run defs _ _).mono (fun _ h => ⟨fun c => (h.1 c (0 : Fin 2)).trans (in_kept m c), h.2⟩) (run_main (F := Ideal) m ρ)

theorem frame_reference : Cert.quiescent_ReferenceIdeal := fun m ρ _ =>
  (θ_run Cert.ReferenceIdeal.defs _ _).mono (fun r h => ⟨h, sem_eq_zero_of_no_sems (by decide) r.2⟩) (ref_run (F := Ideal) m ρ)

theorem algebraic : Cert.algebraic_KernelIdeal_ReferenceIdeal := fun m ρ m' ρ' _ h =>
  ⟨m' (((0 : Dev Cert.ReferenceIdeal.nD).tc : Thread Cert.ReferenceIdeal.nD Cert.ReferenceIdeal.τ).loc Cert.ReferenceIdeal.main_arg0),
    (θ_run defs _ _).mono (fun _ r c => ⟨((r.1 c (1 : Fin 2)).trans (out_eq m c)).trans (gathered_eq m _ h), (r.1 c (0 : Fin 2)).trans (in_kept m c)⟩)
      (run_main (F := Ideal) m ρ),
    (θ_run Cert.ReferenceIdeal.defs _ _).mono (fun _ r => ⟨r 0, r 0⟩) (ref_run (F := Ideal) m' ρ')⟩

end Cert.Gather

end
-- ==== Proof.Bits.lean ====
/-
# The kernel's frame at the bit patterns

The kernel and its ideal reading are one text, so the run is the same one: the two body tables are
equal, and the run of the ideal reading, which was proved for any meaning of the floats, is taken
at the bit patterns.
-/
module

public import proofs.«01_k».proof.Proof.Value

@[expose] public section

noncomputable section

namespace Cert.Gather

open Idealize.ShloMosaic Idealize.SL.Sem

variable {F : FTy → Type} [FloatOps F]

/-- The two kernels' body tables are one: their only label runs the same body. -/
theorem bodies_eq : Cert.Kernel.defs₀ (F := F) = Cert.KernelIdeal.defs₀ (F := F) := by
  unfold Cert.Kernel.defs₀ Cert.KernelIdeal.defs₀
  refine congrArg Defs.onTc (funext fun l => ?_)
  match l with
  | 0 => rfl

/-- So are the tables with the pipelines' labels. -/
theorem tables_eq : Cert.Kernel.defs (F := F) = Cert.KernelIdeal.defs (F := F) :=
  congrArg (Pipeline.defs (Cert.KernelIdeal.pcfgs (F := F))) bodies_eq

/-- The kernel runs, leaves its argument as it was, and ends with every semaphore at zero. -/
theorem frame_kernel : Cert.quiescent_Kernel := fun m ρ _ => by
  have h : θ_run (Cert.KernelIdeal.defs (F := Bits)) (onTc (τ := Cert.KernelIdeal.τ) (Cert.KernelIdeal.main (F := Bits)))
      ⟨m, fun _ => 0, ρ⟩ (fun r => (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
        ∧ r.2.sem = fun _ => 0) :=
    (θ_run Cert.KernelIdeal.defs _ _).mono
      (fun _ h => ⟨fun c => (h.1 c (0 : Fin 2)).trans (in_kept m c), h.2⟩) (run_main (F := Bits) m ρ)
  rw [← tables_eq] at h
  exact h

end Cert.Gather

end
-- ==== Proof.lean ====
/-
# The claims, together

The kernel and its ideal reading run, keep their argument and end quiescent; so does the reference; the ideal reading is the
kernel's; and on every device the ideal reading's result is the reference's. The stated bounds come first.
-/
module

public import proofs.«01_k».proof.Defs
public import proofs.«01_k».proof.Proof.Bits

@[expose] public section

noncomputable section

namespace Cert.Proof

open Idealize.ShloMosaic Idealize.SL.Sem

theorem claim : Cert.Claim := ⟨Cert.Gather.kernel_facts, Cert.Gather.ideal_facts, Cert.ReferenceIdeal.Gen.facts,
  Cert.Gather.frame_kernel, Cert.Gather.frame_ideal, Cert.Gather.frame_reference, trivial, Cert.Gather.algebraic⟩

end Cert.Proof

end
